-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![32768, 1024]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S1x1024x256x128 : Shape := ⟨4, ![1, 1024, 256, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024x256x128 : S_.BroadcastsInDim S1x1024x256x128 (![] : Fin 0 → Fin S1x1024x256x128.rank)
  reducesTo_S1x1024x256x128_S_d0_1_2_3 : S1x1024x256x128.ReducesTo [0, 1, 2, 3] S_

variable [Facts]

def fn_part1 {F : FTy → Type} [FloatOps F] (main_arg4 : FVec F S1024x1024 .f32) (main_v13 : IVec S_ 1) (main_v16 : IVec S1x1024x256x128 1) : IVec S_ 1 :=
  let main_c_5 : IVec S_ 1 := constantI S_ 1 1#1
  let main_v17 : IVec S_ 1 := (fun x v => Host.reduce IntOp.andi x v reducesTo_S1x1024x256x128_S_d0_1_2_3 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S1x1024x1024 .f32) (main_arg1 : FVec F S1024x1024 .f32) (main_arg2 : FVec F S1x1024x256x128 .f32) (main_arg3 : FVec F S1x1024x256x128 .f32) (main_arg4 : FVec F S1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024x256x128 .f32 := Host.absf main_arg2
  let main_cst_2 : FVec F S_ .f32 := constant S_ .f32 0x7F800000#32
  let main_v10 : FVec F S1x1024x256x128 .f32 := broadcastInDim S1x1024x256x128 ![] bcast_S_S1x1024x256x128 main_cst_2
  let main_v11 : IVec S1x1024x256x128 1 := cmpf .olt main_v9 main_v10
  let main_c_3 : IVec S_ 1 := constantI S_ 1 1#1
  let main_v12 : IVec S_ 1 := (fun x v => Host.reduce IntOp.andi x v reducesTo_S1x1024x256x128_S_d0_1_2_3 h_S_) main_v11 main_c_3
  let main_v13 : IVec S_ 1 := andi main_v8 main_v12
  let main_v14 : FVec F S1x1024x256x128 .f32 := Host.absf main_arg3
  let main_cst_4 : FVec F S_ .f32 := constant S_ .f32 0x7F800000#32
  let main_v15 : FVec F S1x1024x256x128 .f32 := broadcastInDim S1x1024x256x128 ![] bcast_S_S1x1024x256x128 main_cst_4
  let main_v16 : IVec S1x1024x256x128 1 := cmpf .olt main_v14 main_v15
  fn_part1 (F := F) main_arg4 main_v13 main_v16
-- ==== Pre_finite_ReferenceIdeal.lean ====
abbrev S1x1024x1024 : Shape := ⟨3, ![1, 1024, 1024]⟩
abbrev S1024x32768 : Shape := ⟨2, ![1024, 32768]⟩
abbrev S1x1024x256x128 : Shape := ⟨4, ![1, 1024, 256, 128]⟩
abbrev S32768x1024 : Shape := ⟨2, ![32768, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x32768 : S_.BroadcastsInDim S1024x32768 (![] : Fin 0 → Fin S1024x32768.rank)
  reducesTo_S1024x32768_S_d0_1 : S1024x32768.ReducesTo [0, 1] S_
  bcast_S_S1x1024x256x128 : S_.BroadcastsInDim S1x1024x256x128 (![] : Fin 0 → Fin S1x1024x256x128.rank)
  reducesTo_S1x1024x256x128_S_d0_1_2_3 : S1x1024x256x128.ReducesTo [0, 1, 2, 3] S_
  bcast_S_S32768x1024 : S_.BroadcastsInDim S32768x1024 (![] : Fin 0 → Fin S32768x1024.rank)
  reducesTo_S32768x1024_S_d0_1 : S32768x1024.ReducesTo [0, 1] S_

variable [Facts]

def fn_part1 {F : FTy → Type} [FloatOps F] (main_arg4 : FVec F S32768x1024 .f32) (main_v13 : IVec S_ 1) (main_v16 : IVec S1x1024x256x128 1) : IVec S_ 1 :=
  let main_c_5 : IVec S_ 1 := constantI S_ 1 1#1
  let main_v17 : IVec S_ 1 := (fun x v => Host.reduce IntOp.andi x v reducesTo_S1x1024x256x128_S_d0_1_2_3 h_S_) main_v16 main_c_5
  let main_v18 : IVec S_ 1 := andi main_v13 main_v17
  let main_v19 : FVec F S32768x1024 .f32 := Host.absf main_arg4
  let main_cst_6 : FVec F S_ .f32 := constant S_ .f32 0x7F800000#32
  let main_v20 : FVec F S32768x1024 .f32 := broadcastInDim S32768x1024 ![] bcast_S_S32768x1024 main_cst_6
  let main_v21 : IVec S32768x1024 1 := cmpf .olt main_v19 main_v20
  let main_c_7 : IVec S_ 1 := constantI S_ 1 1#1
  let main_v22 : IVec S_ 1 := (fun x v => Host.reduce IntOp.andi x v reducesTo_S32768x1024_S_d0_1 h_S_) main_v21 main_c_7
  let main_v23 : IVec S_ 1 := andi main_v18 main_v22
  main_v23

def fn {F : FTy → Type} [FloatOps F] (main_arg0 : FVec F S1x1024x1024 .f32) (main_arg1 : FVec F S1024x32768 .f32) (main_arg2 : FVec F S1x1024x256x128 .f32) (main_arg3 : FVec F S1x1024x256x128 .f32) (main_arg4 : FVec F S32768x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x32768 .f32 := Host.absf main_arg1
  let main_cst_0 : FVec F S_ .f32 := constant S_ .f32 0x7F800000#32
  let main_v5 : FVec F S1024x32768 .f32 := broadcastInDim S1024x32768 ![] bcast_S_S1024x32768 main_cst_0
  let main_v6 : IVec S1024x32768 1 := cmpf .olt main_v4 main_v5
  let main_c_1 : IVec S_ 1 := constantI S_ 1 1#1
  let main_v7 : IVec S_ 1 := (fun x v => Host.reduce IntOp.andi x v reducesTo_S1024x32768_S_d0_1 h_S_) main_v6 main_c_1
  let main_v8 : IVec S_ 1 := andi main_v3 main_v7
  let main_v9 : FVec F S1x1024x256x128 .f32 := Host.absf main_arg2
  let main_cst_2 : FVec F S_ .f32 := constant S_ .f32 0x7F800000#32
  let main_v10 : FVec F S1x1024x256x128 .f32 := broadcastInDim S1x1024x256x128 ![] bcast_S_S1x1024x256x128 main_cst_2
  let main_v11 : IVec S1x1024x256x128 1 := cmpf .olt main_v9 main_v10
  let main_c_3 : IVec S_ 1 := constantI S_ 1 1#1
  let main_v12 : IVec S_ 1 := (fun x v => Host.reduce IntOp.andi x v reducesTo_S1x1024x256x128_S_d0_1_2_3 h_S_) main_v11 main_c_3
  let main_v13 : IVec S_ 1 := andi main_v8 main_v12
  let main_v14 : FVec F S1x1024x256x128 .f32 := Host.absf main_arg3
  let main_cst_4 : FVec F S_ .f32 := constant S_ .f32 0x7F800000#32
  let main_v15 : FVec F S1x1024x256x128 .f32 := broadcastInDim S1x1024x256x128 ![] bcast_S_S1x1024x256x128 main_cst_4
  let main_v16 : IVec S1x1024x256x128 1 := cmpf .olt main_v14 main_v15
  fn_part1 (F := F) main_arg4 main_v13 main_v16
-- ==== Kernel.lean ====
abbrev S1x1024x1024 : Shape := ⟨3, ![1, 1024, 1024]⟩
abbrev S1024x1024 : Shape := ⟨2, ![1024, 1024]⟩
abbrev S1x1024x256x128 : Shape := ⟨4, ![1, 1024, 256, 128]⟩
abbrev S_ : Shape := ⟨0, ![]⟩
abbrev S1024x256x128 : Shape := ⟨3, ![1024, 256, 128]⟩
abbrev S496x1024 : Shape := ⟨2, ![496, 1024]⟩
abbrev S256x1024 : Shape := ⟨2, ![256, 1024]⟩
abbrev S512x512 : Shape := ⟨2, ![512, 512]⟩
abbrev S512x1024 : Shape := ⟨2, ![512, 1024]⟩
abbrev S16 : Shape := ⟨1, ![16]⟩
abbrev S5 : Shape := ⟨1, ![5]⟩
abbrev S1 : Shape := ⟨1, ![1]⟩
abbrev S1024x128 : Shape := ⟨2, ![1024, 128]⟩
abbrev S1024x1x128 : Shape := ⟨3, ![1024, 1, 128]⟩
abbrev S512x128 : Shape := ⟨2, ![512, 128]⟩
abbrev S512 : Shape := ⟨1, ![512]⟩
abbrev S512x1 : Shape := ⟨2, ![512, 1]⟩
abbrev S128x1024 : Shape := ⟨2, ![128, 1024]⟩
abbrev S64x1024 : Shape := ⟨2, ![64, 1024]⟩
abbrev S32x1024 : Shape := ⟨2, ![32, 1024]⟩
abbrev S16x1024 : Shape := ⟨2, ![16, 1024]⟩

abbrev nBuf : Space → Nat
  | .hbm => 22
  | .vmem => 15
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x256x128, .f32⟩
  | .hbm, ⟨3, _⟩ => ⟨S1x1024x256x128, .f32⟩
  | .hbm, ⟨4, _⟩ => ⟨S1024x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1024x1024, .f32⟩
  | .hbm, ⟨12, _⟩ => ⟨S1024x1024, .bf16⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .bf16⟩
  | .hbm, ⟨17, _⟩ => ⟨S1024x1024, .bf16⟩
  | .hbm, ⟨18, _⟩ => ⟨S1024x256x128, .f32⟩
  | .hbm, ⟨19, _⟩ => ⟨S1024x256x128, .f32⟩
  | .hbm, ⟨20, _⟩ => ⟨S1024x1024, .f32⟩
  | .hbm, ⟨21, _⟩ => ⟨S1x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S496x1024, .bf16⟩
  | .local _ .vmem, ⟨5, _⟩ => ⟨S496x1024, .bf16⟩
  | .local _ .vmem, ⟨6, _⟩ => ⟨S256x1024, .bf16⟩
  | .local _ .vmem, ⟨7, _⟩ => ⟨S496x1024, .bf16⟩
  | .local _ .vmem, ⟨8, _⟩ => ⟨S496x1024, .bf16⟩
  | .local _ .vmem, ⟨9, _⟩ => ⟨S256x1024, .bf16⟩
  | .local _ .vmem, ⟨10, _⟩ => ⟨S512x512, .f32⟩
  | .local _ .vmem, ⟨11, _⟩ => ⟨S512x1024, .f32⟩
  | .local _ .vmem, ⟨12, _⟩ => ⟨S512x1024, .bf16⟩
  | .local _ .vmem, ⟨13, _⟩ => ⟨S1024x1024, .f32⟩
  | .local _ .vmem, ⟨14, _⟩ => ⟨S1024x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  (ofTc nBuf bufTy 1 60 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_off1 (d0 : Dev nD) (c0_i32_60 : BitVec 32) : Fin 3 → Nat :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_59 : BitVec 32 := 8#32
  let v129 : BitVec 32 := Scalar.muli v2 c8_i32_59
  let v130 : BitVec 32 := Scalar.addi v129 c0_i32_60
  let c0_i32_65 : BitVec 32 := 0#32
  ![0, v130.toNat, 0]
def k0_dev1 (d0 : Dev nD) : Nat :=
  let c0_i32_154 : BitVec 32 := 0#32
  let c8_i32_24 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v59 : BitVec 32 := Scalar.muli c8_i32_24 v19
  let c2_i32_25 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v60 : BitVec 32 := Scalar.muli c2_i32_25 v46
  let v61 : BitVec 32 := Scalar.addi v59 v60
  let c1_i32_23 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let c1_i32_26 : BitVec 32 := 1#32
  let v62 : BitVec 32 := Scalar.andi v46 c1_i32_26
  let v63 : BitVec 32 := Scalar.xori v58 v62
  let v64 : BitVec 32 := Scalar.addi v61 v63
  let c1_i32_153 : BitVec 32 := 1#32
  let v242 : BitVec 32 := Scalar.muli v64 c1_i32_153
  let v243 : BitVec 32 := Scalar.addi c0_i32_154 v242
  v243.toNat
def k0_dev2 (d0 : Dev nD) : Nat :=
  let c0_i32_157 : BitVec 32 := 0#32
  let c8_i32_28 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v66 : BitVec 32 := Scalar.muli c8_i32_28 v19
  let c2_i32_29 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_27 : BitVec 32 := 1#32
  let v65 : BitVec 32 := Scalar.xori v46 c1_i32_27
  let v67 : BitVec 32 := Scalar.muli c2_i32_29 v65
  let v68 : BitVec 32 := Scalar.addi v66 v67
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_30 : BitVec 32 := 1#32
  let v69 : BitVec 32 := Scalar.andi v65 c1_i32_30
  let v70 : BitVec 32 := Scalar.xori v57 v69
  let v71 : BitVec 32 := Scalar.addi v68 v70
  let c1_i32_156 : BitVec 32 := 1#32
  let v244 : BitVec 32 := Scalar.muli v71 c1_i32_156
  let v245 : BitVec 32 := Scalar.addi c0_i32_157 v244
  v245.toNat
def k0_dev3 (d0 : Dev nD) : Nat :=
  let c0_i32_160 : BitVec 32 := 0#32
  let c8_i32_33 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_32 : BitVec 32 := 1#32
  let v73 : BitVec 32 := Scalar.xori v19 c1_i32_32
  let v74 : BitVec 32 := Scalar.muli c8_i32_33 v73
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c2_i32_34 v46
  let v76 : BitVec 32 := Scalar.addi v74 v75
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_35 : BitVec 32 := 1#32
  let v77 : BitVec 32 := Scalar.andi v46 c1_i32_35
  let v78 : BitVec 32 := Scalar.xori v57 v77
  let v79 : BitVec 32 := Scalar.addi v76 v78
  let c1_i32_159 : BitVec 32 := 1#32
  let v246 : BitVec 32 := Scalar.muli v79 c1_i32_159
  let v247 : BitVec 32 := Scalar.addi c0_i32_160 v246
  v247.toNat
def k0_dev4 (d0 : Dev nD) : Nat :=
  let c0_i32_163 : BitVec 32 := 0#32
  let c8_i32_38 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v82 : BitVec 32 := Scalar.muli c8_i32_38 v19
  let c2_i32_39 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_37 : BitVec 32 := 2#32
  let v81 : BitVec 32 := Scalar.xori v46 c2_i32_37
  let v83 : BitVec 32 := Scalar.muli c2_i32_39 v81
  let v84 : BitVec 32 := Scalar.addi v82 v83
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_40 : BitVec 32 := 1#32
  let v85 : BitVec 32 := Scalar.andi v81 c1_i32_40
  let v86 : BitVec 32 := Scalar.xori v57 v85
  let v87 : BitVec 32 := Scalar.addi v84 v86
  let c1_i32_162 : BitVec 32 := 1#32
  let v248 : BitVec 32 := Scalar.muli v87 c1_i32_162
  let v249 : BitVec 32 := Scalar.addi c0_i32_163 v248
  v249.toNat
def k0_dev5 (d0 : Dev nD) : Nat :=
  let c0_i32_166 : BitVec 32 := 0#32
  let c8_i32_49 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_48 : BitVec 32 := 2#32
  let v105 : BitVec 32 := Scalar.xori v19 c2_i32_48
  let v106 : BitVec 32 := Scalar.muli c8_i32_49 v105
  let c2_i32_50 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v107 : BitVec 32 := Scalar.muli c2_i32_50 v46
  let v108 : BitVec 32 := Scalar.addi v106 v107
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_51 : BitVec 32 := 1#32
  let v109 : BitVec 32 := Scalar.andi v46 c1_i32_51
  let v110 : BitVec 32 := Scalar.xori v57 v109
  let v111 : BitVec 32 := Scalar.addi v108 v110
  let c1_i32_165 : BitVec 32 := 1#32
  let v250 : BitVec 32 := Scalar.muli v111 c1_i32_165
  let v251 : BitVec 32 := Scalar.addi c0_i32_166 v250
  v251.toNat
def k0_mult1 (d0 : Dev nD) : BitVec 32 :=
  let c0_i32_385 : BitVec 32 := 0#32
  let c1_i32_383 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v627 : BitVec 32 := Scalar.subi c1_i32_383 v57
  let c256_i32_384 : BitVec 32 := 256#32
  let v628 : BitVec 32 := Scalar.muli v627 c256_i32_384
  let v629 : BitVec 32 := Scalar.addi c0_i32_385 v628
  v629
def k0_off2 (d0 : Dev nD) : Fin 2 → Nat :=
  let c0_i32_385 : BitVec 32 := 0#32
  let c1_i32_383 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v627 : BitVec 32 := Scalar.subi c1_i32_383 v57
  let c256_i32_384 : BitVec 32 := 256#32
  let v628 : BitVec 32 := Scalar.muli v627 c256_i32_384
  let v629 : BitVec 32 := Scalar.addi c0_i32_385 v628
  let v630 : BitVec 32 := v629
  let v631 : Index := Scalar.indexCast v630
  let c0_386 : Index := 0#32
  ![v631.toNat, 0]
def k0_dev6 (d0 : Dev nD) : Nat :=
  let c0_i32_392 : BitVec 32 := 0#32
  let c8_i32_24 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v59 : BitVec 32 := Scalar.muli c8_i32_24 v19
  let c2_i32_25 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v60 : BitVec 32 := Scalar.muli c2_i32_25 v46
  let v61 : BitVec 32 := Scalar.addi v59 v60
  let c1_i32_23 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let c1_i32_26 : BitVec 32 := 1#32
  let v62 : BitVec 32 := Scalar.andi v46 c1_i32_26
  let v63 : BitVec 32 := Scalar.xori v58 v62
  let v64 : BitVec 32 := Scalar.addi v61 v63
  let c1_i32_391 : BitVec 32 := 1#32
  let v638 : BitVec 32 := Scalar.muli v64 c1_i32_391
  let v639 : BitVec 32 := Scalar.addi c0_i32_392 v638
  v639.toNat
def k0_mult2 (d0 : Dev nD) : BitVec 32 :=
  let c512_i32_509 : BitVec 32 := 512#32
  let c1_i32_507 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v72 : BitVec 32 := Scalar.andi v46 c1_i32_31
  let v827 : BitVec 32 := Scalar.subi c1_i32_507 v72
  let c256_i32_508 : BitVec 32 := 256#32
  let v828 : BitVec 32 := Scalar.muli v827 c256_i32_508
  let v829 : BitVec 32 := Scalar.addi c512_i32_509 v828
  v829
def k0_off3 (d0 : Dev nD) : Fin 2 → Nat :=
  let c512_i32_509 : BitVec 32 := 512#32
  let c1_i32_507 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v72 : BitVec 32 := Scalar.andi v46 c1_i32_31
  let v827 : BitVec 32 := Scalar.subi c1_i32_507 v72
  let c256_i32_508 : BitVec 32 := 256#32
  let v828 : BitVec 32 := Scalar.muli v827 c256_i32_508
  let v829 : BitVec 32 := Scalar.addi c512_i32_509 v828
  let v830 : BitVec 32 := v829
  let v831 : Index := Scalar.indexCast v830
  let c0_510 : Index := 0#32
  ![v831.toNat, 0]
def k0_dev7 (d0 : Dev nD) : Nat :=
  let c0_i32_516 : BitVec 32 := 0#32
  let c8_i32_28 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v66 : BitVec 32 := Scalar.muli c8_i32_28 v19
  let c2_i32_29 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_27 : BitVec 32 := 1#32
  let v65 : BitVec 32 := Scalar.xori v46 c1_i32_27
  let v67 : BitVec 32 := Scalar.muli c2_i32_29 v65
  let v68 : BitVec 32 := Scalar.addi v66 v67
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_30 : BitVec 32 := 1#32
  let v69 : BitVec 32 := Scalar.andi v65 c1_i32_30
  let v70 : BitVec 32 := Scalar.xori v57 v69
  let v71 : BitVec 32 := Scalar.addi v68 v70
  let c1_i32_515 : BitVec 32 := 1#32
  let v838 : BitVec 32 := Scalar.muli v71 c1_i32_515
  let v839 : BitVec 32 := Scalar.addi c0_i32_516 v838
  v839.toNat
def k0_mult3 (d0 : Dev nD) : BitVec 32 :=
  let c0_i32_538 : BitVec 32 := 0#32
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_397 : BitVec 32 := 256#32
  let v646 : BitVec 32 := Scalar.muli v57 c256_i32_397
  let v647 : BitVec 32 := Scalar.addi c0_i32_398 v646
  let v858 : BitVec 32 := Scalar.addi c0_i32_538 v647
  v858
def k0_off4 (d0 : Dev nD) : Fin 2 → Nat :=
  let c0_i32_538 : BitVec 32 := 0#32
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_397 : BitVec 32 := 256#32
  let v646 : BitVec 32 := Scalar.muli v57 c256_i32_397
  let v647 : BitVec 32 := Scalar.addi c0_i32_398 v646
  let v858 : BitVec 32 := Scalar.addi c0_i32_538 v647
  let v859 : BitVec 32 := v858
  let v860 : Index := Scalar.indexCast v859
  let c0_539 : Index := 0#32
  ![v860.toNat, 0]
def k0_mult4 (d0 : Dev nD) : BitVec 32 :=
  let c0_i32_543 : BitVec 32 := 0#32
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_397 : BitVec 32 := 256#32
  let v646 : BitVec 32 := Scalar.muli v57 c256_i32_397
  let v647 : BitVec 32 := Scalar.addi c0_i32_398 v646
  let v868 : BitVec 32 := Scalar.addi c0_i32_543 v647
  let c1_i32_544 : BitVec 32 := 1#32
  let c1_i32_31 : BitVec 32 := 1#32
  let v72 : BitVec 32 := Scalar.andi v46 c1_i32_31
  let v869 : BitVec 32 := Scalar.subi c1_i32_544 v72
  let c128_i32_545 : BitVec 32 := 128#32
  let v870 : BitVec 32 := Scalar.muli v869 c128_i32_545
  let v871 : BitVec 32 := Scalar.addi v868 v870
  v871
def k0_off5 (d0 : Dev nD) : Fin 2 → Nat :=
  let c0_i32_543 : BitVec 32 := 0#32
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_397 : BitVec 32 := 256#32
  let v646 : BitVec 32 := Scalar.muli v57 c256_i32_397
  let v647 : BitVec 32 := Scalar.addi c0_i32_398 v646
  let v868 : BitVec 32 := Scalar.addi c0_i32_543 v647
  let c1_i32_544 : BitVec 32 := 1#32
  let c1_i32_31 : BitVec 32 := 1#32
  let v72 : BitVec 32 := Scalar.andi v46 c1_i32_31
  let v869 : BitVec 32 := Scalar.subi c1_i32_544 v72
  let c128_i32_545 : BitVec 32 := 128#32
  let v870 : BitVec 32 := Scalar.muli v869 c128_i32_545
  let v871 : BitVec 32 := Scalar.addi v868 v870
  let v872 : BitVec 32 := v871
  let v873 : Index := Scalar.indexCast v872
  let c0_546 : Index := 0#32
  ![v873.toNat, 0]
def k0_dev8 (d0 : Dev nD) : Nat :=
  let c0_i32_552 : BitVec 32 := 0#32
  let c8_i32_28 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v66 : BitVec 32 := Scalar.muli c8_i32_28 v19
  let c2_i32_29 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_27 : BitVec 32 := 1#32
  let v65 : BitVec 32 := Scalar.xori v46 c1_i32_27
  let v67 : BitVec 32 := Scalar.muli c2_i32_29 v65
  let v68 : BitVec 32 := Scalar.addi v66 v67
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_30 : BitVec 32 := 1#32
  let v69 : BitVec 32 := Scalar.andi v65 c1_i32_30
  let v70 : BitVec 32 := Scalar.xori v57 v69
  let v71 : BitVec 32 := Scalar.addi v68 v70
  let c1_i32_551 : BitVec 32 := 1#32
  let v880 : BitVec 32 := Scalar.muli v71 c1_i32_551
  let v881 : BitVec 32 := Scalar.addi c0_i32_552 v880
  v881.toNat
def k0_mult5 (d0 : Dev nD) : BitVec 32 :=
  let c512_i32_573 : BitVec 32 := 512#32
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v72 : BitVec 32 := Scalar.andi v46 c1_i32_31
  let c256_i32_521 : BitVec 32 := 256#32
  let v846 : BitVec 32 := Scalar.muli v72 c256_i32_521
  let v847 : BitVec 32 := Scalar.addi c0_i32_522 v846
  let v900 : BitVec 32 := Scalar.addi c512_i32_573 v847
  v900
def k0_off6 (d0 : Dev nD) : Fin 2 → Nat :=
  let c512_i32_573 : BitVec 32 := 512#32
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v72 : BitVec 32 := Scalar.andi v46 c1_i32_31
  let c256_i32_521 : BitVec 32 := 256#32
  let v846 : BitVec 32 := Scalar.muli v72 c256_i32_521
  let v847 : BitVec 32 := Scalar.addi c0_i32_522 v846
  let v900 : BitVec 32 := Scalar.addi c512_i32_573 v847
  let v901 : BitVec 32 := v900
  let v902 : Index := Scalar.indexCast v901
  let c0_574 : Index := 0#32
  ![v902.toNat, 0]
def k0_mult6 (d0 : Dev nD) : BitVec 32 :=
  let c512_i32_578 : BitVec 32 := 512#32
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v72 : BitVec 32 := Scalar.andi v46 c1_i32_31
  let c256_i32_521 : BitVec 32 := 256#32
  let v846 : BitVec 32 := Scalar.muli v72 c256_i32_521
  let v847 : BitVec 32 := Scalar.addi c0_i32_522 v846
  let v910 : BitVec 32 := Scalar.addi c512_i32_578 v847
  let c1_i32_579 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v911 : BitVec 32 := Scalar.subi c1_i32_579 v57
  let c128_i32_580 : BitVec 32 := 128#32
  let v912 : BitVec 32 := Scalar.muli v911 c128_i32_580
  let v913 : BitVec 32 := Scalar.addi v910 v912
  v913
def k0_off7 (d0 : Dev nD) : Fin 2 → Nat :=
  let c512_i32_578 : BitVec 32 := 512#32
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v72 : BitVec 32 := Scalar.andi v46 c1_i32_31
  let c256_i32_521 : BitVec 32 := 256#32
  let v846 : BitVec 32 := Scalar.muli v72 c256_i32_521
  let v847 : BitVec 32 := Scalar.addi c0_i32_522 v846
  let v910 : BitVec 32 := Scalar.addi c512_i32_578 v847
  let c1_i32_579 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v911 : BitVec 32 := Scalar.subi c1_i32_579 v57
  let c128_i32_580 : BitVec 32 := 128#32
  let v912 : BitVec 32 := Scalar.muli v911 c128_i32_580
  let v913 : BitVec 32 := Scalar.addi v910 v912
  let v914 : BitVec 32 := v913
  let v915 : Index := Scalar.indexCast v914
  let c0_581 : Index := 0#32
  ![v915.toNat, 0]
def k0_dev9 (d0 : Dev nD) : Nat :=
  let c0_i32_587 : BitVec 32 := 0#32
  let c8_i32_24 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v59 : BitVec 32 := Scalar.muli c8_i32_24 v19
  let c2_i32_25 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v60 : BitVec 32 := Scalar.muli c2_i32_25 v46
  let v61 : BitVec 32 := Scalar.addi v59 v60
  let c1_i32_23 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let c1_i32_26 : BitVec 32 := 1#32
  let v62 : BitVec 32 := Scalar.andi v46 c1_i32_26
  let v63 : BitVec 32 := Scalar.xori v58 v62
  let v64 : BitVec 32 := Scalar.addi v61 v63
  let c1_i32_586 : BitVec 32 := 1#32
  let v922 : BitVec 32 := Scalar.muli v64 c1_i32_586
  let v923 : BitVec 32 := Scalar.addi c0_i32_587 v922
  v923.toNat
def k0_mult7 (d0 : Dev nD) : BitVec 32 :=
  let c0_i32_608 : BitVec 32 := 0#32
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_397 : BitVec 32 := 256#32
  let v646 : BitVec 32 := Scalar.muli v57 c256_i32_397
  let v647 : BitVec 32 := Scalar.addi c0_i32_398 v646
  let c1_i32_31 : BitVec 32 := 1#32
  let v72 : BitVec 32 := Scalar.andi v46 c1_i32_31
  let c128_i32_557 : BitVec 32 := 128#32
  let v888 : BitVec 32 := Scalar.muli v72 c128_i32_557
  let v889 : BitVec 32 := Scalar.addi v647 v888
  let v942 : BitVec 32 := Scalar.addi c0_i32_608 v889
  v942
def k0_off8 (d0 : Dev nD) : Fin 2 → Nat :=
  let c0_i32_608 : BitVec 32 := 0#32
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_397 : BitVec 32 := 256#32
  let v646 : BitVec 32 := Scalar.muli v57 c256_i32_397
  let v647 : BitVec 32 := Scalar.addi c0_i32_398 v646
  let c1_i32_31 : BitVec 32 := 1#32
  let v72 : BitVec 32 := Scalar.andi v46 c1_i32_31
  let c128_i32_557 : BitVec 32 := 128#32
  let v888 : BitVec 32 := Scalar.muli v72 c128_i32_557
  let v889 : BitVec 32 := Scalar.addi v647 v888
  let v942 : BitVec 32 := Scalar.addi c0_i32_608 v889
  let v943 : BitVec 32 := v942
  let v944 : Index := Scalar.indexCast v943
  let c0_609 : Index := 0#32
  ![v944.toNat, 0]
def k0_mult8 (d0 : Dev nD) : BitVec 32 :=
  let c0_i32_613 : BitVec 32 := 0#32
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_397 : BitVec 32 := 256#32
  let v646 : BitVec 32 := Scalar.muli v57 c256_i32_397
  let v647 : BitVec 32 := Scalar.addi c0_i32_398 v646
  let c1_i32_31 : BitVec 32 := 1#32
  let v72 : BitVec 32 := Scalar.andi v46 c1_i32_31
  let c128_i32_557 : BitVec 32 := 128#32
  let v888 : BitVec 32 := Scalar.muli v72 c128_i32_557
  let v889 : BitVec 32 := Scalar.addi v647 v888
  let v952 : BitVec 32 := Scalar.addi c0_i32_613 v889
  let c1_i32_614 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_36 : BitVec 32 := 1#32
  let v80 : BitVec 32 := Scalar.andi v19 c1_i32_36
  let v953 : BitVec 32 := Scalar.subi c1_i32_614 v80
  let c64_i32_615 : BitVec 32 := 64#32
  let v954 : BitVec 32 := Scalar.muli v953 c64_i32_615
  let v955 : BitVec 32 := Scalar.addi v952 v954
  v955
def k0_off9 (d0 : Dev nD) : Fin 2 → Nat :=
  let c0_i32_613 : BitVec 32 := 0#32
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_397 : BitVec 32 := 256#32
  let v646 : BitVec 32 := Scalar.muli v57 c256_i32_397
  let v647 : BitVec 32 := Scalar.addi c0_i32_398 v646
  let c1_i32_31 : BitVec 32 := 1#32
  let v72 : BitVec 32 := Scalar.andi v46 c1_i32_31
  let c128_i32_557 : BitVec 32 := 128#32
  let v888 : BitVec 32 := Scalar.muli v72 c128_i32_557
  let v889 : BitVec 32 := Scalar.addi v647 v888
  let v952 : BitVec 32 := Scalar.addi c0_i32_613 v889
  let c1_i32_614 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_36 : BitVec 32 := 1#32
  let v80 : BitVec 32 := Scalar.andi v19 c1_i32_36
  let v953 : BitVec 32 := Scalar.subi c1_i32_614 v80
  let c64_i32_615 : BitVec 32 := 64#32
  let v954 : BitVec 32 := Scalar.muli v953 c64_i32_615
  let v955 : BitVec 32 := Scalar.addi v952 v954
  let v956 : BitVec 32 := v955
  let v957 : Index := Scalar.indexCast v956
  let c0_616 : Index := 0#32
  ![v957.toNat, 0]
def k0_dev10 (d0 : Dev nD) : Nat :=
  let c0_i32_622 : BitVec 32 := 0#32
  let c8_i32_33 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_32 : BitVec 32 := 1#32
  let v73 : BitVec 32 := Scalar.xori v19 c1_i32_32
  let v74 : BitVec 32 := Scalar.muli c8_i32_33 v73
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c2_i32_34 v46
  let v76 : BitVec 32 := Scalar.addi v74 v75
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_35 : BitVec 32 := 1#32
  let v77 : BitVec 32 := Scalar.andi v46 c1_i32_35
  let v78 : BitVec 32 := Scalar.xori v57 v77
  let v79 : BitVec 32 := Scalar.addi v76 v78
  let c1_i32_621 : BitVec 32 := 1#32
  let v964 : BitVec 32 := Scalar.muli v79 c1_i32_621
  let v965 : BitVec 32 := Scalar.addi c0_i32_622 v964
  v965.toNat
def k0_mult9 (d0 : Dev nD) : BitVec 32 :=
  let c512_i32_643 : BitVec 32 := 512#32
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v72 : BitVec 32 := Scalar.andi v46 c1_i32_31
  let c256_i32_521 : BitVec 32 := 256#32
  let v846 : BitVec 32 := Scalar.muli v72 c256_i32_521
  let v847 : BitVec 32 := Scalar.addi c0_i32_522 v846
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c128_i32_592 : BitVec 32 := 128#32
  let v930 : BitVec 32 := Scalar.muli v57 c128_i32_592
  let v931 : BitVec 32 := Scalar.addi v847 v930
  let v984 : BitVec 32 := Scalar.addi c512_i32_643 v931
  v984
def k0_off10 (d0 : Dev nD) : Fin 2 → Nat :=
  let c512_i32_643 : BitVec 32 := 512#32
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v72 : BitVec 32 := Scalar.andi v46 c1_i32_31
  let c256_i32_521 : BitVec 32 := 256#32
  let v846 : BitVec 32 := Scalar.muli v72 c256_i32_521
  let v847 : BitVec 32 := Scalar.addi c0_i32_522 v846
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c128_i32_592 : BitVec 32 := 128#32
  let v930 : BitVec 32 := Scalar.muli v57 c128_i32_592
  let v931 : BitVec 32 := Scalar.addi v847 v930
  let v984 : BitVec 32 := Scalar.addi c512_i32_643 v931
  let v985 : BitVec 32 := v984
  let v986 : Index := Scalar.indexCast v985
  let c0_644 : Index := 0#32
  ![v986.toNat, 0]
def k0_mult10 (d0 : Dev nD) : BitVec 32 :=
  let c512_i32_648 : BitVec 32 := 512#32
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v72 : BitVec 32 := Scalar.andi v46 c1_i32_31
  let c256_i32_521 : BitVec 32 := 256#32
  let v846 : BitVec 32 := Scalar.muli v72 c256_i32_521
  let v847 : BitVec 32 := Scalar.addi c0_i32_522 v846
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c128_i32_592 : BitVec 32 := 128#32
  let v930 : BitVec 32 := Scalar.muli v57 c128_i32_592
  let v931 : BitVec 32 := Scalar.addi v847 v930
  let v994 : BitVec 32 := Scalar.addi c512_i32_648 v931
  let c1_i32_649 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let v995 : BitVec 32 := Scalar.subi c1_i32_649 v128
  let c64_i32_650 : BitVec 32 := 64#32
  let v996 : BitVec 32 := Scalar.muli v995 c64_i32_650
  let v997 : BitVec 32 := Scalar.addi v994 v996
  v997
def k0_off11 (d0 : Dev nD) : Fin 2 → Nat :=
  let c512_i32_648 : BitVec 32 := 512#32
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v72 : BitVec 32 := Scalar.andi v46 c1_i32_31
  let c256_i32_521 : BitVec 32 := 256#32
  let v846 : BitVec 32 := Scalar.muli v72 c256_i32_521
  let v847 : BitVec 32 := Scalar.addi c0_i32_522 v846
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c128_i32_592 : BitVec 32 := 128#32
  let v930 : BitVec 32 := Scalar.muli v57 c128_i32_592
  let v931 : BitVec 32 := Scalar.addi v847 v930
  let v994 : BitVec 32 := Scalar.addi c512_i32_648 v931
  let c1_i32_649 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let v995 : BitVec 32 := Scalar.subi c1_i32_649 v128
  let c64_i32_650 : BitVec 32 := 64#32
  let v996 : BitVec 32 := Scalar.muli v995 c64_i32_650
  let v997 : BitVec 32 := Scalar.addi v994 v996
  let v998 : BitVec 32 := v997
  let v999 : Index := Scalar.indexCast v998
  let c0_651 : Index := 0#32
  ![v999.toNat, 0]
def k0_dev11 (d0 : Dev nD) : Nat :=
  let c0_i32_657 : BitVec 32 := 0#32
  let c8_i32_49 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_48 : BitVec 32 := 2#32
  let v105 : BitVec 32 := Scalar.xori v19 c2_i32_48
  let v106 : BitVec 32 := Scalar.muli c8_i32_49 v105
  let c2_i32_50 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v107 : BitVec 32 := Scalar.muli c2_i32_50 v46
  let v108 : BitVec 32 := Scalar.addi v106 v107
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_51 : BitVec 32 := 1#32
  let v109 : BitVec 32 := Scalar.andi v46 c1_i32_51
  let v110 : BitVec 32 := Scalar.xori v57 v109
  let v111 : BitVec 32 := Scalar.addi v108 v110
  let c1_i32_656 : BitVec 32 := 1#32
  let v1006 : BitVec 32 := Scalar.muli v111 c1_i32_656
  let v1007 : BitVec 32 := Scalar.addi c0_i32_657 v1006
  v1007.toNat
def k0_mult11 (d0 : Dev nD) : BitVec 32 :=
  let c0_i32_678 : BitVec 32 := 0#32
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_397 : BitVec 32 := 256#32
  let v646 : BitVec 32 := Scalar.muli v57 c256_i32_397
  let v647 : BitVec 32 := Scalar.addi c0_i32_398 v646
  let c1_i32_31 : BitVec 32 := 1#32
  let v72 : BitVec 32 := Scalar.andi v46 c1_i32_31
  let c128_i32_557 : BitVec 32 := 128#32
  let v888 : BitVec 32 := Scalar.muli v72 c128_i32_557
  let v889 : BitVec 32 := Scalar.addi v647 v888
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_36 : BitVec 32 := 1#32
  let v80 : BitVec 32 := Scalar.andi v19 c1_i32_36
  let c64_i32_627 : BitVec 32 := 64#32
  let v972 : BitVec 32 := Scalar.muli v80 c64_i32_627
  let v973 : BitVec 32 := Scalar.addi v889 v972
  let v1026 : BitVec 32 := Scalar.addi c0_i32_678 v973
  v1026
def k0_off12 (d0 : Dev nD) : Fin 2 → Nat :=
  let c0_i32_678 : BitVec 32 := 0#32
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_397 : BitVec 32 := 256#32
  let v646 : BitVec 32 := Scalar.muli v57 c256_i32_397
  let v647 : BitVec 32 := Scalar.addi c0_i32_398 v646
  let c1_i32_31 : BitVec 32 := 1#32
  let v72 : BitVec 32 := Scalar.andi v46 c1_i32_31
  let c128_i32_557 : BitVec 32 := 128#32
  let v888 : BitVec 32 := Scalar.muli v72 c128_i32_557
  let v889 : BitVec 32 := Scalar.addi v647 v888
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_36 : BitVec 32 := 1#32
  let v80 : BitVec 32 := Scalar.andi v19 c1_i32_36
  let c64_i32_627 : BitVec 32 := 64#32
  let v972 : BitVec 32 := Scalar.muli v80 c64_i32_627
  let v973 : BitVec 32 := Scalar.addi v889 v972
  let v1026 : BitVec 32 := Scalar.addi c0_i32_678 v973
  let v1027 : BitVec 32 := v1026
  let v1028 : Index := Scalar.indexCast v1027
  let c0_679 : Index := 0#32
  ![v1028.toNat, 0]
def k0_mult12 (d0 : Dev nD) : BitVec 32 :=
  let c0_i32_683 : BitVec 32 := 0#32
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_397 : BitVec 32 := 256#32
  let v646 : BitVec 32 := Scalar.muli v57 c256_i32_397
  let v647 : BitVec 32 := Scalar.addi c0_i32_398 v646
  let c1_i32_31 : BitVec 32 := 1#32
  let v72 : BitVec 32 := Scalar.andi v46 c1_i32_31
  let c128_i32_557 : BitVec 32 := 128#32
  let v888 : BitVec 32 := Scalar.muli v72 c128_i32_557
  let v889 : BitVec 32 := Scalar.addi v647 v888
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_36 : BitVec 32 := 1#32
  let v80 : BitVec 32 := Scalar.andi v19 c1_i32_36
  let c64_i32_627 : BitVec 32 := 64#32
  let v972 : BitVec 32 := Scalar.muli v80 c64_i32_627
  let v973 : BitVec 32 := Scalar.addi v889 v972
  let v1036 : BitVec 32 := Scalar.addi c0_i32_683 v973
  let c1_i32_684 : BitVec 32 := 1#32
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let v1037 : BitVec 32 := Scalar.subi c1_i32_684 v104
  let c32_i32_685 : BitVec 32 := 32#32
  let v1038 : BitVec 32 := Scalar.muli v1037 c32_i32_685
  let v1039 : BitVec 32 := Scalar.addi v1036 v1038
  v1039
def k0_off13 (d0 : Dev nD) : Fin 2 → Nat :=
  let c0_i32_683 : BitVec 32 := 0#32
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_397 : BitVec 32 := 256#32
  let v646 : BitVec 32 := Scalar.muli v57 c256_i32_397
  let v647 : BitVec 32 := Scalar.addi c0_i32_398 v646
  let c1_i32_31 : BitVec 32 := 1#32
  let v72 : BitVec 32 := Scalar.andi v46 c1_i32_31
  let c128_i32_557 : BitVec 32 := 128#32
  let v888 : BitVec 32 := Scalar.muli v72 c128_i32_557
  let v889 : BitVec 32 := Scalar.addi v647 v888
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_36 : BitVec 32 := 1#32
  let v80 : BitVec 32 := Scalar.andi v19 c1_i32_36
  let c64_i32_627 : BitVec 32 := 64#32
  let v972 : BitVec 32 := Scalar.muli v80 c64_i32_627
  let v973 : BitVec 32 := Scalar.addi v889 v972
  let v1036 : BitVec 32 := Scalar.addi c0_i32_683 v973
  let c1_i32_684 : BitVec 32 := 1#32
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let v1037 : BitVec 32 := Scalar.subi c1_i32_684 v104
  let c32_i32_685 : BitVec 32 := 32#32
  let v1038 : BitVec 32 := Scalar.muli v1037 c32_i32_685
  let v1039 : BitVec 32 := Scalar.addi v1036 v1038
  let v1040 : BitVec 32 := v1039
  let v1041 : Index := Scalar.indexCast v1040
  let c0_686 : Index := 0#32
  ![v1041.toNat, 0]
def k0_dev12 (d0 : Dev nD) : Nat :=
  let c0_i32_692 : BitVec 32 := 0#32
  let c8_i32_38 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v82 : BitVec 32 := Scalar.muli c8_i32_38 v19
  let c2_i32_39 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_37 : BitVec 32 := 2#32
  let v81 : BitVec 32 := Scalar.xori v46 c2_i32_37
  let v83 : BitVec 32 := Scalar.muli c2_i32_39 v81
  let v84 : BitVec 32 := Scalar.addi v82 v83
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_40 : BitVec 32 := 1#32
  let v85 : BitVec 32 := Scalar.andi v81 c1_i32_40
  let v86 : BitVec 32 := Scalar.xori v57 v85
  let v87 : BitVec 32 := Scalar.addi v84 v86
  let c1_i32_691 : BitVec 32 := 1#32
  let v1048 : BitVec 32 := Scalar.muli v87 c1_i32_691
  let v1049 : BitVec 32 := Scalar.addi c0_i32_692 v1048
  v1049.toNat
def k0_mult13 (d0 : Dev nD) : BitVec 32 :=
  let c512_i32_712 : BitVec 32 := 512#32
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v72 : BitVec 32 := Scalar.andi v46 c1_i32_31
  let c256_i32_521 : BitVec 32 := 256#32
  let v846 : BitVec 32 := Scalar.muli v72 c256_i32_521
  let v847 : BitVec 32 := Scalar.addi c0_i32_522 v846
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c128_i32_592 : BitVec 32 := 128#32
  let v930 : BitVec 32 := Scalar.muli v57 c128_i32_592
  let v931 : BitVec 32 := Scalar.addi v847 v930
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c64_i32_662 : BitVec 32 := 64#32
  let v1014 : BitVec 32 := Scalar.muli v128 c64_i32_662
  let v1015 : BitVec 32 := Scalar.addi v931 v1014
  let v1068 : BitVec 32 := Scalar.addi c512_i32_712 v1015
  v1068
def k0_off14 (d0 : Dev nD) : Fin 2 → Nat :=
  let c512_i32_712 : BitVec 32 := 512#32
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v72 : BitVec 32 := Scalar.andi v46 c1_i32_31
  let c256_i32_521 : BitVec 32 := 256#32
  let v846 : BitVec 32 := Scalar.muli v72 c256_i32_521
  let v847 : BitVec 32 := Scalar.addi c0_i32_522 v846
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c128_i32_592 : BitVec 32 := 128#32
  let v930 : BitVec 32 := Scalar.muli v57 c128_i32_592
  let v931 : BitVec 32 := Scalar.addi v847 v930
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c64_i32_662 : BitVec 32 := 64#32
  let v1014 : BitVec 32 := Scalar.muli v128 c64_i32_662
  let v1015 : BitVec 32 := Scalar.addi v931 v1014
  let v1068 : BitVec 32 := Scalar.addi c512_i32_712 v1015
  let v1069 : BitVec 32 := v1068
  let v1070 : Index := Scalar.indexCast v1069
  let c0_713 : Index := 0#32
  ![v1070.toNat, 0]
def k0_mult14 (d0 : Dev nD) : BitVec 32 :=
  let c512_i32_717 : BitVec 32 := 512#32
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v72 : BitVec 32 := Scalar.andi v46 c1_i32_31
  let c256_i32_521 : BitVec 32 := 256#32
  let v846 : BitVec 32 := Scalar.muli v72 c256_i32_521
  let v847 : BitVec 32 := Scalar.addi c0_i32_522 v846
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c128_i32_592 : BitVec 32 := 128#32
  let v930 : BitVec 32 := Scalar.muli v57 c128_i32_592
  let v931 : BitVec 32 := Scalar.addi v847 v930
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c64_i32_662 : BitVec 32 := 64#32
  let v1014 : BitVec 32 := Scalar.muli v128 c64_i32_662
  let v1015 : BitVec 32 := Scalar.addi v931 v1014
  let v1078 : BitVec 32 := Scalar.addi c512_i32_717 v1015
  let c1_i32_718 : BitVec 32 := 1#32
  let c1_i32_36 : BitVec 32 := 1#32
  let v80 : BitVec 32 := Scalar.andi v19 c1_i32_36
  let v1079 : BitVec 32 := Scalar.subi c1_i32_718 v80
  let c32_i32_719 : BitVec 32 := 32#32
  let v1080 : BitVec 32 := Scalar.muli v1079 c32_i32_719
  let v1081 : BitVec 32 := Scalar.addi v1078 v1080
  v1081
def k0_off15 (d0 : Dev nD) : Fin 2 → Nat :=
  let c512_i32_717 : BitVec 32 := 512#32
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v72 : BitVec 32 := Scalar.andi v46 c1_i32_31
  let c256_i32_521 : BitVec 32 := 256#32
  let v846 : BitVec 32 := Scalar.muli v72 c256_i32_521
  let v847 : BitVec 32 := Scalar.addi c0_i32_522 v846
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c128_i32_592 : BitVec 32 := 128#32
  let v930 : BitVec 32 := Scalar.muli v57 c128_i32_592
  let v931 : BitVec 32 := Scalar.addi v847 v930
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c64_i32_662 : BitVec 32 := 64#32
  let v1014 : BitVec 32 := Scalar.muli v128 c64_i32_662
  let v1015 : BitVec 32 := Scalar.addi v931 v1014
  let v1078 : BitVec 32 := Scalar.addi c512_i32_717 v1015
  let c1_i32_718 : BitVec 32 := 1#32
  let c1_i32_36 : BitVec 32 := 1#32
  let v80 : BitVec 32 := Scalar.andi v19 c1_i32_36
  let v1079 : BitVec 32 := Scalar.subi c1_i32_718 v80
  let c32_i32_719 : BitVec 32 := 32#32
  let v1080 : BitVec 32 := Scalar.muli v1079 c32_i32_719
  let v1081 : BitVec 32 := Scalar.addi v1078 v1080
  let v1082 : BitVec 32 := v1081
  let v1083 : Index := Scalar.indexCast v1082
  let c0_720 : Index := 0#32
  ![v1083.toNat, 0]
def k0_dev13 (d0 : Dev nD) : Nat :=
  let c0_i32_726 : BitVec 32 := 0#32
  let c8_i32_33 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_32 : BitVec 32 := 1#32
  let v73 : BitVec 32 := Scalar.xori v19 c1_i32_32
  let v74 : BitVec 32 := Scalar.muli c8_i32_33 v73
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c2_i32_34 v46
  let v76 : BitVec 32 := Scalar.addi v74 v75
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_35 : BitVec 32 := 1#32
  let v77 : BitVec 32 := Scalar.andi v46 c1_i32_35
  let v78 : BitVec 32 := Scalar.xori v57 v77
  let v79 : BitVec 32 := Scalar.addi v76 v78
  let c1_i32_725 : BitVec 32 := 1#32
  let v1090 : BitVec 32 := Scalar.muli v79 c1_i32_725
  let v1091 : BitVec 32 := Scalar.addi c0_i32_726 v1090
  v1091.toNat
def k0_mult15 (d0 : Dev nD) : BitVec 32 :=
  let c0_i32_747 : BitVec 32 := 0#32
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_397 : BitVec 32 := 256#32
  let v646 : BitVec 32 := Scalar.muli v57 c256_i32_397
  let v647 : BitVec 32 := Scalar.addi c0_i32_398 v646
  let c1_i32_31 : BitVec 32 := 1#32
  let v72 : BitVec 32 := Scalar.andi v46 c1_i32_31
  let c128_i32_557 : BitVec 32 := 128#32
  let v888 : BitVec 32 := Scalar.muli v72 c128_i32_557
  let v889 : BitVec 32 := Scalar.addi v647 v888
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_36 : BitVec 32 := 1#32
  let v80 : BitVec 32 := Scalar.andi v19 c1_i32_36
  let c64_i32_627 : BitVec 32 := 64#32
  let v972 : BitVec 32 := Scalar.muli v80 c64_i32_627
  let v973 : BitVec 32 := Scalar.addi v889 v972
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c32_i32_696 : BitVec 32 := 32#32
  let v1056 : BitVec 32 := Scalar.muli v104 c32_i32_696
  let v1057 : BitVec 32 := Scalar.addi v973 v1056
  let v1110 : BitVec 32 := Scalar.addi c0_i32_747 v1057
  v1110
def k0_off16 (d0 : Dev nD) : Fin 2 → Nat :=
  let c0_i32_747 : BitVec 32 := 0#32
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_397 : BitVec 32 := 256#32
  let v646 : BitVec 32 := Scalar.muli v57 c256_i32_397
  let v647 : BitVec 32 := Scalar.addi c0_i32_398 v646
  let c1_i32_31 : BitVec 32 := 1#32
  let v72 : BitVec 32 := Scalar.andi v46 c1_i32_31
  let c128_i32_557 : BitVec 32 := 128#32
  let v888 : BitVec 32 := Scalar.muli v72 c128_i32_557
  let v889 : BitVec 32 := Scalar.addi v647 v888
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_36 : BitVec 32 := 1#32
  let v80 : BitVec 32 := Scalar.andi v19 c1_i32_36
  let c64_i32_627 : BitVec 32 := 64#32
  let v972 : BitVec 32 := Scalar.muli v80 c64_i32_627
  let v973 : BitVec 32 := Scalar.addi v889 v972
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c32_i32_696 : BitVec 32 := 32#32
  let v1056 : BitVec 32 := Scalar.muli v104 c32_i32_696
  let v1057 : BitVec 32 := Scalar.addi v973 v1056
  let v1110 : BitVec 32 := Scalar.addi c0_i32_747 v1057
  let v1111 : BitVec 32 := v1110
  let v1112 : Index := Scalar.indexCast v1111
  let c0_748 : Index := 0#32
  ![v1112.toNat, 0]
def k0_mult16 (d0 : Dev nD) : BitVec 32 :=
  let c0_i32_751 : BitVec 32 := 0#32
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_397 : BitVec 32 := 256#32
  let v646 : BitVec 32 := Scalar.muli v57 c256_i32_397
  let v647 : BitVec 32 := Scalar.addi c0_i32_398 v646
  let c1_i32_31 : BitVec 32 := 1#32
  let v72 : BitVec 32 := Scalar.andi v46 c1_i32_31
  let c128_i32_557 : BitVec 32 := 128#32
  let v888 : BitVec 32 := Scalar.muli v72 c128_i32_557
  let v889 : BitVec 32 := Scalar.addi v647 v888
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_36 : BitVec 32 := 1#32
  let v80 : BitVec 32 := Scalar.andi v19 c1_i32_36
  let c64_i32_627 : BitVec 32 := 64#32
  let v972 : BitVec 32 := Scalar.muli v80 c64_i32_627
  let v973 : BitVec 32 := Scalar.addi v889 v972
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c32_i32_696 : BitVec 32 := 32#32
  let v1056 : BitVec 32 := Scalar.muli v104 c32_i32_696
  let v1057 : BitVec 32 := Scalar.addi v973 v1056
  let v1120 : BitVec 32 := Scalar.addi c0_i32_751 v1057
  let c1_i32_752 : BitVec 32 := 1#32
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let v1121 : BitVec 32 := Scalar.subi c1_i32_752 v128
  let c16_i32 : BitVec 32 := 16#32
  let v1122 : BitVec 32 := Scalar.muli v1121 c16_i32
  let v1123 : BitVec 32 := Scalar.addi v1120 v1122
  v1123
def k0_off17 (d0 : Dev nD) : Fin 2 → Nat :=
  let c0_i32_751 : BitVec 32 := 0#32
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_397 : BitVec 32 := 256#32
  let v646 : BitVec 32 := Scalar.muli v57 c256_i32_397
  let v647 : BitVec 32 := Scalar.addi c0_i32_398 v646
  let c1_i32_31 : BitVec 32 := 1#32
  let v72 : BitVec 32 := Scalar.andi v46 c1_i32_31
  let c128_i32_557 : BitVec 32 := 128#32
  let v888 : BitVec 32 := Scalar.muli v72 c128_i32_557
  let v889 : BitVec 32 := Scalar.addi v647 v888
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_36 : BitVec 32 := 1#32
  let v80 : BitVec 32 := Scalar.andi v19 c1_i32_36
  let c64_i32_627 : BitVec 32 := 64#32
  let v972 : BitVec 32 := Scalar.muli v80 c64_i32_627
  let v973 : BitVec 32 := Scalar.addi v889 v972
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c32_i32_696 : BitVec 32 := 32#32
  let v1056 : BitVec 32 := Scalar.muli v104 c32_i32_696
  let v1057 : BitVec 32 := Scalar.addi v973 v1056
  let v1120 : BitVec 32 := Scalar.addi c0_i32_751 v1057
  let c1_i32_752 : BitVec 32 := 1#32
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let v1121 : BitVec 32 := Scalar.subi c1_i32_752 v128
  let c16_i32 : BitVec 32 := 16#32
  let v1122 : BitVec 32 := Scalar.muli v1121 c16_i32
  let v1123 : BitVec 32 := Scalar.addi v1120 v1122
  let v1124 : BitVec 32 := v1123
  let v1125 : Index := Scalar.indexCast v1124
  let c0_753 : Index := 0#32
  ![v1125.toNat, 0]
def k0_dev14 (d0 : Dev nD) : Nat :=
  let c0_i32_759 : BitVec 32 := 0#32
  let c8_i32_49 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_48 : BitVec 32 := 2#32
  let v105 : BitVec 32 := Scalar.xori v19 c2_i32_48
  let v106 : BitVec 32 := Scalar.muli c8_i32_49 v105
  let c2_i32_50 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v107 : BitVec 32 := Scalar.muli c2_i32_50 v46
  let v108 : BitVec 32 := Scalar.addi v106 v107
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_51 : BitVec 32 := 1#32
  let v109 : BitVec 32 := Scalar.andi v46 c1_i32_51
  let v110 : BitVec 32 := Scalar.xori v57 v109
  let v111 : BitVec 32 := Scalar.addi v108 v110
  let c1_i32_758 : BitVec 32 := 1#32
  let v1132 : BitVec 32 := Scalar.muli v111 c1_i32_758
  let v1133 : BitVec 32 := Scalar.addi c0_i32_759 v1132
  v1133.toNat
def k0_mult17 (d0 : Dev nD) : BitVec 32 :=
  let c512_i32_779 : BitVec 32 := 512#32
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v72 : BitVec 32 := Scalar.andi v46 c1_i32_31
  let c256_i32_521 : BitVec 32 := 256#32
  let v846 : BitVec 32 := Scalar.muli v72 c256_i32_521
  let v847 : BitVec 32 := Scalar.addi c0_i32_522 v846
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c128_i32_592 : BitVec 32 := 128#32
  let v930 : BitVec 32 := Scalar.muli v57 c128_i32_592
  let v931 : BitVec 32 := Scalar.addi v847 v930
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c64_i32_662 : BitVec 32 := 64#32
  let v1014 : BitVec 32 := Scalar.muli v128 c64_i32_662
  let v1015 : BitVec 32 := Scalar.addi v931 v1014
  let c1_i32_36 : BitVec 32 := 1#32
  let v80 : BitVec 32 := Scalar.andi v19 c1_i32_36
  let c32_i32_731 : BitVec 32 := 32#32
  let v1098 : BitVec 32 := Scalar.muli v80 c32_i32_731
  let v1099 : BitVec 32 := Scalar.addi v1015 v1098
  let v1152 : BitVec 32 := Scalar.addi c512_i32_779 v1099
  v1152
def k0_off18 (d0 : Dev nD) : Fin 2 → Nat :=
  let c512_i32_779 : BitVec 32 := 512#32
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v72 : BitVec 32 := Scalar.andi v46 c1_i32_31
  let c256_i32_521 : BitVec 32 := 256#32
  let v846 : BitVec 32 := Scalar.muli v72 c256_i32_521
  let v847 : BitVec 32 := Scalar.addi c0_i32_522 v846
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c128_i32_592 : BitVec 32 := 128#32
  let v930 : BitVec 32 := Scalar.muli v57 c128_i32_592
  let v931 : BitVec 32 := Scalar.addi v847 v930
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c64_i32_662 : BitVec 32 := 64#32
  let v1014 : BitVec 32 := Scalar.muli v128 c64_i32_662
  let v1015 : BitVec 32 := Scalar.addi v931 v1014
  let c1_i32_36 : BitVec 32 := 1#32
  let v80 : BitVec 32 := Scalar.andi v19 c1_i32_36
  let c32_i32_731 : BitVec 32 := 32#32
  let v1098 : BitVec 32 := Scalar.muli v80 c32_i32_731
  let v1099 : BitVec 32 := Scalar.addi v1015 v1098
  let v1152 : BitVec 32 := Scalar.addi c512_i32_779 v1099
  let v1153 : BitVec 32 := v1152
  let v1154 : Index := Scalar.indexCast v1153
  let c0_780 : Index := 0#32
  ![v1154.toNat, 0]
def k0_mult18 (d0 : Dev nD) : BitVec 32 :=
  let c512_i32_784 : BitVec 32 := 512#32
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v72 : BitVec 32 := Scalar.andi v46 c1_i32_31
  let c256_i32_521 : BitVec 32 := 256#32
  let v846 : BitVec 32 := Scalar.muli v72 c256_i32_521
  let v847 : BitVec 32 := Scalar.addi c0_i32_522 v846
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c128_i32_592 : BitVec 32 := 128#32
  let v930 : BitVec 32 := Scalar.muli v57 c128_i32_592
  let v931 : BitVec 32 := Scalar.addi v847 v930
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c64_i32_662 : BitVec 32 := 64#32
  let v1014 : BitVec 32 := Scalar.muli v128 c64_i32_662
  let v1015 : BitVec 32 := Scalar.addi v931 v1014
  let c1_i32_36 : BitVec 32 := 1#32
  let v80 : BitVec 32 := Scalar.andi v19 c1_i32_36
  let c32_i32_731 : BitVec 32 := 32#32
  let v1098 : BitVec 32 := Scalar.muli v80 c32_i32_731
  let v1099 : BitVec 32 := Scalar.addi v1015 v1098
  let v1162 : BitVec 32 := Scalar.addi c512_i32_784 v1099
  let c1_i32_785 : BitVec 32 := 1#32
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let v1163 : BitVec 32 := Scalar.subi c1_i32_785 v104
  let c16_i32_786 : BitVec 32 := 16#32
  let v1164 : BitVec 32 := Scalar.muli v1163 c16_i32_786
  let v1165 : BitVec 32 := Scalar.addi v1162 v1164
  v1165
def k0_off19 (d0 : Dev nD) : Fin 2 → Nat :=
  let c512_i32_784 : BitVec 32 := 512#32
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v72 : BitVec 32 := Scalar.andi v46 c1_i32_31
  let c256_i32_521 : BitVec 32 := 256#32
  let v846 : BitVec 32 := Scalar.muli v72 c256_i32_521
  let v847 : BitVec 32 := Scalar.addi c0_i32_522 v846
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c128_i32_592 : BitVec 32 := 128#32
  let v930 : BitVec 32 := Scalar.muli v57 c128_i32_592
  let v931 : BitVec 32 := Scalar.addi v847 v930
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c64_i32_662 : BitVec 32 := 64#32
  let v1014 : BitVec 32 := Scalar.muli v128 c64_i32_662
  let v1015 : BitVec 32 := Scalar.addi v931 v1014
  let c1_i32_36 : BitVec 32 := 1#32
  let v80 : BitVec 32 := Scalar.andi v19 c1_i32_36
  let c32_i32_731 : BitVec 32 := 32#32
  let v1098 : BitVec 32 := Scalar.muli v80 c32_i32_731
  let v1099 : BitVec 32 := Scalar.addi v1015 v1098
  let v1162 : BitVec 32 := Scalar.addi c512_i32_784 v1099
  let c1_i32_785 : BitVec 32 := 1#32
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let v1163 : BitVec 32 := Scalar.subi c1_i32_785 v104
  let c16_i32_786 : BitVec 32 := 16#32
  let v1164 : BitVec 32 := Scalar.muli v1163 c16_i32_786
  let v1165 : BitVec 32 := Scalar.addi v1162 v1164
  let v1166 : BitVec 32 := v1165
  let v1167 : Index := Scalar.indexCast v1166
  let c0_787 : Index := 0#32
  ![v1167.toNat, 0]
def k0_dev15 (d0 : Dev nD) : Nat :=
  let c0_i32_793 : BitVec 32 := 0#32
  let c8_i32_38 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v82 : BitVec 32 := Scalar.muli c8_i32_38 v19
  let c2_i32_39 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_37 : BitVec 32 := 2#32
  let v81 : BitVec 32 := Scalar.xori v46 c2_i32_37
  let v83 : BitVec 32 := Scalar.muli c2_i32_39 v81
  let v84 : BitVec 32 := Scalar.addi v82 v83
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_40 : BitVec 32 := 1#32
  let v85 : BitVec 32 := Scalar.andi v81 c1_i32_40
  let v86 : BitVec 32 := Scalar.xori v57 v85
  let v87 : BitVec 32 := Scalar.addi v84 v86
  let c1_i32_792 : BitVec 32 := 1#32
  let v1174 : BitVec 32 := Scalar.muli v87 c1_i32_792
  let v1175 : BitVec 32 := Scalar.addi c0_i32_793 v1174
  v1175.toNat
def k0_mult19 (d0 : Dev nD) : BitVec 32 :=
  let c0_i32_814 : BitVec 32 := 0#32
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_397 : BitVec 32 := 256#32
  let v646 : BitVec 32 := Scalar.muli v57 c256_i32_397
  let v647 : BitVec 32 := Scalar.addi c0_i32_398 v646
  let c1_i32_31 : BitVec 32 := 1#32
  let v72 : BitVec 32 := Scalar.andi v46 c1_i32_31
  let c128_i32_557 : BitVec 32 := 128#32
  let v888 : BitVec 32 := Scalar.muli v72 c128_i32_557
  let v889 : BitVec 32 := Scalar.addi v647 v888
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_36 : BitVec 32 := 1#32
  let v80 : BitVec 32 := Scalar.andi v19 c1_i32_36
  let c64_i32_627 : BitVec 32 := 64#32
  let v972 : BitVec 32 := Scalar.muli v80 c64_i32_627
  let v973 : BitVec 32 := Scalar.addi v889 v972
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c32_i32_696 : BitVec 32 := 32#32
  let v1056 : BitVec 32 := Scalar.muli v104 c32_i32_696
  let v1057 : BitVec 32 := Scalar.addi v973 v1056
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c16_i32_763 : BitVec 32 := 16#32
  let v1140 : BitVec 32 := Scalar.muli v128 c16_i32_763
  let v1141 : BitVec 32 := Scalar.addi v1057 v1140
  let v1194 : BitVec 32 := Scalar.addi c0_i32_814 v1141
  v1194
def k0_off20 (d0 : Dev nD) : Fin 2 → Nat :=
  let c0_i32_814 : BitVec 32 := 0#32
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_397 : BitVec 32 := 256#32
  let v646 : BitVec 32 := Scalar.muli v57 c256_i32_397
  let v647 : BitVec 32 := Scalar.addi c0_i32_398 v646
  let c1_i32_31 : BitVec 32 := 1#32
  let v72 : BitVec 32 := Scalar.andi v46 c1_i32_31
  let c128_i32_557 : BitVec 32 := 128#32
  let v888 : BitVec 32 := Scalar.muli v72 c128_i32_557
  let v889 : BitVec 32 := Scalar.addi v647 v888
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_36 : BitVec 32 := 1#32
  let v80 : BitVec 32 := Scalar.andi v19 c1_i32_36
  let c64_i32_627 : BitVec 32 := 64#32
  let v972 : BitVec 32 := Scalar.muli v80 c64_i32_627
  let v973 : BitVec 32 := Scalar.addi v889 v972
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c32_i32_696 : BitVec 32 := 32#32
  let v1056 : BitVec 32 := Scalar.muli v104 c32_i32_696
  let v1057 : BitVec 32 := Scalar.addi v973 v1056
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c16_i32_763 : BitVec 32 := 16#32
  let v1140 : BitVec 32 := Scalar.muli v128 c16_i32_763
  let v1141 : BitVec 32 := Scalar.addi v1057 v1140
  let v1194 : BitVec 32 := Scalar.addi c0_i32_814 v1141
  let v1195 : BitVec 32 := v1194
  let v1196 : Index := Scalar.indexCast v1195
  let c0_815 : Index := 0#32
  ![v1196.toNat, 0]
def k0_mult20 (d0 : Dev nD) : BitVec 32 :=
  let c0_i32_818 : BitVec 32 := 0#32
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_397 : BitVec 32 := 256#32
  let v646 : BitVec 32 := Scalar.muli v57 c256_i32_397
  let v647 : BitVec 32 := Scalar.addi c0_i32_398 v646
  let c1_i32_31 : BitVec 32 := 1#32
  let v72 : BitVec 32 := Scalar.andi v46 c1_i32_31
  let c128_i32_557 : BitVec 32 := 128#32
  let v888 : BitVec 32 := Scalar.muli v72 c128_i32_557
  let v889 : BitVec 32 := Scalar.addi v647 v888
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_36 : BitVec 32 := 1#32
  let v80 : BitVec 32 := Scalar.andi v19 c1_i32_36
  let c64_i32_627 : BitVec 32 := 64#32
  let v972 : BitVec 32 := Scalar.muli v80 c64_i32_627
  let v973 : BitVec 32 := Scalar.addi v889 v972
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c32_i32_696 : BitVec 32 := 32#32
  let v1056 : BitVec 32 := Scalar.muli v104 c32_i32_696
  let v1057 : BitVec 32 := Scalar.addi v973 v1056
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c16_i32_763 : BitVec 32 := 16#32
  let v1140 : BitVec 32 := Scalar.muli v128 c16_i32_763
  let v1141 : BitVec 32 := Scalar.addi v1057 v1140
  let v1204 : BitVec 32 := Scalar.addi c0_i32_818 v1141
  v1204
def k0_dev16 (d0 : Dev nD) : Nat :=
  let c0_i32_825 : BitVec 32 := 0#32
  let c8_i32_49 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_48 : BitVec 32 := 2#32
  let v105 : BitVec 32 := Scalar.xori v19 c2_i32_48
  let v106 : BitVec 32 := Scalar.muli c8_i32_49 v105
  let c2_i32_50 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v107 : BitVec 32 := Scalar.muli c2_i32_50 v46
  let v108 : BitVec 32 := Scalar.addi v106 v107
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_51 : BitVec 32 := 1#32
  let v109 : BitVec 32 := Scalar.andi v46 c1_i32_51
  let v110 : BitVec 32 := Scalar.xori v57 v109
  let v111 : BitVec 32 := Scalar.addi v108 v110
  let c1_i32_824 : BitVec 32 := 1#32
  let v1213 : BitVec 32 := Scalar.muli v111 c1_i32_824
  let v1214 : BitVec 32 := Scalar.addi c0_i32_825 v1213
  v1214.toNat
def k0_mult21 (d0 : Dev nD) : BitVec 32 :=
  let c512_i32_845 : BitVec 32 := 512#32
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v72 : BitVec 32 := Scalar.andi v46 c1_i32_31
  let c256_i32_521 : BitVec 32 := 256#32
  let v846 : BitVec 32 := Scalar.muli v72 c256_i32_521
  let v847 : BitVec 32 := Scalar.addi c0_i32_522 v846
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c128_i32_592 : BitVec 32 := 128#32
  let v930 : BitVec 32 := Scalar.muli v57 c128_i32_592
  let v931 : BitVec 32 := Scalar.addi v847 v930
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c64_i32_662 : BitVec 32 := 64#32
  let v1014 : BitVec 32 := Scalar.muli v128 c64_i32_662
  let v1015 : BitVec 32 := Scalar.addi v931 v1014
  let c1_i32_36 : BitVec 32 := 1#32
  let v80 : BitVec 32 := Scalar.andi v19 c1_i32_36
  let c32_i32_731 : BitVec 32 := 32#32
  let v1098 : BitVec 32 := Scalar.muli v80 c32_i32_731
  let v1099 : BitVec 32 := Scalar.addi v1015 v1098
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c16_i32_798 : BitVec 32 := 16#32
  let v1182 : BitVec 32 := Scalar.muli v104 c16_i32_798
  let v1183 : BitVec 32 := Scalar.addi v1099 v1182
  let v1231 : BitVec 32 := Scalar.addi c512_i32_845 v1183
  v1231
def k0_off21 (d0 : Dev nD) : Fin 2 → Nat :=
  let c512_i32_845 : BitVec 32 := 512#32
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v72 : BitVec 32 := Scalar.andi v46 c1_i32_31
  let c256_i32_521 : BitVec 32 := 256#32
  let v846 : BitVec 32 := Scalar.muli v72 c256_i32_521
  let v847 : BitVec 32 := Scalar.addi c0_i32_522 v846
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c128_i32_592 : BitVec 32 := 128#32
  let v930 : BitVec 32 := Scalar.muli v57 c128_i32_592
  let v931 : BitVec 32 := Scalar.addi v847 v930
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c64_i32_662 : BitVec 32 := 64#32
  let v1014 : BitVec 32 := Scalar.muli v128 c64_i32_662
  let v1015 : BitVec 32 := Scalar.addi v931 v1014
  let c1_i32_36 : BitVec 32 := 1#32
  let v80 : BitVec 32 := Scalar.andi v19 c1_i32_36
  let c32_i32_731 : BitVec 32 := 32#32
  let v1098 : BitVec 32 := Scalar.muli v80 c32_i32_731
  let v1099 : BitVec 32 := Scalar.addi v1015 v1098
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c16_i32_798 : BitVec 32 := 16#32
  let v1182 : BitVec 32 := Scalar.muli v104 c16_i32_798
  let v1183 : BitVec 32 := Scalar.addi v1099 v1182
  let v1231 : BitVec 32 := Scalar.addi c512_i32_845 v1183
  let v1232 : BitVec 32 := v1231
  let v1233 : Index := Scalar.indexCast v1232
  let c0_846 : Index := 0#32
  ![v1233.toNat, 0]
def k0_mult22 (d0 : Dev nD) : BitVec 32 :=
  let c512_i32_850 : BitVec 32 := 512#32
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v72 : BitVec 32 := Scalar.andi v46 c1_i32_31
  let c256_i32_521 : BitVec 32 := 256#32
  let v846 : BitVec 32 := Scalar.muli v72 c256_i32_521
  let v847 : BitVec 32 := Scalar.addi c0_i32_522 v846
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c128_i32_592 : BitVec 32 := 128#32
  let v930 : BitVec 32 := Scalar.muli v57 c128_i32_592
  let v931 : BitVec 32 := Scalar.addi v847 v930
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c64_i32_662 : BitVec 32 := 64#32
  let v1014 : BitVec 32 := Scalar.muli v128 c64_i32_662
  let v1015 : BitVec 32 := Scalar.addi v931 v1014
  let c1_i32_36 : BitVec 32 := 1#32
  let v80 : BitVec 32 := Scalar.andi v19 c1_i32_36
  let c32_i32_731 : BitVec 32 := 32#32
  let v1098 : BitVec 32 := Scalar.muli v80 c32_i32_731
  let v1099 : BitVec 32 := Scalar.addi v1015 v1098
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c16_i32_798 : BitVec 32 := 16#32
  let v1182 : BitVec 32 := Scalar.muli v104 c16_i32_798
  let v1183 : BitVec 32 := Scalar.addi v1099 v1182
  let v1241 : BitVec 32 := Scalar.addi c512_i32_850 v1183
  v1241
def k0_dev17 (d0 : Dev nD) : Nat :=
  let c0_i32_857 : BitVec 32 := 0#32
  let c8_i32_38 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v82 : BitVec 32 := Scalar.muli c8_i32_38 v19
  let c2_i32_39 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_37 : BitVec 32 := 2#32
  let v81 : BitVec 32 := Scalar.xori v46 c2_i32_37
  let v83 : BitVec 32 := Scalar.muli c2_i32_39 v81
  let v84 : BitVec 32 := Scalar.addi v82 v83
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_40 : BitVec 32 := 1#32
  let v85 : BitVec 32 := Scalar.andi v81 c1_i32_40
  let v86 : BitVec 32 := Scalar.xori v57 v85
  let v87 : BitVec 32 := Scalar.addi v84 v86
  let c1_i32_856 : BitVec 32 := 1#32
  let v1250 : BitVec 32 := Scalar.muli v87 c1_i32_856
  let v1251 : BitVec 32 := Scalar.addi c0_i32_857 v1250
  v1251.toNat
def k0_mult23 (d0 : Dev nD) : BitVec 32 :=
  let c0_i32_877 : BitVec 32 := 0#32
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_397 : BitVec 32 := 256#32
  let v646 : BitVec 32 := Scalar.muli v57 c256_i32_397
  let v647 : BitVec 32 := Scalar.addi c0_i32_398 v646
  let c1_i32_31 : BitVec 32 := 1#32
  let v72 : BitVec 32 := Scalar.andi v46 c1_i32_31
  let c128_i32_557 : BitVec 32 := 128#32
  let v888 : BitVec 32 := Scalar.muli v72 c128_i32_557
  let v889 : BitVec 32 := Scalar.addi v647 v888
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_36 : BitVec 32 := 1#32
  let v80 : BitVec 32 := Scalar.andi v19 c1_i32_36
  let c64_i32_627 : BitVec 32 := 64#32
  let v972 : BitVec 32 := Scalar.muli v80 c64_i32_627
  let v973 : BitVec 32 := Scalar.addi v889 v972
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c32_i32_696 : BitVec 32 := 32#32
  let v1056 : BitVec 32 := Scalar.muli v104 c32_i32_696
  let v1057 : BitVec 32 := Scalar.addi v973 v1056
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c16_i32_763 : BitVec 32 := 16#32
  let v1140 : BitVec 32 := Scalar.muli v128 c16_i32_763
  let v1141 : BitVec 32 := Scalar.addi v1057 v1140
  let v1268 : BitVec 32 := Scalar.addi c0_i32_877 v1141
  let c1_i32_879 : BitVec 32 := 1#32
  let c2_i32_878 : BitVec 32 := 2#32
  let v1269 : BitVec 32 := Scalar.muli c2_i32_878 v128
  let v1270 : BitVec 32 := Scalar.subi c1_i32_879 v1269
  let c16_i32_880 : BitVec 32 := 16#32
  let v1271 : BitVec 32 := Scalar.muli v1270 c16_i32_880
  let v1272 : BitVec 32 := Scalar.addi v1268 v1271
  v1272
def k0_off22 (d0 : Dev nD) : Fin 2 → Nat :=
  let c0_i32_877 : BitVec 32 := 0#32
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_397 : BitVec 32 := 256#32
  let v646 : BitVec 32 := Scalar.muli v57 c256_i32_397
  let v647 : BitVec 32 := Scalar.addi c0_i32_398 v646
  let c1_i32_31 : BitVec 32 := 1#32
  let v72 : BitVec 32 := Scalar.andi v46 c1_i32_31
  let c128_i32_557 : BitVec 32 := 128#32
  let v888 : BitVec 32 := Scalar.muli v72 c128_i32_557
  let v889 : BitVec 32 := Scalar.addi v647 v888
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_36 : BitVec 32 := 1#32
  let v80 : BitVec 32 := Scalar.andi v19 c1_i32_36
  let c64_i32_627 : BitVec 32 := 64#32
  let v972 : BitVec 32 := Scalar.muli v80 c64_i32_627
  let v973 : BitVec 32 := Scalar.addi v889 v972
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c32_i32_696 : BitVec 32 := 32#32
  let v1056 : BitVec 32 := Scalar.muli v104 c32_i32_696
  let v1057 : BitVec 32 := Scalar.addi v973 v1056
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c16_i32_763 : BitVec 32 := 16#32
  let v1140 : BitVec 32 := Scalar.muli v128 c16_i32_763
  let v1141 : BitVec 32 := Scalar.addi v1057 v1140
  let v1268 : BitVec 32 := Scalar.addi c0_i32_877 v1141
  let c1_i32_879 : BitVec 32 := 1#32
  let c2_i32_878 : BitVec 32 := 2#32
  let v1269 : BitVec 32 := Scalar.muli c2_i32_878 v128
  let v1270 : BitVec 32 := Scalar.subi c1_i32_879 v1269
  let c16_i32_880 : BitVec 32 := 16#32
  let v1271 : BitVec 32 := Scalar.muli v1270 c16_i32_880
  let v1272 : BitVec 32 := Scalar.addi v1268 v1271
  let v1273 : BitVec 32 := v1272
  let v1276 : Index := Scalar.indexCast v1273
  let c0_883 : Index := 0#32
  ![v1276.toNat, 0]
def k0_mult24 (d0 : Dev nD) : BitVec 32 :=
  let c0_i32_885 : BitVec 32 := 0#32
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_397 : BitVec 32 := 256#32
  let v646 : BitVec 32 := Scalar.muli v57 c256_i32_397
  let v647 : BitVec 32 := Scalar.addi c0_i32_398 v646
  let c1_i32_31 : BitVec 32 := 1#32
  let v72 : BitVec 32 := Scalar.andi v46 c1_i32_31
  let c128_i32_557 : BitVec 32 := 128#32
  let v888 : BitVec 32 := Scalar.muli v72 c128_i32_557
  let v889 : BitVec 32 := Scalar.addi v647 v888
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_36 : BitVec 32 := 1#32
  let v80 : BitVec 32 := Scalar.andi v19 c1_i32_36
  let c64_i32_627 : BitVec 32 := 64#32
  let v972 : BitVec 32 := Scalar.muli v80 c64_i32_627
  let v973 : BitVec 32 := Scalar.addi v889 v972
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c32_i32_696 : BitVec 32 := 32#32
  let v1056 : BitVec 32 := Scalar.muli v104 c32_i32_696
  let v1057 : BitVec 32 := Scalar.addi v973 v1056
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c16_i32_763 : BitVec 32 := 16#32
  let v1140 : BitVec 32 := Scalar.muli v128 c16_i32_763
  let v1141 : BitVec 32 := Scalar.addi v1057 v1140
  let c16_i32_884 : BitVec 32 := 16#32
  let v1278 : BitVec 32 := Scalar.muli v128 c16_i32_884
  let v1279 : BitVec 32 := Scalar.subi v1141 v1278
  let v1280 : BitVec 32 := Scalar.addi c0_i32_885 v1279
  v1280
def k0_off23 (d0 : Dev nD) : Fin 2 → Nat :=
  let c0_i32_885 : BitVec 32 := 0#32
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_397 : BitVec 32 := 256#32
  let v646 : BitVec 32 := Scalar.muli v57 c256_i32_397
  let v647 : BitVec 32 := Scalar.addi c0_i32_398 v646
  let c1_i32_31 : BitVec 32 := 1#32
  let v72 : BitVec 32 := Scalar.andi v46 c1_i32_31
  let c128_i32_557 : BitVec 32 := 128#32
  let v888 : BitVec 32 := Scalar.muli v72 c128_i32_557
  let v889 : BitVec 32 := Scalar.addi v647 v888
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_36 : BitVec 32 := 1#32
  let v80 : BitVec 32 := Scalar.andi v19 c1_i32_36
  let c64_i32_627 : BitVec 32 := 64#32
  let v972 : BitVec 32 := Scalar.muli v80 c64_i32_627
  let v973 : BitVec 32 := Scalar.addi v889 v972
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c32_i32_696 : BitVec 32 := 32#32
  let v1056 : BitVec 32 := Scalar.muli v104 c32_i32_696
  let v1057 : BitVec 32 := Scalar.addi v973 v1056
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c16_i32_763 : BitVec 32 := 16#32
  let v1140 : BitVec 32 := Scalar.muli v128 c16_i32_763
  let v1141 : BitVec 32 := Scalar.addi v1057 v1140
  let c16_i32_884 : BitVec 32 := 16#32
  let v1278 : BitVec 32 := Scalar.muli v128 c16_i32_884
  let v1279 : BitVec 32 := Scalar.subi v1141 v1278
  let v1280 : BitVec 32 := Scalar.addi c0_i32_885 v1279
  let v1281 : BitVec 32 := v1280
  let v1282 : Index := Scalar.indexCast v1281
  let c0_886 : Index := 0#32
  ![v1282.toNat, 0]
def k0_dev18 (d0 : Dev nD) : Nat :=
  let c0_i32_892 : BitVec 32 := 0#32
  let c8_i32_38 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v82 : BitVec 32 := Scalar.muli c8_i32_38 v19
  let c2_i32_39 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_37 : BitVec 32 := 2#32
  let v81 : BitVec 32 := Scalar.xori v46 c2_i32_37
  let v83 : BitVec 32 := Scalar.muli c2_i32_39 v81
  let v84 : BitVec 32 := Scalar.addi v82 v83
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_40 : BitVec 32 := 1#32
  let v85 : BitVec 32 := Scalar.andi v81 c1_i32_40
  let v86 : BitVec 32 := Scalar.xori v57 v85
  let v87 : BitVec 32 := Scalar.addi v84 v86
  let c1_i32_891 : BitVec 32 := 1#32
  let v1289 : BitVec 32 := Scalar.muli v87 c1_i32_891
  let v1290 : BitVec 32 := Scalar.addi c0_i32_892 v1289
  v1290.toNat
def k0_mult25 (d0 : Dev nD) : BitVec 32 :=
  let c512_i32_912 : BitVec 32 := 512#32
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v72 : BitVec 32 := Scalar.andi v46 c1_i32_31
  let c256_i32_521 : BitVec 32 := 256#32
  let v846 : BitVec 32 := Scalar.muli v72 c256_i32_521
  let v847 : BitVec 32 := Scalar.addi c0_i32_522 v846
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c128_i32_592 : BitVec 32 := 128#32
  let v930 : BitVec 32 := Scalar.muli v57 c128_i32_592
  let v931 : BitVec 32 := Scalar.addi v847 v930
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c64_i32_662 : BitVec 32 := 64#32
  let v1014 : BitVec 32 := Scalar.muli v128 c64_i32_662
  let v1015 : BitVec 32 := Scalar.addi v931 v1014
  let c1_i32_36 : BitVec 32 := 1#32
  let v80 : BitVec 32 := Scalar.andi v19 c1_i32_36
  let c32_i32_731 : BitVec 32 := 32#32
  let v1098 : BitVec 32 := Scalar.muli v80 c32_i32_731
  let v1099 : BitVec 32 := Scalar.addi v1015 v1098
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c16_i32_798 : BitVec 32 := 16#32
  let v1182 : BitVec 32 := Scalar.muli v104 c16_i32_798
  let v1183 : BitVec 32 := Scalar.addi v1099 v1182
  let v1307 : BitVec 32 := Scalar.addi c512_i32_912 v1183
  let c1_i32_914 : BitVec 32 := 1#32
  let c2_i32_913 : BitVec 32 := 2#32
  let v1308 : BitVec 32 := Scalar.muli c2_i32_913 v104
  let v1309 : BitVec 32 := Scalar.subi c1_i32_914 v1308
  let c16_i32_915 : BitVec 32 := 16#32
  let v1310 : BitVec 32 := Scalar.muli v1309 c16_i32_915
  let v1311 : BitVec 32 := Scalar.addi v1307 v1310
  v1311
def k0_off24 (d0 : Dev nD) : Fin 2 → Nat :=
  let c512_i32_912 : BitVec 32 := 512#32
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v72 : BitVec 32 := Scalar.andi v46 c1_i32_31
  let c256_i32_521 : BitVec 32 := 256#32
  let v846 : BitVec 32 := Scalar.muli v72 c256_i32_521
  let v847 : BitVec 32 := Scalar.addi c0_i32_522 v846
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c128_i32_592 : BitVec 32 := 128#32
  let v930 : BitVec 32 := Scalar.muli v57 c128_i32_592
  let v931 : BitVec 32 := Scalar.addi v847 v930
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c64_i32_662 : BitVec 32 := 64#32
  let v1014 : BitVec 32 := Scalar.muli v128 c64_i32_662
  let v1015 : BitVec 32 := Scalar.addi v931 v1014
  let c1_i32_36 : BitVec 32 := 1#32
  let v80 : BitVec 32 := Scalar.andi v19 c1_i32_36
  let c32_i32_731 : BitVec 32 := 32#32
  let v1098 : BitVec 32 := Scalar.muli v80 c32_i32_731
  let v1099 : BitVec 32 := Scalar.addi v1015 v1098
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c16_i32_798 : BitVec 32 := 16#32
  let v1182 : BitVec 32 := Scalar.muli v104 c16_i32_798
  let v1183 : BitVec 32 := Scalar.addi v1099 v1182
  let v1307 : BitVec 32 := Scalar.addi c512_i32_912 v1183
  let c1_i32_914 : BitVec 32 := 1#32
  let c2_i32_913 : BitVec 32 := 2#32
  let v1308 : BitVec 32 := Scalar.muli c2_i32_913 v104
  let v1309 : BitVec 32 := Scalar.subi c1_i32_914 v1308
  let c16_i32_915 : BitVec 32 := 16#32
  let v1310 : BitVec 32 := Scalar.muli v1309 c16_i32_915
  let v1311 : BitVec 32 := Scalar.addi v1307 v1310
  let v1312 : BitVec 32 := v1311
  let v1315 : Index := Scalar.indexCast v1312
  let c0_918 : Index := 0#32
  ![v1315.toNat, 0]
def k0_mult26 (d0 : Dev nD) : BitVec 32 :=
  let c512_i32_920 : BitVec 32 := 512#32
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v72 : BitVec 32 := Scalar.andi v46 c1_i32_31
  let c256_i32_521 : BitVec 32 := 256#32
  let v846 : BitVec 32 := Scalar.muli v72 c256_i32_521
  let v847 : BitVec 32 := Scalar.addi c0_i32_522 v846
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c128_i32_592 : BitVec 32 := 128#32
  let v930 : BitVec 32 := Scalar.muli v57 c128_i32_592
  let v931 : BitVec 32 := Scalar.addi v847 v930
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c64_i32_662 : BitVec 32 := 64#32
  let v1014 : BitVec 32 := Scalar.muli v128 c64_i32_662
  let v1015 : BitVec 32 := Scalar.addi v931 v1014
  let c1_i32_36 : BitVec 32 := 1#32
  let v80 : BitVec 32 := Scalar.andi v19 c1_i32_36
  let c32_i32_731 : BitVec 32 := 32#32
  let v1098 : BitVec 32 := Scalar.muli v80 c32_i32_731
  let v1099 : BitVec 32 := Scalar.addi v1015 v1098
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c16_i32_798 : BitVec 32 := 16#32
  let v1182 : BitVec 32 := Scalar.muli v104 c16_i32_798
  let v1183 : BitVec 32 := Scalar.addi v1099 v1182
  let c16_i32_919 : BitVec 32 := 16#32
  let v1317 : BitVec 32 := Scalar.muli v104 c16_i32_919
  let v1318 : BitVec 32 := Scalar.subi v1183 v1317
  let v1319 : BitVec 32 := Scalar.addi c512_i32_920 v1318
  v1319
def k0_off25 (d0 : Dev nD) : Fin 2 → Nat :=
  let c512_i32_920 : BitVec 32 := 512#32
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v72 : BitVec 32 := Scalar.andi v46 c1_i32_31
  let c256_i32_521 : BitVec 32 := 256#32
  let v846 : BitVec 32 := Scalar.muli v72 c256_i32_521
  let v847 : BitVec 32 := Scalar.addi c0_i32_522 v846
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c128_i32_592 : BitVec 32 := 128#32
  let v930 : BitVec 32 := Scalar.muli v57 c128_i32_592
  let v931 : BitVec 32 := Scalar.addi v847 v930
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c64_i32_662 : BitVec 32 := 64#32
  let v1014 : BitVec 32 := Scalar.muli v128 c64_i32_662
  let v1015 : BitVec 32 := Scalar.addi v931 v1014
  let c1_i32_36 : BitVec 32 := 1#32
  let v80 : BitVec 32 := Scalar.andi v19 c1_i32_36
  let c32_i32_731 : BitVec 32 := 32#32
  let v1098 : BitVec 32 := Scalar.muli v80 c32_i32_731
  let v1099 : BitVec 32 := Scalar.addi v1015 v1098
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c16_i32_798 : BitVec 32 := 16#32
  let v1182 : BitVec 32 := Scalar.muli v104 c16_i32_798
  let v1183 : BitVec 32 := Scalar.addi v1099 v1182
  let c16_i32_919 : BitVec 32 := 16#32
  let v1317 : BitVec 32 := Scalar.muli v104 c16_i32_919
  let v1318 : BitVec 32 := Scalar.subi v1183 v1317
  let v1319 : BitVec 32 := Scalar.addi c512_i32_920 v1318
  let v1320 : BitVec 32 := v1319
  let v1321 : Index := Scalar.indexCast v1320
  let c0_921 : Index := 0#32
  ![v1321.toNat, 0]
def k0_dev19 (d0 : Dev nD) : Nat :=
  let c0_i32_927 : BitVec 32 := 0#32
  let c8_i32_33 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_32 : BitVec 32 := 1#32
  let v73 : BitVec 32 := Scalar.xori v19 c1_i32_32
  let v74 : BitVec 32 := Scalar.muli c8_i32_33 v73
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c2_i32_34 v46
  let v76 : BitVec 32 := Scalar.addi v74 v75
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_35 : BitVec 32 := 1#32
  let v77 : BitVec 32 := Scalar.andi v46 c1_i32_35
  let v78 : BitVec 32 := Scalar.xori v57 v77
  let v79 : BitVec 32 := Scalar.addi v76 v78
  let c1_i32_926 : BitVec 32 := 1#32
  let v1328 : BitVec 32 := Scalar.muli v79 c1_i32_926
  let v1329 : BitVec 32 := Scalar.addi c0_i32_927 v1328
  v1329.toNat
def k0_mult27 (d0 : Dev nD) : BitVec 32 :=
  let c0_i32_947 : BitVec 32 := 0#32
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_397 : BitVec 32 := 256#32
  let v646 : BitVec 32 := Scalar.muli v57 c256_i32_397
  let v647 : BitVec 32 := Scalar.addi c0_i32_398 v646
  let c1_i32_31 : BitVec 32 := 1#32
  let v72 : BitVec 32 := Scalar.andi v46 c1_i32_31
  let c128_i32_557 : BitVec 32 := 128#32
  let v888 : BitVec 32 := Scalar.muli v72 c128_i32_557
  let v889 : BitVec 32 := Scalar.addi v647 v888
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_36 : BitVec 32 := 1#32
  let v80 : BitVec 32 := Scalar.andi v19 c1_i32_36
  let c64_i32_627 : BitVec 32 := 64#32
  let v972 : BitVec 32 := Scalar.muli v80 c64_i32_627
  let v973 : BitVec 32 := Scalar.addi v889 v972
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c32_i32_696 : BitVec 32 := 32#32
  let v1056 : BitVec 32 := Scalar.muli v104 c32_i32_696
  let v1057 : BitVec 32 := Scalar.addi v973 v1056
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c16_i32_763 : BitVec 32 := 16#32
  let v1140 : BitVec 32 := Scalar.muli v128 c16_i32_763
  let v1141 : BitVec 32 := Scalar.addi v1057 v1140
  let c16_i32_884 : BitVec 32 := 16#32
  let v1278 : BitVec 32 := Scalar.muli v128 c16_i32_884
  let v1279 : BitVec 32 := Scalar.subi v1141 v1278
  let v1346 : BitVec 32 := Scalar.addi c0_i32_947 v1279
  let c1_i32_949 : BitVec 32 := 1#32
  let c2_i32_948 : BitVec 32 := 2#32
  let v1347 : BitVec 32 := Scalar.muli c2_i32_948 v104
  let v1348 : BitVec 32 := Scalar.subi c1_i32_949 v1347
  let c32_i32_950 : BitVec 32 := 32#32
  let v1349 : BitVec 32 := Scalar.muli v1348 c32_i32_950
  let v1350 : BitVec 32 := Scalar.addi v1346 v1349
  v1350
def k0_off26 (d0 : Dev nD) : Fin 2 → Nat :=
  let c0_i32_947 : BitVec 32 := 0#32
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_397 : BitVec 32 := 256#32
  let v646 : BitVec 32 := Scalar.muli v57 c256_i32_397
  let v647 : BitVec 32 := Scalar.addi c0_i32_398 v646
  let c1_i32_31 : BitVec 32 := 1#32
  let v72 : BitVec 32 := Scalar.andi v46 c1_i32_31
  let c128_i32_557 : BitVec 32 := 128#32
  let v888 : BitVec 32 := Scalar.muli v72 c128_i32_557
  let v889 : BitVec 32 := Scalar.addi v647 v888
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_36 : BitVec 32 := 1#32
  let v80 : BitVec 32 := Scalar.andi v19 c1_i32_36
  let c64_i32_627 : BitVec 32 := 64#32
  let v972 : BitVec 32 := Scalar.muli v80 c64_i32_627
  let v973 : BitVec 32 := Scalar.addi v889 v972
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c32_i32_696 : BitVec 32 := 32#32
  let v1056 : BitVec 32 := Scalar.muli v104 c32_i32_696
  let v1057 : BitVec 32 := Scalar.addi v973 v1056
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c16_i32_763 : BitVec 32 := 16#32
  let v1140 : BitVec 32 := Scalar.muli v128 c16_i32_763
  let v1141 : BitVec 32 := Scalar.addi v1057 v1140
  let c16_i32_884 : BitVec 32 := 16#32
  let v1278 : BitVec 32 := Scalar.muli v128 c16_i32_884
  let v1279 : BitVec 32 := Scalar.subi v1141 v1278
  let v1346 : BitVec 32 := Scalar.addi c0_i32_947 v1279
  let c1_i32_949 : BitVec 32 := 1#32
  let c2_i32_948 : BitVec 32 := 2#32
  let v1347 : BitVec 32 := Scalar.muli c2_i32_948 v104
  let v1348 : BitVec 32 := Scalar.subi c1_i32_949 v1347
  let c32_i32_950 : BitVec 32 := 32#32
  let v1349 : BitVec 32 := Scalar.muli v1348 c32_i32_950
  let v1350 : BitVec 32 := Scalar.addi v1346 v1349
  let v1351 : BitVec 32 := v1350
  let v1354 : Index := Scalar.indexCast v1351
  let c0_953 : Index := 0#32
  ![v1354.toNat, 0]
def k0_mult28 (d0 : Dev nD) : BitVec 32 :=
  let c0_i32_955 : BitVec 32 := 0#32
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_397 : BitVec 32 := 256#32
  let v646 : BitVec 32 := Scalar.muli v57 c256_i32_397
  let v647 : BitVec 32 := Scalar.addi c0_i32_398 v646
  let c1_i32_31 : BitVec 32 := 1#32
  let v72 : BitVec 32 := Scalar.andi v46 c1_i32_31
  let c128_i32_557 : BitVec 32 := 128#32
  let v888 : BitVec 32 := Scalar.muli v72 c128_i32_557
  let v889 : BitVec 32 := Scalar.addi v647 v888
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_36 : BitVec 32 := 1#32
  let v80 : BitVec 32 := Scalar.andi v19 c1_i32_36
  let c64_i32_627 : BitVec 32 := 64#32
  let v972 : BitVec 32 := Scalar.muli v80 c64_i32_627
  let v973 : BitVec 32 := Scalar.addi v889 v972
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c32_i32_696 : BitVec 32 := 32#32
  let v1056 : BitVec 32 := Scalar.muli v104 c32_i32_696
  let v1057 : BitVec 32 := Scalar.addi v973 v1056
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c16_i32_763 : BitVec 32 := 16#32
  let v1140 : BitVec 32 := Scalar.muli v128 c16_i32_763
  let v1141 : BitVec 32 := Scalar.addi v1057 v1140
  let c16_i32_884 : BitVec 32 := 16#32
  let v1278 : BitVec 32 := Scalar.muli v128 c16_i32_884
  let v1279 : BitVec 32 := Scalar.subi v1141 v1278
  let c32_i32_954 : BitVec 32 := 32#32
  let v1356 : BitVec 32 := Scalar.muli v104 c32_i32_954
  let v1357 : BitVec 32 := Scalar.subi v1279 v1356
  let v1358 : BitVec 32 := Scalar.addi c0_i32_955 v1357
  v1358
def k0_off27 (d0 : Dev nD) : Fin 2 → Nat :=
  let c0_i32_955 : BitVec 32 := 0#32
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_397 : BitVec 32 := 256#32
  let v646 : BitVec 32 := Scalar.muli v57 c256_i32_397
  let v647 : BitVec 32 := Scalar.addi c0_i32_398 v646
  let c1_i32_31 : BitVec 32 := 1#32
  let v72 : BitVec 32 := Scalar.andi v46 c1_i32_31
  let c128_i32_557 : BitVec 32 := 128#32
  let v888 : BitVec 32 := Scalar.muli v72 c128_i32_557
  let v889 : BitVec 32 := Scalar.addi v647 v888
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_36 : BitVec 32 := 1#32
  let v80 : BitVec 32 := Scalar.andi v19 c1_i32_36
  let c64_i32_627 : BitVec 32 := 64#32
  let v972 : BitVec 32 := Scalar.muli v80 c64_i32_627
  let v973 : BitVec 32 := Scalar.addi v889 v972
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c32_i32_696 : BitVec 32 := 32#32
  let v1056 : BitVec 32 := Scalar.muli v104 c32_i32_696
  let v1057 : BitVec 32 := Scalar.addi v973 v1056
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c16_i32_763 : BitVec 32 := 16#32
  let v1140 : BitVec 32 := Scalar.muli v128 c16_i32_763
  let v1141 : BitVec 32 := Scalar.addi v1057 v1140
  let c16_i32_884 : BitVec 32 := 16#32
  let v1278 : BitVec 32 := Scalar.muli v128 c16_i32_884
  let v1279 : BitVec 32 := Scalar.subi v1141 v1278
  let c32_i32_954 : BitVec 32 := 32#32
  let v1356 : BitVec 32 := Scalar.muli v104 c32_i32_954
  let v1357 : BitVec 32 := Scalar.subi v1279 v1356
  let v1358 : BitVec 32 := Scalar.addi c0_i32_955 v1357
  let v1359 : BitVec 32 := v1358
  let v1360 : Index := Scalar.indexCast v1359
  let c0_956 : Index := 0#32
  ![v1360.toNat, 0]
def k0_dev20 (d0 : Dev nD) : Nat :=
  let c0_i32_962 : BitVec 32 := 0#32
  let c8_i32_33 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_32 : BitVec 32 := 1#32
  let v73 : BitVec 32 := Scalar.xori v19 c1_i32_32
  let v74 : BitVec 32 := Scalar.muli c8_i32_33 v73
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c2_i32_34 v46
  let v76 : BitVec 32 := Scalar.addi v74 v75
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_35 : BitVec 32 := 1#32
  let v77 : BitVec 32 := Scalar.andi v46 c1_i32_35
  let v78 : BitVec 32 := Scalar.xori v57 v77
  let v79 : BitVec 32 := Scalar.addi v76 v78
  let c1_i32_961 : BitVec 32 := 1#32
  let v1367 : BitVec 32 := Scalar.muli v79 c1_i32_961
  let v1368 : BitVec 32 := Scalar.addi c0_i32_962 v1367
  v1368.toNat
def k0_mult29 (d0 : Dev nD) : BitVec 32 :=
  let c512_i32_982 : BitVec 32 := 512#32
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v72 : BitVec 32 := Scalar.andi v46 c1_i32_31
  let c256_i32_521 : BitVec 32 := 256#32
  let v846 : BitVec 32 := Scalar.muli v72 c256_i32_521
  let v847 : BitVec 32 := Scalar.addi c0_i32_522 v846
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c128_i32_592 : BitVec 32 := 128#32
  let v930 : BitVec 32 := Scalar.muli v57 c128_i32_592
  let v931 : BitVec 32 := Scalar.addi v847 v930
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c64_i32_662 : BitVec 32 := 64#32
  let v1014 : BitVec 32 := Scalar.muli v128 c64_i32_662
  let v1015 : BitVec 32 := Scalar.addi v931 v1014
  let c1_i32_36 : BitVec 32 := 1#32
  let v80 : BitVec 32 := Scalar.andi v19 c1_i32_36
  let c32_i32_731 : BitVec 32 := 32#32
  let v1098 : BitVec 32 := Scalar.muli v80 c32_i32_731
  let v1099 : BitVec 32 := Scalar.addi v1015 v1098
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c16_i32_798 : BitVec 32 := 16#32
  let v1182 : BitVec 32 := Scalar.muli v104 c16_i32_798
  let v1183 : BitVec 32 := Scalar.addi v1099 v1182
  let c16_i32_919 : BitVec 32 := 16#32
  let v1317 : BitVec 32 := Scalar.muli v104 c16_i32_919
  let v1318 : BitVec 32 := Scalar.subi v1183 v1317
  let v1385 : BitVec 32 := Scalar.addi c512_i32_982 v1318
  let c1_i32_984 : BitVec 32 := 1#32
  let c2_i32_983 : BitVec 32 := 2#32
  let v1386 : BitVec 32 := Scalar.muli c2_i32_983 v80
  let v1387 : BitVec 32 := Scalar.subi c1_i32_984 v1386
  let c32_i32_985 : BitVec 32 := 32#32
  let v1388 : BitVec 32 := Scalar.muli v1387 c32_i32_985
  let v1389 : BitVec 32 := Scalar.addi v1385 v1388
  v1389
def k0_off28 (d0 : Dev nD) : Fin 2 → Nat :=
  let c512_i32_982 : BitVec 32 := 512#32
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v72 : BitVec 32 := Scalar.andi v46 c1_i32_31
  let c256_i32_521 : BitVec 32 := 256#32
  let v846 : BitVec 32 := Scalar.muli v72 c256_i32_521
  let v847 : BitVec 32 := Scalar.addi c0_i32_522 v846
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c128_i32_592 : BitVec 32 := 128#32
  let v930 : BitVec 32 := Scalar.muli v57 c128_i32_592
  let v931 : BitVec 32 := Scalar.addi v847 v930
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c64_i32_662 : BitVec 32 := 64#32
  let v1014 : BitVec 32 := Scalar.muli v128 c64_i32_662
  let v1015 : BitVec 32 := Scalar.addi v931 v1014
  let c1_i32_36 : BitVec 32 := 1#32
  let v80 : BitVec 32 := Scalar.andi v19 c1_i32_36
  let c32_i32_731 : BitVec 32 := 32#32
  let v1098 : BitVec 32 := Scalar.muli v80 c32_i32_731
  let v1099 : BitVec 32 := Scalar.addi v1015 v1098
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c16_i32_798 : BitVec 32 := 16#32
  let v1182 : BitVec 32 := Scalar.muli v104 c16_i32_798
  let v1183 : BitVec 32 := Scalar.addi v1099 v1182
  let c16_i32_919 : BitVec 32 := 16#32
  let v1317 : BitVec 32 := Scalar.muli v104 c16_i32_919
  let v1318 : BitVec 32 := Scalar.subi v1183 v1317
  let v1385 : BitVec 32 := Scalar.addi c512_i32_982 v1318
  let c1_i32_984 : BitVec 32 := 1#32
  let c2_i32_983 : BitVec 32 := 2#32
  let v1386 : BitVec 32 := Scalar.muli c2_i32_983 v80
  let v1387 : BitVec 32 := Scalar.subi c1_i32_984 v1386
  let c32_i32_985 : BitVec 32 := 32#32
  let v1388 : BitVec 32 := Scalar.muli v1387 c32_i32_985
  let v1389 : BitVec 32 := Scalar.addi v1385 v1388
  let v1390 : BitVec 32 := v1389
  let v1393 : Index := Scalar.indexCast v1390
  let c0_988 : Index := 0#32
  ![v1393.toNat, 0]
def k0_mult30 (d0 : Dev nD) : BitVec 32 :=
  let c512_i32_990 : BitVec 32 := 512#32
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v72 : BitVec 32 := Scalar.andi v46 c1_i32_31
  let c256_i32_521 : BitVec 32 := 256#32
  let v846 : BitVec 32 := Scalar.muli v72 c256_i32_521
  let v847 : BitVec 32 := Scalar.addi c0_i32_522 v846
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c128_i32_592 : BitVec 32 := 128#32
  let v930 : BitVec 32 := Scalar.muli v57 c128_i32_592
  let v931 : BitVec 32 := Scalar.addi v847 v930
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c64_i32_662 : BitVec 32 := 64#32
  let v1014 : BitVec 32 := Scalar.muli v128 c64_i32_662
  let v1015 : BitVec 32 := Scalar.addi v931 v1014
  let c1_i32_36 : BitVec 32 := 1#32
  let v80 : BitVec 32 := Scalar.andi v19 c1_i32_36
  let c32_i32_731 : BitVec 32 := 32#32
  let v1098 : BitVec 32 := Scalar.muli v80 c32_i32_731
  let v1099 : BitVec 32 := Scalar.addi v1015 v1098
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c16_i32_798 : BitVec 32 := 16#32
  let v1182 : BitVec 32 := Scalar.muli v104 c16_i32_798
  let v1183 : BitVec 32 := Scalar.addi v1099 v1182
  let c16_i32_919 : BitVec 32 := 16#32
  let v1317 : BitVec 32 := Scalar.muli v104 c16_i32_919
  let v1318 : BitVec 32 := Scalar.subi v1183 v1317
  let c32_i32_989 : BitVec 32 := 32#32
  let v1395 : BitVec 32 := Scalar.muli v80 c32_i32_989
  let v1396 : BitVec 32 := Scalar.subi v1318 v1395
  let v1397 : BitVec 32 := Scalar.addi c512_i32_990 v1396
  v1397
def k0_off29 (d0 : Dev nD) : Fin 2 → Nat :=
  let c512_i32_990 : BitVec 32 := 512#32
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v72 : BitVec 32 := Scalar.andi v46 c1_i32_31
  let c256_i32_521 : BitVec 32 := 256#32
  let v846 : BitVec 32 := Scalar.muli v72 c256_i32_521
  let v847 : BitVec 32 := Scalar.addi c0_i32_522 v846
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c128_i32_592 : BitVec 32 := 128#32
  let v930 : BitVec 32 := Scalar.muli v57 c128_i32_592
  let v931 : BitVec 32 := Scalar.addi v847 v930
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c64_i32_662 : BitVec 32 := 64#32
  let v1014 : BitVec 32 := Scalar.muli v128 c64_i32_662
  let v1015 : BitVec 32 := Scalar.addi v931 v1014
  let c1_i32_36 : BitVec 32 := 1#32
  let v80 : BitVec 32 := Scalar.andi v19 c1_i32_36
  let c32_i32_731 : BitVec 32 := 32#32
  let v1098 : BitVec 32 := Scalar.muli v80 c32_i32_731
  let v1099 : BitVec 32 := Scalar.addi v1015 v1098
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c16_i32_798 : BitVec 32 := 16#32
  let v1182 : BitVec 32 := Scalar.muli v104 c16_i32_798
  let v1183 : BitVec 32 := Scalar.addi v1099 v1182
  let c16_i32_919 : BitVec 32 := 16#32
  let v1317 : BitVec 32 := Scalar.muli v104 c16_i32_919
  let v1318 : BitVec 32 := Scalar.subi v1183 v1317
  let c32_i32_989 : BitVec 32 := 32#32
  let v1395 : BitVec 32 := Scalar.muli v80 c32_i32_989
  let v1396 : BitVec 32 := Scalar.subi v1318 v1395
  let v1397 : BitVec 32 := Scalar.addi c512_i32_990 v1396
  let v1398 : BitVec 32 := v1397
  let v1399 : Index := Scalar.indexCast v1398
  let c0_991 : Index := 0#32
  ![v1399.toNat, 0]
def k0_dev21 (d0 : Dev nD) : Nat :=
  let c0_i32_997 : BitVec 32 := 0#32
  let c8_i32_49 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_48 : BitVec 32 := 2#32
  let v105 : BitVec 32 := Scalar.xori v19 c2_i32_48
  let v106 : BitVec 32 := Scalar.muli c8_i32_49 v105
  let c2_i32_50 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v107 : BitVec 32 := Scalar.muli c2_i32_50 v46
  let v108 : BitVec 32 := Scalar.addi v106 v107
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_51 : BitVec 32 := 1#32
  let v109 : BitVec 32 := Scalar.andi v46 c1_i32_51
  let v110 : BitVec 32 := Scalar.xori v57 v109
  let v111 : BitVec 32 := Scalar.addi v108 v110
  let c1_i32_996 : BitVec 32 := 1#32
  let v1406 : BitVec 32 := Scalar.muli v111 c1_i32_996
  let v1407 : BitVec 32 := Scalar.addi c0_i32_997 v1406
  v1407.toNat
def k0_mult31 (d0 : Dev nD) : BitVec 32 :=
  let c0_i32_1017 : BitVec 32 := 0#32
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_397 : BitVec 32 := 256#32
  let v646 : BitVec 32 := Scalar.muli v57 c256_i32_397
  let v647 : BitVec 32 := Scalar.addi c0_i32_398 v646
  let c1_i32_31 : BitVec 32 := 1#32
  let v72 : BitVec 32 := Scalar.andi v46 c1_i32_31
  let c128_i32_557 : BitVec 32 := 128#32
  let v888 : BitVec 32 := Scalar.muli v72 c128_i32_557
  let v889 : BitVec 32 := Scalar.addi v647 v888
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_36 : BitVec 32 := 1#32
  let v80 : BitVec 32 := Scalar.andi v19 c1_i32_36
  let c64_i32_627 : BitVec 32 := 64#32
  let v972 : BitVec 32 := Scalar.muli v80 c64_i32_627
  let v973 : BitVec 32 := Scalar.addi v889 v972
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c32_i32_696 : BitVec 32 := 32#32
  let v1056 : BitVec 32 := Scalar.muli v104 c32_i32_696
  let v1057 : BitVec 32 := Scalar.addi v973 v1056
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c16_i32_763 : BitVec 32 := 16#32
  let v1140 : BitVec 32 := Scalar.muli v128 c16_i32_763
  let v1141 : BitVec 32 := Scalar.addi v1057 v1140
  let c16_i32_884 : BitVec 32 := 16#32
  let v1278 : BitVec 32 := Scalar.muli v128 c16_i32_884
  let v1279 : BitVec 32 := Scalar.subi v1141 v1278
  let c32_i32_954 : BitVec 32 := 32#32
  let v1356 : BitVec 32 := Scalar.muli v104 c32_i32_954
  let v1357 : BitVec 32 := Scalar.subi v1279 v1356
  let v1424 : BitVec 32 := Scalar.addi c0_i32_1017 v1357
  let c1_i32_1019 : BitVec 32 := 1#32
  let c2_i32_1018 : BitVec 32 := 2#32
  let v1425 : BitVec 32 := Scalar.muli c2_i32_1018 v80
  let v1426 : BitVec 32 := Scalar.subi c1_i32_1019 v1425
  let c64_i32_1020 : BitVec 32 := 64#32
  let v1427 : BitVec 32 := Scalar.muli v1426 c64_i32_1020
  let v1428 : BitVec 32 := Scalar.addi v1424 v1427
  v1428
def k0_off30 (d0 : Dev nD) : Fin 2 → Nat :=
  let c0_i32_1017 : BitVec 32 := 0#32
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_397 : BitVec 32 := 256#32
  let v646 : BitVec 32 := Scalar.muli v57 c256_i32_397
  let v647 : BitVec 32 := Scalar.addi c0_i32_398 v646
  let c1_i32_31 : BitVec 32 := 1#32
  let v72 : BitVec 32 := Scalar.andi v46 c1_i32_31
  let c128_i32_557 : BitVec 32 := 128#32
  let v888 : BitVec 32 := Scalar.muli v72 c128_i32_557
  let v889 : BitVec 32 := Scalar.addi v647 v888
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_36 : BitVec 32 := 1#32
  let v80 : BitVec 32 := Scalar.andi v19 c1_i32_36
  let c64_i32_627 : BitVec 32 := 64#32
  let v972 : BitVec 32 := Scalar.muli v80 c64_i32_627
  let v973 : BitVec 32 := Scalar.addi v889 v972
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c32_i32_696 : BitVec 32 := 32#32
  let v1056 : BitVec 32 := Scalar.muli v104 c32_i32_696
  let v1057 : BitVec 32 := Scalar.addi v973 v1056
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c16_i32_763 : BitVec 32 := 16#32
  let v1140 : BitVec 32 := Scalar.muli v128 c16_i32_763
  let v1141 : BitVec 32 := Scalar.addi v1057 v1140
  let c16_i32_884 : BitVec 32 := 16#32
  let v1278 : BitVec 32 := Scalar.muli v128 c16_i32_884
  let v1279 : BitVec 32 := Scalar.subi v1141 v1278
  let c32_i32_954 : BitVec 32 := 32#32
  let v1356 : BitVec 32 := Scalar.muli v104 c32_i32_954
  let v1357 : BitVec 32 := Scalar.subi v1279 v1356
  let v1424 : BitVec 32 := Scalar.addi c0_i32_1017 v1357
  let c1_i32_1019 : BitVec 32 := 1#32
  let c2_i32_1018 : BitVec 32 := 2#32
  let v1425 : BitVec 32 := Scalar.muli c2_i32_1018 v80
  let v1426 : BitVec 32 := Scalar.subi c1_i32_1019 v1425
  let c64_i32_1020 : BitVec 32 := 64#32
  let v1427 : BitVec 32 := Scalar.muli v1426 c64_i32_1020
  let v1428 : BitVec 32 := Scalar.addi v1424 v1427
  let v1429 : BitVec 32 := v1428
  let v1432 : Index := Scalar.indexCast v1429
  let c0_1023 : Index := 0#32
  ![v1432.toNat, 0]
def k0_mult32 (d0 : Dev nD) : BitVec 32 :=
  let c0_i32_1025 : BitVec 32 := 0#32
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_397 : BitVec 32 := 256#32
  let v646 : BitVec 32 := Scalar.muli v57 c256_i32_397
  let v647 : BitVec 32 := Scalar.addi c0_i32_398 v646
  let c1_i32_31 : BitVec 32 := 1#32
  let v72 : BitVec 32 := Scalar.andi v46 c1_i32_31
  let c128_i32_557 : BitVec 32 := 128#32
  let v888 : BitVec 32 := Scalar.muli v72 c128_i32_557
  let v889 : BitVec 32 := Scalar.addi v647 v888
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_36 : BitVec 32 := 1#32
  let v80 : BitVec 32 := Scalar.andi v19 c1_i32_36
  let c64_i32_627 : BitVec 32 := 64#32
  let v972 : BitVec 32 := Scalar.muli v80 c64_i32_627
  let v973 : BitVec 32 := Scalar.addi v889 v972
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c32_i32_696 : BitVec 32 := 32#32
  let v1056 : BitVec 32 := Scalar.muli v104 c32_i32_696
  let v1057 : BitVec 32 := Scalar.addi v973 v1056
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c16_i32_763 : BitVec 32 := 16#32
  let v1140 : BitVec 32 := Scalar.muli v128 c16_i32_763
  let v1141 : BitVec 32 := Scalar.addi v1057 v1140
  let c16_i32_884 : BitVec 32 := 16#32
  let v1278 : BitVec 32 := Scalar.muli v128 c16_i32_884
  let v1279 : BitVec 32 := Scalar.subi v1141 v1278
  let c32_i32_954 : BitVec 32 := 32#32
  let v1356 : BitVec 32 := Scalar.muli v104 c32_i32_954
  let v1357 : BitVec 32 := Scalar.subi v1279 v1356
  let c64_i32_1024 : BitVec 32 := 64#32
  let v1434 : BitVec 32 := Scalar.muli v80 c64_i32_1024
  let v1435 : BitVec 32 := Scalar.subi v1357 v1434
  let v1436 : BitVec 32 := Scalar.addi c0_i32_1025 v1435
  v1436
def k0_off31 (d0 : Dev nD) : Fin 2 → Nat :=
  let c0_i32_1025 : BitVec 32 := 0#32
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_397 : BitVec 32 := 256#32
  let v646 : BitVec 32 := Scalar.muli v57 c256_i32_397
  let v647 : BitVec 32 := Scalar.addi c0_i32_398 v646
  let c1_i32_31 : BitVec 32 := 1#32
  let v72 : BitVec 32 := Scalar.andi v46 c1_i32_31
  let c128_i32_557 : BitVec 32 := 128#32
  let v888 : BitVec 32 := Scalar.muli v72 c128_i32_557
  let v889 : BitVec 32 := Scalar.addi v647 v888
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_36 : BitVec 32 := 1#32
  let v80 : BitVec 32 := Scalar.andi v19 c1_i32_36
  let c64_i32_627 : BitVec 32 := 64#32
  let v972 : BitVec 32 := Scalar.muli v80 c64_i32_627
  let v973 : BitVec 32 := Scalar.addi v889 v972
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c32_i32_696 : BitVec 32 := 32#32
  let v1056 : BitVec 32 := Scalar.muli v104 c32_i32_696
  let v1057 : BitVec 32 := Scalar.addi v973 v1056
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c16_i32_763 : BitVec 32 := 16#32
  let v1140 : BitVec 32 := Scalar.muli v128 c16_i32_763
  let v1141 : BitVec 32 := Scalar.addi v1057 v1140
  let c16_i32_884 : BitVec 32 := 16#32
  let v1278 : BitVec 32 := Scalar.muli v128 c16_i32_884
  let v1279 : BitVec 32 := Scalar.subi v1141 v1278
  let c32_i32_954 : BitVec 32 := 32#32
  let v1356 : BitVec 32 := Scalar.muli v104 c32_i32_954
  let v1357 : BitVec 32 := Scalar.subi v1279 v1356
  let c64_i32_1024 : BitVec 32 := 64#32
  let v1434 : BitVec 32 := Scalar.muli v80 c64_i32_1024
  let v1435 : BitVec 32 := Scalar.subi v1357 v1434
  let v1436 : BitVec 32 := Scalar.addi c0_i32_1025 v1435
  let v1437 : BitVec 32 := v1436
  let v1438 : Index := Scalar.indexCast v1437
  let c0_1026 : Index := 0#32
  ![v1438.toNat, 0]
def k0_dev22 (d0 : Dev nD) : Nat :=
  let c0_i32_1032 : BitVec 32 := 0#32
  let c8_i32_28 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v66 : BitVec 32 := Scalar.muli c8_i32_28 v19
  let c2_i32_29 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_27 : BitVec 32 := 1#32
  let v65 : BitVec 32 := Scalar.xori v46 c1_i32_27
  let v67 : BitVec 32 := Scalar.muli c2_i32_29 v65
  let v68 : BitVec 32 := Scalar.addi v66 v67
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_30 : BitVec 32 := 1#32
  let v69 : BitVec 32 := Scalar.andi v65 c1_i32_30
  let v70 : BitVec 32 := Scalar.xori v57 v69
  let v71 : BitVec 32 := Scalar.addi v68 v70
  let c1_i32_1031 : BitVec 32 := 1#32
  let v1445 : BitVec 32 := Scalar.muli v71 c1_i32_1031
  let v1446 : BitVec 32 := Scalar.addi c0_i32_1032 v1445
  v1446.toNat
def k0_mult33 (d0 : Dev nD) : BitVec 32 :=
  let c512_i32_1052 : BitVec 32 := 512#32
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v72 : BitVec 32 := Scalar.andi v46 c1_i32_31
  let c256_i32_521 : BitVec 32 := 256#32
  let v846 : BitVec 32 := Scalar.muli v72 c256_i32_521
  let v847 : BitVec 32 := Scalar.addi c0_i32_522 v846
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c128_i32_592 : BitVec 32 := 128#32
  let v930 : BitVec 32 := Scalar.muli v57 c128_i32_592
  let v931 : BitVec 32 := Scalar.addi v847 v930
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c64_i32_662 : BitVec 32 := 64#32
  let v1014 : BitVec 32 := Scalar.muli v128 c64_i32_662
  let v1015 : BitVec 32 := Scalar.addi v931 v1014
  let c1_i32_36 : BitVec 32 := 1#32
  let v80 : BitVec 32 := Scalar.andi v19 c1_i32_36
  let c32_i32_731 : BitVec 32 := 32#32
  let v1098 : BitVec 32 := Scalar.muli v80 c32_i32_731
  let v1099 : BitVec 32 := Scalar.addi v1015 v1098
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c16_i32_798 : BitVec 32 := 16#32
  let v1182 : BitVec 32 := Scalar.muli v104 c16_i32_798
  let v1183 : BitVec 32 := Scalar.addi v1099 v1182
  let c16_i32_919 : BitVec 32 := 16#32
  let v1317 : BitVec 32 := Scalar.muli v104 c16_i32_919
  let v1318 : BitVec 32 := Scalar.subi v1183 v1317
  let c32_i32_989 : BitVec 32 := 32#32
  let v1395 : BitVec 32 := Scalar.muli v80 c32_i32_989
  let v1396 : BitVec 32 := Scalar.subi v1318 v1395
  let v1463 : BitVec 32 := Scalar.addi c512_i32_1052 v1396
  let c1_i32_1054 : BitVec 32 := 1#32
  let c2_i32_1053 : BitVec 32 := 2#32
  let v1464 : BitVec 32 := Scalar.muli c2_i32_1053 v128
  let v1465 : BitVec 32 := Scalar.subi c1_i32_1054 v1464
  let c64_i32_1055 : BitVec 32 := 64#32
  let v1466 : BitVec 32 := Scalar.muli v1465 c64_i32_1055
  let v1467 : BitVec 32 := Scalar.addi v1463 v1466
  v1467
def k0_off32 (d0 : Dev nD) : Fin 2 → Nat :=
  let c512_i32_1052 : BitVec 32 := 512#32
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v72 : BitVec 32 := Scalar.andi v46 c1_i32_31
  let c256_i32_521 : BitVec 32 := 256#32
  let v846 : BitVec 32 := Scalar.muli v72 c256_i32_521
  let v847 : BitVec 32 := Scalar.addi c0_i32_522 v846
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c128_i32_592 : BitVec 32 := 128#32
  let v930 : BitVec 32 := Scalar.muli v57 c128_i32_592
  let v931 : BitVec 32 := Scalar.addi v847 v930
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c64_i32_662 : BitVec 32 := 64#32
  let v1014 : BitVec 32 := Scalar.muli v128 c64_i32_662
  let v1015 : BitVec 32 := Scalar.addi v931 v1014
  let c1_i32_36 : BitVec 32 := 1#32
  let v80 : BitVec 32 := Scalar.andi v19 c1_i32_36
  let c32_i32_731 : BitVec 32 := 32#32
  let v1098 : BitVec 32 := Scalar.muli v80 c32_i32_731
  let v1099 : BitVec 32 := Scalar.addi v1015 v1098
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c16_i32_798 : BitVec 32 := 16#32
  let v1182 : BitVec 32 := Scalar.muli v104 c16_i32_798
  let v1183 : BitVec 32 := Scalar.addi v1099 v1182
  let c16_i32_919 : BitVec 32 := 16#32
  let v1317 : BitVec 32 := Scalar.muli v104 c16_i32_919
  let v1318 : BitVec 32 := Scalar.subi v1183 v1317
  let c32_i32_989 : BitVec 32 := 32#32
  let v1395 : BitVec 32 := Scalar.muli v80 c32_i32_989
  let v1396 : BitVec 32 := Scalar.subi v1318 v1395
  let v1463 : BitVec 32 := Scalar.addi c512_i32_1052 v1396
  let c1_i32_1054 : BitVec 32 := 1#32
  let c2_i32_1053 : BitVec 32 := 2#32
  let v1464 : BitVec 32 := Scalar.muli c2_i32_1053 v128
  let v1465 : BitVec 32 := Scalar.subi c1_i32_1054 v1464
  let c64_i32_1055 : BitVec 32 := 64#32
  let v1466 : BitVec 32 := Scalar.muli v1465 c64_i32_1055
  let v1467 : BitVec 32 := Scalar.addi v1463 v1466
  let v1468 : BitVec 32 := v1467
  let v1471 : Index := Scalar.indexCast v1468
  let c0_1058 : Index := 0#32
  ![v1471.toNat, 0]
def k0_mult34 (d0 : Dev nD) : BitVec 32 :=
  let c512_i32_1060 : BitVec 32 := 512#32
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v72 : BitVec 32 := Scalar.andi v46 c1_i32_31
  let c256_i32_521 : BitVec 32 := 256#32
  let v846 : BitVec 32 := Scalar.muli v72 c256_i32_521
  let v847 : BitVec 32 := Scalar.addi c0_i32_522 v846
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c128_i32_592 : BitVec 32 := 128#32
  let v930 : BitVec 32 := Scalar.muli v57 c128_i32_592
  let v931 : BitVec 32 := Scalar.addi v847 v930
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c64_i32_662 : BitVec 32 := 64#32
  let v1014 : BitVec 32 := Scalar.muli v128 c64_i32_662
  let v1015 : BitVec 32 := Scalar.addi v931 v1014
  let c1_i32_36 : BitVec 32 := 1#32
  let v80 : BitVec 32 := Scalar.andi v19 c1_i32_36
  let c32_i32_731 : BitVec 32 := 32#32
  let v1098 : BitVec 32 := Scalar.muli v80 c32_i32_731
  let v1099 : BitVec 32 := Scalar.addi v1015 v1098
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c16_i32_798 : BitVec 32 := 16#32
  let v1182 : BitVec 32 := Scalar.muli v104 c16_i32_798
  let v1183 : BitVec 32 := Scalar.addi v1099 v1182
  let c16_i32_919 : BitVec 32 := 16#32
  let v1317 : BitVec 32 := Scalar.muli v104 c16_i32_919
  let v1318 : BitVec 32 := Scalar.subi v1183 v1317
  let c32_i32_989 : BitVec 32 := 32#32
  let v1395 : BitVec 32 := Scalar.muli v80 c32_i32_989
  let v1396 : BitVec 32 := Scalar.subi v1318 v1395
  let c64_i32_1059 : BitVec 32 := 64#32
  let v1473 : BitVec 32 := Scalar.muli v128 c64_i32_1059
  let v1474 : BitVec 32 := Scalar.subi v1396 v1473
  let v1475 : BitVec 32 := Scalar.addi c512_i32_1060 v1474
  v1475
def k0_off33 (d0 : Dev nD) : Fin 2 → Nat :=
  let c512_i32_1060 : BitVec 32 := 512#32
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v72 : BitVec 32 := Scalar.andi v46 c1_i32_31
  let c256_i32_521 : BitVec 32 := 256#32
  let v846 : BitVec 32 := Scalar.muli v72 c256_i32_521
  let v847 : BitVec 32 := Scalar.addi c0_i32_522 v846
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c128_i32_592 : BitVec 32 := 128#32
  let v930 : BitVec 32 := Scalar.muli v57 c128_i32_592
  let v931 : BitVec 32 := Scalar.addi v847 v930
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c64_i32_662 : BitVec 32 := 64#32
  let v1014 : BitVec 32 := Scalar.muli v128 c64_i32_662
  let v1015 : BitVec 32 := Scalar.addi v931 v1014
  let c1_i32_36 : BitVec 32 := 1#32
  let v80 : BitVec 32 := Scalar.andi v19 c1_i32_36
  let c32_i32_731 : BitVec 32 := 32#32
  let v1098 : BitVec 32 := Scalar.muli v80 c32_i32_731
  let v1099 : BitVec 32 := Scalar.addi v1015 v1098
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c16_i32_798 : BitVec 32 := 16#32
  let v1182 : BitVec 32 := Scalar.muli v104 c16_i32_798
  let v1183 : BitVec 32 := Scalar.addi v1099 v1182
  let c16_i32_919 : BitVec 32 := 16#32
  let v1317 : BitVec 32 := Scalar.muli v104 c16_i32_919
  let v1318 : BitVec 32 := Scalar.subi v1183 v1317
  let c32_i32_989 : BitVec 32 := 32#32
  let v1395 : BitVec 32 := Scalar.muli v80 c32_i32_989
  let v1396 : BitVec 32 := Scalar.subi v1318 v1395
  let c64_i32_1059 : BitVec 32 := 64#32
  let v1473 : BitVec 32 := Scalar.muli v128 c64_i32_1059
  let v1474 : BitVec 32 := Scalar.subi v1396 v1473
  let v1475 : BitVec 32 := Scalar.addi c512_i32_1060 v1474
  let v1476 : BitVec 32 := v1475
  let v1477 : Index := Scalar.indexCast v1476
  let c0_1061 : Index := 0#32
  ![v1477.toNat, 0]
def k0_dev23 (d0 : Dev nD) : Nat :=
  let c0_i32_1067 : BitVec 32 := 0#32
  let c8_i32_24 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v59 : BitVec 32 := Scalar.muli c8_i32_24 v19
  let c2_i32_25 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v60 : BitVec 32 := Scalar.muli c2_i32_25 v46
  let v61 : BitVec 32 := Scalar.addi v59 v60
  let c1_i32_23 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let c1_i32_26 : BitVec 32 := 1#32
  let v62 : BitVec 32 := Scalar.andi v46 c1_i32_26
  let v63 : BitVec 32 := Scalar.xori v58 v62
  let v64 : BitVec 32 := Scalar.addi v61 v63
  let c1_i32_1066 : BitVec 32 := 1#32
  let v1484 : BitVec 32 := Scalar.muli v64 c1_i32_1066
  let v1485 : BitVec 32 := Scalar.addi c0_i32_1067 v1484
  v1485.toNat
def k0_mult35 (d0 : Dev nD) : BitVec 32 :=
  let c0_i32_1087 : BitVec 32 := 0#32
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_397 : BitVec 32 := 256#32
  let v646 : BitVec 32 := Scalar.muli v57 c256_i32_397
  let v647 : BitVec 32 := Scalar.addi c0_i32_398 v646
  let c1_i32_31 : BitVec 32 := 1#32
  let v72 : BitVec 32 := Scalar.andi v46 c1_i32_31
  let c128_i32_557 : BitVec 32 := 128#32
  let v888 : BitVec 32 := Scalar.muli v72 c128_i32_557
  let v889 : BitVec 32 := Scalar.addi v647 v888
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_36 : BitVec 32 := 1#32
  let v80 : BitVec 32 := Scalar.andi v19 c1_i32_36
  let c64_i32_627 : BitVec 32 := 64#32
  let v972 : BitVec 32 := Scalar.muli v80 c64_i32_627
  let v973 : BitVec 32 := Scalar.addi v889 v972
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c32_i32_696 : BitVec 32 := 32#32
  let v1056 : BitVec 32 := Scalar.muli v104 c32_i32_696
  let v1057 : BitVec 32 := Scalar.addi v973 v1056
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c16_i32_763 : BitVec 32 := 16#32
  let v1140 : BitVec 32 := Scalar.muli v128 c16_i32_763
  let v1141 : BitVec 32 := Scalar.addi v1057 v1140
  let c16_i32_884 : BitVec 32 := 16#32
  let v1278 : BitVec 32 := Scalar.muli v128 c16_i32_884
  let v1279 : BitVec 32 := Scalar.subi v1141 v1278
  let c32_i32_954 : BitVec 32 := 32#32
  let v1356 : BitVec 32 := Scalar.muli v104 c32_i32_954
  let v1357 : BitVec 32 := Scalar.subi v1279 v1356
  let c64_i32_1024 : BitVec 32 := 64#32
  let v1434 : BitVec 32 := Scalar.muli v80 c64_i32_1024
  let v1435 : BitVec 32 := Scalar.subi v1357 v1434
  let v1502 : BitVec 32 := Scalar.addi c0_i32_1087 v1435
  let c1_i32_1089 : BitVec 32 := 1#32
  let c2_i32_1088 : BitVec 32 := 2#32
  let v1503 : BitVec 32 := Scalar.muli c2_i32_1088 v72
  let v1504 : BitVec 32 := Scalar.subi c1_i32_1089 v1503
  let c128_i32_1090 : BitVec 32 := 128#32
  let v1505 : BitVec 32 := Scalar.muli v1504 c128_i32_1090
  let v1506 : BitVec 32 := Scalar.addi v1502 v1505
  v1506
def k0_off34 (d0 : Dev nD) : Fin 2 → Nat :=
  let c0_i32_1087 : BitVec 32 := 0#32
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_397 : BitVec 32 := 256#32
  let v646 : BitVec 32 := Scalar.muli v57 c256_i32_397
  let v647 : BitVec 32 := Scalar.addi c0_i32_398 v646
  let c1_i32_31 : BitVec 32 := 1#32
  let v72 : BitVec 32 := Scalar.andi v46 c1_i32_31
  let c128_i32_557 : BitVec 32 := 128#32
  let v888 : BitVec 32 := Scalar.muli v72 c128_i32_557
  let v889 : BitVec 32 := Scalar.addi v647 v888
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_36 : BitVec 32 := 1#32
  let v80 : BitVec 32 := Scalar.andi v19 c1_i32_36
  let c64_i32_627 : BitVec 32 := 64#32
  let v972 : BitVec 32 := Scalar.muli v80 c64_i32_627
  let v973 : BitVec 32 := Scalar.addi v889 v972
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c32_i32_696 : BitVec 32 := 32#32
  let v1056 : BitVec 32 := Scalar.muli v104 c32_i32_696
  let v1057 : BitVec 32 := Scalar.addi v973 v1056
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c16_i32_763 : BitVec 32 := 16#32
  let v1140 : BitVec 32 := Scalar.muli v128 c16_i32_763
  let v1141 : BitVec 32 := Scalar.addi v1057 v1140
  let c16_i32_884 : BitVec 32 := 16#32
  let v1278 : BitVec 32 := Scalar.muli v128 c16_i32_884
  let v1279 : BitVec 32 := Scalar.subi v1141 v1278
  let c32_i32_954 : BitVec 32 := 32#32
  let v1356 : BitVec 32 := Scalar.muli v104 c32_i32_954
  let v1357 : BitVec 32 := Scalar.subi v1279 v1356
  let c64_i32_1024 : BitVec 32 := 64#32
  let v1434 : BitVec 32 := Scalar.muli v80 c64_i32_1024
  let v1435 : BitVec 32 := Scalar.subi v1357 v1434
  let v1502 : BitVec 32 := Scalar.addi c0_i32_1087 v1435
  let c1_i32_1089 : BitVec 32 := 1#32
  let c2_i32_1088 : BitVec 32 := 2#32
  let v1503 : BitVec 32 := Scalar.muli c2_i32_1088 v72
  let v1504 : BitVec 32 := Scalar.subi c1_i32_1089 v1503
  let c128_i32_1090 : BitVec 32 := 128#32
  let v1505 : BitVec 32 := Scalar.muli v1504 c128_i32_1090
  let v1506 : BitVec 32 := Scalar.addi v1502 v1505
  let v1507 : BitVec 32 := v1506
  let v1510 : Index := Scalar.indexCast v1507
  let c0_1093 : Index := 0#32
  ![v1510.toNat, 0]
def k0_mult36 (d0 : Dev nD) : BitVec 32 :=
  let c0_i32_1095 : BitVec 32 := 0#32
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_397 : BitVec 32 := 256#32
  let v646 : BitVec 32 := Scalar.muli v57 c256_i32_397
  let v647 : BitVec 32 := Scalar.addi c0_i32_398 v646
  let c1_i32_31 : BitVec 32 := 1#32
  let v72 : BitVec 32 := Scalar.andi v46 c1_i32_31
  let c128_i32_557 : BitVec 32 := 128#32
  let v888 : BitVec 32 := Scalar.muli v72 c128_i32_557
  let v889 : BitVec 32 := Scalar.addi v647 v888
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_36 : BitVec 32 := 1#32
  let v80 : BitVec 32 := Scalar.andi v19 c1_i32_36
  let c64_i32_627 : BitVec 32 := 64#32
  let v972 : BitVec 32 := Scalar.muli v80 c64_i32_627
  let v973 : BitVec 32 := Scalar.addi v889 v972
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c32_i32_696 : BitVec 32 := 32#32
  let v1056 : BitVec 32 := Scalar.muli v104 c32_i32_696
  let v1057 : BitVec 32 := Scalar.addi v973 v1056
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c16_i32_763 : BitVec 32 := 16#32
  let v1140 : BitVec 32 := Scalar.muli v128 c16_i32_763
  let v1141 : BitVec 32 := Scalar.addi v1057 v1140
  let c16_i32_884 : BitVec 32 := 16#32
  let v1278 : BitVec 32 := Scalar.muli v128 c16_i32_884
  let v1279 : BitVec 32 := Scalar.subi v1141 v1278
  let c32_i32_954 : BitVec 32 := 32#32
  let v1356 : BitVec 32 := Scalar.muli v104 c32_i32_954
  let v1357 : BitVec 32 := Scalar.subi v1279 v1356
  let c64_i32_1024 : BitVec 32 := 64#32
  let v1434 : BitVec 32 := Scalar.muli v80 c64_i32_1024
  let v1435 : BitVec 32 := Scalar.subi v1357 v1434
  let c128_i32_1094 : BitVec 32 := 128#32
  let v1512 : BitVec 32 := Scalar.muli v72 c128_i32_1094
  let v1513 : BitVec 32 := Scalar.subi v1435 v1512
  let v1514 : BitVec 32 := Scalar.addi c0_i32_1095 v1513
  v1514
def k0_off35 (d0 : Dev nD) : Fin 2 → Nat :=
  let c0_i32_1095 : BitVec 32 := 0#32
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_397 : BitVec 32 := 256#32
  let v646 : BitVec 32 := Scalar.muli v57 c256_i32_397
  let v647 : BitVec 32 := Scalar.addi c0_i32_398 v646
  let c1_i32_31 : BitVec 32 := 1#32
  let v72 : BitVec 32 := Scalar.andi v46 c1_i32_31
  let c128_i32_557 : BitVec 32 := 128#32
  let v888 : BitVec 32 := Scalar.muli v72 c128_i32_557
  let v889 : BitVec 32 := Scalar.addi v647 v888
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_36 : BitVec 32 := 1#32
  let v80 : BitVec 32 := Scalar.andi v19 c1_i32_36
  let c64_i32_627 : BitVec 32 := 64#32
  let v972 : BitVec 32 := Scalar.muli v80 c64_i32_627
  let v973 : BitVec 32 := Scalar.addi v889 v972
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c32_i32_696 : BitVec 32 := 32#32
  let v1056 : BitVec 32 := Scalar.muli v104 c32_i32_696
  let v1057 : BitVec 32 := Scalar.addi v973 v1056
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c16_i32_763 : BitVec 32 := 16#32
  let v1140 : BitVec 32 := Scalar.muli v128 c16_i32_763
  let v1141 : BitVec 32 := Scalar.addi v1057 v1140
  let c16_i32_884 : BitVec 32 := 16#32
  let v1278 : BitVec 32 := Scalar.muli v128 c16_i32_884
  let v1279 : BitVec 32 := Scalar.subi v1141 v1278
  let c32_i32_954 : BitVec 32 := 32#32
  let v1356 : BitVec 32 := Scalar.muli v104 c32_i32_954
  let v1357 : BitVec 32 := Scalar.subi v1279 v1356
  let c64_i32_1024 : BitVec 32 := 64#32
  let v1434 : BitVec 32 := Scalar.muli v80 c64_i32_1024
  let v1435 : BitVec 32 := Scalar.subi v1357 v1434
  let c128_i32_1094 : BitVec 32 := 128#32
  let v1512 : BitVec 32 := Scalar.muli v72 c128_i32_1094
  let v1513 : BitVec 32 := Scalar.subi v1435 v1512
  let v1514 : BitVec 32 := Scalar.addi c0_i32_1095 v1513
  let v1515 : BitVec 32 := v1514
  let v1516 : Index := Scalar.indexCast v1515
  let c0_1096 : Index := 0#32
  ![v1516.toNat, 0]
def k0_dev24 (d0 : Dev nD) : Nat :=
  let c0_i32_1102 : BitVec 32 := 0#32
  let c8_i32_24 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v59 : BitVec 32 := Scalar.muli c8_i32_24 v19
  let c2_i32_25 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v60 : BitVec 32 := Scalar.muli c2_i32_25 v46
  let v61 : BitVec 32 := Scalar.addi v59 v60
  let c1_i32_23 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let c1_i32_26 : BitVec 32 := 1#32
  let v62 : BitVec 32 := Scalar.andi v46 c1_i32_26
  let v63 : BitVec 32 := Scalar.xori v58 v62
  let v64 : BitVec 32 := Scalar.addi v61 v63
  let c1_i32_1101 : BitVec 32 := 1#32
  let v1523 : BitVec 32 := Scalar.muli v64 c1_i32_1101
  let v1524 : BitVec 32 := Scalar.addi c0_i32_1102 v1523
  v1524.toNat
def k0_mult37 (d0 : Dev nD) : BitVec 32 :=
  let c512_i32_1122 : BitVec 32 := 512#32
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v72 : BitVec 32 := Scalar.andi v46 c1_i32_31
  let c256_i32_521 : BitVec 32 := 256#32
  let v846 : BitVec 32 := Scalar.muli v72 c256_i32_521
  let v847 : BitVec 32 := Scalar.addi c0_i32_522 v846
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c128_i32_592 : BitVec 32 := 128#32
  let v930 : BitVec 32 := Scalar.muli v57 c128_i32_592
  let v931 : BitVec 32 := Scalar.addi v847 v930
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c64_i32_662 : BitVec 32 := 64#32
  let v1014 : BitVec 32 := Scalar.muli v128 c64_i32_662
  let v1015 : BitVec 32 := Scalar.addi v931 v1014
  let c1_i32_36 : BitVec 32 := 1#32
  let v80 : BitVec 32 := Scalar.andi v19 c1_i32_36
  let c32_i32_731 : BitVec 32 := 32#32
  let v1098 : BitVec 32 := Scalar.muli v80 c32_i32_731
  let v1099 : BitVec 32 := Scalar.addi v1015 v1098
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c16_i32_798 : BitVec 32 := 16#32
  let v1182 : BitVec 32 := Scalar.muli v104 c16_i32_798
  let v1183 : BitVec 32 := Scalar.addi v1099 v1182
  let c16_i32_919 : BitVec 32 := 16#32
  let v1317 : BitVec 32 := Scalar.muli v104 c16_i32_919
  let v1318 : BitVec 32 := Scalar.subi v1183 v1317
  let c32_i32_989 : BitVec 32 := 32#32
  let v1395 : BitVec 32 := Scalar.muli v80 c32_i32_989
  let v1396 : BitVec 32 := Scalar.subi v1318 v1395
  let c64_i32_1059 : BitVec 32 := 64#32
  let v1473 : BitVec 32 := Scalar.muli v128 c64_i32_1059
  let v1474 : BitVec 32 := Scalar.subi v1396 v1473
  let v1541 : BitVec 32 := Scalar.addi c512_i32_1122 v1474
  let c1_i32_1124 : BitVec 32 := 1#32
  let c2_i32_1123 : BitVec 32 := 2#32
  let v1542 : BitVec 32 := Scalar.muli c2_i32_1123 v57
  let v1543 : BitVec 32 := Scalar.subi c1_i32_1124 v1542
  let c128_i32_1125 : BitVec 32 := 128#32
  let v1544 : BitVec 32 := Scalar.muli v1543 c128_i32_1125
  let v1545 : BitVec 32 := Scalar.addi v1541 v1544
  v1545
def k0_off36 (d0 : Dev nD) : Fin 2 → Nat :=
  let c512_i32_1122 : BitVec 32 := 512#32
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v72 : BitVec 32 := Scalar.andi v46 c1_i32_31
  let c256_i32_521 : BitVec 32 := 256#32
  let v846 : BitVec 32 := Scalar.muli v72 c256_i32_521
  let v847 : BitVec 32 := Scalar.addi c0_i32_522 v846
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c128_i32_592 : BitVec 32 := 128#32
  let v930 : BitVec 32 := Scalar.muli v57 c128_i32_592
  let v931 : BitVec 32 := Scalar.addi v847 v930
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c64_i32_662 : BitVec 32 := 64#32
  let v1014 : BitVec 32 := Scalar.muli v128 c64_i32_662
  let v1015 : BitVec 32 := Scalar.addi v931 v1014
  let c1_i32_36 : BitVec 32 := 1#32
  let v80 : BitVec 32 := Scalar.andi v19 c1_i32_36
  let c32_i32_731 : BitVec 32 := 32#32
  let v1098 : BitVec 32 := Scalar.muli v80 c32_i32_731
  let v1099 : BitVec 32 := Scalar.addi v1015 v1098
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c16_i32_798 : BitVec 32 := 16#32
  let v1182 : BitVec 32 := Scalar.muli v104 c16_i32_798
  let v1183 : BitVec 32 := Scalar.addi v1099 v1182
  let c16_i32_919 : BitVec 32 := 16#32
  let v1317 : BitVec 32 := Scalar.muli v104 c16_i32_919
  let v1318 : BitVec 32 := Scalar.subi v1183 v1317
  let c32_i32_989 : BitVec 32 := 32#32
  let v1395 : BitVec 32 := Scalar.muli v80 c32_i32_989
  let v1396 : BitVec 32 := Scalar.subi v1318 v1395
  let c64_i32_1059 : BitVec 32 := 64#32
  let v1473 : BitVec 32 := Scalar.muli v128 c64_i32_1059
  let v1474 : BitVec 32 := Scalar.subi v1396 v1473
  let v1541 : BitVec 32 := Scalar.addi c512_i32_1122 v1474
  let c1_i32_1124 : BitVec 32 := 1#32
  let c2_i32_1123 : BitVec 32 := 2#32
  let v1542 : BitVec 32 := Scalar.muli c2_i32_1123 v57
  let v1543 : BitVec 32 := Scalar.subi c1_i32_1124 v1542
  let c128_i32_1125 : BitVec 32 := 128#32
  let v1544 : BitVec 32 := Scalar.muli v1543 c128_i32_1125
  let v1545 : BitVec 32 := Scalar.addi v1541 v1544
  let v1546 : BitVec 32 := v1545
  let v1549 : Index := Scalar.indexCast v1546
  let c0_1128 : Index := 0#32
  ![v1549.toNat, 0]
def k0_mult38 (d0 : Dev nD) : BitVec 32 :=
  let c512_i32_1130 : BitVec 32 := 512#32
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v72 : BitVec 32 := Scalar.andi v46 c1_i32_31
  let c256_i32_521 : BitVec 32 := 256#32
  let v846 : BitVec 32 := Scalar.muli v72 c256_i32_521
  let v847 : BitVec 32 := Scalar.addi c0_i32_522 v846
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c128_i32_592 : BitVec 32 := 128#32
  let v930 : BitVec 32 := Scalar.muli v57 c128_i32_592
  let v931 : BitVec 32 := Scalar.addi v847 v930
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c64_i32_662 : BitVec 32 := 64#32
  let v1014 : BitVec 32 := Scalar.muli v128 c64_i32_662
  let v1015 : BitVec 32 := Scalar.addi v931 v1014
  let c1_i32_36 : BitVec 32 := 1#32
  let v80 : BitVec 32 := Scalar.andi v19 c1_i32_36
  let c32_i32_731 : BitVec 32 := 32#32
  let v1098 : BitVec 32 := Scalar.muli v80 c32_i32_731
  let v1099 : BitVec 32 := Scalar.addi v1015 v1098
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c16_i32_798 : BitVec 32 := 16#32
  let v1182 : BitVec 32 := Scalar.muli v104 c16_i32_798
  let v1183 : BitVec 32 := Scalar.addi v1099 v1182
  let c16_i32_919 : BitVec 32 := 16#32
  let v1317 : BitVec 32 := Scalar.muli v104 c16_i32_919
  let v1318 : BitVec 32 := Scalar.subi v1183 v1317
  let c32_i32_989 : BitVec 32 := 32#32
  let v1395 : BitVec 32 := Scalar.muli v80 c32_i32_989
  let v1396 : BitVec 32 := Scalar.subi v1318 v1395
  let c64_i32_1059 : BitVec 32 := 64#32
  let v1473 : BitVec 32 := Scalar.muli v128 c64_i32_1059
  let v1474 : BitVec 32 := Scalar.subi v1396 v1473
  let c128_i32_1129 : BitVec 32 := 128#32
  let v1551 : BitVec 32 := Scalar.muli v57 c128_i32_1129
  let v1552 : BitVec 32 := Scalar.subi v1474 v1551
  let v1553 : BitVec 32 := Scalar.addi c512_i32_1130 v1552
  v1553
def k0_off37 (d0 : Dev nD) : Fin 2 → Nat :=
  let c512_i32_1130 : BitVec 32 := 512#32
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v72 : BitVec 32 := Scalar.andi v46 c1_i32_31
  let c256_i32_521 : BitVec 32 := 256#32
  let v846 : BitVec 32 := Scalar.muli v72 c256_i32_521
  let v847 : BitVec 32 := Scalar.addi c0_i32_522 v846
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c128_i32_592 : BitVec 32 := 128#32
  let v930 : BitVec 32 := Scalar.muli v57 c128_i32_592
  let v931 : BitVec 32 := Scalar.addi v847 v930
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c64_i32_662 : BitVec 32 := 64#32
  let v1014 : BitVec 32 := Scalar.muli v128 c64_i32_662
  let v1015 : BitVec 32 := Scalar.addi v931 v1014
  let c1_i32_36 : BitVec 32 := 1#32
  let v80 : BitVec 32 := Scalar.andi v19 c1_i32_36
  let c32_i32_731 : BitVec 32 := 32#32
  let v1098 : BitVec 32 := Scalar.muli v80 c32_i32_731
  let v1099 : BitVec 32 := Scalar.addi v1015 v1098
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c16_i32_798 : BitVec 32 := 16#32
  let v1182 : BitVec 32 := Scalar.muli v104 c16_i32_798
  let v1183 : BitVec 32 := Scalar.addi v1099 v1182
  let c16_i32_919 : BitVec 32 := 16#32
  let v1317 : BitVec 32 := Scalar.muli v104 c16_i32_919
  let v1318 : BitVec 32 := Scalar.subi v1183 v1317
  let c32_i32_989 : BitVec 32 := 32#32
  let v1395 : BitVec 32 := Scalar.muli v80 c32_i32_989
  let v1396 : BitVec 32 := Scalar.subi v1318 v1395
  let c64_i32_1059 : BitVec 32 := 64#32
  let v1473 : BitVec 32 := Scalar.muli v128 c64_i32_1059
  let v1474 : BitVec 32 := Scalar.subi v1396 v1473
  let c128_i32_1129 : BitVec 32 := 128#32
  let v1551 : BitVec 32 := Scalar.muli v57 c128_i32_1129
  let v1552 : BitVec 32 := Scalar.subi v1474 v1551
  let v1553 : BitVec 32 := Scalar.addi c512_i32_1130 v1552
  let v1554 : BitVec 32 := v1553
  let v1555 : Index := Scalar.indexCast v1554
  let c0_1131 : Index := 0#32
  ![v1555.toNat, 0]
def k0_dev25 (d0 : Dev nD) : Nat :=
  let c0_i32_1137 : BitVec 32 := 0#32
  let c8_i32_28 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v66 : BitVec 32 := Scalar.muli c8_i32_28 v19
  let c2_i32_29 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_27 : BitVec 32 := 1#32
  let v65 : BitVec 32 := Scalar.xori v46 c1_i32_27
  let v67 : BitVec 32 := Scalar.muli c2_i32_29 v65
  let v68 : BitVec 32 := Scalar.addi v66 v67
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_30 : BitVec 32 := 1#32
  let v69 : BitVec 32 := Scalar.andi v65 c1_i32_30
  let v70 : BitVec 32 := Scalar.xori v57 v69
  let v71 : BitVec 32 := Scalar.addi v68 v70
  let c1_i32_1136 : BitVec 32 := 1#32
  let v1562 : BitVec 32 := Scalar.muli v71 c1_i32_1136
  let v1563 : BitVec 32 := Scalar.addi c0_i32_1137 v1562
  v1563.toNat
def k0_mult39 (d0 : Dev nD) : BitVec 32 :=
  let c0_i32_1157 : BitVec 32 := 0#32
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_397 : BitVec 32 := 256#32
  let v646 : BitVec 32 := Scalar.muli v57 c256_i32_397
  let v647 : BitVec 32 := Scalar.addi c0_i32_398 v646
  let c1_i32_31 : BitVec 32 := 1#32
  let v72 : BitVec 32 := Scalar.andi v46 c1_i32_31
  let c128_i32_557 : BitVec 32 := 128#32
  let v888 : BitVec 32 := Scalar.muli v72 c128_i32_557
  let v889 : BitVec 32 := Scalar.addi v647 v888
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_36 : BitVec 32 := 1#32
  let v80 : BitVec 32 := Scalar.andi v19 c1_i32_36
  let c64_i32_627 : BitVec 32 := 64#32
  let v972 : BitVec 32 := Scalar.muli v80 c64_i32_627
  let v973 : BitVec 32 := Scalar.addi v889 v972
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c32_i32_696 : BitVec 32 := 32#32
  let v1056 : BitVec 32 := Scalar.muli v104 c32_i32_696
  let v1057 : BitVec 32 := Scalar.addi v973 v1056
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c16_i32_763 : BitVec 32 := 16#32
  let v1140 : BitVec 32 := Scalar.muli v128 c16_i32_763
  let v1141 : BitVec 32 := Scalar.addi v1057 v1140
  let c16_i32_884 : BitVec 32 := 16#32
  let v1278 : BitVec 32 := Scalar.muli v128 c16_i32_884
  let v1279 : BitVec 32 := Scalar.subi v1141 v1278
  let c32_i32_954 : BitVec 32 := 32#32
  let v1356 : BitVec 32 := Scalar.muli v104 c32_i32_954
  let v1357 : BitVec 32 := Scalar.subi v1279 v1356
  let c64_i32_1024 : BitVec 32 := 64#32
  let v1434 : BitVec 32 := Scalar.muli v80 c64_i32_1024
  let v1435 : BitVec 32 := Scalar.subi v1357 v1434
  let c128_i32_1094 : BitVec 32 := 128#32
  let v1512 : BitVec 32 := Scalar.muli v72 c128_i32_1094
  let v1513 : BitVec 32 := Scalar.subi v1435 v1512
  let v1580 : BitVec 32 := Scalar.addi c0_i32_1157 v1513
  let c1_i32_1159 : BitVec 32 := 1#32
  let c2_i32_1158 : BitVec 32 := 2#32
  let v1581 : BitVec 32 := Scalar.muli c2_i32_1158 v57
  let v1582 : BitVec 32 := Scalar.subi c1_i32_1159 v1581
  let c256_i32_1160 : BitVec 32 := 256#32
  let v1583 : BitVec 32 := Scalar.muli v1582 c256_i32_1160
  let v1584 : BitVec 32 := Scalar.addi v1580 v1583
  v1584
def k0_off38 (d0 : Dev nD) : Fin 2 → Nat :=
  let c0_i32_1157 : BitVec 32 := 0#32
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32_397 : BitVec 32 := 256#32
  let v646 : BitVec 32 := Scalar.muli v57 c256_i32_397
  let v647 : BitVec 32 := Scalar.addi c0_i32_398 v646
  let c1_i32_31 : BitVec 32 := 1#32
  let v72 : BitVec 32 := Scalar.andi v46 c1_i32_31
  let c128_i32_557 : BitVec 32 := 128#32
  let v888 : BitVec 32 := Scalar.muli v72 c128_i32_557
  let v889 : BitVec 32 := Scalar.addi v647 v888
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_36 : BitVec 32 := 1#32
  let v80 : BitVec 32 := Scalar.andi v19 c1_i32_36
  let c64_i32_627 : BitVec 32 := 64#32
  let v972 : BitVec 32 := Scalar.muli v80 c64_i32_627
  let v973 : BitVec 32 := Scalar.addi v889 v972
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c32_i32_696 : BitVec 32 := 32#32
  let v1056 : BitVec 32 := Scalar.muli v104 c32_i32_696
  let v1057 : BitVec 32 := Scalar.addi v973 v1056
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c16_i32_763 : BitVec 32 := 16#32
  let v1140 : BitVec 32 := Scalar.muli v128 c16_i32_763
  let v1141 : BitVec 32 := Scalar.addi v1057 v1140
  let c16_i32_884 : BitVec 32 := 16#32
  let v1278 : BitVec 32 := Scalar.muli v128 c16_i32_884
  let v1279 : BitVec 32 := Scalar.subi v1141 v1278
  let c32_i32_954 : BitVec 32 := 32#32
  let v1356 : BitVec 32 := Scalar.muli v104 c32_i32_954
  let v1357 : BitVec 32 := Scalar.subi v1279 v1356
  let c64_i32_1024 : BitVec 32 := 64#32
  let v1434 : BitVec 32 := Scalar.muli v80 c64_i32_1024
  let v1435 : BitVec 32 := Scalar.subi v1357 v1434
  let c128_i32_1094 : BitVec 32 := 128#32
  let v1512 : BitVec 32 := Scalar.muli v72 c128_i32_1094
  let v1513 : BitVec 32 := Scalar.subi v1435 v1512
  let v1580 : BitVec 32 := Scalar.addi c0_i32_1157 v1513
  let c1_i32_1159 : BitVec 32 := 1#32
  let c2_i32_1158 : BitVec 32 := 2#32
  let v1581 : BitVec 32 := Scalar.muli c2_i32_1158 v57
  let v1582 : BitVec 32 := Scalar.subi c1_i32_1159 v1581
  let c256_i32_1160 : BitVec 32 := 256#32
  let v1583 : BitVec 32 := Scalar.muli v1582 c256_i32_1160
  let v1584 : BitVec 32 := Scalar.addi v1580 v1583
  let v1585 : BitVec 32 := v1584
  let v1588 : Index := Scalar.indexCast v1585
  let c0_1163 : Index := 0#32
  ![v1588.toNat, 0]
def k0_mult40 (d0 : Dev nD) : BitVec 32 :=
  let c512_i32_1179 : BitVec 32 := 512#32
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v72 : BitVec 32 := Scalar.andi v46 c1_i32_31
  let c256_i32_521 : BitVec 32 := 256#32
  let v846 : BitVec 32 := Scalar.muli v72 c256_i32_521
  let v847 : BitVec 32 := Scalar.addi c0_i32_522 v846
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c128_i32_592 : BitVec 32 := 128#32
  let v930 : BitVec 32 := Scalar.muli v57 c128_i32_592
  let v931 : BitVec 32 := Scalar.addi v847 v930
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c64_i32_662 : BitVec 32 := 64#32
  let v1014 : BitVec 32 := Scalar.muli v128 c64_i32_662
  let v1015 : BitVec 32 := Scalar.addi v931 v1014
  let c1_i32_36 : BitVec 32 := 1#32
  let v80 : BitVec 32 := Scalar.andi v19 c1_i32_36
  let c32_i32_731 : BitVec 32 := 32#32
  let v1098 : BitVec 32 := Scalar.muli v80 c32_i32_731
  let v1099 : BitVec 32 := Scalar.addi v1015 v1098
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c16_i32_798 : BitVec 32 := 16#32
  let v1182 : BitVec 32 := Scalar.muli v104 c16_i32_798
  let v1183 : BitVec 32 := Scalar.addi v1099 v1182
  let c16_i32_919 : BitVec 32 := 16#32
  let v1317 : BitVec 32 := Scalar.muli v104 c16_i32_919
  let v1318 : BitVec 32 := Scalar.subi v1183 v1317
  let c32_i32_989 : BitVec 32 := 32#32
  let v1395 : BitVec 32 := Scalar.muli v80 c32_i32_989
  let v1396 : BitVec 32 := Scalar.subi v1318 v1395
  let c64_i32_1059 : BitVec 32 := 64#32
  let v1473 : BitVec 32 := Scalar.muli v128 c64_i32_1059
  let v1474 : BitVec 32 := Scalar.subi v1396 v1473
  let c128_i32_1129 : BitVec 32 := 128#32
  let v1551 : BitVec 32 := Scalar.muli v57 c128_i32_1129
  let v1552 : BitVec 32 := Scalar.subi v1474 v1551
  let v1600 : BitVec 32 := Scalar.addi c512_i32_1179 v1552
  let c1_i32_1181 : BitVec 32 := 1#32
  let c2_i32_1180 : BitVec 32 := 2#32
  let v1601 : BitVec 32 := Scalar.muli c2_i32_1180 v72
  let v1602 : BitVec 32 := Scalar.subi c1_i32_1181 v1601
  let c256_i32_1182 : BitVec 32 := 256#32
  let v1603 : BitVec 32 := Scalar.muli v1602 c256_i32_1182
  let v1604 : BitVec 32 := Scalar.addi v1600 v1603
  v1604
def k0_off39 (d0 : Dev nD) : Fin 2 → Nat :=
  let c512_i32_1179 : BitVec 32 := 512#32
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v72 : BitVec 32 := Scalar.andi v46 c1_i32_31
  let c256_i32_521 : BitVec 32 := 256#32
  let v846 : BitVec 32 := Scalar.muli v72 c256_i32_521
  let v847 : BitVec 32 := Scalar.addi c0_i32_522 v846
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c128_i32_592 : BitVec 32 := 128#32
  let v930 : BitVec 32 := Scalar.muli v57 c128_i32_592
  let v931 : BitVec 32 := Scalar.addi v847 v930
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_53 : BitVec 32 := 0#32
  let v113 : BitVec 1 := Scalar.cmpi .sgt v19 c0_i32_53
  let v114 : BitVec 32 := Scalar.extui v113
  let c0_i32_54 : BitVec 32 := 0#32
  let v115 : BitVec 1 := Scalar.cmpi .slt v19 c0_i32_54
  let v116 : BitVec 32 := Scalar.extui v115
  let v117 : BitVec 32 := Scalar.subi v114 v116
  let c2_i32_52 : BitVec 32 := 2#32
  let c0_i32_55 : BitVec 32 := 0#32
  let v118 : BitVec 1 := Scalar.cmpi .sgt c2_i32_52 c0_i32_55
  let v119 : BitVec 32 := Scalar.extui v118
  let c0_i32_56 : BitVec 32 := 0#32
  let v120 : BitVec 1 := Scalar.cmpi .slt c2_i32_52 c0_i32_56
  let v121 : BitVec 32 := Scalar.extui v120
  let v122 : BitVec 32 := Scalar.subi v119 v121
  let v123 : BitVec 1 := Scalar.cmpi .ne v117 v122
  let v124 : BitVec 32 := Scalar.remsi v19 c2_i32_52
  let c0_i32_57 : BitVec 32 := 0#32
  let v125 : BitVec 1 := Scalar.cmpi .ne v124 c0_i32_57
  let v126 : BitVec 1 := Scalar.andi v123 v125
  let v112 : BitVec 32 := Scalar.divsi v19 c2_i32_52
  let c1_i32_58 : BitVec 32 := 1#32
  let v127 : BitVec 32 := Scalar.subi v112 c1_i32_58
  let v128 : BitVec 32 := Scalar.select v126 v127 v112
  let c64_i32_662 : BitVec 32 := 64#32
  let v1014 : BitVec 32 := Scalar.muli v128 c64_i32_662
  let v1015 : BitVec 32 := Scalar.addi v931 v1014
  let c1_i32_36 : BitVec 32 := 1#32
  let v80 : BitVec 32 := Scalar.andi v19 c1_i32_36
  let c32_i32_731 : BitVec 32 := 32#32
  let v1098 : BitVec 32 := Scalar.muli v80 c32_i32_731
  let v1099 : BitVec 32 := Scalar.addi v1015 v1098
  let c0_i32_42 : BitVec 32 := 0#32
  let v89 : BitVec 1 := Scalar.cmpi .sgt v46 c0_i32_42
  let v90 : BitVec 32 := Scalar.extui v89
  let c0_i32_43 : BitVec 32 := 0#32
  let v91 : BitVec 1 := Scalar.cmpi .slt v46 c0_i32_43
  let v92 : BitVec 32 := Scalar.extui v91
  let v93 : BitVec 32 := Scalar.subi v90 v92
  let c2_i32_41 : BitVec 32 := 2#32
  let c0_i32_44 : BitVec 32 := 0#32
  let v94 : BitVec 1 := Scalar.cmpi .sgt c2_i32_41 c0_i32_44
  let v95 : BitVec 32 := Scalar.extui v94
  let c0_i32_45 : BitVec 32 := 0#32
  let v96 : BitVec 1 := Scalar.cmpi .slt c2_i32_41 c0_i32_45
  let v97 : BitVec 32 := Scalar.extui v96
  let v98 : BitVec 32 := Scalar.subi v95 v97
  let v99 : BitVec 1 := Scalar.cmpi .ne v93 v98
  let v100 : BitVec 32 := Scalar.remsi v46 c2_i32_41
  let c0_i32_46 : BitVec 32 := 0#32
  let v101 : BitVec 1 := Scalar.cmpi .ne v100 c0_i32_46
  let v102 : BitVec 1 := Scalar.andi v99 v101
  let v88 : BitVec 32 := Scalar.divsi v46 c2_i32_41
  let c1_i32_47 : BitVec 32 := 1#32
  let v103 : BitVec 32 := Scalar.subi v88 c1_i32_47
  let v104 : BitVec 32 := Scalar.select v102 v103 v88
  let c16_i32_798 : BitVec 32 := 16#32
  let v1182 : BitVec 32 := Scalar.muli v104 c16_i32_798
  let v1183 : BitVec 32 := Scalar.addi v1099 v1182
  let c16_i32_919 : BitVec 32 := 16#32
  let v1317 : BitVec 32 := Scalar.muli v104 c16_i32_919
  let v1318 : BitVec 32 := Scalar.subi v1183 v1317
  let c32_i32_989 : BitVec 32 := 32#32
  let v1395 : BitVec 32 := Scalar.muli v80 c32_i32_989
  let v1396 : BitVec 32 := Scalar.subi v1318 v1395
  let c64_i32_1059 : BitVec 32 := 64#32
  let v1473 : BitVec 32 := Scalar.muli v128 c64_i32_1059
  let v1474 : BitVec 32 := Scalar.subi v1396 v1473
  let c128_i32_1129 : BitVec 32 := 128#32
  let v1551 : BitVec 32 := Scalar.muli v57 c128_i32_1129
  let v1552 : BitVec 32 := Scalar.subi v1474 v1551
  let v1600 : BitVec 32 := Scalar.addi c512_i32_1179 v1552
  let c1_i32_1181 : BitVec 32 := 1#32
  let c2_i32_1180 : BitVec 32 := 2#32
  let v1601 : BitVec 32 := Scalar.muli c2_i32_1180 v72
  let v1602 : BitVec 32 := Scalar.subi c1_i32_1181 v1601
  let c256_i32_1182 : BitVec 32 := 256#32
  let v1603 : BitVec 32 := Scalar.muli v1602 c256_i32_1182
  let v1604 : BitVec 32 := Scalar.addi v1600 v1603
  let v1605 : BitVec 32 := v1604
  let v1608 : Index := Scalar.indexCast v1605
  let c0_1185 : Index := 0#32
  ![v1608.toNat, 0]
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x1024x1024 : Shape := ⟨3, ![1, 1024, 1024]⟩
abbrev S1024x32768 : Shape := ⟨2, ![1024, 32768]⟩
abbrev S1x1024x256x128 : Shape := ⟨4, ![1, 1024, 256, 128]⟩
abbrev S32768x1024 : Shape := ⟨2, ![32768, 1024]⟩
abbrev S1x1024x32768 : Shape := ⟨3, ![1, 1024, 32768]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S1x256x1024x1024 : Shape := ⟨4, ![1, 256, 1024, 1024]⟩
abbrev S1x1x1024x1024 : Shape := ⟨4, ![1, 1, 1024, 1024]⟩
abbrev S1x256x1024 : Shape := ⟨3, ![1, 256, 1024]⟩
abbrev S1x256x1024x1 : Shape := ⟨4, ![1, 256, 1024, 1]⟩
abbrev S1x1x1024x1 : Shape := ⟨4, ![1, 1, 1024, 1]⟩
abbrev S1x256x128x1024 : Shape := ⟨4, ![1, 256, 128, 1024]⟩

abbrev nBuf : Space → Nat
  | .hbm => 89
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x32768, .f32⟩
  | .hbm, ⟨2, _⟩ => ⟨S1x1024x256x128, .f32⟩
  | .hbm, ⟨3, _⟩ => ⟨S1x1024x256x128, .f32⟩
  | .hbm, ⟨4, _⟩ => ⟨S32768x1024, .f32⟩
  | .hbm, ⟨5, _⟩ => ⟨S1x1024x32768, .f32⟩
  | .hbm, ⟨6, _⟩ => ⟨S1x1024x256x128, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S1024, .i32⟩
  | .hbm, ⟨28, _⟩ => ⟨S_, .i32⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S1x1024, .i32⟩
  | .hbm, ⟨47, _⟩ => ⟨S1024x1024, .i32⟩
  | .hbm, ⟨48, _⟩ => ⟨S1024x1024, .i32⟩
  | .hbm, ⟨49, _⟩ => ⟨S1024x1024, .i1⟩
  | .hbm, ⟨50, _⟩ => ⟨S1x256x1024x1024, .f32⟩
  | .hbm, ⟨51, _⟩ => ⟨S_, .f32⟩
  | .hbm, ⟨52, _⟩ => ⟨S1x256x1024x1024, .f32⟩
  | .hbm, ⟨53, _⟩ => ⟨S1x256x1024x1024, .f32⟩
  | .hbm, ⟨54, _⟩ => ⟨S1x1x1024x1024, .i1⟩
  | .hbm, ⟨55, _⟩ => ⟨S_, .f32⟩
  | .hbm, ⟨56, _⟩ => ⟨S_, .f32⟩
  | .hbm, ⟨57, _⟩ => ⟨S1x256x1024x1024, .i1⟩
  | .hbm, ⟨58, _⟩ => ⟨S1x256x1024x1024, .f32⟩
  | .hbm, ⟨59, _⟩ => ⟨S1x256x1024x1024, .f32⟩
  | .hbm, ⟨60, _⟩ => ⟨S_, .f32⟩
  | .hbm, ⟨61, _⟩ => ⟨S1x256x1024, .f32⟩
  | .hbm, ⟨62, _⟩ => ⟨S1x256x1024x1, .f32⟩
  | .hbm, ⟨63, _⟩ => ⟨S1x256x1024x1024, .f32⟩
  | .hbm, ⟨64, _⟩ => ⟨S1x256x1024x1024, .f32⟩
  | .hbm, ⟨65, _⟩ => ⟨S1x256x1024x1024, .f32⟩
  | .hbm, ⟨66, _⟩ => ⟨S_, .i1⟩
  | .hbm, ⟨67, _⟩ => ⟨S1024, .i1⟩
  | .hbm, ⟨68, _⟩ => ⟨S1x1x1024x1, .i1⟩
  | .hbm, ⟨69, _⟩ => ⟨S_, .f32⟩
  | .hbm, ⟨70, _⟩ => ⟨S1x256x1024, .f32⟩
  | .hbm, ⟨71, _⟩ => ⟨S1x256x1024x1, .f32⟩
  | .hbm, ⟨72, _⟩ => ⟨S_, .f32⟩
  | .hbm, ⟨73, _⟩ => ⟨S_, .f32⟩
  | .hbm, ⟨74, _⟩ => ⟨S1x256x1024x1, .i1⟩
  | .hbm, ⟨75, _⟩ => ⟨S1x256x1024x1, .f32⟩
  | .hbm, ⟨76, _⟩ => ⟨S1x256x1024x1, .f32⟩
  | .hbm, ⟨77, _⟩ => ⟨S1x256x1024x1024, .f32⟩
  | .hbm, ⟨78, _⟩ => ⟨S1x256x1024x1024, .f32⟩
  | .hbm, ⟨79, _⟩ => ⟨S1x1x1024x1, .i1⟩
  | .hbm, ⟨80, _⟩ => ⟨S_, .f32⟩
  | .hbm, ⟨81, _⟩ => ⟨S_, .f32⟩
  | .hbm, ⟨82, _⟩ => ⟨S1x256x1024x1024, .i1⟩
  | .hbm, ⟨83, _⟩ => ⟨S1x256x1024x1024, .f32⟩
  | .hbm, ⟨84, _⟩ => ⟨S1x256x1024x1024, .f32⟩
  | .hbm, ⟨85, _⟩ => ⟨S1x256x128x1024, .f32⟩
  | .hbm, ⟨86, _⟩ => ⟨S1x1024x256x128, .f32⟩
  | .hbm, ⟨87, _⟩ => ⟨S1x1024x32768, .f32⟩
  | .hbm, ⟨88, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.Proto.lean ====
module

public import proofs.«01_k».proof.Proof.Gen.KernelIdeal.Launch
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Tactic

/-! # The protocol of the twenty exchanges

The 32 devices form a five-dimensional cube. Each half of the result (rows 0..511 and rows 512..1023) is summed over the
devices by five halving exchanges and then gathered by five doubling ones. An exchange `e` is named by its half `e.s`, its
phase `e.ph` (0 halving, 1 gathering) and its step `e.k`. In it every device copies a slice of its stage buffer into a
slice of the partner's landing buffer.

Every semaphore the exchanges use is a cell of one schedule with a single round:
* the barrier cell of device `c` has five duties, one per dimension: the neighbour in dimension `d` hands over its own
  landing slices of the four exchanges along that dimension;
* the send cell of an exchange gives the stage slice back;
* the receive cell of an exchange gives the landing slice, holding the message of that exchange.

Levels: barrier cells at 1; the receive cell of the exchange started `n`-th at `n + 2`; all others at 0. -/

@[expose] public section

noncomputable section

namespace Cert.KernelIdeal.Bfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen

variable {F : FTy → Type} [FloatOps F] [Named F]

/-- The duties of a round are numbered by the five dimensions of the cube. -/
abbrev Dty : Type := Fin 5
/-- The exchanges' rounds. -/
abbrev UB : Type := Rounds.URounds (GSem nD τ sig) Dty
/-- The ghost algebra: the pipeline's copy, the exchanges', and the local copies' counters. -/
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
instance ER_landsIn : (ER : Emb UB 𝕄).LandsIn (upEmb : UEmb _ 𝕄) := by unfold ER; infer_instance

/-! ## The cube -/

/-- The neighbour of device `c` in dimension `d`. -/
def nb (d : Fin 5) (c : Dev nD) : Dev nD :=
  ⟨Nat.xor c.val ((![1, 3, 8, 4, 16] : Fin 5 → ℕ) d) % 32, Nat.mod_lt _ (by decide)⟩

theorem nb_nb : ∀ (d : Fin 5) (c : Dev nD), nb d (nb d c) = c := by decide +kernel

/-- An exchange: half, phase, step. -/
structure Ex where
  s : Fin 2
  ph : Fin 2
  k : Fin 5
deriving DecidableEq, Fintype

/-- The place of an exchange in the order in which the program starts them. -/
def Ex.pos (e : Ex) : ℕ := 2 * (if e.ph = 0 then e.k.val else 9 - e.k.val) + e.s.val

/-- The dimension an exchange runs along. -/
def Ex.dim (e : Ex) : Fin 5 := if e.s = 0 then e.k else (![1, 0, 4, 2, 3] : Fin 5 → Fin 5) e.k

/-- The partner of device `c` in exchange `e`. -/
abbrev par (e : Ex) (c : Dev nD) : Dev nD := nb e.dim c

theorem par_par (e : Ex) (c : Dev nD) : par e (par e c) = c := nb_nb _ _

/-! ## The slices -/

/-- The shape of what step `k` moves. -/
abbrev sh : Fin 5 → Shape
  | 0 => S256x1024 | 1 => S128x1024 | 2 => S64x1024 | 3 => S32x1024 | 4 => S16x1024

/-- The slice of a landing buffer step `k` lands in. -/
abbrev lsl (M : Memref sig .tc .vmem S496x1024 .bf16) : (k : Fin 5) → Memref sig .tc .vmem (sh k) .bf16
  | 0 => M.slice (Rect.unit (s := S496x1024) ![0, 0] S256x1024.size inb_S496x1024_S256x1024_0_0) (fun _ => rfl)
  | 1 => M.slice (Rect.unit (s := S496x1024) ![256, 0] S128x1024.size inb_S496x1024_S128x1024_256_0) (fun _ => rfl)
  | 2 => M.slice (Rect.unit (s := S496x1024) ![384, 0] S64x1024.size inb_S496x1024_S64x1024_384_0) (fun _ => rfl)
  | 3 => M.slice (Rect.unit (s := S496x1024) ![448, 0] S32x1024.size inb_S496x1024_S32x1024_448_0) (fun _ => rfl)
  | 4 => M.slice (Rect.unit (s := S496x1024) ![480, 0] S16x1024.size inb_S496x1024_S16x1024_480_0) (fun _ => rfl)

/-- The slice of a stage buffer step `k` is sent from. -/
abbrev ssl (M : Memref sig .tc .vmem S256x1024 .bf16) : (k : Fin 5) → Memref sig .tc .vmem (sh k) .bf16
  | 0 => M.slice (Rect.unit (s := S256x1024) ![0, 0] S256x1024.size inb_S256x1024_S256x1024_0_0) (fun _ => rfl)
  | 1 => M.slice (Rect.unit (s := S256x1024) ![0, 0] S128x1024.size inb_S256x1024_S128x1024_0_0) (fun _ => rfl)
  | 2 => M.slice (Rect.unit (s := S256x1024) ![0, 0] S64x1024.size inb_S256x1024_S64x1024_0_0) (fun _ => rfl)
  | 3 => M.slice (Rect.unit (s := S256x1024) ![0, 0] S32x1024.size inb_S256x1024_S32x1024_0_0) (fun _ => rfl)
  | 4 => M.slice (Rect.unit (s := S256x1024) ![0, 0] S16x1024.size inb_S256x1024_S16x1024_0_0) (fun _ => rfl)

/-- The landing buffers: by half and phase. -/
abbrev lbuf : Fin 2 → Fin 2 → Memref sig .tc .vmem S496x1024 .bf16
  | 0, 0 => Memref.whole cc0_scratch0 | 0, 1 => Memref.whole cc0_scratch1
  | 1, 0 => Memref.whole cc0_scratch3 | 1, 1 => Memref.whole cc0_scratch4
/-- The stage buffers: by half. -/
abbrev sbuf : Fin 2 → Memref sig .tc .vmem S256x1024 .bf16
  | 0 => Memref.whole cc0_scratch2 | 1 => Memref.whole cc0_scratch5

/-- Where exchange `e` lands, on the receiver. -/
abbrev lM (e : Ex) : Memref sig .tc .vmem (sh e.k) .bf16 := lsl (lbuf e.s e.ph) e.k
/-- Where exchange `e` is sent from. -/
abbrev sM (e : Ex) : Memref sig .tc .vmem (sh e.k) .bf16 := ssl (sbuf e.s) e.k

/-- The units a transfer of exchange `e` credits. -/
abbrev amt (e : Ex) : ℕ := (lM e).view.dmaCredit

theorem sh_pos : ∀ k : Fin 5, 0 < (sh k).numel := by decide

theorem amt_pos (e : Ex) : 0 < amt e := by
  exact View.dmaCredit_pos _ (sh_pos e.k)

/-! ## The semaphores -/

/-- The send semaphore of exchange `e`. -/
def sSem (e : Ex) : DmaSem sig := ⟨20 + 20 * e.s.val + 10 * e.ph.val + e.k.val, by
  obtain ⟨s, ph, k⟩ := e; show _ < 60; dsimp only; omega⟩
/-- The receive semaphore of exchange `e`. -/
def rSem (e : Ex) : DmaSem sig := ⟨25 + 20 * e.s.val + 10 * e.ph.val + e.k.val, by
  obtain ⟨s, ph, k⟩ := e; show _ < 60; dsimp only; omega⟩

/-- The exchange a semaphore number belongs to. -/
def exOf (i : DmaSem sig) : Ex :=
  ⟨⟨((i.val - 20) / 20) % 2, Nat.mod_lt _ (by decide)⟩, ⟨((i.val - 20) % 20 / 10) % 2, Nat.mod_lt _ (by decide)⟩,
    ⟨i.val % 5, Nat.mod_lt _ (by decide)⟩⟩
abbrev IsSend (i : DmaSem sig) : Prop := 20 ≤ i.val ∧ i.val % 10 < 5
abbrev IsRecv (i : DmaSem sig) : Prop := 20 ≤ i.val ∧ 5 ≤ i.val % 10

theorem exOf_send : ∀ e, exOf (sSem e) = e := by
  rintro ⟨s, ph, k⟩; revert s ph k; decide
theorem exOf_recv : ∀ e, exOf (rSem e) = e := by
  rintro ⟨s, ph, k⟩; revert s ph k; decide
theorem isSend_send : ∀ e, IsSend (sSem e) := by
  rintro ⟨s, ph, k⟩; revert s ph k; decide
theorem isRecv_recv : ∀ e, IsRecv (rSem e) := by
  rintro ⟨s, ph, k⟩; revert s ph k; decide
theorem not_isSend_recv (e : Ex) : ¬ IsSend (rSem e) := fun h => absurd (isRecv_recv e).2 (by have := h.2; omega)
theorem not_isRecv_send (e : Ex) : ¬ IsRecv (sSem e) := fun h => absurd (isSend_send e).2 (by have := h.2; omega)
theorem sSem_inj {e e' : Ex} (h : sSem e = sSem e') : e = e' := by rw [← exOf_send e, h, exOf_send]
theorem rSem_inj {e e' : Ex} (h : rSem e = rSem e') : e = e' := by rw [← exOf_recv e, h, exOf_recv]

abbrev bSem : Sem sig := barrier0
abbrev barCell (c : Dev nD) : GSem nD τ sig := ((c : Thread nD τ), .reg bSem)
abbrev sendCell (e : Ex) (c : Dev nD) : GSem nD τ sig := ((c : Thread nD τ), .dma (sSem e))
abbrev recvCell (e : Ex) (c : Dev nD) : GSem nD τ sig := ((c : Thread nD τ), .dma (rSem e))

/-! ## What the cells hand over -/

/-- The landing slice of exchange `e` on device `c`, at contents `f`. -/
abbrev lPts (e : Ex) (c : Dev nD) (f : Buf (Elt F) ((lM e).view.loc (c : Thread nD τ))) : sProp 𝕄 :=
  (lM e).view.loc (c : Thread nD τ) ↦[(lM e).view.set]{fullShare} f
/-- The stage slice of exchange `e` on device `c`, at contents `f`. -/
abbrev sPts (e : Ex) (c : Dev nD) (f : Buf (Elt F) ((sM e).view.loc (c : Thread nD τ))) : sProp 𝕄 :=
  (sM e).view.loc (c : Thread nD τ) ↦[(sM e).view.set]{fullShare} f

/-- Leave to copy into the landing slice of exchange `e` on device `c`. -/
def grant (e : Ex) (c : Dev nD) : sProp 𝕄 := iprop((∃ f, lPts e c f) ∗ reached ER (recvCell e c) 0)

/-- The step at which a half runs along dimension `d`. -/
def stepOf (s : Fin 2) (d : Fin 5) : Fin 5 := if s = 0 then d else (![1, 0, 3, 4, 2] : Fin 5 → Fin 5) d

/-- What the neighbour of `c` in dimension `d` hands over at the barrier. -/
def barPay (d : Fin 5) (c : Dev nD) : sProp 𝕄 :=
  iprop(grant ⟨0, 0, stepOf 0 d⟩ (nb d c) ∗ grant ⟨0, 1, stepOf 0 d⟩ (nb d c)
    ∗ grant ⟨1, 0, stepOf 1 d⟩ (nb d c) ∗ grant ⟨1, 1, stepOf 1 d⟩ (nb d c))

def sendPay (e : Ex) (c : Dev nD) : sProp 𝕄 := iprop(∃ f, sPts e c f)

/-- The messages: what device `c` receives in exchange `e`. -/
abbrev Msgs (F : FTy → Type) : Type := (e : Ex) → Dev nD → Vec F (sh e.k) .bf16

def recvPay (msg : Msgs F) (e : Ex) (c : Dev nD) : sProp 𝕄 :=
  iprop(∃ f, ⌜(lM e).view.read (Elt F) f = msg e c⌝ ∗ lPts e c f)

/-- The cells of the protocol. -/
abbrev IsBar (g : GSem nD τ sig) : Prop := g.1.2 = .tc ∧ g.2 = .reg bSem

def dmaOf : SemLoc sig → Option (DmaSem sig)
  | .dma i => some i
  | .reg _ => none

abbrev IsCell (g : GSem nD τ sig) : Prop := g.1.2 = .tc ∧ ∃ i, g.2 = .dma i ∧ 20 ≤ i.val

instance (g : GSem nD τ sig) : Decidable (IsCell g) := by
  obtain ⟨t, s⟩ := g
  cases s with
  | reg s => exact isFalse (by rintro ⟨-, i, h, -⟩; cases h)
  | dma i =>
      by_cases h : t.2 = .tc ∧ 20 ≤ i.val
      · exact isTrue ⟨h.1, i, rfl, h.2⟩
      · exact isFalse (by rintro ⟨h1, j, h2, h3⟩; cases h2; exact h ⟨h1, h3⟩)

def dmaPay (msg : Msgs F) (i : DmaSem sig) (c : Dev nD) : sProp 𝕄 :=
  if IsSend i then sendPay (exOf i) c else if IsRecv i then recvPay msg (exOf i) c else iprop(emp)

def pay (msg : Msgs F) (g : GSem nD τ sig) (d : Dty) : sProp 𝕄 :=
  match g.2 with
  | .reg _ => barPay d g.1.1
  | .dma i => dmaPay msg i g.1.1

def amtOf (s : SemLoc sig) : ℕ :=
  match s with
  | .reg _ => 1
  | .dma i => amt (exOf i)

theorem amtOf_pos (s : SemLoc sig) : 0 < amtOf s := by
  cases s with
  | reg _ => exact Nat.one_pos
  | dma i => exact amt_pos _

/-- The schedule: one round; five duties on a barrier cell, one on a send or receive cell. -/
def Rd (msg : Msgs F) : Rounds.Schedule (GSem nD τ sig) Dty 𝕄 where
  duties g r := if r = 0 ∧ IsBar g then Finset.univ else if r = 0 ∧ IsCell g then {0} else ∅
  unitless _ := False
  amount g _ _ := amtOf g.2
  payload g _ d := pay msg g d
  amount_pos g _ _ _ := amtOf_pos g.2

instance grant_storable (e : Ex) (c : Dev nD) : BI.Storable (upEmb : UEmb _ 𝕄) (grant (F := F) e c) := by
  unfold grant; infer_instance
instance sendPay_storable (e : Ex) (c : Dev nD) : BI.Storable (upEmb : UEmb _ 𝕄) (sendPay (F := F) e c) := by
  unfold sendPay; infer_instance
instance recvPay_storable (msg : Msgs F) (e : Ex) (c : Dev nD) : BI.Storable (upEmb : UEmb _ 𝕄) (recvPay msg e c) := by
  unfold recvPay; infer_instance
instance barPay_storable (d : Fin 5) (c : Dev nD) : BI.Storable (upEmb : UEmb _ 𝕄) (barPay (F := F) d c) := by
  unfold barPay; infer_instance
instance Rd_storable (msg : Msgs F) (g : GSem nD τ sig) (r : ℕ) (d : Dty) :
    BI.Storable (upEmb : UEmb _ 𝕄) ((Rd msg).payload g r d) := by
  show BI.Storable upEmb (pay msg g d)
  obtain ⟨t, s⟩ := g
  cases s with
  | reg s => show BI.Storable upEmb (barPay d t.1); infer_instance
  | dma i =>
      show BI.Storable upEmb (dmaPay msg i t.1)
      unfold dmaPay
      (repeat' split) <;> infer_instance

section Tables

variable (msg : Msgs F) (e : Ex) (c : Dev nD)

theorem duties_bar : (Rd msg).duties (barCell c) 0 = Finset.univ := by dsimp only [Rd]; exact if_pos ⟨rfl, rfl, rfl⟩
theorem not_bar_dma (i : DmaSem sig) : ¬ IsBar ((c : Thread nD τ), .dma i) := fun h => by have := h.2; cases this
theorem duties_send : (Rd msg).duties (sendCell e c) 0 = {0} := by
  dsimp only [Rd]; rw [if_neg (fun h => not_bar_dma c _ h.2), if_pos ⟨rfl, rfl, _, rfl, (isSend_send e).1⟩]
theorem duties_recv : (Rd msg).duties (recvCell e c) 0 = {0} := by
  dsimp only [Rd]; rw [if_neg (fun h => not_bar_dma c _ h.2), if_pos ⟨rfl, rfl, _, rfl, (isRecv_recv e).1⟩]
theorem duties_later (g : GSem nD τ sig) : ∀ r, 1 ≤ r → (Rd msg).duties g r = ∅ :=
  fun r hr => by dsimp only [Rd]; rw [if_neg (fun h => by omega), if_neg (fun h => by omega)]

theorem amount_bar (u : Dty) : (Rd msg).amount (barCell c) 0 u = 1 := rfl
theorem amount_send (u : Dty) : (Rd msg).amount (sendCell e c) 0 u = amt e := by
  show amt (exOf (sSem e)) = _; rw [exOf_send]
theorem amount_recv (u : Dty) : (Rd msg).amount (recvCell e c) 0 u = amt e := by
  show amt (exOf (rSem e)) = _; rw [exOf_recv]

theorem expect_bar : (Rd msg).expect (barCell c) 0 = 5 := by
  unfold Schedule.expect Schedule.amountOf; rw [duties_bar]; rfl
theorem expect_send : (Rd msg).expect (sendCell e c) 0 = amt e := by
  unfold Schedule.expect Schedule.amountOf; rw [duties_send, Finset.sum_singleton, amount_send]
theorem expect_recv : (Rd msg).expect (recvCell e c) 0 = amt e := by
  unfold Schedule.expect Schedule.amountOf; rw [duties_recv, Finset.sum_singleton, amount_recv]

theorem payload_bar (u : Dty) : (Rd msg).payload (barCell c) 0 u = barPay u c := rfl
theorem payload_send (u : Dty) : (Rd msg).payload (sendCell e c) 0 u = sendPay e c := by
  show dmaPay msg (sSem e) c = _; unfold dmaPay; rw [if_pos (isSend_send e), exOf_send]
theorem payload_recv (u : Dty) : (Rd msg).payload (recvCell e c) 0 u = recvPay msg e c := by
  show dmaPay msg (rSem e) c = _; unfold dmaPay; rw [if_neg (not_isSend_recv e), if_pos (isRecv_recv e), exOf_recv]

theorem rest_bar : bigSep ((Rd msg).duties (barCell c) 0 \ ∅) (fun u => (Rd msg).payload (barCell c) 0 u)
    = iprop(barPay (F := F) 0 c ∗ barPay 1 c ∗ barPay 2 c ∗ barPay 3 c ∗ barPay 4 c) := by
  rw [Finset.sdiff_empty, duties_bar, bigSep_univ_eq_bigSepL [0, 1, 2, 3, 4] (by decide) (by decide)]; rfl
theorem rest_send : bigSep ((Rd msg).duties (sendCell e c) 0 \ ∅) (fun u => (Rd msg).payload (sendCell e c) 0 u) = sendPay e c := by
  rw [Finset.sdiff_empty, duties_send, bigSep_singleton, payload_send]
theorem rest_recv : bigSep ((Rd msg).duties (recvCell e c) 0 \ ∅) (fun u => (Rd msg).payload (recvCell e c) 0 u) = recvPay msg e c := by
  rw [Finset.sdiff_empty, duties_recv, bigSep_singleton, payload_recv]

end Tables

/-! ## What a core owes; the levels -/

/-- The exchanges not started when `n` have been. -/
def later (n : ℕ) : Finset Ex := Finset.univ.filter fun e => n ≤ e.pos

/-- What a core owes when `n` exchanges have been started: the landings of the rest. -/
def owed (n : ℕ) (c : Dev nD) : CellTallies nD τ sig Unit :=
  ∑ e ∈ later n, tallyAt (recvCell e (par e c)) () (amt e)

/-- Beside that, the barrier units of the dimensions in `D`. -/
def owedBar (D : Finset (Fin 5)) (c : Dev nD) : CellTallies nD τ sig Unit :=
  ∑ d ∈ D, tallyAt (barCell (nb d c)) () 1

/-- What a core owes at launch. -/
def O₀ (c : Dev nD) : CellTallies nD τ sig Unit := owed 0 c + owedBar Finset.univ c

def L (g : GSem nD τ sig) : Finset Unit := if g.1.2 = .tc then {()} else ∅
def lvS (s : SemLoc sig) : ℕ :=
  match s with
  | .reg _ => 1
  | .dma i => if IsRecv i then (exOf i).pos + 2 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem pos_inj : ∀ e e' : Ex, e.pos = e'.pos → e = e' := by
  rintro ⟨s, ph, k⟩ ⟨s', ph', k'⟩; revert s ph k s' ph' k'; decide +kernel
theorem later_split (e : Ex) : later e.pos = insert e (later (e.pos + 1)) := by
  ext x
  simp only [later, Finset.mem_filter, Finset.mem_univ, true_and, Finset.mem_insert]
  constructor
  · intro h
    by_cases h' : x.pos = e.pos
    · exact .inl (pos_inj _ _ h')
    · exact .inr (by omega)
  · rintro (rfl | h)
    · exact le_rfl
    · omega
/-- Starting exchange `e` pays its landing. -/
theorem owed_split (e : Ex) (c : Dev nD) :
    owed e.pos c = owed (e.pos + 1) c + tallyAt (recvCell e (par e c)) () (amt e) := by
  unfold owed
  rw [later_split, Finset.sum_insert (by simp [later]), add_comm]
theorem owed_last (c : Dev nD) : owed 20 c = 0 := by
  unfold owed
  rw [show later 20 = ∅ from by decide +kernel, Finset.sum_empty]
/-- Signalling the neighbour in dimension `d` pays its barrier unit. -/
theorem owedBar_split (D : Finset (Fin 5)) (d : Fin 5) (hd : d ∉ D) (c : Dev nD) :
    owedBar (insert d D) c = owedBar D c + tallyAt (barCell (nb d c)) () 1 := by
  unfold owedBar; rw [Finset.sum_insert hd, add_comm]

theorem lv_recv (e : Ex) (c : Dev nD) (u : Unit) : lv (recvCell e c) u = e.pos + 2 := by
  show (if IsRecv (rSem e) then (exOf (rSem e)).pos + 2 else 0) = _
  rw [if_pos (isRecv_recv e), exOf_recv]

/-- A wait on a cell at level at most `n + 1` is allowed to a core that owes only the landings of the exchanges from
    place `n` on. -/
theorem mayWait (sm : SemLoc sig) (n : ℕ) (hsm : lvS sm ≤ n + 1) (c : Dev nD) :
    (levAts L lv : sProp 𝕄) ⊢ MayWait (c : Thread nD τ) sm () (owed n c) :=
  MayOwe.of_cut (L := L) (lev := lv) (n + 1) (fun p hp => by rw [Finset.mem_singleton.mp hp, L_tc]; exact Finset.mem_singleton_self _)
    (fun g u hg => by
      by_cases h : ∃ e ∈ later n, g = recvCell e (par e c)
      · obtain ⟨e, -, rfl⟩ := h; rw [L_tc]; exact Finset.mem_singleton_self _
      · exfalso
        have : owed n c g u = 0 := by
          unfold owed
          rw [Finset.sum_apply, Finsupp.finset_sum_apply]
          refine Finset.sum_eq_zero fun e he => ?_
          rw [tallyAt_apply, if_neg (fun h' => h ⟨e, he, h'.1⟩)]
        omega)
    (fun p hp => by rw [Finset.mem_singleton.mp hp]; exact hsm)
    (fun g u hg => by
      by_cases h : ∃ e ∈ later n, g = recvCell e (par e c)
      · obtain ⟨e, he, rfl⟩ := h
        rw [lv_recv]
        have := (Finset.mem_filter.mp he).2
        omega
      · exfalso
        have : owed n c g u = 0 := by
          unfold owed
          rw [Finset.sum_apply, Finsupp.finset_sum_apply]
          refine Finset.sum_eq_zero fun e he => ?_
          rw [tallyAt_apply, if_neg (fun h' => h ⟨e, he, h'.1⟩)]
        omega)

end Cert.KernelIdeal.Bfly
-- ==== Proof.Exch.lean ====
module

public import proofs.«01_k».proof.Proof.Proto

/-! # Starting an exchange and waiting for it

One statement each, for every exchange at once: the start, the wait on the send cell, the wait on the receive cell. -/

@[expose] public section

noncomputable section

namespace Cert.KernelIdeal.Bfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen

variable {F : FTy → Type} [FloatOps F] [Named F]

local notation "𝕄" => MT nD τ sig Unit (Elt F) ℕ UU ℕ

abbrev 𝒱₀ : Variants := Variants.none

/-- What core `c` owes after starting `n` exchanges, whatever it has waited on. -/
def debt (n : ℕ) (c : Dev nD) : sProp 𝕄 := iprop(∃ W, owes (c : Thread nD τ) (owed n c) W)

/-- A stage buffer, at contents `f`. -/
abbrev stPts (s : Fin 2) (c : Dev nD) (f : Buf (Elt F) ((sbuf s).view.loc (c : Thread nD τ))) : sProp 𝕄 :=
  (sbuf s).view.loc (c : Thread nD τ) ↦{fullShare} f

/-- A stage buffer without the slice that exchange `e` sends. -/
def stRest (e : Ex) (c : Dev nD) : sProp 𝕄 :=
  iprop(∃ f, (sM e).view.loc (c : Thread nD τ) ↦[Finset.univ \ (sM e).view.set]{fullShare} f)

variable (K : GSem nD τ sig → ℕ) (msg : Msgs F)

/-- What core `c` starts exchange `e` with, beside the partner's leave. -/
def xres (e : Ex) (c : Dev nD) : sProp 𝕄 :=
  iprop(cellInv ER (Rd msg) (K (sendCell e c)) (sendCell e c) ∗ cellInv ER (Rd msg) (K (recvCell e c)) (recvCell e c)
    ∗ cellInv ER (Rd msg) (K (recvCell e (par e c))) (recvCell e (par e c))
    ∗ reached ER (sendCell e c) 0 ∗ dutyTok ER (sendCell e c) 0 0 ∗ dutyTok ER (recvCell e (par e c)) 0 0
    ∗ atPos ER (sendCell e c) 0 ∅ 0 ∗ atPos ER (recvCell e c) 0 ∅ 0 ∗ cred (tallyAt (recvCell e c) () (amt e)))

/-- An exchange under way, before its wait on the send cell. -/
def xsnd (e : Ex) (c : Dev nD) : sProp 𝕄 :=
  iprop(cellInv ER (Rd msg) (K (sendCell e c)) (sendCell e c) ∗ cred (tallyAt (sendCell e c) () (amt e))
    ∗ atPos ER (sendCell e c) 0 ∅ 0 ∗ stRest e c)
/-- An exchange under way, before its wait on the receive cell. -/
def xrcv (e : Ex) (c : Dev nD) : sProp 𝕄 :=
  iprop(cellInv ER (Rd msg) (K (recvCell e c)) (recvCell e c) ∗ cred (tallyAt (recvCell e c) () (amt e))
    ∗ atPos ER (recvCell e c) 0 ∅ 0)

/-- The stage buffer falls into the slice that exchange `e` sends and the rest. -/
theorem stPts_split (e : Ex) (c : Dev nD) (f : Buf (Elt F) ((sM e).view.loc (c : Thread nD τ))) :
    ((sM e).view.loc (c : Thread nD τ) ↦{fullShare} f : sProp 𝕄) ⊢ iprop(sPts e c f ∗ stRest e c) := by
  unfold stRest
  iintro H
  ihave H2 := (pointsTo_split_subset (Finset.subset_univ (sM e).view.set)).1 $$ H
  icases H2 with ⟨Ha, Hb⟩
  isplitl [Ha]; · iexact Ha
  iexists f; iexact Hb

theorem stPts_join (e : Ex) (c : Dev nD) (f : Buf (Elt F) ((sM e).view.loc (c : Thread nD τ))) :
    iprop(sPts e c f ∗ stRest e c) ⊢ (∃ f, (sM e).view.loc (c : Thread nD τ) ↦{fullShare} f : sProp 𝕄) := by
  unfold stRest
  iintro ⟨Ha, ⟨%g, Hb⟩⟩
  iexists _
  iapply (pointsTo_join_subset (Finset.subset_univ (sM e).view.set))
  isplitl [Ha]; · iexact Ha
  iexact Hb

set_option maxHeartbeats 1600000 in
/-- START exchange `e`: the stage slice holds the message; the landing is paid for. -/
theorem xsend {α : Type} {e : Ex} {c c' : Dev nD} (hc : c' = par e c)
    {sS rS : SemLoc sig} (hsS : sS = .dma (sSem e)) (hrS : rS = .dma (rSem e))
    {hsc : (lM e).view.ref.isScScratch = false} {h₁ : (sM e).view.WordExact} {h₂ : (lM e).view.WordExact}
    {h₃ : DmaTarget.Typed .vmem rS (.remote (c' : Thread nD τ) (lM e) sS hsc)}
    {k : PUnit → Prog (TpuEff nD τ sig (Elt F) Λ₀ .tc) α} {Q : α → sProp 𝕄}
    (f : Buf (Elt F) ((sM e).view.loc (c : Thread nD τ))) (hmsg : (sM e).view.read (Elt F) f = msg e (par e c))
    {n : ℕ} (hn : n = e.pos) :
    iprop(xres K msg e c ∗ grant e (par e c) ∗ ((sM e).view.loc (c : Thread nD τ) ↦{fullShare} f) ∗ debt n c)
      ⊢ iprop(((xsnd K msg e c ∗ xrcv K msg e c ∗ debt (n + 1) c) -∗ wp frame (wpE (defs₀ (F := F)) 𝒱₀ c none) Set.univ (k ⟨⟩) Q)
          -∗ wp frame (wpE (defs₀ (F := F)) 𝒱₀ c none) Set.univ (.op (.enqueueDma (sM e) (.remote (c' : Thread nD τ) (lM e) sS hsc) rS h₁ h₂ h₃) k) Q) := by
  subst hc hsS hrS hn
  unfold xres grant debt
  iintro ⟨⟨#HIs, #HIr, #HIp, #HrS, HtS, HtR, HaS, HaR, HcR⟩, ⟨⟨%fn, Hl⟩, #HrP⟩, Hst, ⟨%W, HO⟩⟩ Hk
  ihave Hst2 := (stPts_split e c f) $$ Hst
  icases Hst2 with ⟨Hs, Hrest⟩
  iapply (Rounds.wp_send_pointsTo 𝒱₀ ER (Rd msg) (c : Thread nD τ) none (c' := ((par e c : Dev nD) : Thread nD τ)) (src := sM e) (dst := lM e)
      (sS := .dma (sSem e)) (sem := .dma (rSem e)) (q := fullShare) (fs := f) (κ₁ := K (sendCell e c)) (κ₂ := K (recvCell e (par e c)))
      (r₁ := 0) (r₂ := 0) (d₁ := 0) (d₂ := 0) (fd := fn)
      (by rw [duties_send]; exact Finset.mem_singleton_self _) (by rw [duties_recv]; exact Finset.mem_singleton_self _)
      () () (amt e) rfl (amount_send msg e c 0) (amount_recv msg e (par e c) 0) (owed (e.pos + 1) c) (owed_split e c) (W := W)
      (by rw [payload_send]; unfold sendPay; iintro H; iexists f; iexact H)
      (by
        rw [payload_recv]; unfold recvPay; iintro H; iexists _
        isplitr
        · ipureintro; exact (View.read_write_univ (v := (lM e).view) fn _).trans hmsg
        · iexact H)) $$ [Hs Hl HO HtS HtR]
  · isplitr; · iexact HIs
    isplitr; · iexact HIp
    isplitl [Hs]; · iexact Hs
    isplitl [Hl]; · iexact Hl
    isplitl [HO]; · iexact HO
    isplitl [HtS]; · iexact HtS
    isplitr; · iexact HrS
    isplitl [HtR]; · iexact HtR
    iexact HrP
  iintro ⟨HcS, HO⟩
  iapply Hk
  unfold xsnd xrcv
  isplitl [HcS HaS Hrest]
  · isplitr; · iexact HIs
    isplitl [HcS]; · iexact HcS
    isplitl [HaS]; · iexact HaS
    iexact Hrest
  isplitl [HcR HaR]
  · isplitr; · iexact HIr
    isplitl [HcR]; · iexact HcR
    iexact HaR
  iexists W; iexact HO

theorem close (κ : ℕ) (g : GSem nD τ sig) :
    iprop(cellInv ER (Rd msg) κ g ∗ atPos ER g (0 + 1) ∅ 0) ⊢ (|={Set.univ}=> semVal g 0 : sProp 𝕄) :=
  Rounds.cell_close ER (Rd msg) (Set.mem_univ κ) id (duties_later msg g)

theorem credit_eq (e : Ex) : (sM e).view.dmaCredit = amt e := by
  obtain ⟨s, ph, k⟩ := e
  fin_cases s <;> fin_cases ph <;> fin_cases k <;> rfl

set_option maxHeartbeats 1600000 in
/-- WAIT on the send cell of exchange `e`: the stage buffer is whole again. -/
theorem xwaitS {α : Type} {e : Ex} {c : Dev nD} {sS : DmaSem sig} (hsS : sS = sSem e)
    {h₁ : (lM e).view.WordExact} {h₂ : (sM e).view.WordExact} {k : PUnit → Prog (TpuEff nD τ sig (Elt F) Λ₀ .tc) α} {Q : α → sProp 𝕄} {n : ℕ} :
    iprop(levAts L lv ∗ xsnd K msg e c ∗ debt n c)
      ⊢ iprop((((∃ f, (sM e).view.loc (c : Thread nD τ) ↦{fullShare} f) ∗ semVal (sendCell e c) 0 ∗ debt n c) -∗ wp frame (wpE (defs₀ (F := F)) 𝒱₀ c none) Set.univ (k ⟨⟩) Q)
          -∗ wp frame (wpE (defs₀ (F := F)) 𝒱₀ c none) Set.univ (.op (.waitDma2 sS (lM e) (sM e) h₁ h₂) k) Q) := by
  subst hsS
  unfold xsnd debt
  iintro ⟨#Hlev, ⟨#HIs, Hc, Ha, Hrest⟩, ⟨%W, HO⟩⟩ Hk
  iapply (Rounds.wp_wait_rest_token 𝒱₀ ER (Rd msg) (c : Thread nD τ) none (κ := K (sendCell e c))
      (wpE_waitDma2_eq (src := lM e) (dst := sM e) 𝒱₀ (c : Thread nD τ) none Set.univ) (Set.mem_univ _) () (O := owed n c) (W := W) (R := 0) (m := 0) (T := ∅)
      ((Nat.zero_add _).trans ((credit_eq e).trans (expect_send msg e c).symm))) $$ [Hc HO Ha]
  · isplitr; · iexact HIs
    isplitl [Hc]; · rw [credit_eq]; iexact Hc
    isplitl [HO]; · iexact HO
    isplitr
    · iapply (mayWait (.dma (sSem e)) n (by show (if _ then _ else _) ≤ _; rw [if_neg (not_isRecv_send e)]; omega) c); iexact Hlev
    iexact Ha
  iintro ⟨HO, Ha, -, Hp⟩
  ihave Hp2 := (Entails.of_eq (rest_send msg e c)) $$ Hp
  unfold sendPay
  icases Hp2 with ⟨%f, Hp2⟩
  imod (close msg (K (sendCell e c)) (sendCell e c)) $$ [Ha] with H0
  · isplitr; · iexact HIs
    iexact Ha
  iapply Hk
  isplitl [Hp2 Hrest]
  · iapply (stPts_join e c f)
    isplitl [Hp2]; · iexact Hp2
    iexact Hrest
  isplitl [H0]; · iexact H0
  iexists _; iexact HO

set_option maxHeartbeats 1600000 in
/-- WAIT on the receive cell of exchange `e`: the landing slice holds the message. -/
theorem xwaitR {α : Type} {e : Ex} {c : Dev nD} {rS : DmaSem sig} (hrS : rS = rSem e)
    {h₁ : (sM e).view.WordExact} {h₂ : (lM e).view.WordExact} {k : PUnit → Prog (TpuEff nD τ sig (Elt F) Λ₀ .tc) α} {Q : α → sProp 𝕄} {n : ℕ} (hn : e.pos + 1 ≤ n) :
    iprop(levAts L lv ∗ xrcv K msg e c ∗ debt n c)
      ⊢ iprop(((recvPay msg e c ∗ semVal (recvCell e c) 0 ∗ debt n c) -∗ wp frame (wpE (defs₀ (F := F)) 𝒱₀ c none) Set.univ (k ⟨⟩) Q)
          -∗ wp frame (wpE (defs₀ (F := F)) 𝒱₀ c none) Set.univ (.op (.waitDma2 rS (sM e) (lM e) h₁ h₂) k) Q) := by
  subst hrS
  unfold xrcv debt
  iintro ⟨#Hlev, ⟨#HIs, Hc, Ha⟩, ⟨%W, HO⟩⟩ Hk
  iapply (Rounds.wp_wait_rest_token 𝒱₀ ER (Rd msg) (c : Thread nD τ) none (κ := K (recvCell e c))
      (wpE_waitDma2_eq (src := sM e) (dst := lM e) 𝒱₀ (c : Thread nD τ) none Set.univ) (Set.mem_univ _) () (O := owed n c) (W := W) (R := 0) (m := 0) (T := ∅)
      ((Nat.zero_add _).trans (expect_recv msg e c).symm)) $$ [Hc HO Ha]
  · isplitr; · iexact HIs
    isplitl [Hc]; · iexact Hc
    isplitl [HO]; · iexact HO
    isplitr
    · iapply (mayWait (.dma (rSem e)) n (by show (if _ then _ else _) ≤ _; rw [if_pos (isRecv_recv e), exOf_recv]; omega) c); iexact Hlev
    iexact Ha
  iintro ⟨HO, Ha, -, Hp⟩
  ihave Hp2 := (Entails.of_eq (rest_recv msg e c)) $$ Hp
  imod (close msg (K (recvCell e c)) (recvCell e c)) $$ [Ha] with H0
  · isplitr; · iexact HIs
    iexact Ha
  iapply Hk
  isplitl [Hp2]; · iexact Hp2
  isplitl [H0]; · iexact H0
  iexists _; iexact HO

end Cert.KernelIdeal.Bfly
-- ==== Proof.Partners.lean ====
module

public import proofs.«01_k».proof.Proof.Proto

/-! # The partners the program computes -/

@[expose] public section

noncomputable section

namespace Cert.KernelIdeal.Bfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen

variable {F : FTy → Type} [FloatOps F] [Named F]

local notation "𝕄" => MT nD τ sig Unit (Elt F) ℕ UU ℕ

theorem dev_1 (c : Dev nD) : (⟨k0_dev1 c, k0_dev1_lt c⟩ : Dev nD) = nb 0 c := by revert c; decide +kernel
theorem dev_2 (c : Dev nD) : (⟨k0_dev2 c, k0_dev2_lt c⟩ : Dev nD) = nb 1 c := by revert c; decide +kernel
theorem dev_3 (c : Dev nD) : (⟨k0_dev3 c, k0_dev3_lt c⟩ : Dev nD) = nb 2 c := by revert c; decide +kernel
theorem dev_4 (c : Dev nD) : (⟨k0_dev4 c, k0_dev4_lt c⟩ : Dev nD) = nb 3 c := by revert c; decide +kernel
theorem dev_5 (c : Dev nD) : (⟨k0_dev5 c, k0_dev5_lt c⟩ : Dev nD) = nb 4 c := by revert c; decide +kernel
theorem dev_6 (c : Dev nD) : (⟨k0_dev6 c, k0_dev6_lt c⟩ : Dev nD) = par ⟨0, 0, 0⟩ c := by revert c; decide +kernel
theorem dev_7 (c : Dev nD) : (⟨k0_dev7 c, k0_dev7_lt c⟩ : Dev nD) = par ⟨1, 0, 0⟩ c := by revert c; decide +kernel
theorem dev_8 (c : Dev nD) : (⟨k0_dev8 c, k0_dev8_lt c⟩ : Dev nD) = par ⟨0, 0, 1⟩ c := by revert c; decide +kernel
theorem dev_9 (c : Dev nD) : (⟨k0_dev9 c, k0_dev9_lt c⟩ : Dev nD) = par ⟨1, 0, 1⟩ c := by revert c; decide +kernel
theorem dev_10 (c : Dev nD) : (⟨k0_dev10 c, k0_dev10_lt c⟩ : Dev nD) = par ⟨0, 0, 2⟩ c := by revert c; decide +kernel
theorem dev_11 (c : Dev nD) : (⟨k0_dev11 c, k0_dev11_lt c⟩ : Dev nD) = par ⟨1, 0, 2⟩ c := by revert c; decide +kernel
theorem dev_12 (c : Dev nD) : (⟨k0_dev12 c, k0_dev12_lt c⟩ : Dev nD) = par ⟨0, 0, 3⟩ c := by revert c; decide +kernel
theorem dev_13 (c : Dev nD) : (⟨k0_dev13 c, k0_dev13_lt c⟩ : Dev nD) = par ⟨1, 0, 3⟩ c := by revert c; decide +kernel
theorem dev_14 (c : Dev nD) : (⟨k0_dev14 c, k0_dev14_lt c⟩ : Dev nD) = par ⟨0, 0, 4⟩ c := by revert c; decide +kernel
theorem dev_15 (c : Dev nD) : (⟨k0_dev15 c, k0_dev15_lt c⟩ : Dev nD) = par ⟨1, 0, 4⟩ c := by revert c; decide +kernel
theorem dev_16 (c : Dev nD) : (⟨k0_dev16 c, k0_dev16_lt c⟩ : Dev nD) = par ⟨0, 1, 4⟩ c := by revert c; decide +kernel
theorem dev_17 (c : Dev nD) : (⟨k0_dev17 c, k0_dev17_lt c⟩ : Dev nD) = par ⟨1, 1, 4⟩ c := by revert c; decide +kernel
theorem dev_18 (c : Dev nD) : (⟨k0_dev18 c, k0_dev18_lt c⟩ : Dev nD) = par ⟨0, 1, 3⟩ c := by revert c; decide +kernel
theorem dev_19 (c : Dev nD) : (⟨k0_dev19 c, k0_dev19_lt c⟩ : Dev nD) = par ⟨1, 1, 3⟩ c := by revert c; decide +kernel
theorem dev_20 (c : Dev nD) : (⟨k0_dev20 c, k0_dev20_lt c⟩ : Dev nD) = par ⟨0, 1, 2⟩ c := by revert c; decide +kernel
theorem dev_21 (c : Dev nD) : (⟨k0_dev21 c, k0_dev21_lt c⟩ : Dev nD) = par ⟨1, 1, 2⟩ c := by revert c; decide +kernel
theorem dev_22 (c : Dev nD) : (⟨k0_dev22 c, k0_dev22_lt c⟩ : Dev nD) = par ⟨0, 1, 1⟩ c := by revert c; decide +kernel
theorem dev_23 (c : Dev nD) : (⟨k0_dev23 c, k0_dev23_lt c⟩ : Dev nD) = par ⟨1, 1, 1⟩ c := by revert c; decide +kernel
theorem dev_24 (c : Dev nD) : (⟨k0_dev24 c, k0_dev24_lt c⟩ : Dev nD) = par ⟨0, 1, 0⟩ c := by revert c; decide +kernel
theorem dev_25 (c : Dev nD) : (⟨k0_dev25 c, k0_dev25_lt c⟩ : Dev nD) = par ⟨1, 1, 0⟩ c := by revert c; decide +kernel

end Cert.KernelIdeal.Bfly
-- ==== Proof.Vals.lean ====
module

public import proofs.«01_k».proof.Proof.Partners
public import proofs.«01_k».proof.Proof.Gen.KernelIdeal.Skeleton

/-! # The messages, and what the result holds after each exchange

`PA c` is what the result buffer of device `c` holds when the first half of its own contribution is stored, `P0 c` when both
halves are. `outN c` is what it holds after the first `N` exchanges, in the order of the program; `msgN c` is what device
`c` receives in the exchange at place `N`. -/

@[expose] public section

noncomputable section

namespace Cert.KernelIdeal.Bfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen

variable {F : FTy → Type} [FloatOps F] [Named F]

local notation "𝕄" => MT nD τ sig Unit (Elt F) ℕ UU ℕ

/-- Contents of the result buffer. -/
abbrev OutC (F : FTy → Type) : Type := cc0_stg3_0.ty.Contents (Elt F)

/-- What the result holds before the first exchange ends. -/
def out0 (PA P0 : Dev nD → OutC F) (c : Dev nD) : OutC F := P0 c

/-- What device `c` sends in the exchange at place 0. -/
def snd0 (PA P0 : Dev nD → OutC F) (c : Dev nD) : Vec F S256x1024 .bf16 :=
  k0_pay30 ((Memref.whole cc0_stg3_0).view.readAt (Elt F) (Rect.unit (s := S1024x1024) (k0_off2 c) S256x1024.size (k0_off2_inb c)).toLoadRect (PA c))

/-- The message of the exchange at place 0. -/
def msg0 (PA P0 : Dev nD → OutC F) (c : Dev nD) : Vec F S256x1024 .bf16 := snd0 PA P0 (par ⟨0, 0, 0⟩ c)

/-- The result after 1 exchanges. -/
def out1 (PA P0 : Dev nD → OutC F) (c : Dev nD) : OutC F :=
  (Memref.whole cc0_stg3_0).view.writes (Elt F) (out0 PA P0 c) [⟨Rect.unit (s := S1024x1024) (k0_off4 c) S256x1024.size (k0_off4_inb c),
    k0_pay51 ((Memref.whole cc0_stg3_0).view.readAt (Elt F) (Rect.unit (s := S1024x1024) (k0_off4 c) S256x1024.size (k0_off4_inb c)).toLoadRect (out0 PA P0 c)) (msg0 PA P0 c)⟩]

/-- The write that ends the exchange at place 0, folded. -/
theorem fold1 (PA P0 : Dev nD → OutC F) (c : Dev nD) :
    ((Memref.whole cc0_stg3_0).view.loc (c : Thread nD τ) ↦{fullShare} (Memref.whole cc0_stg3_0).view.writes (Elt F) (out0 PA P0 c) [⟨Rect.unit (s := S1024x1024) (k0_off4 c) S256x1024.size (k0_off4_inb c),
    k0_pay51 ((Memref.whole cc0_stg3_0).view.readAt (Elt F) (Rect.unit (s := S1024x1024) (k0_off4 c) S256x1024.size (k0_off4_inb c)).toLoadRect (out0 PA P0 c)) (msg0 PA P0 c)⟩] : sProp 𝕄)
      ⊢ ((Memref.whole cc0_stg3_0).view.loc (c : Thread nD τ) ↦{fullShare} out1 PA P0 c) := BI.Entails.refl _

/-- What device `c` sends in the exchange at place 1. -/
def snd1 (PA P0 : Dev nD → OutC F) (c : Dev nD) : Vec F S256x1024 .bf16 :=
  k0_pay50 ((Memref.whole cc0_stg3_0).view.readAt (Elt F) (Rect.unit (s := S1024x1024) (k0_off3 c) S256x1024.size (k0_off3_inb c)).toLoadRect (out0 PA P0 c))

/-- The message of the exchange at place 1. -/
def msg1 (PA P0 : Dev nD → OutC F) (c : Dev nD) : Vec F S256x1024 .bf16 := snd1 PA P0 (par ⟨1, 0, 0⟩ c)

/-- The result after 2 exchanges. -/
def out2 (PA P0 : Dev nD → OutC F) (c : Dev nD) : OutC F :=
  (Memref.whole cc0_stg3_0).view.writes (Elt F) (out1 PA P0 c) [⟨Rect.unit (s := S1024x1024) (k0_off6 c) S256x1024.size (k0_off6_inb c),
    k0_pay53 ((Memref.whole cc0_stg3_0).view.readAt (Elt F) (Rect.unit (s := S1024x1024) (k0_off6 c) S256x1024.size (k0_off6_inb c)).toLoadRect (out1 PA P0 c)) (msg1 PA P0 c)⟩]

/-- The write that ends the exchange at place 1, folded. -/
theorem fold2 (PA P0 : Dev nD → OutC F) (c : Dev nD) :
    ((Memref.whole cc0_stg3_0).view.loc (c : Thread nD τ) ↦{fullShare} (Memref.whole cc0_stg3_0).view.writes (Elt F) (out1 PA P0 c) [⟨Rect.unit (s := S1024x1024) (k0_off6 c) S256x1024.size (k0_off6_inb c),
    k0_pay53 ((Memref.whole cc0_stg3_0).view.readAt (Elt F) (Rect.unit (s := S1024x1024) (k0_off6 c) S256x1024.size (k0_off6_inb c)).toLoadRect (out1 PA P0 c)) (msg1 PA P0 c)⟩] : sProp 𝕄)
      ⊢ ((Memref.whole cc0_stg3_0).view.loc (c : Thread nD τ) ↦{fullShare} out2 PA P0 c) := BI.Entails.refl _

/-- What device `c` sends in the exchange at place 2. -/
def snd2 (PA P0 : Dev nD → OutC F) (c : Dev nD) : Vec F S128x1024 .bf16 :=
  k0_pay52 ((Memref.whole cc0_stg3_0).view.readAt (Elt F) (Rect.unit (s := S1024x1024) (k0_off5 c) S128x1024.size (k0_off5_inb c)).toLoadRect (out1 PA P0 c))

/-- The message of the exchange at place 2. -/
def msg2 (PA P0 : Dev nD → OutC F) (c : Dev nD) : Vec F S128x1024 .bf16 := snd2 PA P0 (par ⟨0, 0, 1⟩ c)

/-- The result after 3 exchanges. -/
def out3 (PA P0 : Dev nD → OutC F) (c : Dev nD) : OutC F :=
  (Memref.whole cc0_stg3_0).view.writes (Elt F) (out2 PA P0 c) [⟨Rect.unit (s := S1024x1024) (k0_off8 c) S128x1024.size (k0_off8_inb c),
    k0_pay55 ((Memref.whole cc0_stg3_0).view.readAt (Elt F) (Rect.unit (s := S1024x1024) (k0_off8 c) S128x1024.size (k0_off8_inb c)).toLoadRect (out2 PA P0 c)) (msg2 PA P0 c)⟩]

/-- The write that ends the exchange at place 2, folded. -/
theorem fold3 (PA P0 : Dev nD → OutC F) (c : Dev nD) :
    ((Memref.whole cc0_stg3_0).view.loc (c : Thread nD τ) ↦{fullShare} (Memref.whole cc0_stg3_0).view.writes (Elt F) (out2 PA P0 c) [⟨Rect.unit (s := S1024x1024) (k0_off8 c) S128x1024.size (k0_off8_inb c),
    k0_pay55 ((Memref.whole cc0_stg3_0).view.readAt (Elt F) (Rect.unit (s := S1024x1024) (k0_off8 c) S128x1024.size (k0_off8_inb c)).toLoadRect (out2 PA P0 c)) (msg2 PA P0 c)⟩] : sProp 𝕄)
      ⊢ ((Memref.whole cc0_stg3_0).view.loc (c : Thread nD τ) ↦{fullShare} out3 PA P0 c) := BI.Entails.refl _

/-- What device `c` sends in the exchange at place 3. -/
def snd3 (PA P0 : Dev nD → OutC F) (c : Dev nD) : Vec F S128x1024 .bf16 :=
  k0_pay54 ((Memref.whole cc0_stg3_0).view.readAt (Elt F) (Rect.unit (s := S1024x1024) (k0_off7 c) S128x1024.size (k0_off7_inb c)).toLoadRect (out2 PA P0 c))

/-- The message of the exchange at place 3. -/
def msg3 (PA P0 : Dev nD → OutC F) (c : Dev nD) : Vec F S128x1024 .bf16 := snd3 PA P0 (par ⟨1, 0, 1⟩ c)

/-- The result after 4 exchanges. -/
def out4 (PA P0 : Dev nD → OutC F) (c : Dev nD) : OutC F :=
  (Memref.whole cc0_stg3_0).view.writes (Elt F) (out3 PA P0 c) [⟨Rect.unit (s := S1024x1024) (k0_off10 c) S128x1024.size (k0_off10_inb c),
    k0_pay57 ((Memref.whole cc0_stg3_0).view.readAt (Elt F) (Rect.unit (s := S1024x1024) (k0_off10 c) S128x1024.size (k0_off10_inb c)).toLoadRect (out3 PA P0 c)) (msg3 PA P0 c)⟩]

/-- The write that ends the exchange at place 3, folded. -/
theorem fold4 (PA P0 : Dev nD → OutC F) (c : Dev nD) :
    ((Memref.whole cc0_stg3_0).view.loc (c : Thread nD τ) ↦{fullShare} (Memref.whole cc0_stg3_0).view.writes (Elt F) (out3 PA P0 c) [⟨Rect.unit (s := S1024x1024) (k0_off10 c) S128x1024.size (k0_off10_inb c),
    k0_pay57 ((Memref.whole cc0_stg3_0).view.readAt (Elt F) (Rect.unit (s := S1024x1024) (k0_off10 c) S128x1024.size (k0_off10_inb c)).toLoadRect (out3 PA P0 c)) (msg3 PA P0 c)⟩] : sProp 𝕄)
      ⊢ ((Memref.whole cc0_stg3_0).view.loc (c : Thread nD τ) ↦{fullShare} out4 PA P0 c) := BI.Entails.refl _

/-- What device `c` sends in the exchange at place 4. -/
def snd4 (PA P0 : Dev nD → OutC F) (c : Dev nD) : Vec F S64x1024 .bf16 :=
  k0_pay56 ((Memref.whole cc0_stg3_0).view.readAt (Elt F) (Rect.unit (s := S1024x1024) (k0_off9 c) S64x1024.size (k0_off9_inb c)).toLoadRect (out3 PA P0 c))

/-- The message of the exchange at place 4. -/
def msg4 (PA P0 : Dev nD → OutC F) (c : Dev nD) : Vec F S64x1024 .bf16 := snd4 PA P0 (par ⟨0, 0, 2⟩ c)

/-- The result after 5 exchanges. -/
def out5 (PA P0 : Dev nD → OutC F) (c : Dev nD) : OutC F :=
  (Memref.whole cc0_stg3_0).view.writes (Elt F) (out4 PA P0 c) [⟨Rect.unit (s := S1024x1024) (k0_off12 c) S64x1024.size (k0_off12_inb c),
    k0_pay59 ((Memref.whole cc0_stg3_0).view.readAt (Elt F) (Rect.unit (s := S1024x1024) (k0_off12 c) S64x1024.size (k0_off12_inb c)).toLoadRect (out4 PA P0 c)) (msg4 PA P0 c)⟩]

/-- The write that ends the exchange at place 4, folded. -/
theorem fold5 (PA P0 : Dev nD → OutC F) (c : Dev nD) :
    ((Memref.whole cc0_stg3_0).view.loc (c : Thread nD τ) ↦{fullShare} (Memref.whole cc0_stg3_0).view.writes (Elt F) (out4 PA P0 c) [⟨Rect.unit (s := S1024x1024) (k0_off12 c) S64x1024.size (k0_off12_inb c),
    k0_pay59 ((Memref.whole cc0_stg3_0).view.readAt (Elt F) (Rect.unit (s := S1024x1024) (k0_off12 c) S64x1024.size (k0_off12_inb c)).toLoadRect (out4 PA P0 c)) (msg4 PA P0 c)⟩] : sProp 𝕄)
      ⊢ ((Memref.whole cc0_stg3_0).view.loc (c : Thread nD τ) ↦{fullShare} out5 PA P0 c) := BI.Entails.refl _

/-- What device `c` sends in the exchange at place 5. -/
def snd5 (PA P0 : Dev nD → OutC F) (c : Dev nD) : Vec F S64x1024 .bf16 :=
  k0_pay58 ((Memref.whole cc0_stg3_0).view.readAt (Elt F) (Rect.unit (s := S1024x1024) (k0_off11 c) S64x1024.size (k0_off11_inb c)).toLoadRect (out4 PA P0 c))

/-- The message of the exchange at place 5. -/
def msg5 (PA P0 : Dev nD → OutC F) (c : Dev nD) : Vec F S64x1024 .bf16 := snd5 PA P0 (par ⟨1, 0, 2⟩ c)

/-- The result after 6 exchanges. -/
def out6 (PA P0 : Dev nD → OutC F) (c : Dev nD) : OutC F :=
  (Memref.whole cc0_stg3_0).view.writes (Elt F) (out5 PA P0 c) [⟨Rect.unit (s := S1024x1024) (k0_off14 c) S64x1024.size (k0_off14_inb c),
    k0_pay61 ((Memref.whole cc0_stg3_0).view.readAt (Elt F) (Rect.unit (s := S1024x1024) (k0_off14 c) S64x1024.size (k0_off14_inb c)).toLoadRect (out5 PA P0 c)) (msg5 PA P0 c)⟩]

/-- The write that ends the exchange at place 5, folded. -/
theorem fold6 (PA P0 : Dev nD → OutC F) (c : Dev nD) :
    ((Memref.whole cc0_stg3_0).view.loc (c : Thread nD τ) ↦{fullShare} (Memref.whole cc0_stg3_0).view.writes (Elt F) (out5 PA P0 c) [⟨Rect.unit (s := S1024x1024) (k0_off14 c) S64x1024.size (k0_off14_inb c),
    k0_pay61 ((Memref.whole cc0_stg3_0).view.readAt (Elt F) (Rect.unit (s := S1024x1024) (k0_off14 c) S64x1024.size (k0_off14_inb c)).toLoadRect (out5 PA P0 c)) (msg5 PA P0 c)⟩] : sProp 𝕄)
      ⊢ ((Memref.whole cc0_stg3_0).view.loc (c : Thread nD τ) ↦{fullShare} out6 PA P0 c) := BI.Entails.refl _

/-- What device `c` sends in the exchange at place 6. -/
def snd6 (PA P0 : Dev nD → OutC F) (c : Dev nD) : Vec F S32x1024 .bf16 :=
  k0_pay60 ((Memref.whole cc0_stg3_0).view.readAt (Elt F) (Rect.unit (s := S1024x1024) (k0_off13 c) S32x1024.size (k0_off13_inb c)).toLoadRect (out5 PA P0 c))

/-- The message of the exchange at place 6. -/
def msg6 (PA P0 : Dev nD → OutC F) (c : Dev nD) : Vec F S32x1024 .bf16 := snd6 PA P0 (par ⟨0, 0, 3⟩ c)

/-- The result after 7 exchanges. -/
def out7 (PA P0 : Dev nD → OutC F) (c : Dev nD) : OutC F :=
  (Memref.whole cc0_stg3_0).view.writes (Elt F) (out6 PA P0 c) [⟨Rect.unit (s := S1024x1024) (k0_off16 c) S32x1024.size (k0_off16_inb c),
    k0_pay63 ((Memref.whole cc0_stg3_0).view.readAt (Elt F) (Rect.unit (s := S1024x1024) (k0_off16 c) S32x1024.size (k0_off16_inb c)).toLoadRect (out6 PA P0 c)) (msg6 PA P0 c)⟩]

/-- The write that ends the exchange at place 6, folded. -/
theorem fold7 (PA P0 : Dev nD → OutC F) (c : Dev nD) :
    ((Memref.whole cc0_stg3_0).view.loc (c : Thread nD τ) ↦{fullShare} (Memref.whole cc0_stg3_0).view.writes (Elt F) (out6 PA P0 c) [⟨Rect.unit (s := S1024x1024) (k0_off16 c) S32x1024.size (k0_off16_inb c),
    k0_pay63 ((Memref.whole cc0_stg3_0).view.readAt (Elt F) (Rect.unit (s := S1024x1024) (k0_off16 c) S32x1024.size (k0_off16_inb c)).toLoadRect (out6 PA P0 c)) (msg6 PA P0 c)⟩] : sProp 𝕄)
      ⊢ ((Memref.whole cc0_stg3_0).view.loc (c : Thread nD τ) ↦{fullShare} out7 PA P0 c) := BI.Entails.refl _

/-- What device `c` sends in the exchange at place 7. -/
def snd7 (PA P0 : Dev nD → OutC F) (c : Dev nD) : Vec F S32x1024 .bf16 :=
  k0_pay62 ((Memref.whole cc0_stg3_0).view.readAt (Elt F) (Rect.unit (s := S1024x1024) (k0_off15 c) S32x1024.size (k0_off15_inb c)).toLoadRect (out6 PA P0 c))

/-- The message of the exchange at place 7. -/
def msg7 (PA P0 : Dev nD → OutC F) (c : Dev nD) : Vec F S32x1024 .bf16 := snd7 PA P0 (par ⟨1, 0, 3⟩ c)

/-- The result after 8 exchanges. -/
def out8 (PA P0 : Dev nD → OutC F) (c : Dev nD) : OutC F :=
  (Memref.whole cc0_stg3_0).view.writes (Elt F) (out7 PA P0 c) [⟨Rect.unit (s := S1024x1024) (k0_off18 c) S32x1024.size (k0_off18_inb c),
    k0_pay65 ((Memref.whole cc0_stg3_0).view.readAt (Elt F) (Rect.unit (s := S1024x1024) (k0_off18 c) S32x1024.size (k0_off18_inb c)).toLoadRect (out7 PA P0 c)) (msg7 PA P0 c)⟩]

/-- The write that ends the exchange at place 7, folded. -/
theorem fold8 (PA P0 : Dev nD → OutC F) (c : Dev nD) :
    ((Memref.whole cc0_stg3_0).view.loc (c : Thread nD τ) ↦{fullShare} (Memref.whole cc0_stg3_0).view.writes (Elt F) (out7 PA P0 c) [⟨Rect.unit (s := S1024x1024) (k0_off18 c) S32x1024.size (k0_off18_inb c),
    k0_pay65 ((Memref.whole cc0_stg3_0).view.readAt (Elt F) (Rect.unit (s := S1024x1024) (k0_off18 c) S32x1024.size (k0_off18_inb c)).toLoadRect (out7 PA P0 c)) (msg7 PA P0 c)⟩] : sProp 𝕄)
      ⊢ ((Memref.whole cc0_stg3_0).view.loc (c : Thread nD τ) ↦{fullShare} out8 PA P0 c) := BI.Entails.refl _

/-- What device `c` sends in the exchange at place 8. -/
def snd8 (PA P0 : Dev nD → OutC F) (c : Dev nD) : Vec F S16x1024 .bf16 :=
  k0_pay64 ((Memref.whole cc0_stg3_0).view.readAt (Elt F) (Rect.unit (s := S1024x1024) (k0_off17 c) S16x1024.size (k0_off17_inb c)).toLoadRect (out7 PA P0 c))

/-- The message of the exchange at place 8. -/
def msg8 (PA P0 : Dev nD → OutC F) (c : Dev nD) : Vec F S16x1024 .bf16 := snd8 PA P0 (par ⟨0, 0, 4⟩ c)

/-- The result after 9 exchanges. -/
def out9 (PA P0 : Dev nD → OutC F) (c : Dev nD) : OutC F :=
  (Memref.whole cc0_stg3_0).view.writes (Elt F) (out8 PA P0 c) [⟨Rect.unit (s := S1024x1024) (k0_off20 c) S16x1024.size (k0_off20_inb c),
    k0_pay69 (k0_pay68 ((Memref.whole cc0_stg3_0).view.readAt (Elt F) (Rect.unit (s := S1024x1024) (k0_off20 c) S16x1024.size (k0_off20_inb c)).toLoadRect (out8 PA P0 c))) (msg8 PA P0 c)⟩]

/-- The write that ends the exchange at place 8, folded. -/
theorem fold9 (PA P0 : Dev nD → OutC F) (c : Dev nD) :
    ((Memref.whole cc0_stg3_0).view.loc (c : Thread nD τ) ↦{fullShare} (Memref.whole cc0_stg3_0).view.writes (Elt F) (out8 PA P0 c) [⟨Rect.unit (s := S1024x1024) (k0_off20 c) S16x1024.size (k0_off20_inb c),
    k0_pay69 (k0_pay68 ((Memref.whole cc0_stg3_0).view.readAt (Elt F) (Rect.unit (s := S1024x1024) (k0_off20 c) S16x1024.size (k0_off20_inb c)).toLoadRect (out8 PA P0 c))) (msg8 PA P0 c)⟩] : sProp 𝕄)
      ⊢ ((Memref.whole cc0_stg3_0).view.loc (c : Thread nD τ) ↦{fullShare} out9 PA P0 c) := BI.Entails.refl _

/-- What device `c` sends in the exchange at place 9. -/
def snd9 (PA P0 : Dev nD → OutC F) (c : Dev nD) : Vec F S16x1024 .bf16 :=
  k0_pay67 (k0_pay66 ((Memref.whole cc0_stg3_0).view.readAt (Elt F) (Rect.unit (s := S1024x1024) (k0_off19 c) S16x1024.size (k0_off19_inb c)).toLoadRect (out8 PA P0 c)))

/-- The message of the exchange at place 9. -/
def msg9 (PA P0 : Dev nD → OutC F) (c : Dev nD) : Vec F S16x1024 .bf16 := snd9 PA P0 (par ⟨1, 0, 4⟩ c)

/-- The result after 10 exchanges. -/
def out10 (PA P0 : Dev nD → OutC F) (c : Dev nD) : OutC F :=
  (Memref.whole cc0_stg3_0).view.writes (Elt F) (out9 PA P0 c) [⟨Rect.unit (s := S1024x1024) (k0_off21 c) S16x1024.size (k0_off21_inb c),
    k0_pay71 ((Memref.whole cc0_stg3_0).view.readAt (Elt F) (Rect.unit (s := S1024x1024) (k0_off21 c) S16x1024.size (k0_off21_inb c)).toLoadRect (out9 PA P0 c)) (msg9 PA P0 c)⟩]

/-- The write that ends the exchange at place 9, folded. -/
theorem fold10 (PA P0 : Dev nD → OutC F) (c : Dev nD) :
    ((Memref.whole cc0_stg3_0).view.loc (c : Thread nD τ) ↦{fullShare} (Memref.whole cc0_stg3_0).view.writes (Elt F) (out9 PA P0 c) [⟨Rect.unit (s := S1024x1024) (k0_off21 c) S16x1024.size (k0_off21_inb c),
    k0_pay71 ((Memref.whole cc0_stg3_0).view.readAt (Elt F) (Rect.unit (s := S1024x1024) (k0_off21 c) S16x1024.size (k0_off21_inb c)).toLoadRect (out9 PA P0 c)) (msg9 PA P0 c)⟩] : sProp 𝕄)
      ⊢ ((Memref.whole cc0_stg3_0).view.loc (c : Thread nD τ) ↦{fullShare} out10 PA P0 c) := BI.Entails.refl _

/-- What device `c` sends in the exchange at place 10. -/
def snd10 (PA P0 : Dev nD → OutC F) (c : Dev nD) : Vec F S16x1024 .bf16 :=
  k0_pay70 ((Memref.whole cc0_stg3_0).view.readAt (Elt F) (Rect.unit (s := S1024x1024) (k0_off20 c) S16x1024.size (k0_off20_inb c)).toLoadRect (out9 PA P0 c))

/-- The message of the exchange at place 10. -/
def msg10 (PA P0 : Dev nD → OutC F) (c : Dev nD) : Vec F S16x1024 .bf16 := snd10 PA P0 (par ⟨0, 1, 4⟩ c)

/-- The result after 11 exchanges. -/
def out11 (PA P0 : Dev nD → OutC F) (c : Dev nD) : OutC F :=
  (Memref.whole cc0_stg3_0).view.writes (Elt F) (out10 PA P0 c) [⟨Rect.unit (s := S1024x1024) (k0_off22 c) S16x1024.size (k0_off22_inb c),
    k0_pay73 (msg10 PA P0 c)⟩]

/-- The write that ends the exchange at place 10, folded. -/
theorem fold11 (PA P0 : Dev nD → OutC F) (c : Dev nD) :
    ((Memref.whole cc0_stg3_0).view.loc (c : Thread nD τ) ↦{fullShare} (Memref.whole cc0_stg3_0).view.writes (Elt F) (out10 PA P0 c) [⟨Rect.unit (s := S1024x1024) (k0_off22 c) S16x1024.size (k0_off22_inb c),
    k0_pay73 (msg10 PA P0 c)⟩] : sProp 𝕄)
      ⊢ ((Memref.whole cc0_stg3_0).view.loc (c : Thread nD τ) ↦{fullShare} out11 PA P0 c) := BI.Entails.refl _

/-- What device `c` sends in the exchange at place 11. -/
def snd11 (PA P0 : Dev nD → OutC F) (c : Dev nD) : Vec F S16x1024 .bf16 :=
  k0_pay72 ((Memref.whole cc0_stg3_0).view.readAt (Elt F) (Rect.unit (s := S1024x1024) (k0_off21 c) S16x1024.size (k0_off21_inb c)).toLoadRect (out10 PA P0 c))

/-- The message of the exchange at place 11. -/
def msg11 (PA P0 : Dev nD → OutC F) (c : Dev nD) : Vec F S16x1024 .bf16 := snd11 PA P0 (par ⟨1, 1, 4⟩ c)

/-- The result after 12 exchanges. -/
def out12 (PA P0 : Dev nD → OutC F) (c : Dev nD) : OutC F :=
  (Memref.whole cc0_stg3_0).view.writes (Elt F) (out11 PA P0 c) [⟨Rect.unit (s := S1024x1024) (k0_off24 c) S16x1024.size (k0_off24_inb c),
    k0_pay75 (msg11 PA P0 c)⟩]

/-- The write that ends the exchange at place 11, folded. -/
theorem fold12 (PA P0 : Dev nD → OutC F) (c : Dev nD) :
    ((Memref.whole cc0_stg3_0).view.loc (c : Thread nD τ) ↦{fullShare} (Memref.whole cc0_stg3_0).view.writes (Elt F) (out11 PA P0 c) [⟨Rect.unit (s := S1024x1024) (k0_off24 c) S16x1024.size (k0_off24_inb c),
    k0_pay75 (msg11 PA P0 c)⟩] : sProp 𝕄)
      ⊢ ((Memref.whole cc0_stg3_0).view.loc (c : Thread nD τ) ↦{fullShare} out12 PA P0 c) := BI.Entails.refl _

/-- What device `c` sends in the exchange at place 12. -/
def snd12 (PA P0 : Dev nD → OutC F) (c : Dev nD) : Vec F S32x1024 .bf16 :=
  k0_pay74 ((Memref.whole cc0_stg3_0).view.readAt (Elt F) (Rect.unit (s := S1024x1024) (k0_off23 c) S32x1024.size (k0_off23_inb c)).toLoadRect (out11 PA P0 c))

/-- The message of the exchange at place 12. -/
def msg12 (PA P0 : Dev nD → OutC F) (c : Dev nD) : Vec F S32x1024 .bf16 := snd12 PA P0 (par ⟨0, 1, 3⟩ c)

/-- The result after 13 exchanges. -/
def out13 (PA P0 : Dev nD → OutC F) (c : Dev nD) : OutC F :=
  (Memref.whole cc0_stg3_0).view.writes (Elt F) (out12 PA P0 c) [⟨Rect.unit (s := S1024x1024) (k0_off26 c) S32x1024.size (k0_off26_inb c),
    k0_pay77 (msg12 PA P0 c)⟩]

/-- The write that ends the exchange at place 12, folded. -/
theorem fold13 (PA P0 : Dev nD → OutC F) (c : Dev nD) :
    ((Memref.whole cc0_stg3_0).view.loc (c : Thread nD τ) ↦{fullShare} (Memref.whole cc0_stg3_0).view.writes (Elt F) (out12 PA P0 c) [⟨Rect.unit (s := S1024x1024) (k0_off26 c) S32x1024.size (k0_off26_inb c),
    k0_pay77 (msg12 PA P0 c)⟩] : sProp 𝕄)
      ⊢ ((Memref.whole cc0_stg3_0).view.loc (c : Thread nD τ) ↦{fullShare} out13 PA P0 c) := BI.Entails.refl _

/-- What device `c` sends in the exchange at place 13. -/
def snd13 (PA P0 : Dev nD → OutC F) (c : Dev nD) : Vec F S32x1024 .bf16 :=
  k0_pay76 ((Memref.whole cc0_stg3_0).view.readAt (Elt F) (Rect.unit (s := S1024x1024) (k0_off25 c) S32x1024.size (k0_off25_inb c)).toLoadRect (out12 PA P0 c))

/-- The message of the exchange at place 13. -/
def msg13 (PA P0 : Dev nD → OutC F) (c : Dev nD) : Vec F S32x1024 .bf16 := snd13 PA P0 (par ⟨1, 1, 3⟩ c)

/-- The result after 14 exchanges. -/
def out14 (PA P0 : Dev nD → OutC F) (c : Dev nD) : OutC F :=
  (Memref.whole cc0_stg3_0).view.writes (Elt F) (out13 PA P0 c) [⟨Rect.unit (s := S1024x1024) (k0_off28 c) S32x1024.size (k0_off28_inb c),
    k0_pay79 (msg13 PA P0 c)⟩]

/-- The write that ends the exchange at place 13, folded. -/
theorem fold14 (PA P0 : Dev nD → OutC F) (c : Dev nD) :
    ((Memref.whole cc0_stg3_0).view.loc (c : Thread nD τ) ↦{fullShare} (Memref.whole cc0_stg3_0).view.writes (Elt F) (out13 PA P0 c) [⟨Rect.unit (s := S1024x1024) (k0_off28 c) S32x1024.size (k0_off28_inb c),
    k0_pay79 (msg13 PA P0 c)⟩] : sProp 𝕄)
      ⊢ ((Memref.whole cc0_stg3_0).view.loc (c : Thread nD τ) ↦{fullShare} out14 PA P0 c) := BI.Entails.refl _

/-- What device `c` sends in the exchange at place 14. -/
def snd14 (PA P0 : Dev nD → OutC F) (c : Dev nD) : Vec F S64x1024 .bf16 :=
  k0_pay78 ((Memref.whole cc0_stg3_0).view.readAt (Elt F) (Rect.unit (s := S1024x1024) (k0_off27 c) S64x1024.size (k0_off27_inb c)).toLoadRect (out13 PA P0 c))

/-- The message of the exchange at place 14. -/
def msg14 (PA P0 : Dev nD → OutC F) (c : Dev nD) : Vec F S64x1024 .bf16 := snd14 PA P0 (par ⟨0, 1, 2⟩ c)

/-- The result after 15 exchanges. -/
def out15 (PA P0 : Dev nD → OutC F) (c : Dev nD) : OutC F :=
  (Memref.whole cc0_stg3_0).view.writes (Elt F) (out14 PA P0 c) [⟨Rect.unit (s := S1024x1024) (k0_off30 c) S64x1024.size (k0_off30_inb c),
    k0_pay81 (msg14 PA P0 c)⟩]

/-- The write that ends the exchange at place 14, folded. -/
theorem fold15 (PA P0 : Dev nD → OutC F) (c : Dev nD) :
    ((Memref.whole cc0_stg3_0).view.loc (c : Thread nD τ) ↦{fullShare} (Memref.whole cc0_stg3_0).view.writes (Elt F) (out14 PA P0 c) [⟨Rect.unit (s := S1024x1024) (k0_off30 c) S64x1024.size (k0_off30_inb c),
    k0_pay81 (msg14 PA P0 c)⟩] : sProp 𝕄)
      ⊢ ((Memref.whole cc0_stg3_0).view.loc (c : Thread nD τ) ↦{fullShare} out15 PA P0 c) := BI.Entails.refl _

/-- What device `c` sends in the exchange at place 15. -/
def snd15 (PA P0 : Dev nD → OutC F) (c : Dev nD) : Vec F S64x1024 .bf16 :=
  k0_pay80 ((Memref.whole cc0_stg3_0).view.readAt (Elt F) (Rect.unit (s := S1024x1024) (k0_off29 c) S64x1024.size (k0_off29_inb c)).toLoadRect (out14 PA P0 c))

/-- The message of the exchange at place 15. -/
def msg15 (PA P0 : Dev nD → OutC F) (c : Dev nD) : Vec F S64x1024 .bf16 := snd15 PA P0 (par ⟨1, 1, 2⟩ c)

/-- The result after 16 exchanges. -/
def out16 (PA P0 : Dev nD → OutC F) (c : Dev nD) : OutC F :=
  (Memref.whole cc0_stg3_0).view.writes (Elt F) (out15 PA P0 c) [⟨Rect.unit (s := S1024x1024) (k0_off32 c) S64x1024.size (k0_off32_inb c),
    k0_pay83 (msg15 PA P0 c)⟩]

/-- The write that ends the exchange at place 15, folded. -/
theorem fold16 (PA P0 : Dev nD → OutC F) (c : Dev nD) :
    ((Memref.whole cc0_stg3_0).view.loc (c : Thread nD τ) ↦{fullShare} (Memref.whole cc0_stg3_0).view.writes (Elt F) (out15 PA P0 c) [⟨Rect.unit (s := S1024x1024) (k0_off32 c) S64x1024.size (k0_off32_inb c),
    k0_pay83 (msg15 PA P0 c)⟩] : sProp 𝕄)
      ⊢ ((Memref.whole cc0_stg3_0).view.loc (c : Thread nD τ) ↦{fullShare} out16 PA P0 c) := BI.Entails.refl _

/-- What device `c` sends in the exchange at place 16. -/
def snd16 (PA P0 : Dev nD → OutC F) (c : Dev nD) : Vec F S128x1024 .bf16 :=
  k0_pay82 ((Memref.whole cc0_stg3_0).view.readAt (Elt F) (Rect.unit (s := S1024x1024) (k0_off31 c) S128x1024.size (k0_off31_inb c)).toLoadRect (out15 PA P0 c))

/-- The message of the exchange at place 16. -/
def msg16 (PA P0 : Dev nD → OutC F) (c : Dev nD) : Vec F S128x1024 .bf16 := snd16 PA P0 (par ⟨0, 1, 1⟩ c)

/-- The result after 17 exchanges. -/
def out17 (PA P0 : Dev nD → OutC F) (c : Dev nD) : OutC F :=
  (Memref.whole cc0_stg3_0).view.writes (Elt F) (out16 PA P0 c) [⟨Rect.unit (s := S1024x1024) (k0_off34 c) S128x1024.size (k0_off34_inb c),
    k0_pay85 (msg16 PA P0 c)⟩]

/-- The write that ends the exchange at place 16, folded. -/
theorem fold17 (PA P0 : Dev nD → OutC F) (c : Dev nD) :
    ((Memref.whole cc0_stg3_0).view.loc (c : Thread nD τ) ↦{fullShare} (Memref.whole cc0_stg3_0).view.writes (Elt F) (out16 PA P0 c) [⟨Rect.unit (s := S1024x1024) (k0_off34 c) S128x1024.size (k0_off34_inb c),
    k0_pay85 (msg16 PA P0 c)⟩] : sProp 𝕄)
      ⊢ ((Memref.whole cc0_stg3_0).view.loc (c : Thread nD τ) ↦{fullShare} out17 PA P0 c) := BI.Entails.refl _

/-- What device `c` sends in the exchange at place 17. -/
def snd17 (PA P0 : Dev nD → OutC F) (c : Dev nD) : Vec F S128x1024 .bf16 :=
  k0_pay84 ((Memref.whole cc0_stg3_0).view.readAt (Elt F) (Rect.unit (s := S1024x1024) (k0_off33 c) S128x1024.size (k0_off33_inb c)).toLoadRect (out16 PA P0 c))

/-- The message of the exchange at place 17. -/
def msg17 (PA P0 : Dev nD → OutC F) (c : Dev nD) : Vec F S128x1024 .bf16 := snd17 PA P0 (par ⟨1, 1, 1⟩ c)

/-- The result after 18 exchanges. -/
def out18 (PA P0 : Dev nD → OutC F) (c : Dev nD) : OutC F :=
  (Memref.whole cc0_stg3_0).view.writes (Elt F) (out17 PA P0 c) [⟨Rect.unit (s := S1024x1024) (k0_off36 c) S128x1024.size (k0_off36_inb c),
    k0_pay87 (msg17 PA P0 c)⟩]

/-- The write that ends the exchange at place 17, folded. -/
theorem fold18 (PA P0 : Dev nD → OutC F) (c : Dev nD) :
    ((Memref.whole cc0_stg3_0).view.loc (c : Thread nD τ) ↦{fullShare} (Memref.whole cc0_stg3_0).view.writes (Elt F) (out17 PA P0 c) [⟨Rect.unit (s := S1024x1024) (k0_off36 c) S128x1024.size (k0_off36_inb c),
    k0_pay87 (msg17 PA P0 c)⟩] : sProp 𝕄)
      ⊢ ((Memref.whole cc0_stg3_0).view.loc (c : Thread nD τ) ↦{fullShare} out18 PA P0 c) := BI.Entails.refl _

/-- What device `c` sends in the exchange at place 18. -/
def snd18 (PA P0 : Dev nD → OutC F) (c : Dev nD) : Vec F S256x1024 .bf16 :=
  k0_pay86 ((Memref.whole cc0_stg3_0).view.readAt (Elt F) (Rect.unit (s := S1024x1024) (k0_off35 c) S256x1024.size (k0_off35_inb c)).toLoadRect (out17 PA P0 c))

/-- The message of the exchange at place 18. -/
def msg18 (PA P0 : Dev nD → OutC F) (c : Dev nD) : Vec F S256x1024 .bf16 := snd18 PA P0 (par ⟨0, 1, 0⟩ c)

/-- The result after 19 exchanges. -/
def out19 (PA P0 : Dev nD → OutC F) (c : Dev nD) : OutC F :=
  (Memref.whole cc0_stg3_0).view.writes (Elt F) (out18 PA P0 c) [⟨Rect.unit (s := S1024x1024) (k0_off38 c) S256x1024.size (k0_off38_inb c),
    k0_pay89 (msg18 PA P0 c)⟩]

/-- The write that ends the exchange at place 18, folded. -/
theorem fold19 (PA P0 : Dev nD → OutC F) (c : Dev nD) :
    ((Memref.whole cc0_stg3_0).view.loc (c : Thread nD τ) ↦{fullShare} (Memref.whole cc0_stg3_0).view.writes (Elt F) (out18 PA P0 c) [⟨Rect.unit (s := S1024x1024) (k0_off38 c) S256x1024.size (k0_off38_inb c),
    k0_pay89 (msg18 PA P0 c)⟩] : sProp 𝕄)
      ⊢ ((Memref.whole cc0_stg3_0).view.loc (c : Thread nD τ) ↦{fullShare} out19 PA P0 c) := BI.Entails.refl _

/-- What device `c` sends in the exchange at place 19. -/
def snd19 (PA P0 : Dev nD → OutC F) (c : Dev nD) : Vec F S256x1024 .bf16 :=
  k0_pay88 ((Memref.whole cc0_stg3_0).view.readAt (Elt F) (Rect.unit (s := S1024x1024) (k0_off37 c) S256x1024.size (k0_off37_inb c)).toLoadRect (out18 PA P0 c))

/-- The message of the exchange at place 19. -/
def msg19 (PA P0 : Dev nD → OutC F) (c : Dev nD) : Vec F S256x1024 .bf16 := snd19 PA P0 (par ⟨1, 1, 0⟩ c)

/-- The result after 20 exchanges. -/
def out20 (PA P0 : Dev nD → OutC F) (c : Dev nD) : OutC F :=
  (Memref.whole cc0_stg3_0).view.writes (Elt F) (out19 PA P0 c) [⟨Rect.unit (s := S1024x1024) (k0_off39 c) S256x1024.size (k0_off39_inb c),
    k0_pay1 (msg19 PA P0 c)⟩]

/-- The write that ends the exchange at place 19, folded. -/
theorem fold20 (PA P0 : Dev nD → OutC F) (c : Dev nD) :
    ((Memref.whole cc0_stg3_0).view.loc (c : Thread nD τ) ↦{fullShare} (Memref.whole cc0_stg3_0).view.writes (Elt F) (out19 PA P0 c) [⟨Rect.unit (s := S1024x1024) (k0_off39 c) S256x1024.size (k0_off39_inb c),
    k0_pay1 (msg19 PA P0 c)⟩] : sProp 𝕄)
      ⊢ ((Memref.whole cc0_stg3_0).view.loc (c : Thread nD τ) ↦{fullShare} out20 PA P0 c) := BI.Entails.refl _

/-- The messages of all exchanges. -/
abbrev msgs (PA P0 : Dev nD → OutC F) : Msgs F := fun e => match e with
  | ⟨0, 0, 0⟩ => msg0 PA P0
  | ⟨1, 0, 0⟩ => msg1 PA P0
  | ⟨0, 0, 1⟩ => msg2 PA P0
  | ⟨1, 0, 1⟩ => msg3 PA P0
  | ⟨0, 0, 2⟩ => msg4 PA P0
  | ⟨1, 0, 2⟩ => msg5 PA P0
  | ⟨0, 0, 3⟩ => msg6 PA P0
  | ⟨1, 0, 3⟩ => msg7 PA P0
  | ⟨0, 0, 4⟩ => msg8 PA P0
  | ⟨1, 0, 4⟩ => msg9 PA P0
  | ⟨0, 1, 4⟩ => msg10 PA P0
  | ⟨1, 1, 4⟩ => msg11 PA P0
  | ⟨0, 1, 3⟩ => msg12 PA P0
  | ⟨1, 1, 3⟩ => msg13 PA P0
  | ⟨0, 1, 2⟩ => msg14 PA P0
  | ⟨1, 1, 2⟩ => msg15 PA P0
  | ⟨0, 1, 1⟩ => msg16 PA P0
  | ⟨1, 1, 1⟩ => msg17 PA P0
  | ⟨0, 1, 0⟩ => msg18 PA P0
  | ⟨1, 1, 0⟩ => msg19 PA P0

theorem sent0 (PA P0 : Dev nD → OutC F) (c : Dev nD) : msgs PA P0 ⟨0, 0, 0⟩ (par ⟨0, 0, 0⟩ c) = snd0 PA P0 c :=
  congrArg (snd0 PA P0) (par_par ⟨0, 0, 0⟩ c)

theorem sent1 (PA P0 : Dev nD → OutC F) (c : Dev nD) : msgs PA P0 ⟨1, 0, 0⟩ (par ⟨1, 0, 0⟩ c) = snd1 PA P0 c :=
  congrArg (snd1 PA P0) (par_par ⟨1, 0, 0⟩ c)

theorem sent2 (PA P0 : Dev nD → OutC F) (c : Dev nD) : msgs PA P0 ⟨0, 0, 1⟩ (par ⟨0, 0, 1⟩ c) = snd2 PA P0 c :=
  congrArg (snd2 PA P0) (par_par ⟨0, 0, 1⟩ c)

theorem sent3 (PA P0 : Dev nD → OutC F) (c : Dev nD) : msgs PA P0 ⟨1, 0, 1⟩ (par ⟨1, 0, 1⟩ c) = snd3 PA P0 c :=
  congrArg (snd3 PA P0) (par_par ⟨1, 0, 1⟩ c)

theorem sent4 (PA P0 : Dev nD → OutC F) (c : Dev nD) : msgs PA P0 ⟨0, 0, 2⟩ (par ⟨0, 0, 2⟩ c) = snd4 PA P0 c :=
  congrArg (snd4 PA P0) (par_par ⟨0, 0, 2⟩ c)

theorem sent5 (PA P0 : Dev nD → OutC F) (c : Dev nD) : msgs PA P0 ⟨1, 0, 2⟩ (par ⟨1, 0, 2⟩ c) = snd5 PA P0 c :=
  congrArg (snd5 PA P0) (par_par ⟨1, 0, 2⟩ c)

theorem sent6 (PA P0 : Dev nD → OutC F) (c : Dev nD) : msgs PA P0 ⟨0, 0, 3⟩ (par ⟨0, 0, 3⟩ c) = snd6 PA P0 c :=
  congrArg (snd6 PA P0) (par_par ⟨0, 0, 3⟩ c)

theorem sent7 (PA P0 : Dev nD → OutC F) (c : Dev nD) : msgs PA P0 ⟨1, 0, 3⟩ (par ⟨1, 0, 3⟩ c) = snd7 PA P0 c :=
  congrArg (snd7 PA P0) (par_par ⟨1, 0, 3⟩ c)

theorem sent8 (PA P0 : Dev nD → OutC F) (c : Dev nD) : msgs PA P0 ⟨0, 0, 4⟩ (par ⟨0, 0, 4⟩ c) = snd8 PA P0 c :=
  congrArg (snd8 PA P0) (par_par ⟨0, 0, 4⟩ c)

theorem sent9 (PA P0 : Dev nD → OutC F) (c : Dev nD) : msgs PA P0 ⟨1, 0, 4⟩ (par ⟨1, 0, 4⟩ c) = snd9 PA P0 c :=
  congrArg (snd9 PA P0) (par_par ⟨1, 0, 4⟩ c)

theorem sent10 (PA P0 : Dev nD → OutC F) (c : Dev nD) : msgs PA P0 ⟨0, 1, 4⟩ (par ⟨0, 1, 4⟩ c) = snd10 PA P0 c :=
  congrArg (snd10 PA P0) (par_par ⟨0, 1, 4⟩ c)

theorem sent11 (PA P0 : Dev nD → OutC F) (c : Dev nD) : msgs PA P0 ⟨1, 1, 4⟩ (par ⟨1, 1, 4⟩ c) = snd11 PA P0 c :=
  congrArg (snd11 PA P0) (par_par ⟨1, 1, 4⟩ c)

theorem sent12 (PA P0 : Dev nD → OutC F) (c : Dev nD) : msgs PA P0 ⟨0, 1, 3⟩ (par ⟨0, 1, 3⟩ c) = snd12 PA P0 c :=
  congrArg (snd12 PA P0) (par_par ⟨0, 1, 3⟩ c)

theorem sent13 (PA P0 : Dev nD → OutC F) (c : Dev nD) : msgs PA P0 ⟨1, 1, 3⟩ (par ⟨1, 1, 3⟩ c) = snd13 PA P0 c :=
  congrArg (snd13 PA P0) (par_par ⟨1, 1, 3⟩ c)

theorem sent14 (PA P0 : Dev nD → OutC F) (c : Dev nD) : msgs PA P0 ⟨0, 1, 2⟩ (par ⟨0, 1, 2⟩ c) = snd14 PA P0 c :=
  congrArg (snd14 PA P0) (par_par ⟨0, 1, 2⟩ c)

theorem sent15 (PA P0 : Dev nD → OutC F) (c : Dev nD) : msgs PA P0 ⟨1, 1, 2⟩ (par ⟨1, 1, 2⟩ c) = snd15 PA P0 c :=
  congrArg (snd15 PA P0) (par_par ⟨1, 1, 2⟩ c)

theorem sent16 (PA P0 : Dev nD → OutC F) (c : Dev nD) : msgs PA P0 ⟨0, 1, 1⟩ (par ⟨0, 1, 1⟩ c) = snd16 PA P0 c :=
  congrArg (snd16 PA P0) (par_par ⟨0, 1, 1⟩ c)

theorem sent17 (PA P0 : Dev nD → OutC F) (c : Dev nD) : msgs PA P0 ⟨1, 1, 1⟩ (par ⟨1, 1, 1⟩ c) = snd17 PA P0 c :=
  congrArg (snd17 PA P0) (par_par ⟨1, 1, 1⟩ c)

theorem sent18 (PA P0 : Dev nD → OutC F) (c : Dev nD) : msgs PA P0 ⟨0, 1, 0⟩ (par ⟨0, 1, 0⟩ c) = snd18 PA P0 c :=
  congrArg (snd18 PA P0) (par_par ⟨0, 1, 0⟩ c)

theorem sent19 (PA P0 : Dev nD → OutC F) (c : Dev nD) : msgs PA P0 ⟨1, 1, 0⟩ (par ⟨1, 1, 0⟩ c) = snd19 PA P0 c :=
  congrArg (snd19 PA P0) (par_par ⟨1, 1, 0⟩ c)

/-- The slice that step 0 of half 0 sends is what the stage was just filled with. -/
theorem staged00 (f : cc0_scratch2.ty.Contents (Elt F)) (v : Vec F S256x1024 .bf16) (ph : Fin 2) :
    (sM ⟨0, ph, 0⟩).view.read (Elt F) ((Memref.whole cc0_scratch2).view.writes (Elt F) f [⟨Rect.unit (s := S256x1024) ![0, 0] S256x1024.size inb_S256x1024_S256x1024_0_0, v⟩]) = v :=
  View.read_write_univ (v := (sM ⟨0, ph, 0⟩).view) f v

/-- The slice that step 1 of half 0 sends is what the stage was just filled with. -/
theorem staged01 (f : cc0_scratch2.ty.Contents (Elt F)) (v : Vec F S128x1024 .bf16) (ph : Fin 2) :
    (sM ⟨0, ph, 1⟩).view.read (Elt F) ((Memref.whole cc0_scratch2).view.writes (Elt F) f [⟨Rect.unit (s := S256x1024) ![0, 0] S128x1024.size inb_S256x1024_S128x1024_0_0, v⟩]) = v :=
  View.read_write_univ (v := (sM ⟨0, ph, 1⟩).view) f v

/-- The slice that step 2 of half 0 sends is what the stage was just filled with. -/
theorem staged02 (f : cc0_scratch2.ty.Contents (Elt F)) (v : Vec F S64x1024 .bf16) (ph : Fin 2) :
    (sM ⟨0, ph, 2⟩).view.read (Elt F) ((Memref.whole cc0_scratch2).view.writes (Elt F) f [⟨Rect.unit (s := S256x1024) ![0, 0] S64x1024.size inb_S256x1024_S64x1024_0_0, v⟩]) = v :=
  View.read_write_univ (v := (sM ⟨0, ph, 2⟩).view) f v

/-- The slice that step 3 of half 0 sends is what the stage was just filled with. -/
theorem staged03 (f : cc0_scratch2.ty.Contents (Elt F)) (v : Vec F S32x1024 .bf16) (ph : Fin 2) :
    (sM ⟨0, ph, 3⟩).view.read (Elt F) ((Memref.whole cc0_scratch2).view.writes (Elt F) f [⟨Rect.unit (s := S256x1024) ![0, 0] S32x1024.size inb_S256x1024_S32x1024_0_0, v⟩]) = v :=
  View.read_write_univ (v := (sM ⟨0, ph, 3⟩).view) f v

/-- The slice that step 4 of half 0 sends is what the stage was just filled with. -/
theorem staged04 (f : cc0_scratch2.ty.Contents (Elt F)) (v : Vec F S16x1024 .bf16) (ph : Fin 2) :
    (sM ⟨0, ph, 4⟩).view.read (Elt F) ((Memref.whole cc0_scratch2).view.writes (Elt F) f [⟨Rect.unit (s := S256x1024) ![0, 0] S16x1024.size inb_S256x1024_S16x1024_0_0, v⟩]) = v :=
  View.read_write_univ (v := (sM ⟨0, ph, 4⟩).view) f v

/-- The slice that step 0 of half 1 sends is what the stage was just filled with. -/
theorem staged10 (f : cc0_scratch5.ty.Contents (Elt F)) (v : Vec F S256x1024 .bf16) (ph : Fin 2) :
    (sM ⟨1, ph, 0⟩).view.read (Elt F) ((Memref.whole cc0_scratch5).view.writes (Elt F) f [⟨Rect.unit (s := S256x1024) ![0, 0] S256x1024.size inb_S256x1024_S256x1024_0_0, v⟩]) = v :=
  View.read_write_univ (v := (sM ⟨1, ph, 0⟩).view) f v

/-- The slice that step 1 of half 1 sends is what the stage was just filled with. -/
theorem staged11 (f : cc0_scratch5.ty.Contents (Elt F)) (v : Vec F S128x1024 .bf16) (ph : Fin 2) :
    (sM ⟨1, ph, 1⟩).view.read (Elt F) ((Memref.whole cc0_scratch5).view.writes (Elt F) f [⟨Rect.unit (s := S256x1024) ![0, 0] S128x1024.size inb_S256x1024_S128x1024_0_0, v⟩]) = v :=
  View.read_write_univ (v := (sM ⟨1, ph, 1⟩).view) f v

/-- The slice that step 2 of half 1 sends is what the stage was just filled with. -/
theorem staged12 (f : cc0_scratch5.ty.Contents (Elt F)) (v : Vec F S64x1024 .bf16) (ph : Fin 2) :
    (sM ⟨1, ph, 2⟩).view.read (Elt F) ((Memref.whole cc0_scratch5).view.writes (Elt F) f [⟨Rect.unit (s := S256x1024) ![0, 0] S64x1024.size inb_S256x1024_S64x1024_0_0, v⟩]) = v :=
  View.read_write_univ (v := (sM ⟨1, ph, 2⟩).view) f v

/-- The slice that step 3 of half 1 sends is what the stage was just filled with. -/
theorem staged13 (f : cc0_scratch5.ty.Contents (Elt F)) (v : Vec F S32x1024 .bf16) (ph : Fin 2) :
    (sM ⟨1, ph, 3⟩).view.read (Elt F) ((Memref.whole cc0_scratch5).view.writes (Elt F) f [⟨Rect.unit (s := S256x1024) ![0, 0] S32x1024.size inb_S256x1024_S32x1024_0_0, v⟩]) = v :=
  View.read_write_univ (v := (sM ⟨1, ph, 3⟩).view) f v

/-- The slice that step 4 of half 1 sends is what the stage was just filled with. -/
theorem staged14 (f : cc0_scratch5.ty.Contents (Elt F)) (v : Vec F S16x1024 .bf16) (ph : Fin 2) :
    (sM ⟨1, ph, 4⟩).view.read (Elt F) ((Memref.whole cc0_scratch5).view.writes (Elt F) f [⟨Rect.unit (s := S256x1024) ![0, 0] S16x1024.size inb_S256x1024_S16x1024_0_0, v⟩]) = v :=
  View.read_write_univ (v := (sM ⟨1, ph, 4⟩).view) f v

end Cert.KernelIdeal.Bfly
-- ==== Proof.Tails.lean ====
module

public import proofs.«01_k».proof.Proof.Proto
public import proofs.«01_k».proof.Proof.Gen.KernelIdeal.Skeleton

/-! # The kernel body cut into consecutive stretches

`tailN` is the body from its part `N` on, on the buffers the kernel is called with. -/

@[expose] public section

noncomputable section

namespace Cert.KernelIdeal.Bfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen

variable {F : FTy → Type} [FloatOps F] [Named F]

/-- The body from its part 47 on. -/
def tail47 (c : Dev nD) (v57 : BitVec 32) (v64 : BitVec 32) (v71 : BitVec 32) (v72 : BitVec 32) (v1435 : BitVec 32) (v1474 : BitVec 32) :
    Prog (TpuEff nD τ sig (Elt F) Λ₀ .tc) (Σ' (d0 : Dev nD) (v71 : BitVec 32) (v72 : BitVec 32), BitVec 32) := do
  let v1513 : BitVec 32 ← k0_part47_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 c v64 v71 v72 v1435
  let ⟨v1552, v1556⟩ : Σ' (v1552 : BitVec 32), Vec F S256x1024 .f32 ← k0_part48_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 c v57 v64 v1474
  let ⟨v1580, v1583⟩ : Σ' (v1580 : BitVec 32), BitVec 32 ← k0_part49_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 c v57 v64 v71 v1513 v1556
  let v1586 : Vec F S256x1024 .bf16 ← Prog.lift (.load (Memref.whole cc0_scratch1) (Rect.unit (s := S496x1024) ![0, 0] S256x1024.size inb_S496x1024_S256x1024_0_0).toLoadRect (View.loadsAt_vmem h_S256x1024))
  let v1589 : Vec F S256x1024 .f32 ← Prog.lift (.load (Memref.whole cc0_stg3_0) (Rect.unit (s := S1024x1024) (k0_off38 c) S256x1024.size (k0_off38_inb c)).toLoadRect (View.loadsAt_vmem h_S256x1024))
  Prog.lift (.store (Memref.whole cc0_stg3_0) (Rect.unit (s := S1024x1024) (k0_off38 c) S256x1024.size (k0_off38_inb c)) (k0_pay89 v1586) Finset.univ (View.stores_vmem_bits_univ h_S256x1024 rfl) (.inl rfl))
  pure ⟨c, v71, v72, v1552⟩

/-- The body from its part 44 on. -/
def tail44 (c : Dev nD) (v57 : BitVec 32) (v64 : BitVec 32) (v71 : BitVec 32) (v72 : BitVec 32) (v79 : BitVec 32) (v80 : BitVec 32) (v111 : BitVec 32) (v128 : BitVec 32) (v1357 : BitVec 32) (v1396 : BitVec 32) :
    Prog (TpuEff nD τ sig (Elt F) Λ₀ .tc) (Σ' (d0 : Dev nD) (v71 : BitVec 32) (v72 : BitVec 32), BitVec 32) := do
  let ⟨v1435, v1437⟩ : Σ' (v1435 : BitVec 32), BitVec 32 ← k0_part44_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 c v79 v80 v1357
  let ⟨v1463, v1464, c1_i32_1054⟩ : Σ' (v1463 : BitVec 32) (v1464 : BitVec 32), BitVec 32 ← k0_part45_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 c v71 v111 v128 v1396 v1437
  let v1474 : BitVec 32 ← k0_part46_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 c v64 v128 v1396 v1463 v1464 c1_i32_1054
  tail47 c v57 v64 v71 v72 v1435 v1474

/-- The body from its part 41 on. -/
def tail41 (c : Dev nD) (v57 : BitVec 32) (v64 : BitVec 32) (v71 : BitVec 32) (v72 : BitVec 32) (v79 : BitVec 32) (v80 : BitVec 32) (v87 : BitVec 32) (v104 : BitVec 32) (v111 : BitVec 32) (v128 : BitVec 32) (v1279 : BitVec 32) (v1318 : BitVec 32) :
    Prog (TpuEff nD τ sig (Elt F) Λ₀ .tc) (Σ' (d0 : Dev nD) (v71 : BitVec 32) (v72 : BitVec 32), BitVec 32) := do
  let v1346 : BitVec 32 ← k0_part41_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 c v79 v87 v1279 v1318
  let v1357 : BitVec 32 ← k0_part42_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 c v79 v104 v1279 v1346
  let v1396 : BitVec 32 ← k0_part43_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 c v79 v80 v111 v1318
  tail44 c v57 v64 v71 v72 v79 v80 v111 v128 v1357 v1396

/-- The body from its part 38 on. -/
def tail38 (c : Dev nD) (v57 : BitVec 32) (v64 : BitVec 32) (v71 : BitVec 32) (v72 : BitVec 32) (v79 : BitVec 32) (v80 : BitVec 32) (v87 : BitVec 32) (v104 : BitVec 32) (v111 : BitVec 32) (v128 : BitVec 32) (v1141 : BitVec 32) (v1183 : BitVec 32) :
    Prog (TpuEff nD τ sig (Elt F) Λ₀ .tc) (Σ' (d0 : Dev nD) (v71 : BitVec 32) (v72 : BitVec 32), BitVec 32) := do
  k0_part38_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 c v87 v1183
  let ⟨v1279, v1289, c0_i32_892⟩ : Σ' (v1279 : BitVec 32) (v1289 : BitVec 32), BitVec 32 ← k0_part39_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 c v87 v111 v128 v1141
  let v1318 : BitVec 32 ← k0_part40_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 c v87 v104 v1183 v1289 c0_i32_892
  tail41 c v57 v64 v71 v72 v79 v80 v87 v104 v111 v128 v1279 v1318

/-- The body from its part 34 on. -/
def tail34 (c : Dev nD) (v57 : BitVec 32) (v64 : BitVec 32) (v71 : BitVec 32) (v72 : BitVec 32) (v79 : BitVec 32) (v80 : BitVec 32) (v87 : BitVec 32) (v104 : BitVec 32) (v111 : BitVec 32) (v128 : BitVec 32) (v1057 : BitVec 32) (v1099 : BitVec 32) :
    Prog (TpuEff nD τ sig (Elt F) Λ₀ .tc) (Σ' (d0 : Dev nD) (v71 : BitVec 32) (v72 : BitVec 32), BitVec 32) := do
  k0_part34_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 c v111 v128 v1057
  let ⟨v1141, v1170⟩ : Σ' (v1141 : BitVec 32), FVec F S16x1024 .bf16 ← k0_part35_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 c v79 v104 v128 v1057 v1099
  let ⟨v1183, v1195, v1198⟩ : Σ' (v1183 : BitVec 32) (v1195 : BitVec 32), FVec F S16x1024 .f32 ← k0_part36_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 c v87 v104 v111 v1099 v1141 v1170
  k0_part37_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 c v87 v111 v1141 v1195 v1198
  tail38 c v57 v64 v71 v72 v79 v80 v87 v104 v111 v128 v1141 v1183

/-- The body from its part 31 on. -/
def tail31 (c : Dev nD) (v57 : BitVec 32) (v64 : BitVec 32) (v71 : BitVec 32) (v72 : BitVec 32) (v79 : BitVec 32) (v80 : BitVec 32) (v87 : BitVec 32) (v104 : BitVec 32) (v111 : BitVec 32) (v128 : BitVec 32) (v973 : BitVec 32) (v1015 : BitVec 32) :
    Prog (TpuEff nD τ sig (Elt F) Λ₀ .tc) (Σ' (d0 : Dev nD) (v71 : BitVec 32) (v72 : BitVec 32), BitVec 32) := do
  k0_part31_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 c v79 v104 v973
  let ⟨v1057, v1075⟩ : Σ' (v1057 : BitVec 32), FVec F S64x1024 .f32 ← k0_part32_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 c v87 v104 v111 v973 v1015
  let v1099 : BitVec 32 ← k0_part33_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 c v79 v80 v87 v1015 v1075
  tail34 c v57 v64 v71 v72 v79 v80 v87 v104 v111 v128 v1057 v1099

/-- The body from its part 28 on. -/
def tail28 (c : Dev nD) (v57 : BitVec 32) (v64 : BitVec 32) (v71 : BitVec 32) (v72 : BitVec 32) (v79 : BitVec 32) (v80 : BitVec 32) (v87 : BitVec 32) (v104 : BitVec 32) (v111 : BitVec 32) (v128 : BitVec 32) (v847 : BitVec 32) (v889 : BitVec 32) :
    Prog (TpuEff nD τ sig (Elt F) Λ₀ .tc) (Σ' (d0 : Dev nD) (v71 : BitVec 32) (v72 : BitVec 32), BitVec 32) := do
  let ⟨v931, v952, v953⟩ : Σ' (v931 : BitVec 32) (v952 : BitVec 32), BitVec 32 ← k0_part28_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 c v57 v71 v80 v847 v889
  let v973 : BitVec 32 ← k0_part29_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 c v64 v79 v80 v889 v952 v953
  let v1015 : BitVec 32 ← k0_part30_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 c v111 v128 v931
  tail31 c v57 v64 v71 v72 v79 v80 v87 v104 v111 v128 v973 v1015

/-- The body from its part 25 on. -/
def tail25 (c : Dev nD) (v57 : BitVec 32) (v64 : BitVec 32) (v71 : BitVec 32) (v72 : BitVec 32) (v79 : BitVec 32) (v80 : BitVec 32) (v87 : BitVec 32) (v104 : BitVec 32) (v111 : BitVec 32) (v128 : BitVec 32) (v647 : BitVec 32) (v832 : Vec F S256x1024 .f32) :
    Prog (TpuEff nD τ sig (Elt F) Λ₀ .tc) (Σ' (d0 : Dev nD) (v71 : BitVec 32) (v72 : BitVec 32), BitVec 32) := do
  let ⟨v847, v859⟩ : Σ' (v847 : BitVec 32), BitVec 32 ← k0_part25_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 c v64 v71 v72 v647 v832
  let v889 : BitVec 32 ← k0_part26_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 c v71 v72 v647 v859
  k0_part27_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 c v57 v64 v71 v847
  tail28 c v57 v64 v71 v72 v79 v80 v87 v104 v111 v128 v847 v889

/-- The body from its part 20 on. -/
def tail20 (c : Dev nD) (v57 : BitVec 32) (v64 : BitVec 32) (v71 : BitVec 32) (v72 : BitVec 32) (v79 : BitVec 32) (v80 : BitVec 32) (v87 : BitVec 32) (v104 : BitVec 32) (v111 : BitVec 32) (v128 : BitVec 32) (v647 : BitVec 32) (v649 : FVec F S512x1024 .bf16) :
    Prog (TpuEff nD τ sig (Elt F) Λ₀ .tc) (Σ' (d0 : Dev nD) (v71 : BitVec 32) (v72 : BitVec 32), BitVec 32) := do
  let ⟨v653, v678, v683, v685, v686⟩ : Σ' (v653 : FVec F S512x1024 .bf16) (v678 : FVec F S1024x128 .bf16) (v683 : FVec F S512x1024 .f32) (v685 : FVec F S512x1 .f32), FVec F S512x1 .f32 ← k0_part20_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 v649
  let ⟨v720, v722⟩ : Σ' (v720 : FVec F S1024x128 .bf16), FVec F S512x1024 .f32 ← k0_part21_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 v653 v678 v683 v685 v686
  let v760 : FVec F S1024x128 .bf16 ← k0_part22_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 v653 v720 v722
  let ⟨v797, v798⟩ : Σ' (v797 : FVec F S512x128 .bf16), Vec F S512x128 .bf16 ← k0_part23_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 v653 v760
  let v832 : Vec F S256x1024 .f32 ← k0_part24_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 c v72 v653 v797 v798
  tail25 c v57 v64 v71 v72 v79 v80 v87 v104 v111 v128 v647 v832

/-- The body from its part 15 on. -/
def tail15 (c : Dev nD) (v57 : BitVec 32) (v64 : BitVec 32) (v71 : BitVec 32) (v72 : BitVec 32) (v79 : BitVec 32) (v80 : BitVec 32) (v87 : BitVec 32) (v104 : BitVec 32) (v111 : BitVec 32) (v128 : BitVec 32) (v453 : FVec F S512x1024 .bf16) (v471 : FVec F S512x128 .bf16) :
    Prog (TpuEff nD τ sig (Elt F) Λ₀ .tc) (Σ' (d0 : Dev nD) (v71 : BitVec 32) (v72 : BitVec 32), BitVec 32) := do
  let ⟨v499, v504, v508⟩ : Σ' (v499 : FVec F S512x128 .bf16) (v504 : FVec F S512x512 .f32), FVec F S512x1 .f32 ← k0_part15_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 v453 v471
  let ⟨v541, v543, v544⟩ : Σ' (v541 : FVec F S512x128 .bf16) (v543 : FVec F S512x512 .f32), Vec F S512x512 .f32 ← k0_part16_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 v453 v499 v504 v508
  let v581 : FVec F S512x128 .bf16 ← k0_part17_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 v453 v541 v543 v544
  let v618 : FVec F S512x128 .bf16 ← k0_part18_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 v453 v581
  let ⟨v647, v649⟩ : Σ' (v647 : BitVec 32), FVec F S512x1024 .bf16 ← k0_part19_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 c v57 v64 v618
  tail20 c v57 v64 v71 v72 v79 v80 v87 v104 v111 v128 v647 v649

/-- The body from its part 9 on. -/
def tail9 (c : Dev nD) (v57 : BitVec 32) (v64 : BitVec 32) (v71 : BitVec 32) (v72 : BitVec 32) (v79 : BitVec 32) (v80 : BitVec 32) (v87 : BitVec 32) (v104 : BitVec 32) (v111 : BitVec 32) (v128 : BitVec 32) (v252 : IVec S512x512 32) (c64_i32 : BitVec 32) (v254 : IVec S512x512 32) (v257 : IVec S512x512 32) (v260 : IVec S512x512 32) :
    Prog (TpuEff nD τ sig (Elt F) Λ₀ .tc) (Σ' (d0 : Dev nD) (v71 : BitVec 32) (v72 : BitVec 32), BitVec 32) := do
  let v305 : FVec F S512x512 .f32 ← k0_part9_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 v252 c64_i32 v254 v257 v260
  let ⟨v335, v336, c64_i32_191, v338, v345, v351⟩ : Σ' (v335 : IVec S512x1024 32) (v336 : IVec S512x1024 32) (c64_i32_191 : BitVec 32) (v338 : IVec S512x1024 32) (v345 : IVec S512x1024 32), IVec S512x1024 32 ← k0_part10_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 v305
  k0_part11_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 c v335 v336 c64_i32_191 v338 v345 v351
  k0_part12_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 c
  k0_part13_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 c
  let ⟨v453, v471⟩ : Σ' (v453 : FVec F S512x1024 .bf16), FVec F S512x128 .bf16 ← k0_part14_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 c
  tail15 c v57 v64 v71 v72 v79 v80 v87 v104 v111 v128 v453 v471

/-- The body from its part 1 on. -/
def tail1 :
    Prog (TpuEff nD τ sig (Elt F) Λ₀ .tc) (Σ' (d0 : Dev nD) (v71 : BitVec 32) (v72 : BitVec 32), BitVec 32) := do
  let ⟨d0, v2, v19, v29, c2_i32, v30, v35, v37, v38⟩ : Σ' (d0 : Dev nD) (v2 : BitVec 32) (v19 : BitVec 32) (v29 : BitVec 32) (c2_i32 : BitVec 32) (v30 : BitVec 32) (v35 : BitVec 32) (v37 : BitVec 32), BitVec 1 ← k0_part1_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19
  let ⟨v46, v57, v64, v71, v72, v76, v77⟩ : Σ' (v46 : BitVec 32) (v57 : BitVec 32) (v64 : BitVec 32) (v71 : BitVec 32) (v72 : BitVec 32) (v76 : BitVec 32), BitVec 32 ← k0_part2_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 v19 v29 c2_i32 v30 v35 v37 v38
  let ⟨v79, v80, v87, v104, v111, c2_i32_52, v112, v117, c0_i32_55⟩ : Σ' (v79 : BitVec 32) (v80 : BitVec 32) (v87 : BitVec 32) (v104 : BitVec 32) (v111 : BitVec 32) (c2_i32_52 : BitVec 32) (v112 : BitVec 32) (v117 : BitVec 32), BitVec 32 ← k0_part3_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 v19 v46 v57 v76 v77
  let ⟨v128, c8_i32_79⟩ : Σ' (v128 : BitVec 32), BitVec 32 ← k0_part4_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 d0 v2 v19 c2_i32_52 v112 v117 c0_i32_55
  let c8_i32_101 : BitVec 32 ← k0_part5_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 d0 v2 c8_i32_79
  let c8_i32_124 : BitVec 32 ← k0_part6_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 d0 v2 c8_i32_101
  let c8_i32_146 : BitVec 32 ← k0_part7_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 d0 v2 c8_i32_124
  let ⟨v252, c64_i32, v254, v257, v260⟩ : Σ' (v252 : IVec S512x512 32) (c64_i32 : BitVec 32) (v254 : IVec S512x512 32) (v257 : IVec S512x512 32), IVec S512x512 32 ← k0_part8_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 d0 v2 v64 v71 v79 v87 v111 c8_i32_146
  tail9 d0 v57 v64 v71 v72 v79 v80 v87 v104 v111 v128 v252 c64_i32 v254 v257 v260

/-- The part that holds all but the last exchange is the first stretch. -/
theorem part50_eq : k0_part50 (F := F) (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 = tail1 := by
  rw [k0_part50_eq_skeleton]
  rfl

end Cert.KernelIdeal.Bfly
-- ==== Proof.KV.lean ====
module

public import proofs.«01_k».proof.Proof.Exch
public import proofs.«01_k».proof.Proof.Partners
public import proofs.«01_k».proof.Proof.Gen.KernelIdeal.Skeleton
public import Idealize.ShloMosaic.Lib.VecWindow
public import Idealize.ShloMosaic.Lib.Pipeline.ValueKit.Geometry
public import Idealize.ShloMosaic.Lib.Writes

/-! # The copies of the key and value heads, and the barrier -/

@[expose] public section

noncomputable section

namespace Cert.KernelIdeal.Bfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen

variable {F : FTy → Type} [FloatOps F] [Named F]

local notation "𝕄" => MT nD τ sig Unit (Elt F) ℕ UU ℕ

/-- The columns of head `h` in a buffer of eight heads. -/
abbrev kcol (M : Memref sig .tc .vmem S1024x1024 .f32) : (h : Fin 8) → Memref sig .tc .vmem S1024x128 .f32
  | 0 => M.slice (Rect.unit (s := S1024x1024) ![0, 0] S1024x128.size inb_S1024x1024_S1024x128_0_0) (fun _ => rfl)
  | 1 => M.slice (Rect.unit (s := S1024x1024) ![0, 128] S1024x128.size inb_S1024x1024_S1024x128_0_128) (fun _ => rfl)
  | 2 => M.slice (Rect.unit (s := S1024x1024) ![0, 256] S1024x128.size inb_S1024x1024_S1024x128_0_256) (fun _ => rfl)
  | 3 => M.slice (Rect.unit (s := S1024x1024) ![0, 384] S1024x128.size inb_S1024x1024_S1024x128_0_384) (fun _ => rfl)
  | 4 => M.slice (Rect.unit (s := S1024x1024) ![0, 512] S1024x128.size inb_S1024x1024_S1024x128_0_512) (fun _ => rfl)
  | 5 => M.slice (Rect.unit (s := S1024x1024) ![0, 640] S1024x128.size inb_S1024x1024_S1024x128_0_640) (fun _ => rfl)
  | 6 => M.slice (Rect.unit (s := S1024x1024) ![0, 768] S1024x128.size inb_S1024x1024_S1024x128_0_768) (fun _ => rfl)
  | 7 => M.slice (Rect.unit (s := S1024x1024) ![0, 896] S1024x128.size inb_S1024x1024_S1024x128_0_896) (fun _ => rfl)

/-- The buffer of the keys, and of the values. -/
abbrev kM : Memref sig .tc .vmem S1024x1024 .f32 := Memref.whole cc0_scratch9
abbrev vM : Memref sig .tc .vmem S1024x1024 .f32 := Memref.whole cc0_scratch10

/-- The columns of head `h`, at contents `f`. -/
abbrev kPts (M : Memref sig .tc .vmem S1024x1024 .f32) (h : Fin 8) (c : Dev nD) (f : Buf (Elt F) ((kcol M h).view.loc (c : Thread nD τ))) : sProp 𝕄 :=
  (kcol M h).view.loc (c : Thread nD τ) ↦[(kcol M h).view.set]{fullShare} f

/-- The semaphore of copy `i`. -/
abbrev ksem (i : Fin 16) : SemLoc sig := .dma ⟨4 + i.val, by have := i.isLt; show _ < 60; omega⟩

/-- Contents that read alike through a view are the same to whoever holds its elements. -/
theorem pts_of_read {sp : Space} {s : Shape} {e : EltTy} (v : View sig .tc sp s e) (c : Dev nD)
    {f g : Buf (Elt F) (v.loc (c : Thread nD τ))} (h : v.read (Elt F) f = v.read (Elt F) g) :
    (v.loc (c : Thread nD τ) ↦[v.set]{fullShare} f : sProp 𝕄) = (v.loc (c : Thread nD τ) ↦[v.set]{fullShare} g) := by
  refine pointsTo_congr fun i hi => ?_
  obtain ⟨x, -, rfl⟩ := Finset.mem_map.mp hi
  have := congrFun h x
  rw [View.read_apply, View.read_apply] at this
  exact (cast_inj _).mp this

/-- A view filled whole reads as what it was filled with. -/
theorem read_filled {κ : Kind} {sp : Space} {s : Shape} {e : EltTy} (v : View sig κ sp s e) (f : v.ty.Contents (Elt F)) (w : s.Idx → Elt F e) :
    v.read (Elt F) (v.writes (Elt F) f [⟨Rect.whole s, w⟩]) = w := View.read_writes_full v f _ w []

/-- A function of a head and a row and column of it, at the column of the buffer of all heads. -/
theorem colEq {α : Type} (g : Fin 8 → S1024x128.Idx → α) (i : S1024x1024.Idx) (h : Fin 8) (j : S1024x128.Idx)
    (e0 : (i 0).val = (j 0).val) (e1 : (i 1).val = 128 * h.val + (j 1).val) :
    g ⟨(i 1).val / 128, by have h : (i 1).val < 1024 := (i 1).isLt; omega⟩
      (fun a => match a with | ⟨0, _⟩ => i 0 | ⟨1, _⟩ => ⟨(i 1).val % 128, Nat.mod_lt _ (by decide)⟩) = g h j := by
  have h1 : (j 1).val < 128 := (j 1).isLt
  congr 1
  · apply Fin.ext; show _ / _ = _; omega
  · funext a
    match a with
    | ⟨0, _⟩ => exact Fin.ext e0
    | ⟨1, _⟩ => apply Fin.ext; show _ % _ = _; rw [e1]; show _ = (j 1).val; omega

/-- The keys of head `h` of device `c`, in the device's array of all heads. -/
abbrev kHead (c : Dev nD) (h : Fin 8) : Memref sig .tc .hbm S1024x128 .f32 :=
  ((Memref.whole main_v11).slice (Rect.unit (s := S1024x256x128) (k0_off1 c (BitVec.ofNat 32 h.val)) S1024x1x128.size (k0_off1_inb c h)) (fun _ => rfl)).squeeze S1024x128 squeezes_S1024x1x128_S1024x128

/-- What the buffer of the keys holds when the eight copies have landed. -/
def kBuf (x : main_v11.ty.Contents (Elt F)) (c : Dev nD) : cc0_scratch9.ty.Contents (Elt F) := fun i =>
  (kHead c ⟨(i 1).val / 128, by have h : (i 1).val < 1024 := (i 1).isLt; omega⟩).view.read (Elt F) x
    (fun a => match a with | ⟨0, _⟩ => i 0 | ⟨1, _⟩ => ⟨(i 1).val % 128, Nat.mod_lt _ (by decide)⟩)

theorem kBuf_read0 (x : main_v11.ty.Contents (Elt F)) (c : Dev nD) :
    (kcol kM 0).view.read (Elt F) (kBuf x c) = (kHead c 0).view.read (Elt F) x := by
  funext j
  have e0 := ValueKit.rect_emb_unit_val (s := S1024x1024) ![0, 0] S1024x128.size inb_S1024x1024_S1024x128_0_0 j 0
  have e1 := ValueKit.rect_emb_unit_val (s := S1024x1024) ![0, 0] S1024x128.size inb_S1024x1024_S1024x128_0_0 j 1
  exact colEq (fun h j => (kHead c h).view.read (Elt F) x j) _ 0 j (e0.trans (Nat.zero_add _)) e1

/-- Landed head 0, restated over the whole buffer's contents. -/
theorem kPts_landed0 (x : main_v11.ty.Contents (Elt F)) (c : Dev nD) (f : (kcol kM 0).view.ty.Contents (Elt F)) (w : S1024x128.Idx → Elt F .f32)
    (hw : w = (kHead c 0).view.read (Elt F) x) :
    (kPts kM 0 c ((kcol kM 0).view.writes (Elt F) f [⟨Rect.whole S1024x128, w⟩]) : sProp 𝕄)
      ⊢ kPts kM 0 c (kBuf x c) :=
  Entails.of_eq (pts_of_read _ c (((read_filled _ _ _).trans hw).trans (kBuf_read0 x c).symm))

theorem kBuf_read1 (x : main_v11.ty.Contents (Elt F)) (c : Dev nD) :
    (kcol kM 1).view.read (Elt F) (kBuf x c) = (kHead c 1).view.read (Elt F) x := by
  funext j
  have e0 := ValueKit.rect_emb_unit_val (s := S1024x1024) ![0, 128] S1024x128.size inb_S1024x1024_S1024x128_0_128 j 0
  have e1 := ValueKit.rect_emb_unit_val (s := S1024x1024) ![0, 128] S1024x128.size inb_S1024x1024_S1024x128_0_128 j 1
  exact colEq (fun h j => (kHead c h).view.read (Elt F) x j) _ 1 j (e0.trans (Nat.zero_add _)) e1

/-- Landed head 1, restated over the whole buffer's contents. -/
theorem kPts_landed1 (x : main_v11.ty.Contents (Elt F)) (c : Dev nD) (f : (kcol kM 1).view.ty.Contents (Elt F)) (w : S1024x128.Idx → Elt F .f32)
    (hw : w = (kHead c 1).view.read (Elt F) x) :
    (kPts kM 1 c ((kcol kM 1).view.writes (Elt F) f [⟨Rect.whole S1024x128, w⟩]) : sProp 𝕄)
      ⊢ kPts kM 1 c (kBuf x c) :=
  Entails.of_eq (pts_of_read _ c (((read_filled _ _ _).trans hw).trans (kBuf_read1 x c).symm))

theorem kBuf_read2 (x : main_v11.ty.Contents (Elt F)) (c : Dev nD) :
    (kcol kM 2).view.read (Elt F) (kBuf x c) = (kHead c 2).view.read (Elt F) x := by
  funext j
  have e0 := ValueKit.rect_emb_unit_val (s := S1024x1024) ![0, 256] S1024x128.size inb_S1024x1024_S1024x128_0_256 j 0
  have e1 := ValueKit.rect_emb_unit_val (s := S1024x1024) ![0, 256] S1024x128.size inb_S1024x1024_S1024x128_0_256 j 1
  exact colEq (fun h j => (kHead c h).view.read (Elt F) x j) _ 2 j (e0.trans (Nat.zero_add _)) e1

/-- Landed head 2, restated over the whole buffer's contents. -/
theorem kPts_landed2 (x : main_v11.ty.Contents (Elt F)) (c : Dev nD) (f : (kcol kM 2).view.ty.Contents (Elt F)) (w : S1024x128.Idx → Elt F .f32)
    (hw : w = (kHead c 2).view.read (Elt F) x) :
    (kPts kM 2 c ((kcol kM 2).view.writes (Elt F) f [⟨Rect.whole S1024x128, w⟩]) : sProp 𝕄)
      ⊢ kPts kM 2 c (kBuf x c) :=
  Entails.of_eq (pts_of_read _ c (((read_filled _ _ _).trans hw).trans (kBuf_read2 x c).symm))

theorem kBuf_read3 (x : main_v11.ty.Contents (Elt F)) (c : Dev nD) :
    (kcol kM 3).view.read (Elt F) (kBuf x c) = (kHead c 3).view.read (Elt F) x := by
  funext j
  have e0 := ValueKit.rect_emb_unit_val (s := S1024x1024) ![0, 384] S1024x128.size inb_S1024x1024_S1024x128_0_384 j 0
  have e1 := ValueKit.rect_emb_unit_val (s := S1024x1024) ![0, 384] S1024x128.size inb_S1024x1024_S1024x128_0_384 j 1
  exact colEq (fun h j => (kHead c h).view.read (Elt F) x j) _ 3 j (e0.trans (Nat.zero_add _)) e1

/-- Landed head 3, restated over the whole buffer's contents. -/
theorem kPts_landed3 (x : main_v11.ty.Contents (Elt F)) (c : Dev nD) (f : (kcol kM 3).view.ty.Contents (Elt F)) (w : S1024x128.Idx → Elt F .f32)
    (hw : w = (kHead c 3).view.read (Elt F) x) :
    (kPts kM 3 c ((kcol kM 3).view.writes (Elt F) f [⟨Rect.whole S1024x128, w⟩]) : sProp 𝕄)
      ⊢ kPts kM 3 c (kBuf x c) :=
  Entails.of_eq (pts_of_read _ c (((read_filled _ _ _).trans hw).trans (kBuf_read3 x c).symm))

theorem kBuf_read4 (x : main_v11.ty.Contents (Elt F)) (c : Dev nD) :
    (kcol kM 4).view.read (Elt F) (kBuf x c) = (kHead c 4).view.read (Elt F) x := by
  funext j
  have e0 := ValueKit.rect_emb_unit_val (s := S1024x1024) ![0, 512] S1024x128.size inb_S1024x1024_S1024x128_0_512 j 0
  have e1 := ValueKit.rect_emb_unit_val (s := S1024x1024) ![0, 512] S1024x128.size inb_S1024x1024_S1024x128_0_512 j 1
  exact colEq (fun h j => (kHead c h).view.read (Elt F) x j) _ 4 j (e0.trans (Nat.zero_add _)) e1

/-- Landed head 4, restated over the whole buffer's contents. -/
theorem kPts_landed4 (x : main_v11.ty.Contents (Elt F)) (c : Dev nD) (f : (kcol kM 4).view.ty.Contents (Elt F)) (w : S1024x128.Idx → Elt F .f32)
    (hw : w = (kHead c 4).view.read (Elt F) x) :
    (kPts kM 4 c ((kcol kM 4).view.writes (Elt F) f [⟨Rect.whole S1024x128, w⟩]) : sProp 𝕄)
      ⊢ kPts kM 4 c (kBuf x c) :=
  Entails.of_eq (pts_of_read _ c (((read_filled _ _ _).trans hw).trans (kBuf_read4 x c).symm))

theorem kBuf_read5 (x : main_v11.ty.Contents (Elt F)) (c : Dev nD) :
    (kcol kM 5).view.read (Elt F) (kBuf x c) = (kHead c 5).view.read (Elt F) x := by
  funext j
  have e0 := ValueKit.rect_emb_unit_val (s := S1024x1024) ![0, 640] S1024x128.size inb_S1024x1024_S1024x128_0_640 j 0
  have e1 := ValueKit.rect_emb_unit_val (s := S1024x1024) ![0, 640] S1024x128.size inb_S1024x1024_S1024x128_0_640 j 1
  exact colEq (fun h j => (kHead c h).view.read (Elt F) x j) _ 5 j (e0.trans (Nat.zero_add _)) e1

/-- Landed head 5, restated over the whole buffer's contents. -/
theorem kPts_landed5 (x : main_v11.ty.Contents (Elt F)) (c : Dev nD) (f : (kcol kM 5).view.ty.Contents (Elt F)) (w : S1024x128.Idx → Elt F .f32)
    (hw : w = (kHead c 5).view.read (Elt F) x) :
    (kPts kM 5 c ((kcol kM 5).view.writes (Elt F) f [⟨Rect.whole S1024x128, w⟩]) : sProp 𝕄)
      ⊢ kPts kM 5 c (kBuf x c) :=
  Entails.of_eq (pts_of_read _ c (((read_filled _ _ _).trans hw).trans (kBuf_read5 x c).symm))

theorem kBuf_read6 (x : main_v11.ty.Contents (Elt F)) (c : Dev nD) :
    (kcol kM 6).view.read (Elt F) (kBuf x c) = (kHead c 6).view.read (Elt F) x := by
  funext j
  have e0 := ValueKit.rect_emb_unit_val (s := S1024x1024) ![0, 768] S1024x128.size inb_S1024x1024_S1024x128_0_768 j 0
  have e1 := ValueKit.rect_emb_unit_val (s := S1024x1024) ![0, 768] S1024x128.size inb_S1024x1024_S1024x128_0_768 j 1
  exact colEq (fun h j => (kHead c h).view.read (Elt F) x j) _ 6 j (e0.trans (Nat.zero_add _)) e1

/-- Landed head 6, restated over the whole buffer's contents. -/
theorem kPts_landed6 (x : main_v11.ty.Contents (Elt F)) (c : Dev nD) (f : (kcol kM 6).view.ty.Contents (Elt F)) (w : S1024x128.Idx → Elt F .f32)
    (hw : w = (kHead c 6).view.read (Elt F) x) :
    (kPts kM 6 c ((kcol kM 6).view.writes (Elt F) f [⟨Rect.whole S1024x128, w⟩]) : sProp 𝕄)
      ⊢ kPts kM 6 c (kBuf x c) :=
  Entails.of_eq (pts_of_read _ c (((read_filled _ _ _).trans hw).trans (kBuf_read6 x c).symm))

theorem kBuf_read7 (x : main_v11.ty.Contents (Elt F)) (c : Dev nD) :
    (kcol kM 7).view.read (Elt F) (kBuf x c) = (kHead c 7).view.read (Elt F) x := by
  funext j
  have e0 := ValueKit.rect_emb_unit_val (s := S1024x1024) ![0, 896] S1024x128.size inb_S1024x1024_S1024x128_0_896 j 0
  have e1 := ValueKit.rect_emb_unit_val (s := S1024x1024) ![0, 896] S1024x128.size inb_S1024x1024_S1024x128_0_896 j 1
  exact colEq (fun h j => (kHead c h).view.read (Elt F) x j) _ 7 j (e0.trans (Nat.zero_add _)) e1

/-- Landed head 7, restated over the whole buffer's contents. -/
theorem kPts_landed7 (x : main_v11.ty.Contents (Elt F)) (c : Dev nD) (f : (kcol kM 7).view.ty.Contents (Elt F)) (w : S1024x128.Idx → Elt F .f32)
    (hw : w = (kHead c 7).view.read (Elt F) x) :
    (kPts kM 7 c ((kcol kM 7).view.writes (Elt F) f [⟨Rect.whole S1024x128, w⟩]) : sProp 𝕄)
      ⊢ kPts kM 7 c (kBuf x c) :=
  Entails.of_eq (pts_of_read _ c (((read_filled _ _ _).trans hw).trans (kBuf_read7 x c).symm))

/-- The values of head `h` of device `c`, in the device's array of all heads. -/
abbrev vHead (c : Dev nD) (h : Fin 8) : Memref sig .tc .hbm S1024x128 .f32 :=
  ((Memref.whole main_v12).slice (Rect.unit (s := S1024x256x128) (k0_off1 c (BitVec.ofNat 32 h.val)) S1024x1x128.size (k0_off1_inb c h)) (fun _ => rfl)).squeeze S1024x128 squeezes_S1024x1x128_S1024x128

/-- What the buffer of the values holds when the eight copies have landed. -/
def vBuf (x : main_v12.ty.Contents (Elt F)) (c : Dev nD) : cc0_scratch10.ty.Contents (Elt F) := fun i =>
  (vHead c ⟨(i 1).val / 128, by have h : (i 1).val < 1024 := (i 1).isLt; omega⟩).view.read (Elt F) x
    (fun a => match a with | ⟨0, _⟩ => i 0 | ⟨1, _⟩ => ⟨(i 1).val % 128, Nat.mod_lt _ (by decide)⟩)

theorem vBuf_read0 (x : main_v12.ty.Contents (Elt F)) (c : Dev nD) :
    (kcol vM 0).view.read (Elt F) (vBuf x c) = (vHead c 0).view.read (Elt F) x := by
  funext j
  have e0 := ValueKit.rect_emb_unit_val (s := S1024x1024) ![0, 0] S1024x128.size inb_S1024x1024_S1024x128_0_0 j 0
  have e1 := ValueKit.rect_emb_unit_val (s := S1024x1024) ![0, 0] S1024x128.size inb_S1024x1024_S1024x128_0_0 j 1
  exact colEq (fun h j => (vHead c h).view.read (Elt F) x j) _ 0 j (e0.trans (Nat.zero_add _)) e1

/-- Landed head 0, restated over the whole buffer's contents. -/
theorem vPts_landed0 (x : main_v12.ty.Contents (Elt F)) (c : Dev nD) (f : (kcol vM 0).view.ty.Contents (Elt F)) (w : S1024x128.Idx → Elt F .f32)
    (hw : w = (vHead c 0).view.read (Elt F) x) :
    (kPts vM 0 c ((kcol vM 0).view.writes (Elt F) f [⟨Rect.whole S1024x128, w⟩]) : sProp 𝕄)
      ⊢ kPts vM 0 c (vBuf x c) :=
  Entails.of_eq (pts_of_read _ c (((read_filled _ _ _).trans hw).trans (vBuf_read0 x c).symm))

theorem vBuf_read1 (x : main_v12.ty.Contents (Elt F)) (c : Dev nD) :
    (kcol vM 1).view.read (Elt F) (vBuf x c) = (vHead c 1).view.read (Elt F) x := by
  funext j
  have e0 := ValueKit.rect_emb_unit_val (s := S1024x1024) ![0, 128] S1024x128.size inb_S1024x1024_S1024x128_0_128 j 0
  have e1 := ValueKit.rect_emb_unit_val (s := S1024x1024) ![0, 128] S1024x128.size inb_S1024x1024_S1024x128_0_128 j 1
  exact colEq (fun h j => (vHead c h).view.read (Elt F) x j) _ 1 j (e0.trans (Nat.zero_add _)) e1

/-- Landed head 1, restated over the whole buffer's contents. -/
theorem vPts_landed1 (x : main_v12.ty.Contents (Elt F)) (c : Dev nD) (f : (kcol vM 1).view.ty.Contents (Elt F)) (w : S1024x128.Idx → Elt F .f32)
    (hw : w = (vHead c 1).view.read (Elt F) x) :
    (kPts vM 1 c ((kcol vM 1).view.writes (Elt F) f [⟨Rect.whole S1024x128, w⟩]) : sProp 𝕄)
      ⊢ kPts vM 1 c (vBuf x c) :=
  Entails.of_eq (pts_of_read _ c (((read_filled _ _ _).trans hw).trans (vBuf_read1 x c).symm))

theorem vBuf_read2 (x : main_v12.ty.Contents (Elt F)) (c : Dev nD) :
    (kcol vM 2).view.read (Elt F) (vBuf x c) = (vHead c 2).view.read (Elt F) x := by
  funext j
  have e0 := ValueKit.rect_emb_unit_val (s := S1024x1024) ![0, 256] S1024x128.size inb_S1024x1024_S1024x128_0_256 j 0
  have e1 := ValueKit.rect_emb_unit_val (s := S1024x1024) ![0, 256] S1024x128.size inb_S1024x1024_S1024x128_0_256 j 1
  exact colEq (fun h j => (vHead c h).view.read (Elt F) x j) _ 2 j (e0.trans (Nat.zero_add _)) e1

/-- Landed head 2, restated over the whole buffer's contents. -/
theorem vPts_landed2 (x : main_v12.ty.Contents (Elt F)) (c : Dev nD) (f : (kcol vM 2).view.ty.Contents (Elt F)) (w : S1024x128.Idx → Elt F .f32)
    (hw : w = (vHead c 2).view.read (Elt F) x) :
    (kPts vM 2 c ((kcol vM 2).view.writes (Elt F) f [⟨Rect.whole S1024x128, w⟩]) : sProp 𝕄)
      ⊢ kPts vM 2 c (vBuf x c) :=
  Entails.of_eq (pts_of_read _ c (((read_filled _ _ _).trans hw).trans (vBuf_read2 x c).symm))

theorem vBuf_read3 (x : main_v12.ty.Contents (Elt F)) (c : Dev nD) :
    (kcol vM 3).view.read (Elt F) (vBuf x c) = (vHead c 3).view.read (Elt F) x := by
  funext j
  have e0 := ValueKit.rect_emb_unit_val (s := S1024x1024) ![0, 384] S1024x128.size inb_S1024x1024_S1024x128_0_384 j 0
  have e1 := ValueKit.rect_emb_unit_val (s := S1024x1024) ![0, 384] S1024x128.size inb_S1024x1024_S1024x128_0_384 j 1
  exact colEq (fun h j => (vHead c h).view.read (Elt F) x j) _ 3 j (e0.trans (Nat.zero_add _)) e1

/-- Landed head 3, restated over the whole buffer's contents. -/
theorem vPts_landed3 (x : main_v12.ty.Contents (Elt F)) (c : Dev nD) (f : (kcol vM 3).view.ty.Contents (Elt F)) (w : S1024x128.Idx → Elt F .f32)
    (hw : w = (vHead c 3).view.read (Elt F) x) :
    (kPts vM 3 c ((kcol vM 3).view.writes (Elt F) f [⟨Rect.whole S1024x128, w⟩]) : sProp 𝕄)
      ⊢ kPts vM 3 c (vBuf x c) :=
  Entails.of_eq (pts_of_read _ c (((read_filled _ _ _).trans hw).trans (vBuf_read3 x c).symm))

theorem vBuf_read4 (x : main_v12.ty.Contents (Elt F)) (c : Dev nD) :
    (kcol vM 4).view.read (Elt F) (vBuf x c) = (vHead c 4).view.read (Elt F) x := by
  funext j
  have e0 := ValueKit.rect_emb_unit_val (s := S1024x1024) ![0, 512] S1024x128.size inb_S1024x1024_S1024x128_0_512 j 0
  have e1 := ValueKit.rect_emb_unit_val (s := S1024x1024) ![0, 512] S1024x128.size inb_S1024x1024_S1024x128_0_512 j 1
  exact colEq (fun h j => (vHead c h).view.read (Elt F) x j) _ 4 j (e0.trans (Nat.zero_add _)) e1

/-- Landed head 4, restated over the whole buffer's contents. -/
theorem vPts_landed4 (x : main_v12.ty.Contents (Elt F)) (c : Dev nD) (f : (kcol vM 4).view.ty.Contents (Elt F)) (w : S1024x128.Idx → Elt F .f32)
    (hw : w = (vHead c 4).view.read (Elt F) x) :
    (kPts vM 4 c ((kcol vM 4).view.writes (Elt F) f [⟨Rect.whole S1024x128, w⟩]) : sProp 𝕄)
      ⊢ kPts vM 4 c (vBuf x c) :=
  Entails.of_eq (pts_of_read _ c (((read_filled _ _ _).trans hw).trans (vBuf_read4 x c).symm))

theorem vBuf_read5 (x : main_v12.ty.Contents (Elt F)) (c : Dev nD) :
    (kcol vM 5).view.read (Elt F) (vBuf x c) = (vHead c 5).view.read (Elt F) x := by
  funext j
  have e0 := ValueKit.rect_emb_unit_val (s := S1024x1024) ![0, 640] S1024x128.size inb_S1024x1024_S1024x128_0_640 j 0
  have e1 := ValueKit.rect_emb_unit_val (s := S1024x1024) ![0, 640] S1024x128.size inb_S1024x1024_S1024x128_0_640 j 1
  exact colEq (fun h j => (vHead c h).view.read (Elt F) x j) _ 5 j (e0.trans (Nat.zero_add _)) e1

/-- Landed head 5, restated over the whole buffer's contents. -/
theorem vPts_landed5 (x : main_v12.ty.Contents (Elt F)) (c : Dev nD) (f : (kcol vM 5).view.ty.Contents (Elt F)) (w : S1024x128.Idx → Elt F .f32)
    (hw : w = (vHead c 5).view.read (Elt F) x) :
    (kPts vM 5 c ((kcol vM 5).view.writes (Elt F) f [⟨Rect.whole S1024x128, w⟩]) : sProp 𝕄)
      ⊢ kPts vM 5 c (vBuf x c) :=
  Entails.of_eq (pts_of_read _ c (((read_filled _ _ _).trans hw).trans (vBuf_read5 x c).symm))

theorem vBuf_read6 (x : main_v12.ty.Contents (Elt F)) (c : Dev nD) :
    (kcol vM 6).view.read (Elt F) (vBuf x c) = (vHead c 6).view.read (Elt F) x := by
  funext j
  have e0 := ValueKit.rect_emb_unit_val (s := S1024x1024) ![0, 768] S1024x128.size inb_S1024x1024_S1024x128_0_768 j 0
  have e1 := ValueKit.rect_emb_unit_val (s := S1024x1024) ![0, 768] S1024x128.size inb_S1024x1024_S1024x128_0_768 j 1
  exact colEq (fun h j => (vHead c h).view.read (Elt F) x j) _ 6 j (e0.trans (Nat.zero_add _)) e1

/-- Landed head 6, restated over the whole buffer's contents. -/
theorem vPts_landed6 (x : main_v12.ty.Contents (Elt F)) (c : Dev nD) (f : (kcol vM 6).view.ty.Contents (Elt F)) (w : S1024x128.Idx → Elt F .f32)
    (hw : w = (vHead c 6).view.read (Elt F) x) :
    (kPts vM 6 c ((kcol vM 6).view.writes (Elt F) f [⟨Rect.whole S1024x128, w⟩]) : sProp 𝕄)
      ⊢ kPts vM 6 c (vBuf x c) :=
  Entails.of_eq (pts_of_read _ c (((read_filled _ _ _).trans hw).trans (vBuf_read6 x c).symm))

theorem vBuf_read7 (x : main_v12.ty.Contents (Elt F)) (c : Dev nD) :
    (kcol vM 7).view.read (Elt F) (vBuf x c) = (vHead c 7).view.read (Elt F) x := by
  funext j
  have e0 := ValueKit.rect_emb_unit_val (s := S1024x1024) ![0, 896] S1024x128.size inb_S1024x1024_S1024x128_0_896 j 0
  have e1 := ValueKit.rect_emb_unit_val (s := S1024x1024) ![0, 896] S1024x128.size inb_S1024x1024_S1024x128_0_896 j 1
  exact colEq (fun h j => (vHead c h).view.read (Elt F) x j) _ 7 j (e0.trans (Nat.zero_add _)) e1

/-- Landed head 7, restated over the whole buffer's contents. -/
theorem vPts_landed7 (x : main_v12.ty.Contents (Elt F)) (c : Dev nD) (f : (kcol vM 7).view.ty.Contents (Elt F)) (w : S1024x128.Idx → Elt F .f32)
    (hw : w = (vHead c 7).view.read (Elt F) x) :
    (kPts vM 7 c ((kcol vM 7).view.writes (Elt F) f [⟨Rect.whole S1024x128, w⟩]) : sProp 𝕄)
      ⊢ kPts vM 7 c (vBuf x c) :=
  Entails.of_eq (pts_of_read _ c (((read_filled _ _ _).trans hw).trans (vBuf_read7 x c).symm))

/-! ## The barrier -/

variable (K : GSem nD τ sig → ℕ) (msg : Msgs F)

/-- The dimensions from `n` on. -/
abbrev dimsFrom (n : ℕ) : Finset (Fin 5) := Finset.univ.filter fun d => n ≤ d.val

/-- What core `c` signals its neighbour in dimension `d` with. -/
def bres (d : Fin 5) (c : Dev nD) : sProp 𝕄 :=
  iprop(cellInv ER (Rd msg) (K (barCell (nb d c))) (barCell (nb d c)) ∗ dutyTok ER (barCell (nb d c)) 0 d
    ∗ reached ER (barCell (nb d c)) 0 ∗ grant ⟨0, 0, stepOf 0 d⟩ c ∗ grant ⟨0, 1, stepOf 0 d⟩ c
    ∗ grant ⟨1, 0, stepOf 1 d⟩ c ∗ grant ⟨1, 1, stepOf 1 d⟩ c)

/-- The signal to the neighbour in dimension `d` hands over the own landing slices of that dimension. -/
theorem barSig {α : Type} (d : Fin 5) {D D' : Finset (Fin 5)} (hD : D' = insert d D) (hd : d ∉ D) {c c' : Dev nD} (hc : c' = nb d c)
    {k : PUnit → Prog (TpuEff nD τ sig (Elt F) Λ₀ .tc) α} {Q : α → sProp 𝕄} {W : Waits sig Unit} :
    iprop(bres K msg d c ∗ owes (c : Thread nD τ) (owed 0 c + owedBar D' c) W)
      ⊢ iprop((owes (c : Thread nD τ) (owed 0 c + owedBar D c) W -∗ wp frame (wpE (defs₀ (F := F)) 𝒱₀ c none) Set.univ (k ⟨⟩) Q)
          -∗ wp frame (wpE (defs₀ (F := F)) 𝒱₀ c none) Set.univ (.op (.semSignal (c' : Thread nD τ) bSem 1) k) Q) := by
  subst hc hD
  unfold bres
  iintro ⟨⟨#HI, Ht, #Hr, Hg⟩, HO⟩ Hk
  iapply (Rounds.wp_signal 𝒱₀ ER (Rd msg) (c : Thread nD τ) none (dst := (nb d c : Thread nD τ)) (sem := bSem) (r := 0) (d := d)
      (κ := K (barCell (nb d c))) (by rw [duties_bar]; exact Finset.mem_univ _) (amount_bar msg (nb d c) d) ()
      (O₀ := owed 0 c + owedBar (insert d D) c) (owed 0 c + owedBar D c) (by rw [owedBar_split D d hd, add_assoc])) $$ [Ht HO Hg]
  · isplitr; · iexact HI
    isplitl [HO]; · iexact HO
    isplitl [Ht]; · iexact Ht
    isplitl [Hg]
    · rw [payload_bar]; unfold barPay; rw [nb_nb]; iexact Hg
    iexact Hr
  iexact Hk

/-- What core `c` waits at the barrier with. -/
def bwait (c : Dev nD) : sProp 𝕄 :=
  iprop(cellInv ER (Rd msg) (K (barCell c)) (barCell c) ∗ cred (tallyAt (barCell c) () 5) ∗ atPos ER (barCell c) 0 ∅ 0)

/-- The wait at the barrier brings the neighbours' landing slices. -/
theorem barWait {α : Type} {c : Dev nD}
    {k : PUnit → Prog (TpuEff nD τ sig (Elt F) Λ₀ .tc) α} {Q : α → sProp 𝕄} {W : Waits sig Unit} :
    iprop(levAts L lv ∗ bwait K msg c ∗ owes (c : Thread nD τ) (owed 0 c + owedBar (dimsFrom 5) c) W)
      ⊢ iprop((((barPay (F := F) 0 c ∗ barPay 1 c ∗ barPay 2 c ∗ barPay 3 c ∗ barPay 4 c) ∗ semVal (barCell c) 0
            ∗ owes (c : Thread nD τ) (owed 0 c) (insert (.reg bSem, ()) W))
            -∗ wp frame (wpE (defs₀ (F := F)) 𝒱₀ c none) Set.univ (k ⟨⟩) Q)
          -∗ wp frame (wpE (defs₀ (F := F)) 𝒱₀ c none) Set.univ (.op (.semWait bSem 5) k) Q) := by
  unfold bwait
  rw [show owed 0 c + owedBar (dimsFrom 5) c = owed 0 c from by unfold owedBar; rw [show dimsFrom 5 = ∅ from by decide, Finset.sum_empty, add_zero]]
  iintro ⟨#Hlev, ⟨#HI, Hc, Ha⟩, HO⟩ Hk
  iapply (Rounds.wp_wait_rest_token 𝒱₀ ER (Rd msg) (c : Thread nD τ) none (κ := K (barCell c))
      (wpE_semWait_eq 𝒱₀ (c : Thread nD τ) none Set.univ) (Set.mem_univ _) () (O := owed 0 c) (W := W) (R := 0) (m := 0) (T := ∅)
      ((Nat.zero_add _).trans (expect_bar msg c).symm)) $$ [Hc HO Ha]
  · isplitr; · iexact HI
    isplitl [Hc]; · iexact Hc
    isplitl [HO]; · iexact HO
    isplitr
    · iapply (mayWait (.reg bSem) 0 (Nat.le_refl _) c); iexact Hlev
    iexact Ha
  iintro ⟨HO, Ha, -, Hp⟩
  ihave Hp2 := (Entails.of_eq (rest_bar msg c)) $$ Hp
  imod (close msg (K (barCell c)) (barCell c)) $$ [Ha] with H0
  · isplitr; · iexact HI
    iexact Ha
  iapply Hk
  isplitl [Hp2]; · iexact Hp2
  isplitl [H0]; · iexact H0
  iexact HO

/-- The slices of the neighbour in dimension `d` are those of the partner in the exchange along it. -/
theorem grant_par (s ph : Fin 2) (d k : Fin 5) (hk : stepOf s d = k) (c : Dev nD) :
    grant (F := F) ⟨s, ph, stepOf s d⟩ (nb d c) = grant ⟨s, ph, k⟩ (par ⟨s, ph, k⟩ c) := by
  subst hk
  have : Ex.dim ⟨s, ph, stepOf s d⟩ = d := by revert s d ph; decide
  show _ = grant _ (nb (Ex.dim _) c)
  rw [this]

end Cert.KernelIdeal.Bfly
-- ==== Proof.KVW.lean ====
module

public import proofs.«01_k».proof.Proof.KV
public import proofs.«01_k».proof.Proof.Partners
public import proofs.«01_k».proof.Proof.Gen.KernelIdeal.Skeleton
public import Idealize.ShloMosaic.Lib.VecWindow
public import Idealize.ShloMosaic.Lib.Pipeline.ValueKit.Geometry
public import Idealize.ShloMosaic.Lib.Writes

/-! # The buffers of the keys and values as their eight heads -/

@[expose] public section

noncomputable section

namespace Cert.KernelIdeal.Bfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen

variable {F : FTy → Type} [FloatOps F] [Named F]

local notation "𝕄" => MT nD τ sig Unit (Elt F) ℕ UU ℕ

/-- The columns of head `h`. -/
def colSet (h : Fin 8) : Finset S1024x1024.Idx :=
  (Rect.unit (s := S1024x1024) ![0, 128 * h.val] S1024x128.size (by
    intro a; have := h.isLt
    match a with
    | ⟨0, _⟩ => show 0 + 1024 ≤ 1024; omega
    | ⟨1, _⟩ => show 128 * h.val + 128 ≤ 1024; omega)).set

theorem colSet_disjoint (h h' : Fin 8) (hne : h ≠ h') : Disjoint (colSet h) (colSet h') := by
  unfold colSet
  refine Rect.unit_disjoint 1 ?_
  have : h.val ≠ h'.val := fun e => hne (Fin.ext e)
  show 128 * h.val + 128 ≤ 128 * h'.val ∨ 128 * h'.val + 128 ≤ 128 * h.val
  omega

theorem colSet_cover : (Finset.univ : Finset (Fin 8)).biUnion colSet = Finset.univ := by
  refine Finset.eq_univ_iff_forall.mpr fun i => Finset.mem_biUnion.mpr ?_
  have h0 : (i 0).val < 1024 := (i 0).isLt
  have h1 : (i 1).val < 1024 := (i 1).isLt
  refine ⟨⟨(i 1).val / 128, by omega⟩, Finset.mem_univ _, Rect.mem_set_unit.mpr fun a => ?_⟩
  match a with
  | ⟨0, _⟩ => exact ⟨Nat.zero_le _, by show (i 0).val < 0 + 1024; omega⟩
  | ⟨1, _⟩ => exact ⟨by show 128 * ((i 1).val / 128) ≤ (i 1).val; omega, by show (i 1).val < 128 * ((i 1).val / 128) + 128; omega⟩

/-- The whole buffer is its eight heads. -/
theorem kWhole (c : Dev nD) (f : Buf (Elt F) (kM.view.loc (c : Thread nD τ))) :
    (kM.view.loc (c : Thread nD τ) ↦{fullShare} f : sProp 𝕄)
      = iprop(kPts kM 0 c f ∗ kPts kM 1 c f ∗ kPts kM 2 c f ∗ kPts kM 3 c f ∗ kPts kM 4 c f ∗ kPts kM 5 c f ∗ kPts kM 6 c f ∗ kPts kM 7 c f) := by
  have hd : ∀ h ∈ (Finset.univ : Finset (Fin 8)), ∀ h' ∈ (Finset.univ : Finset (Fin 8)), h ≠ h' → Disjoint (colSet h) (colSet h') :=
    fun h _ h' _ hne => colSet_disjoint h h' hne
  have e : (kM.view.loc (c : Thread nD τ) ↦[(Finset.univ : Finset (Fin 8)).biUnion colSet]{fullShare} f : sProp 𝕄)
      = bigSep Finset.univ fun h => (kM.view.loc (c : Thread nD τ) ↦[colSet h]{fullShare} f : sProp 𝕄) :=
    pointsTo_biUnion (ℓ := kM.view.loc (c : Thread nD τ)) Finset.univ colSet hd
  rw [colSet_cover, bigSep_univ_eq_bigSepL [0, 1, 2, 3, 4, 5, 6, 7] (by decide) (by decide)] at e
  refine e.trans ?_
  have h0 : (kPts kM 0 c f : sProp 𝕄) = (kM.view.loc (c : Thread nD τ) ↦[colSet 0]{fullShare} f) := congrArg (fun S => (kM.view.loc (c : Thread nD τ) ↦[S]{fullShare} f : sProp 𝕄)) (View.set_slice_whole cc0_scratch9 _)
  have h1 : (kPts kM 1 c f : sProp 𝕄) = (kM.view.loc (c : Thread nD τ) ↦[colSet 1]{fullShare} f) := congrArg (fun S => (kM.view.loc (c : Thread nD τ) ↦[S]{fullShare} f : sProp 𝕄)) (View.set_slice_whole cc0_scratch9 _)
  have h2 : (kPts kM 2 c f : sProp 𝕄) = (kM.view.loc (c : Thread nD τ) ↦[colSet 2]{fullShare} f) := congrArg (fun S => (kM.view.loc (c : Thread nD τ) ↦[S]{fullShare} f : sProp 𝕄)) (View.set_slice_whole cc0_scratch9 _)
  have h3 : (kPts kM 3 c f : sProp 𝕄) = (kM.view.loc (c : Thread nD τ) ↦[colSet 3]{fullShare} f) := congrArg (fun S => (kM.view.loc (c : Thread nD τ) ↦[S]{fullShare} f : sProp 𝕄)) (View.set_slice_whole cc0_scratch9 _)
  have h4 : (kPts kM 4 c f : sProp 𝕄) = (kM.view.loc (c : Thread nD τ) ↦[colSet 4]{fullShare} f) := congrArg (fun S => (kM.view.loc (c : Thread nD τ) ↦[S]{fullShare} f : sProp 𝕄)) (View.set_slice_whole cc0_scratch9 _)
  have h5 : (kPts kM 5 c f : sProp 𝕄) = (kM.view.loc (c : Thread nD τ) ↦[colSet 5]{fullShare} f) := congrArg (fun S => (kM.view.loc (c : Thread nD τ) ↦[S]{fullShare} f : sProp 𝕄)) (View.set_slice_whole cc0_scratch9 _)
  have h6 : (kPts kM 6 c f : sProp 𝕄) = (kM.view.loc (c : Thread nD τ) ↦[colSet 6]{fullShare} f) := congrArg (fun S => (kM.view.loc (c : Thread nD τ) ↦[S]{fullShare} f : sProp 𝕄)) (View.set_slice_whole cc0_scratch9 _)
  have h7 : (kPts kM 7 c f : sProp 𝕄) = (kM.view.loc (c : Thread nD τ) ↦[colSet 7]{fullShare} f) := congrArg (fun S => (kM.view.loc (c : Thread nD τ) ↦[S]{fullShare} f : sProp 𝕄)) (View.set_slice_whole cc0_scratch9 _)
  rw [h0, h1, h2, h3, h4, h5, h6, h7]
  simp only [bigSepL, List.foldr]
  rfl

/-- The whole buffer is its eight heads. -/
theorem vWhole (c : Dev nD) (f : Buf (Elt F) (vM.view.loc (c : Thread nD τ))) :
    (vM.view.loc (c : Thread nD τ) ↦{fullShare} f : sProp 𝕄)
      = iprop(kPts vM 0 c f ∗ kPts vM 1 c f ∗ kPts vM 2 c f ∗ kPts vM 3 c f ∗ kPts vM 4 c f ∗ kPts vM 5 c f ∗ kPts vM 6 c f ∗ kPts vM 7 c f) := by
  have hd : ∀ h ∈ (Finset.univ : Finset (Fin 8)), ∀ h' ∈ (Finset.univ : Finset (Fin 8)), h ≠ h' → Disjoint (colSet h) (colSet h') :=
    fun h _ h' _ hne => colSet_disjoint h h' hne
  have e : (vM.view.loc (c : Thread nD τ) ↦[(Finset.univ : Finset (Fin 8)).biUnion colSet]{fullShare} f : sProp 𝕄)
      = bigSep Finset.univ fun h => (vM.view.loc (c : Thread nD τ) ↦[colSet h]{fullShare} f : sProp 𝕄) :=
    pointsTo_biUnion (ℓ := vM.view.loc (c : Thread nD τ)) Finset.univ colSet hd
  rw [colSet_cover, bigSep_univ_eq_bigSepL [0, 1, 2, 3, 4, 5, 6, 7] (by decide) (by decide)] at e
  refine e.trans ?_
  have h0 : (kPts vM 0 c f : sProp 𝕄) = (vM.view.loc (c : Thread nD τ) ↦[colSet 0]{fullShare} f) := congrArg (fun S => (vM.view.loc (c : Thread nD τ) ↦[S]{fullShare} f : sProp 𝕄)) (View.set_slice_whole cc0_scratch10 _)
  have h1 : (kPts vM 1 c f : sProp 𝕄) = (vM.view.loc (c : Thread nD τ) ↦[colSet 1]{fullShare} f) := congrArg (fun S => (vM.view.loc (c : Thread nD τ) ↦[S]{fullShare} f : sProp 𝕄)) (View.set_slice_whole cc0_scratch10 _)
  have h2 : (kPts vM 2 c f : sProp 𝕄) = (vM.view.loc (c : Thread nD τ) ↦[colSet 2]{fullShare} f) := congrArg (fun S => (vM.view.loc (c : Thread nD τ) ↦[S]{fullShare} f : sProp 𝕄)) (View.set_slice_whole cc0_scratch10 _)
  have h3 : (kPts vM 3 c f : sProp 𝕄) = (vM.view.loc (c : Thread nD τ) ↦[colSet 3]{fullShare} f) := congrArg (fun S => (vM.view.loc (c : Thread nD τ) ↦[S]{fullShare} f : sProp 𝕄)) (View.set_slice_whole cc0_scratch10 _)
  have h4 : (kPts vM 4 c f : sProp 𝕄) = (vM.view.loc (c : Thread nD τ) ↦[colSet 4]{fullShare} f) := congrArg (fun S => (vM.view.loc (c : Thread nD τ) ↦[S]{fullShare} f : sProp 𝕄)) (View.set_slice_whole cc0_scratch10 _)
  have h5 : (kPts vM 5 c f : sProp 𝕄) = (vM.view.loc (c : Thread nD τ) ↦[colSet 5]{fullShare} f) := congrArg (fun S => (vM.view.loc (c : Thread nD τ) ↦[S]{fullShare} f : sProp 𝕄)) (View.set_slice_whole cc0_scratch10 _)
  have h6 : (kPts vM 6 c f : sProp 𝕄) = (vM.view.loc (c : Thread nD τ) ↦[colSet 6]{fullShare} f) := congrArg (fun S => (vM.view.loc (c : Thread nD τ) ↦[S]{fullShare} f : sProp 𝕄)) (View.set_slice_whole cc0_scratch10 _)
  have h7 : (kPts vM 7 c f : sProp 𝕄) = (vM.view.loc (c : Thread nD τ) ↦[colSet 7]{fullShare} f) := congrArg (fun S => (vM.view.loc (c : Thread nD τ) ↦[S]{fullShare} f : sProp 𝕄)) (View.set_slice_whole cc0_scratch10 _)
  rw [h0, h1, h2, h3, h4, h5, h6, h7]
  simp only [bigSepL, List.foldr]
  rfl

/-- Leave for all exchanges but the first. -/
def grants1 (c : Dev nD) : sProp 𝕄 :=
  iprop(grant ⟨1, 0, 0⟩ (par ⟨1, 0, 0⟩ c)
    ∗ grant ⟨0, 0, 1⟩ (par ⟨0, 0, 1⟩ c)
    ∗ grant ⟨1, 0, 1⟩ (par ⟨1, 0, 1⟩ c)
    ∗ grant ⟨0, 0, 2⟩ (par ⟨0, 0, 2⟩ c)
    ∗ grant ⟨1, 0, 2⟩ (par ⟨1, 0, 2⟩ c)
    ∗ grant ⟨0, 0, 3⟩ (par ⟨0, 0, 3⟩ c)
    ∗ grant ⟨1, 0, 3⟩ (par ⟨1, 0, 3⟩ c)
    ∗ grant ⟨0, 0, 4⟩ (par ⟨0, 0, 4⟩ c)
    ∗ grant ⟨1, 0, 4⟩ (par ⟨1, 0, 4⟩ c)
    ∗ grant ⟨0, 1, 4⟩ (par ⟨0, 1, 4⟩ c)
    ∗ grant ⟨1, 1, 4⟩ (par ⟨1, 1, 4⟩ c)
    ∗ grant ⟨0, 1, 3⟩ (par ⟨0, 1, 3⟩ c)
    ∗ grant ⟨1, 1, 3⟩ (par ⟨1, 1, 3⟩ c)
    ∗ grant ⟨0, 1, 2⟩ (par ⟨0, 1, 2⟩ c)
    ∗ grant ⟨1, 1, 2⟩ (par ⟨1, 1, 2⟩ c)
    ∗ grant ⟨0, 1, 1⟩ (par ⟨0, 1, 1⟩ c)
    ∗ grant ⟨1, 1, 1⟩ (par ⟨1, 1, 1⟩ c)
    ∗ grant ⟨0, 1, 0⟩ (par ⟨0, 1, 0⟩ c)
    ∗ grant ⟨1, 1, 0⟩ (par ⟨1, 1, 0⟩ c))

/-- What the barrier brings is leave for all exchanges. -/
theorem pay_grants (c : Dev nD) :
    (iprop(barPay 0 c ∗ barPay 1 c ∗ barPay 2 c ∗ barPay 3 c ∗ barPay 4 c) : sProp 𝕄)
      ⊢ iprop(grant ⟨0, 0, 0⟩ (par ⟨0, 0, 0⟩ c) ∗ grants1 c) := by
  unfold barPay grants1
  rw [grant_par 0 0 0 0 (by decide) c]
  rw [grant_par 0 1 0 0 (by decide) c]
  rw [grant_par 1 0 0 1 (by decide) c]
  rw [grant_par 1 1 0 1 (by decide) c]
  rw [grant_par 0 0 1 1 (by decide) c]
  rw [grant_par 0 1 1 1 (by decide) c]
  rw [grant_par 1 0 1 0 (by decide) c]
  rw [grant_par 1 1 1 0 (by decide) c]
  rw [grant_par 0 0 2 2 (by decide) c]
  rw [grant_par 0 1 2 2 (by decide) c]
  rw [grant_par 1 0 2 3 (by decide) c]
  rw [grant_par 1 1 2 3 (by decide) c]
  rw [grant_par 0 0 3 3 (by decide) c]
  rw [grant_par 0 1 3 3 (by decide) c]
  rw [grant_par 1 0 3 4 (by decide) c]
  rw [grant_par 1 1 3 4 (by decide) c]
  rw [grant_par 0 0 4 4 (by decide) c]
  rw [grant_par 0 1 4 4 (by decide) c]
  rw [grant_par 1 0 4 2 (by decide) c]
  rw [grant_par 1 1 4 2 (by decide) c]
  iintro ⟨⟨G000, G010, G101, G111⟩, ⟨G001, G011, G100, G110⟩, ⟨G002, G012, G103, G113⟩, ⟨G003, G013, G104, G114⟩, ⟨G004, G014, G102, G112⟩⟩
  isplitl [G000]; · iexact G000
  isplitl [G100]; · iexact G100
  isplitl [G001]; · iexact G001
  isplitl [G101]; · iexact G101
  isplitl [G002]; · iexact G002
  isplitl [G102]; · iexact G102
  isplitl [G003]; · iexact G003
  isplitl [G103]; · iexact G103
  isplitl [G004]; · iexact G004
  isplitl [G104]; · iexact G104
  isplitl [G014]; · iexact G014
  isplitl [G114]; · iexact G114
  isplitl [G013]; · iexact G013
  isplitl [G113]; · iexact G113
  isplitl [G012]; · iexact G012
  isplitl [G112]; · iexact G112
  isplitl [G011]; · iexact G011
  isplitl [G111]; · iexact G111
  isplitl [G010]; · iexact G010
  iexact G110

end Cert.KernelIdeal.Bfly
-- ==== Proof.Half.lean ====
module

public import proofs.«01_k».proof.Proof.KV
public import proofs.«01_k».proof.Proof.Partners
public import proofs.«01_k».proof.Proof.Gen.KernelIdeal.Skeleton
public import Idealize.ShloMosaic.Lib.VecWindow
public import Idealize.ShloMosaic.Lib.Pipeline.ValueKit.Geometry
public import Idealize.ShloMosaic.Lib.Writes
public import Idealize.ShloMosaic.Lib.Exec

/-! # A device's own contribution

What the buffers hold as the two halves of the own contribution are made: the masks, the eight heads of each half, and the
two stores into the result. -/

@[expose] public section

noncomputable section

namespace Cert.KernelIdeal.Bfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen

variable {F : FTy → Type} [FloatOps F] [Named F]

local notation "𝕄" => MT nD τ sig Unit (Elt F) ℕ UU ℕ

/-- The store of the first half's mask. -/
def maskLA : List (View.Piece (Elt F) S512x512 .f32) :=
  [⟨(Rect.unit (s := S512x512) ![0, 0] S512x512.size inb_S512x512_S512x512_0_0), k0_pay6 (k0_pay5 (iota .tc S512x512 32 [0] iota_S512x512_d0_w32) 64#32 k0_pay2 k0_pay3 k0_pay4)⟩]

/-- The store of the second half's mask. -/
def maskLB : List (View.Piece (Elt F) S512x1024 .f32) :=
  [⟨(Rect.unit (s := S512x1024) ![0, 0] S512x1024.size inb_S512x1024_S512x1024_0_0), k0_pay11 k0_pay7 (iota .tc S512x1024 32 [1] iota_S512x1024_d1_w32) 64#32 k0_pay8 k0_pay9 k0_pay10⟩]

/-- The mask of the first half, and of the second. -/
def maskA : Vec F S512x512 .f32 := (Memref.whole cc0_scratch6).view.readCov maskLA (Rect.unit (s := S512x512) ![0, 0] S512x512.size inb_S512x512_S512x512_0_0).toLoadRect
def maskB : Vec F S512x1024 .f32 := (Memref.whole cc0_scratch7).view.readCov maskLB (Rect.unit (s := S512x1024) ![0, 0] S512x1024.size inb_S512x1024_S512x1024_0_0).toLoadRect

variable (xs : cc0_stg0_0.ty.Contents (Elt F)) (wq : cc0_stg1_0.ty.Contents (Elt F)) (wo : cc0_stg2_0.ty.Contents (Elt F))
  (kb : cc0_scratch9.ty.Contents (Elt F)) (vb : cc0_scratch10.ty.Contents (Elt F))

/-- The rows of the input of the first half, and of the second; the weights. -/
abbrev xA : Vec F S512x1024 .bf16 := (Memref.whole cc0_stg0_0).view.readAt (Elt F) (Rect.unit (s := S1024x1024) ![0, 0] S512x1024.size inb_S1024x1024_S512x1024_0_0).toLoadRect xs
abbrev xB : Vec F S512x1024 .bf16 := (Memref.whole cc0_stg0_0).view.readAt (Elt F) (Rect.unit (s := S1024x1024) ![512, 0] S512x1024.size inb_S1024x1024_S512x1024_512_0).toLoadRect xs
abbrev wqV : Vec F S1024x1024 .bf16 := (Memref.whole cc0_stg1_0).view.readAt (Elt F) (Rect.unit (s := S1024x1024) ![0, 0] S1024x1024.size inb_S1024x1024_S1024x1024_0_0).toLoadRect wq
abbrev woV : Vec F S1024x1024 .bf16 := (Memref.whole cc0_stg2_0).view.readAt (Elt F) (Rect.unit (s := S1024x1024) ![0, 0] S1024x1024.size inb_S1024x1024_S1024x1024_0_0).toLoadRect wo
abbrev kA0 : Vec F S512x128 .f32 := kM.view.readAt (Elt F) (Rect.unit (s := S1024x1024) ![0, 0] S512x128.size inb_S1024x1024_S512x128_0_0).toLoadRect kb
abbrev kB0 : Vec F S1024x128 .f32 := kM.view.readAt (Elt F) (Rect.unit (s := S1024x1024) ![0, 0] S1024x128.size inb_S1024x1024_S1024x128_0_0).toLoadRect kb
abbrev vA0 : Vec F S512x128 .f32 := vM.view.readAt (Elt F) (Rect.unit (s := S1024x1024) ![0, 0] S512x128.size inb_S1024x1024_S512x128_0_0).toLoadRect vb
abbrev vB0 : Vec F S1024x128 .f32 := vM.view.readAt (Elt F) (Rect.unit (s := S1024x1024) ![0, 0] S1024x128.size inb_S1024x1024_S1024x128_0_0).toLoadRect vb
abbrev kA1 : Vec F S512x128 .f32 := kM.view.readAt (Elt F) (Rect.unit (s := S1024x1024) ![0, 128] S512x128.size inb_S1024x1024_S512x128_0_128).toLoadRect kb
abbrev kB1 : Vec F S1024x128 .f32 := kM.view.readAt (Elt F) (Rect.unit (s := S1024x1024) ![0, 128] S1024x128.size inb_S1024x1024_S1024x128_0_128).toLoadRect kb
abbrev vA1 : Vec F S512x128 .f32 := vM.view.readAt (Elt F) (Rect.unit (s := S1024x1024) ![0, 128] S512x128.size inb_S1024x1024_S512x128_0_128).toLoadRect vb
abbrev vB1 : Vec F S1024x128 .f32 := vM.view.readAt (Elt F) (Rect.unit (s := S1024x1024) ![0, 128] S1024x128.size inb_S1024x1024_S1024x128_0_128).toLoadRect vb
abbrev kA2 : Vec F S512x128 .f32 := kM.view.readAt (Elt F) (Rect.unit (s := S1024x1024) ![0, 256] S512x128.size inb_S1024x1024_S512x128_0_256).toLoadRect kb
abbrev kB2 : Vec F S1024x128 .f32 := kM.view.readAt (Elt F) (Rect.unit (s := S1024x1024) ![0, 256] S1024x128.size inb_S1024x1024_S1024x128_0_256).toLoadRect kb
abbrev vA2 : Vec F S512x128 .f32 := vM.view.readAt (Elt F) (Rect.unit (s := S1024x1024) ![0, 256] S512x128.size inb_S1024x1024_S512x128_0_256).toLoadRect vb
abbrev vB2 : Vec F S1024x128 .f32 := vM.view.readAt (Elt F) (Rect.unit (s := S1024x1024) ![0, 256] S1024x128.size inb_S1024x1024_S1024x128_0_256).toLoadRect vb
abbrev kA3 : Vec F S512x128 .f32 := kM.view.readAt (Elt F) (Rect.unit (s := S1024x1024) ![0, 384] S512x128.size inb_S1024x1024_S512x128_0_384).toLoadRect kb
abbrev kB3 : Vec F S1024x128 .f32 := kM.view.readAt (Elt F) (Rect.unit (s := S1024x1024) ![0, 384] S1024x128.size inb_S1024x1024_S1024x128_0_384).toLoadRect kb
abbrev vA3 : Vec F S512x128 .f32 := vM.view.readAt (Elt F) (Rect.unit (s := S1024x1024) ![0, 384] S512x128.size inb_S1024x1024_S512x128_0_384).toLoadRect vb
abbrev vB3 : Vec F S1024x128 .f32 := vM.view.readAt (Elt F) (Rect.unit (s := S1024x1024) ![0, 384] S1024x128.size inb_S1024x1024_S1024x128_0_384).toLoadRect vb
abbrev kA4 : Vec F S512x128 .f32 := kM.view.readAt (Elt F) (Rect.unit (s := S1024x1024) ![0, 512] S512x128.size inb_S1024x1024_S512x128_0_512).toLoadRect kb
abbrev kB4 : Vec F S1024x128 .f32 := kM.view.readAt (Elt F) (Rect.unit (s := S1024x1024) ![0, 512] S1024x128.size inb_S1024x1024_S1024x128_0_512).toLoadRect kb
abbrev vA4 : Vec F S512x128 .f32 := vM.view.readAt (Elt F) (Rect.unit (s := S1024x1024) ![0, 512] S512x128.size inb_S1024x1024_S512x128_0_512).toLoadRect vb
abbrev vB4 : Vec F S1024x128 .f32 := vM.view.readAt (Elt F) (Rect.unit (s := S1024x1024) ![0, 512] S1024x128.size inb_S1024x1024_S1024x128_0_512).toLoadRect vb
abbrev kA5 : Vec F S512x128 .f32 := kM.view.readAt (Elt F) (Rect.unit (s := S1024x1024) ![0, 640] S512x128.size inb_S1024x1024_S512x128_0_640).toLoadRect kb
abbrev kB5 : Vec F S1024x128 .f32 := kM.view.readAt (Elt F) (Rect.unit (s := S1024x1024) ![0, 640] S1024x128.size inb_S1024x1024_S1024x128_0_640).toLoadRect kb
abbrev vA5 : Vec F S512x128 .f32 := vM.view.readAt (Elt F) (Rect.unit (s := S1024x1024) ![0, 640] S512x128.size inb_S1024x1024_S512x128_0_640).toLoadRect vb
abbrev vB5 : Vec F S1024x128 .f32 := vM.view.readAt (Elt F) (Rect.unit (s := S1024x1024) ![0, 640] S1024x128.size inb_S1024x1024_S1024x128_0_640).toLoadRect vb
abbrev kA6 : Vec F S512x128 .f32 := kM.view.readAt (Elt F) (Rect.unit (s := S1024x1024) ![0, 768] S512x128.size inb_S1024x1024_S512x128_0_768).toLoadRect kb
abbrev kB6 : Vec F S1024x128 .f32 := kM.view.readAt (Elt F) (Rect.unit (s := S1024x1024) ![0, 768] S1024x128.size inb_S1024x1024_S1024x128_0_768).toLoadRect kb
abbrev vA6 : Vec F S512x128 .f32 := vM.view.readAt (Elt F) (Rect.unit (s := S1024x1024) ![0, 768] S512x128.size inb_S1024x1024_S512x128_0_768).toLoadRect vb
abbrev vB6 : Vec F S1024x128 .f32 := vM.view.readAt (Elt F) (Rect.unit (s := S1024x1024) ![0, 768] S1024x128.size inb_S1024x1024_S1024x128_0_768).toLoadRect vb
abbrev kA7 : Vec F S512x128 .f32 := kM.view.readAt (Elt F) (Rect.unit (s := S1024x1024) ![0, 896] S512x128.size inb_S1024x1024_S512x128_0_896).toLoadRect kb
abbrev kB7 : Vec F S1024x128 .f32 := kM.view.readAt (Elt F) (Rect.unit (s := S1024x1024) ![0, 896] S1024x128.size inb_S1024x1024_S1024x128_0_896).toLoadRect kb
abbrev vA7 : Vec F S512x128 .f32 := vM.view.readAt (Elt F) (Rect.unit (s := S1024x1024) ![0, 896] S512x128.size inb_S1024x1024_S512x128_0_896).toLoadRect vb
abbrev vB7 : Vec F S1024x128 .f32 := vM.view.readAt (Elt F) (Rect.unit (s := S1024x1024) ![0, 896] S1024x128.size inb_S1024x1024_S1024x128_0_896).toLoadRect vb

/-- The first half of head 0. -/
def headA0 : Vec F S512x128 .bf16 := k0_pay14 (k0_pay13 (xA xs) (wqV wq) (kA0 kb) (vA0 vb) maskA)

/-- The first half of head 1. -/
def headA1 : Vec F S512x128 .bf16 := k0_pay15 (k0_pay12 (xA xs) (wqV wq)) (kA1 kb) (vA1 vb) maskA

/-- The first half of head 2. -/
def headA2 : Vec F S512x128 .bf16 := k0_pay19 (k0_pay16 (vA2 vb)) (k0_pay17 (k0_pay12 (xA xs) (wqV wq)) (kA2 kb) maskA) (k0_pay18 (k0_pay12 (xA xs) (wqV wq)) (kA2 kb) maskA)

/-- The first half of head 3. -/
def headA3 : Vec F S512x128 .bf16 := k0_pay20 (k0_pay12 (xA xs) (wqV wq)) (kA3 kb) (vA3 vb) maskA

/-- The first half of head 4. -/
def headA4 : Vec F S512x128 .bf16 := k0_pay23 (k0_pay21 (vA4 vb)) (k0_pay22 (k0_pay12 (xA xs) (wqV wq)) (kA4 kb)) maskA

/-- The first half of head 5. -/
def headA5 : Vec F S512x128 .bf16 := k0_pay24 (k0_pay12 (xA xs) (wqV wq)) (kA5 kb) (vA5 vb) maskA

/-- The first half of head 6. -/
def headA6 : Vec F S512x128 .bf16 := k0_pay26 (k0_pay12 (xA xs) (wqV wq)) (k0_pay25 (kA6 kb)) (vA6 vb) maskA

/-- The first half of head 7. -/
def headA7 : Vec F S512x128 .bf16 := k0_pay28 (k0_pay27 (k0_pay12 (xA xs) (wqV wq)) (kA7 kb) (vA7 vb) maskA)

/-- The stores of the heads of the first half. -/
def headsA : List (View.Piece (Elt F) S512x1024 .bf16) :=
  [⟨(Rect.unit (s := S512x1024) ![0, 896] S512x128.size inb_S512x1024_S512x128_0_896), headA7 xs wq kb vb⟩,
   ⟨(Rect.unit (s := S512x1024) ![0, 768] S512x128.size inb_S512x1024_S512x128_0_768), headA6 xs wq kb vb⟩,
   ⟨(Rect.unit (s := S512x1024) ![0, 640] S512x128.size inb_S512x1024_S512x128_0_640), headA5 xs wq kb vb⟩,
   ⟨(Rect.unit (s := S512x1024) ![0, 512] S512x128.size inb_S512x1024_S512x128_0_512), headA4 xs wq kb vb⟩,
   ⟨(Rect.unit (s := S512x1024) ![0, 384] S512x128.size inb_S512x1024_S512x128_0_384), headA3 xs wq kb vb⟩,
   ⟨(Rect.unit (s := S512x1024) ![0, 256] S512x128.size inb_S512x1024_S512x128_0_256), headA2 xs wq kb vb⟩,
   ⟨(Rect.unit (s := S512x1024) ![0, 128] S512x128.size inb_S512x1024_S512x128_0_128), headA1 xs wq kb vb⟩,
   ⟨(Rect.unit (s := S512x1024) ![0, 0] S512x128.size inb_S512x1024_S512x128_0_0), headA0 xs wq kb vb⟩]

/-- All heads of the first half. -/
def ctxA : Vec F S512x1024 .bf16 := (Memref.whole cc0_scratch8).view.readCov (headsA xs wq kb vb) (Rect.unit (s := S512x1024) ![0, 0] S512x1024.size inb_S512x1024_S512x1024_0_0).toLoadRect

/-- The first half of the own contribution. -/
def partA : Vec F S512x1024 .f32 := k0_pay29 (ctxA xs wq kb vb) (woV wo)

/-- The second half of head 0. -/
def headB0 : Vec F S512x128 .bf16 := k0_pay33 (k0_pay31 (xB xs)) (wqV wq) (kB0 kb) (vB0 vb) maskB

/-- The second half of head 1. -/
def headB1 : Vec F S512x128 .bf16 := k0_pay38 (k0_pay34 (vB1 vb)) (k0_pay35 (k0_pay31 (xB xs)) (wqV wq) (kB1 kb) maskB) (k0_pay36 (k0_pay31 (xB xs)) (wqV wq) (kB1 kb) maskB) k0_pay37

/-- The second half of head 2. -/
def headB2 : Vec F S512x128 .bf16 := k0_pay39 (k0_pay32 (k0_pay31 (xB xs)) (wqV wq)) (kB2 kb) (vB2 vb) maskB

/-- The second half of head 3. -/
def headB3 : Vec F S512x128 .bf16 := k0_pay42 (k0_pay40 (vB3 vb)) (k0_pay41 (k0_pay32 (k0_pay31 (xB xs)) (wqV wq)) (kB3 kb)) maskB

/-- The second half of head 4. -/
def headB4 : Vec F S512x128 .bf16 := k0_pay43 (k0_pay32 (k0_pay31 (xB xs)) (wqV wq)) (kB4 kb) (vB4 vb) maskB

/-- The second half of head 5. -/
def headB5 : Vec F S512x128 .bf16 := k0_pay45 (k0_pay32 (k0_pay31 (xB xs)) (wqV wq)) (k0_pay44 (kB5 kb)) (vB5 vb) maskB

/-- The second half of head 6. -/
def headB6 : Vec F S512x128 .bf16 := k0_pay47 (k0_pay46 (k0_pay32 (k0_pay31 (xB xs)) (wqV wq)) (kB6 kb) (vB6 vb) maskB)

/-- The second half of head 7. -/
def headB7 : Vec F S512x128 .bf16 := k0_pay48 (k0_pay32 (k0_pay31 (xB xs)) (wqV wq)) (kB7 kb) (vB7 vb) maskB

/-- The stores of the heads of the second half. -/
def headsB : List (View.Piece (Elt F) S512x1024 .bf16) :=
  [⟨(Rect.unit (s := S512x1024) ![0, 896] S512x128.size inb_S512x1024_S512x128_0_896), headB7 xs wq kb vb⟩,
   ⟨(Rect.unit (s := S512x1024) ![0, 768] S512x128.size inb_S512x1024_S512x128_0_768), headB6 xs wq kb vb⟩,
   ⟨(Rect.unit (s := S512x1024) ![0, 640] S512x128.size inb_S512x1024_S512x128_0_640), headB5 xs wq kb vb⟩,
   ⟨(Rect.unit (s := S512x1024) ![0, 512] S512x128.size inb_S512x1024_S512x128_0_512), headB4 xs wq kb vb⟩,
   ⟨(Rect.unit (s := S512x1024) ![0, 384] S512x128.size inb_S512x1024_S512x128_0_384), headB3 xs wq kb vb⟩,
   ⟨(Rect.unit (s := S512x1024) ![0, 256] S512x128.size inb_S512x1024_S512x128_0_256), headB2 xs wq kb vb⟩,
   ⟨(Rect.unit (s := S512x1024) ![0, 128] S512x128.size inb_S512x1024_S512x128_0_128), headB1 xs wq kb vb⟩,
   ⟨(Rect.unit (s := S512x1024) ![0, 0] S512x128.size inb_S512x1024_S512x128_0_0), headB0 xs wq kb vb⟩]

/-- All heads of the second half. -/
def ctxB : Vec F S512x1024 .bf16 := (Memref.whole cc0_scratch8).view.readCov (headsB xs wq kb vb) (Rect.unit (s := S512x1024) ![0, 0] S512x1024.size inb_S512x1024_S512x1024_0_0).toLoadRect

/-- The second half of the own contribution. -/
def partB : Vec F S512x1024 .f32 := k0_pay49 (ctxB xs wq kb vb) (woV wo)

/-- The stores into the result. -/
def outLA : List (View.Piece (Elt F) S1024x1024 .f32) := [⟨(Rect.unit (s := S1024x1024) ![0, 0] S512x1024.size inb_S1024x1024_S512x1024_0_0), partA xs wq wo kb vb⟩]
def outLB : List (View.Piece (Elt F) S1024x1024 .f32) := ⟨(Rect.unit (s := S1024x1024) ![512, 0] S512x1024.size inb_S1024x1024_S512x1024_512_0), partB xs wq wo kb vb⟩ :: outLA xs wq wo kb vb

/-- What the result holds when the first half is stored, and when both are. -/
def outA : cc0_stg3_0.ty.Contents (Elt F) := (Memref.whole cc0_stg3_0).view.writes (Elt F) (Memref.whole cc0_stg3_0).view.junk (outLA xs wq wo kb vb)
def outB : cc0_stg3_0.ty.Contents (Elt F) := (Memref.whole cc0_stg3_0).view.writes (Elt F) (Memref.whole cc0_stg3_0).view.junk (outLB xs wq wo kb vb)

/-- The rows of the first message lie in the first half. -/
theorem off2_le (c : Dev nD) : k0_off2 c 0 + 256 ≤ 512 ∧ k0_off2 c 1 = 0 := by
  revert c; decide +kernel

/-- The rectangles of the two halves. -/
abbrev rTop : Rect S1024x1024 := (Rect.unit (s := S1024x1024) ![0, 0] S512x1024.size inb_S1024x1024_S512x1024_0_0)
abbrev rBot : Rect S1024x1024 := (Rect.unit (s := S1024x1024) ![512, 0] S512x1024.size inb_S1024x1024_S512x1024_512_0)

theorem mem_rTop (y : S1024x1024.Idx) (h : (y 0).val < 512) : y ∈ rTop.set := by
  refine Rect.mem_set_unit.mpr fun a => ?_
  match a with
  | ⟨0, _⟩ => exact ⟨Nat.zero_le _, lt_of_lt_of_eq h (Nat.zero_add 512).symm⟩
  | ⟨1, _⟩ => exact ⟨Nat.zero_le _, lt_of_lt_of_eq (y 1).isLt (Nat.zero_add 1024).symm⟩

theorem mem_rBot (y : S1024x1024.Idx) (h : ¬ (y 0).val < 512) : y ∈ rBot.set := by
  refine Rect.mem_set_unit.mpr fun a => ?_
  match a with
  | ⟨0, _⟩ => exact ⟨Nat.le_of_not_lt h, (y 0).isLt⟩
  | ⟨1, _⟩ => exact ⟨Nat.zero_le _, lt_of_lt_of_eq (y 1).isLt (Nat.zero_add 1024).symm⟩

theorem cover2 (w0 w1 : Vec F S512x1024 .f32) (y : S1024x1024.Idx) :
    ∃ p ∈ ([⟨rBot, w1⟩, ⟨rTop, w0⟩] : List (View.Piece (Elt F) S1024x1024 .f32)), y ∈ p.1.set := by
  by_cases h : (y 0).val < 512
  · exact ⟨⟨rTop, w0⟩, List.mem_cons_of_mem _ (List.mem_singleton_self _), mem_rTop y h⟩
  · exact ⟨⟨rBot, w1⟩, List.mem_cons_self, mem_rBot y h⟩

theorem cover1 (w0 : Vec F S512x1024 .f32) (off : Fin 2 → ℕ) (inb : ∀ a, off a + S256x1024.size a ≤ S1024x1024.size a) (h : off 0 + 256 ≤ 512)
    (j : S256x1024.Idx) :
    ∃ p ∈ ([⟨rTop, w0⟩] : List (View.Piece (Elt F) S1024x1024 .f32)), (Rect.unit (s := S1024x1024) off S256x1024.size inb).emb j ∈ p.1.set := by
  refine ⟨⟨rTop, w0⟩, List.mem_singleton_self _, mem_rTop _ ?_⟩
  have e0 := ValueKit.rect_emb_unit_val (s := S1024x1024) off S256x1024.size inb j 0
  have hj : (j 0).val < 256 := (j 0).isLt
  omega

theorem readAt_top {κ : Kind} {sp : Space} (v : View sig κ sp S1024x1024 .f32) (f : v.ty.Contents (Elt F)) (w0 : Vec F S512x1024 .f32) (c : Dev nD) :
    v.readAt (Elt F) (Rect.unit (s := S1024x1024) (k0_off2 c) S256x1024.size (k0_off2_inb c)).toLoadRect (v.writes (Elt F) f [⟨rTop, w0⟩])
      = v.readAt (Elt F) (Rect.unit (s := S1024x1024) (k0_off2 c) S256x1024.size (k0_off2_inb c)).toLoadRect (v.writes (Elt F) v.junk [⟨rTop, w0⟩]) :=
  View.readAt_writes_of_cover v f _ _ (cover1 w0 (k0_off2 c) (k0_off2_inb c) (off2_le c).1)

/-- So what the result held before does not matter to the first message. -/
theorem readAt_outA (c : Dev nD) (f : cc0_stg3_0.ty.Contents (Elt F)) :
    (Memref.whole cc0_stg3_0).view.readAt (Elt F) (Rect.unit (s := S1024x1024) (k0_off2 c) S256x1024.size (k0_off2_inb c)).toLoadRect
        ((Memref.whole cc0_stg3_0).view.writes (Elt F) f (outLA xs wq wo kb vb))
      = (Memref.whole cc0_stg3_0).view.readAt (Elt F) (Rect.unit (s := S1024x1024) (k0_off2 c) S256x1024.size (k0_off2_inb c)).toLoadRect
        (outA xs wq wo kb vb) := by
  unfold outA outLA
  exact readAt_top (Memref.whole cc0_stg3_0).view f _ c

/-- The two halves fill the result. -/
theorem writes_outB (f : cc0_stg3_0.ty.Contents (Elt F)) :
    (Memref.whole cc0_stg3_0).view.writes (Elt F) f (outLB xs wq wo kb vb) = outB xs wq wo kb vb := by
  unfold outB outLB outLA
  generalize partA xs wq wo kb vb = w0
  generalize partB xs wq wo kb vb = w1
  have h := View.read_writes_of_cover (Memref.whole cc0_stg3_0).view f (Memref.whole cc0_stg3_0).view
      (Memref.whole cc0_stg3_0).view.junk [⟨rBot, w1⟩, ⟨rTop, w0⟩] (cover2 w0 w1)
  funext i
  have := congrFun h i
  rw [View.read_apply, View.read_apply] at this
  exact (cast_inj _).mp this

end Cert.KernelIdeal.Bfly
-- ==== Proof.Ph1.lean ====
module

public import proofs.«01_k».proof.Proof.KVW
public import proofs.«01_k».proof.Proof.Half
public import proofs.«01_k».proof.Proof.Vals
public import proofs.«01_k».proof.Proof.Tails
public import Idealize.ShloMosaic.Lib.Exec

/-! # The run of the kernel to its part 15: the copies of the heads, the barrier and the masks -/

@[expose] public section

noncomputable section

namespace Cert.KernelIdeal.Bfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen

variable {F : FTy → Type} [FloatOps F] [Named F]

local notation "𝕄" => MT nD τ sig Unit (Elt F) ℕ UU ℕ

variable (K : GSem nD τ sig → ℕ) (msg : Msgs F)

attribute [local irreducible] tail15

set_option maxHeartbeats 16000000 in
/-- The stretch to part 15. -/
theorem ph1 (c : Dev nD) (W)
    (kx : Buf (Elt F) ((Memref.whole main_v11).view.loc (c : Thread nD τ)))
    (vx : Buf (Elt F) ((Memref.whole main_v12).view.loc (c : Thread nD τ)))
    (fk : Buf (Elt F) (kM.view.loc (c : Thread nD τ))) (fv : Buf (Elt F) (vM.view.loc (c : Thread nD τ)))
    (f6 : Buf (Elt F) ((Memref.whole cc0_scratch6).view.loc (c : Thread nD τ)))
    (f7 : Buf (Elt F) ((Memref.whole cc0_scratch7).view.loc (c : Thread nD τ)))
    (xs : Buf (Elt F) ((Memref.whole cc0_stg0_0).view.loc (c : Thread nD τ)))
    (wq : Buf (Elt F) ((Memref.whole cc0_stg1_0).view.loc (c : Thread nD τ)))
    (Kt : (Σ' (d0 : Dev nD) (v71 : BitVec 32) (v72 : BitVec 32), BitVec 32) → sProp 𝕄) :
    iprop(levAts L lv
      ∗ ((Memref.whole main_v11).view.loc (c : Thread nD τ) ↦{Transfers.shareTokN fullShare 0} kx)
      ∗ ((Memref.whole main_v12).view.loc (c : Thread nD τ) ↦{Transfers.shareTokN fullShare 0} vx)
      ∗ ((Memref.whole main_v11).view.loc (c : Thread nD τ) ↦{Transfers.shareTokN fullShare 1} kx)
      ∗ ((Memref.whole main_v12).view.loc (c : Thread nD τ) ↦{Transfers.shareTokN fullShare 1} vx)
      ∗ ((Memref.whole main_v11).view.loc (c : Thread nD τ) ↦{Transfers.shareTokN fullShare 2} kx)
      ∗ ((Memref.whole main_v12).view.loc (c : Thread nD τ) ↦{Transfers.shareTokN fullShare 2} vx)
      ∗ ((Memref.whole main_v11).view.loc (c : Thread nD τ) ↦{Transfers.shareTokN fullShare 3} kx)
      ∗ ((Memref.whole main_v12).view.loc (c : Thread nD τ) ↦{Transfers.shareTokN fullShare 3} vx)
      ∗ ((Memref.whole main_v11).view.loc (c : Thread nD τ) ↦{Transfers.shareTokN fullShare 4} kx)
      ∗ ((Memref.whole main_v12).view.loc (c : Thread nD τ) ↦{Transfers.shareTokN fullShare 4} vx)
      ∗ ((Memref.whole main_v11).view.loc (c : Thread nD τ) ↦{Transfers.shareTokN fullShare 5} kx)
      ∗ ((Memref.whole main_v12).view.loc (c : Thread nD τ) ↦{Transfers.shareTokN fullShare 5} vx)
      ∗ ((Memref.whole main_v11).view.loc (c : Thread nD τ) ↦{Transfers.shareTokN fullShare 6} kx)
      ∗ ((Memref.whole main_v12).view.loc (c : Thread nD τ) ↦{Transfers.shareTokN fullShare 6} vx)
      ∗ ((Memref.whole main_v11).view.loc (c : Thread nD τ) ↦{Transfers.shareTokN fullShare 7} kx)
      ∗ ((Memref.whole main_v12).view.loc (c : Thread nD τ) ↦{Transfers.shareTokN fullShare 7} vx)
      ∗ kPts kM 0 c fk
      ∗ kPts vM 0 c fv
      ∗ kPts kM 1 c fk
      ∗ kPts vM 1 c fv
      ∗ kPts kM 2 c fk
      ∗ kPts vM 2 c fv
      ∗ kPts kM 3 c fk
      ∗ kPts vM 3 c fv
      ∗ kPts kM 4 c fk
      ∗ kPts vM 4 c fv
      ∗ kPts kM 5 c fk
      ∗ kPts vM 5 c fv
      ∗ kPts kM 6 c fk
      ∗ kPts vM 6 c fv
      ∗ kPts kM 7 c fk
      ∗ kPts vM 7 c fv
      ∗ semVal ((c : Thread nD τ), ksem 0) 0
      ∗ semVal ((c : Thread nD τ), ksem 1) 0
      ∗ semVal ((c : Thread nD τ), ksem 2) 0
      ∗ semVal ((c : Thread nD τ), ksem 3) 0
      ∗ semVal ((c : Thread nD τ), ksem 4) 0
      ∗ semVal ((c : Thread nD τ), ksem 5) 0
      ∗ semVal ((c : Thread nD τ), ksem 6) 0
      ∗ semVal ((c : Thread nD τ), ksem 7) 0
      ∗ semVal ((c : Thread nD τ), ksem 8) 0
      ∗ semVal ((c : Thread nD τ), ksem 9) 0
      ∗ semVal ((c : Thread nD τ), ksem 10) 0
      ∗ semVal ((c : Thread nD τ), ksem 11) 0
      ∗ semVal ((c : Thread nD τ), ksem 12) 0
      ∗ semVal ((c : Thread nD τ), ksem 13) 0
      ∗ semVal ((c : Thread nD τ), ksem 14) 0
      ∗ semVal ((c : Thread nD τ), ksem 15) 0
      ∗ ((Memref.whole cc0_scratch6).view.loc (c : Thread nD τ) ↦{fullShare} f6)
      ∗ ((Memref.whole cc0_scratch7).view.loc (c : Thread nD τ) ↦{fullShare} f7)
      ∗ owes (c : Thread nD τ) (owed 0 c + owedBar (dimsFrom 0) c) W
      ∗ bres K msg 0 c
      ∗ bres K msg 1 c
      ∗ bres K msg 2 c
      ∗ bres K msg 3 c
      ∗ bres K msg 4 c
      ∗ bwait K msg c
      ∗ ((Memref.whole cc0_stg0_0).view.loc (c : Thread nD τ) ↦{fullShare} xs)
      ∗ ((Memref.whole cc0_stg1_0).view.loc (c : Thread nD τ) ↦{fullShare} wq)
      ∗ (∀ v57 v64 v71 v72 v79 v80 v87 v104 v111 v128, (((Memref.whole main_v11).view.loc (c : Thread nD τ) ↦{Transfers.shareTokN fullShare 0} kx)
          ∗ ((Memref.whole main_v12).view.loc (c : Thread nD τ) ↦{Transfers.shareTokN fullShare 0} vx)
          ∗ ((Memref.whole main_v11).view.loc (c : Thread nD τ) ↦{Transfers.shareTokN fullShare 1} kx)
          ∗ ((Memref.whole main_v12).view.loc (c : Thread nD τ) ↦{Transfers.shareTokN fullShare 1} vx)
          ∗ ((Memref.whole main_v11).view.loc (c : Thread nD τ) ↦{Transfers.shareTokN fullShare 2} kx)
          ∗ ((Memref.whole main_v12).view.loc (c : Thread nD τ) ↦{Transfers.shareTokN fullShare 2} vx)
          ∗ ((Memref.whole main_v11).view.loc (c : Thread nD τ) ↦{Transfers.shareTokN fullShare 3} kx)
          ∗ ((Memref.whole main_v12).view.loc (c : Thread nD τ) ↦{Transfers.shareTokN fullShare 3} vx)
          ∗ ((Memref.whole main_v11).view.loc (c : Thread nD τ) ↦{Transfers.shareTokN fullShare 4} kx)
          ∗ ((Memref.whole main_v12).view.loc (c : Thread nD τ) ↦{Transfers.shareTokN fullShare 4} vx)
          ∗ ((Memref.whole main_v11).view.loc (c : Thread nD τ) ↦{Transfers.shareTokN fullShare 5} kx)
          ∗ ((Memref.whole main_v12).view.loc (c : Thread nD τ) ↦{Transfers.shareTokN fullShare 5} vx)
          ∗ ((Memref.whole main_v11).view.loc (c : Thread nD τ) ↦{Transfers.shareTokN fullShare 6} kx)
          ∗ ((Memref.whole main_v12).view.loc (c : Thread nD τ) ↦{Transfers.shareTokN fullShare 6} vx)
          ∗ ((Memref.whole main_v11).view.loc (c : Thread nD τ) ↦{Transfers.shareTokN fullShare 7} kx)
          ∗ ((Memref.whole main_v12).view.loc (c : Thread nD τ) ↦{Transfers.shareTokN fullShare 7} vx)
          ∗ semVal ((c : Thread nD τ), ksem 0) 0
          ∗ semVal ((c : Thread nD τ), ksem 1) 0
          ∗ semVal ((c : Thread nD τ), ksem 2) 0
          ∗ semVal ((c : Thread nD τ), ksem 3) 0
          ∗ semVal ((c : Thread nD τ), ksem 4) 0
          ∗ semVal ((c : Thread nD τ), ksem 5) 0
          ∗ semVal ((c : Thread nD τ), ksem 6) 0
          ∗ semVal ((c : Thread nD τ), ksem 7) 0
          ∗ semVal ((c : Thread nD τ), ksem 8) 0
          ∗ semVal ((c : Thread nD τ), ksem 9) 0
          ∗ semVal ((c : Thread nD τ), ksem 10) 0
          ∗ semVal ((c : Thread nD τ), ksem 11) 0
          ∗ semVal ((c : Thread nD τ), ksem 12) 0
          ∗ semVal ((c : Thread nD τ), ksem 13) 0
          ∗ semVal ((c : Thread nD τ), ksem 14) 0
          ∗ semVal ((c : Thread nD τ), ksem 15) 0
          ∗ ((Memref.whole cc0_scratch6).view.loc (c : Thread nD τ) ↦{fullShare} (Memref.whole cc0_scratch6).view.writes (Elt F) f6 maskLA)
          ∗ ((Memref.whole cc0_scratch7).view.loc (c : Thread nD τ) ↦{fullShare} (Memref.whole cc0_scratch7).view.writes (Elt F) f7 maskLB)
          ∗ semVal (barCell c) 0
          ∗ (barPay 0 c ∗ barPay 1 c ∗ barPay 2 c ∗ barPay 3 c ∗ barPay 4 c)
          ∗ debt 0 c
          ∗ ((Memref.whole cc0_stg0_0).view.loc (c : Thread nD τ) ↦{fullShare} xs)
          ∗ ((Memref.whole cc0_stg1_0).view.loc (c : Thread nD τ) ↦{fullShare} wq)
          ∗ (kM.view.loc (c : Thread nD τ) ↦{fullShare} kBuf kx c)
          ∗ (vM.view.loc (c : Thread nD τ) ↦{fullShare} vBuf vx c))
        -∗ wp frame (wpE (defs₀ (F := F)) 𝒱₀ c none) Set.univ (tail15 (F := F) c v57 v64 v71 v72 v79 v80 v87 v104 v111 v128 (k0_pay12 (xA xs) (wqV wq)) (k0_pay13 (xA xs) (wqV wq) (kA0 (kBuf kx c)) (vA0 (vBuf vx c)) maskA)) Kt))
      ⊢ wp frame (wpE (defs₀ (F := F)) 𝒱₀ c none) Set.univ (tail1 (F := F)) Kt := by
  iintro ⟨#Hlev, HTk0, HTv0, HTk1, HTv1, HTk2, HTv2, HTk3, HTv3, HTk4, HTv4, HTk5, HTv5, HTk6, HTv6, HTk7, HTv7, HPk0, HPv0, HPk1, HPv1, HPk2, HPv2, HPk3, HPv3, HPk4, HPv4, HPk5, HPv5, HPk6, HPv6, HPk7, HPv7, HS0, HS1, HS2, HS3, HS4, HS5, HS6, HS7, HS8, HS9, HS10, HS11, HS12, HS13, HS14, HS15, Hb0, Hb1, HO, HB0, HB1, HB2, HB3, HB4, HBw, Hxs, Hwq, HK⟩
  unfold tail1 k0_part1_skel k0_part2_skel k0_part3_skel k0_part4_skel k0_part5_skel k0_part6_skel k0_part7_skel k0_part8_skel tail9 k0_part9_skel k0_part10_skel k0_part11_skel k0_part12_skel k0_part13_skel k0_part14_skel
  sl_exec
  iapply (barSig K msg 0 (D := dimsFrom 1) (D' := dimsFrom 0) (by decide) (by decide) (dev_1 c)) $$ [HB0 HO]
  · isplitl [HB0]; · iexact HB0
    iexact HO
  iintro HO
  try sl_exec
  iapply (barSig K msg 1 (D := dimsFrom 2) (D' := dimsFrom 1) (by decide) (by decide) (dev_2 c)) $$ [HB1 HO]
  · isplitl [HB1]; · iexact HB1
    iexact HO
  iintro HO
  try sl_exec
  iapply (barSig K msg 2 (D := dimsFrom 3) (D' := dimsFrom 2) (by decide) (by decide) (dev_3 c)) $$ [HB2 HO]
  · isplitl [HB2]; · iexact HB2
    iexact HO
  iintro HO
  try sl_exec
  iapply (barSig K msg 3 (D := dimsFrom 4) (D' := dimsFrom 3) (by decide) (by decide) (dev_4 c)) $$ [HB3 HO]
  · isplitl [HB3]; · iexact HB3
    iexact HO
  iintro HO
  try sl_exec
  iapply (barSig K msg 4 (D := dimsFrom 5) (D' := dimsFrom 4) (by decide) (by decide) (dev_5 c)) $$ [HB4 HO]
  · isplitl [HB4]; · iexact HB4
    iexact HO
  iintro HO
  try sl_exec
  iapply (barWait K msg) $$ [HBw HO]
  · isplitr; · iexact Hlev
    isplitl [HBw]; · iexact HBw
    iexact HO
  iintro ⟨Hpay, HBz, HO⟩
  have hmw : ∀ i : Fin 16, (levAts L lv : sProp 𝕄) ⊢ MayWait (c : Thread nD τ) (ksem i) () (owed 0 c) := fun i => mayWait (ksem i) 0 (by revert i; decide) c
  have hmw0 := hmw 0
  have hmw1 := hmw 1
  have hmw2 := hmw 2
  have hmw3 := hmw 3
  have hmw4 := hmw 4
  have hmw5 := hmw 5
  have hmw6 := hmw 6
  have hmw7 := hmw 7
  have hmw8 := hmw 8
  have hmw9 := hmw 9
  have hmw10 := hmw 10
  have hmw11 := hmw 11
  have hmw12 := hmw 12
  have hmw13 := hmw 13
  have hmw14 := hmw 14
  have hmw15 := hmw 15
  set_option sl_exec.maxSteps 21 in sl_exec
  ihave HPk0 := kPts_landed0 kx c fk (ph1.sl.dma0 c kx) rfl $$ HPk0
  ihave HPv0 := vPts_landed0 vx c fv (ph1.sl.dma0_1 c vx) rfl $$ HPv0
  ihave HPk1 := kPts_landed1 kx c fk (ph1.sl.dma0_2 c kx) rfl $$ HPk1
  ihave HPv1 := vPts_landed1 vx c fv (ph1.sl.dma0_3 c vx) rfl $$ HPv1
  ihave HPk2 := kPts_landed2 kx c fk (ph1.sl.dma0_4 c kx) rfl $$ HPk2
  ihave HPv2 := vPts_landed2 vx c fv (ph1.sl.dma0_5 c vx) rfl $$ HPv2
  ihave HPk3 := kPts_landed3 kx c fk (ph1.sl.dma0_6 c kx) rfl $$ HPk3
  ihave HPv3 := vPts_landed3 vx c fv (ph1.sl.dma0_7 c vx) rfl $$ HPv3
  ihave HPk4 := kPts_landed4 kx c fk (ph1.sl.dma0_8 c kx) rfl $$ HPk4
  ihave HPv4 := vPts_landed4 vx c fv (ph1.sl.dma0_9 c vx) rfl $$ HPv4
  ihave HPk5 := kPts_landed5 kx c fk (ph1.sl.dma0_10 c kx) rfl $$ HPk5
  ihave HPv5 := vPts_landed5 vx c fv (ph1.sl.dma0_11 c vx) rfl $$ HPv5
  ihave HPk6 := kPts_landed6 kx c fk (ph1.sl.dma0_12 c kx) rfl $$ HPk6
  ihave HPv6 := vPts_landed6 vx c fv (ph1.sl.dma0_13 c vx) rfl $$ HPv6
  ihave HPk7 := kPts_landed7 kx c fk (ph1.sl.dma0_14 c kx) rfl $$ HPk7
  ihave HPv7 := vPts_landed7 vx c fv (ph1.sl.dma0_15 c vx) rfl $$ HPv7
  ihave Hk := (Entails.of_eq (kWhole c (kBuf kx c)).symm) $$ [HPk0 HPk1 HPk2 HPk3 HPk4 HPk5 HPk6 HPk7]
  · isplitl [HPk0]; · iexact HPk0
    isplitl [HPk1]; · iexact HPk1
    isplitl [HPk2]; · iexact HPk2
    isplitl [HPk3]; · iexact HPk3
    isplitl [HPk4]; · iexact HPk4
    isplitl [HPk5]; · iexact HPk5
    isplitl [HPk6]; · iexact HPk6
    iexact HPk7
  ihave Hv := (Entails.of_eq (vWhole c (vBuf vx c)).symm) $$ [HPv0 HPv1 HPv2 HPv3 HPv4 HPv5 HPv6 HPv7]
  · isplitl [HPv0]; · iexact HPv0
    isplitl [HPv1]; · iexact HPv1
    isplitl [HPv2]; · iexact HPv2
    isplitl [HPv3]; · iexact HPv3
    isplitl [HPv4]; · iexact HPv4
    isplitl [HPv5]; · iexact HPv5
    isplitl [HPv6]; · iexact HPv6
    iexact HPv7
  set_option sl_exec.maxSteps 5 in sl_exec
  simp only [pure_bind]
  rw [show ph1.sl.v460 (F := F) = maskA from rfl]
  ihave Hd := (show (owes (c : Thread nD τ) (owed 0 c) _ : sProp 𝕄) ⊢ debt 0 c from by unfold debt; iintro H; iexists _; iexact H) $$ HO
  iapply HK
  isplitl [HTk0]; · iexact HTk0
  isplitl [HTv0]; · iexact HTv0
  isplitl [HTk1]; · iexact HTk1
  isplitl [HTv1]; · iexact HTv1
  isplitl [HTk2]; · iexact HTk2
  isplitl [HTv2]; · iexact HTv2
  isplitl [HTk3]; · iexact HTk3
  isplitl [HTv3]; · iexact HTv3
  isplitl [HTk4]; · iexact HTk4
  isplitl [HTv4]; · iexact HTv4
  isplitl [HTk5]; · iexact HTk5
  isplitl [HTv5]; · iexact HTv5
  isplitl [HTk6]; · iexact HTk6
  isplitl [HTv6]; · iexact HTv6
  isplitl [HTk7]; · iexact HTk7
  isplitl [HTv7]; · iexact HTv7
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [Hb0]; · iexact Hb0
  isplitl [Hb1]; · iexact Hb1
  isplitl [HBz]; · iexact HBz
  isplitl [Hpay]; · iexact Hpay
  isplitl [Hd]; · iexact Hd
  isplitl [Hxs]; · iexact Hxs
  isplitl [Hwq]; · iexact Hwq
  isplitl [Hk]; · iexact Hk
  iexact Hv

end Cert.KernelIdeal.Bfly
-- ==== Proof.Ph15.lean ====
module

public import proofs.«01_k».proof.Proof.KVW
public import proofs.«01_k».proof.Proof.Half
public import proofs.«01_k».proof.Proof.Vals
public import proofs.«01_k».proof.Proof.Tails
public import Idealize.ShloMosaic.Lib.Exec

/-! # The run of the kernel from its part 15 to its part 20: the first half of the own contribution -/

@[expose] public section

noncomputable section

namespace Cert.KernelIdeal.Bfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen

variable {F : FTy → Type} [FloatOps F] [Named F]

local notation "𝕄" => MT nD τ sig Unit (Elt F) ℕ UU ℕ

variable (K : GSem nD τ sig → ℕ) (msg : Msgs F)

attribute [local irreducible] tail20

set_option maxHeartbeats 16000000 in
/-- The stretch from part 15: the first half is stored, and its first exchange started. -/
theorem ph15 (c : Dev nD) (v57 : BitVec 32) (v64 : BitVec 32) (v71 : BitVec 32) (v72 : BitVec 32) (v79 : BitVec 32) (v80 : BitVec 32) (v87 : BitVec 32) (v104 : BitVec 32) (v111 : BitVec 32) (v128 : BitVec 32)
    (kb : cc0_scratch9.ty.Contents (Elt F))
    (vb : cc0_scratch10.ty.Contents (Elt F))
    (f6 : cc0_scratch6.ty.Contents (Elt F))
    (xs : cc0_stg0_0.ty.Contents (Elt F))
    (wq : cc0_stg1_0.ty.Contents (Elt F))
    (wo : cc0_stg2_0.ty.Contents (Elt F))
    (fo : cc0_stg3_0.ty.Contents (Elt F))
    (f8 : cc0_scratch8.ty.Contents (Elt F))
    (fs : cc0_scratch2.ty.Contents (Elt F))
    (hmsg : msg ⟨0, 0, 0⟩ (par ⟨0, 0, 0⟩ c) = k0_pay30 ((Memref.whole cc0_stg3_0).view.readAt (Elt F) (Rect.unit (s := S1024x1024) (k0_off2 c) S256x1024.size (k0_off2_inb c)).toLoadRect (outA xs wq wo kb vb)))
    (Kt : (Σ' (d0 : Dev nD) (v71 : BitVec 32) (v72 : BitVec 32), BitVec 32) → sProp 𝕄) :
    iprop(((Memref.whole cc0_scratch6).view.loc (c : Thread nD τ) ↦{fullShare} (Memref.whole cc0_scratch6).view.writes (Elt F) f6 maskLA)
      ∗ ((Memref.whole cc0_stg0_0).view.loc (c : Thread nD τ) ↦{fullShare} xs)
      ∗ ((Memref.whole cc0_stg2_0).view.loc (c : Thread nD τ) ↦{fullShare} wo)
      ∗ ((Memref.whole cc0_stg3_0).view.loc (c : Thread nD τ) ↦{fullShare} fo)
      ∗ ((Memref.whole cc0_scratch8).view.loc (c : Thread nD τ) ↦{fullShare} f8)
      ∗ (kM.view.loc (c : Thread nD τ) ↦{fullShare} kb)
      ∗ (vM.view.loc (c : Thread nD τ) ↦{fullShare} vb)
      ∗ ((Memref.whole cc0_scratch2).view.loc (c : Thread nD τ) ↦{fullShare} fs)
      ∗ xres K msg ⟨0, 0, 0⟩ c
      ∗ grant ⟨0, 0, 0⟩ (par ⟨0, 0, 0⟩ c)
      ∗ debt 0 c
      ∗ (∀ v57 v64 v71 v72 v79 v80 v87 v104 v111 v128 v647, ((∃ f, (Memref.whole cc0_scratch6).view.loc (c : Thread nD τ) ↦{fullShare} f)
          ∗ ((Memref.whole cc0_stg0_0).view.loc (c : Thread nD τ) ↦{fullShare} xs)
          ∗ ((Memref.whole cc0_stg2_0).view.loc (c : Thread nD τ) ↦{fullShare} wo)
          ∗ ((Memref.whole cc0_stg3_0).view.loc (c : Thread nD τ) ↦{fullShare} (Memref.whole cc0_stg3_0).view.writes (Elt F) fo (outLA xs wq wo kb vb))
          ∗ (∃ f, (Memref.whole cc0_scratch8).view.loc (c : Thread nD τ) ↦{fullShare} f)
          ∗ (kM.view.loc (c : Thread nD τ) ↦{fullShare} kb)
          ∗ (vM.view.loc (c : Thread nD τ) ↦{fullShare} vb)
          ∗ xsnd K msg ⟨0, 0, 0⟩ c
          ∗ xrcv K msg ⟨0, 0, 0⟩ c
          ∗ debt 1 c)
        -∗ wp frame (wpE (defs₀ (F := F)) 𝒱₀ c none) Set.univ (tail20 (F := F) c v57 v64 v71 v72 v79 v80 v87 v104 v111 v128 v647 (k0_pay31 (xB xs))) Kt))
      ⊢ wp frame (wpE (defs₀ (F := F)) 𝒱₀ c none) Set.univ (tail15 (F := F) c v57 v64 v71 v72 v79 v80 v87 v104 v111 v128 (k0_pay12 (xA xs) (wqV wq)) (k0_pay13 (xA xs) (wqV wq) (kA0 kb) (vA0 vb) maskA)) Kt := by
  have hq : ∀ g, (Memref.whole cc0_stg3_0).view.writes (Elt F) fo (outLA xs wq wo kb vb) = g →
      k0_pay30 ((Memref.whole cc0_stg3_0).view.readAt (Elt F) (Rect.unit (s := S1024x1024) (k0_off2 c) S256x1024.size (k0_off2_inb c)).toLoadRect (outA xs wq wo kb vb))
        = k0_pay30 ((Memref.whole cc0_stg3_0).view.readAt (Elt F) (Rect.unit (s := S1024x1024) (k0_off2 c) S256x1024.size (k0_off2_inb c)).toLoadRect g) := by
    rintro g rfl; rw [readAt_outA]
  iintro ⟨Hb0, Hxs, Hwo, Ho, Hcx, Hk, Hv, Hst0, Hx0, Hg0, Hd, HK⟩
  unfold tail15 k0_part15_skel k0_part16_skel k0_part17_skel k0_part18_skel k0_part19_skel maskLA
  set_option sl_exec.maxSteps 41 in sl_exec
  have hA : (Memref.whole cc0_stg3_0).view.writes (Elt F) fo [⟨rTop, k0_pay29 (ph15.sl.v622 kb vb xs wq) (woV wo)⟩] = (Memref.whole cc0_stg3_0).view.writes (Elt F) fo (outLA xs wq wo kb vb) := rfl
  rw [hA]
  generalize hgA : (Memref.whole cc0_stg3_0).view.writes (Elt F) fo (outLA xs wq wo kb vb) = gA
  set_option sl_exec.maxSteps 3 in sl_exec
  iapply (xsend K msg (e := ⟨0, 0, 0⟩) (dev_6 c) rfl rfl _ ((staged00 _ _ 0).trans (hmsg.trans (hq gA hgA)).symm) (n := 0) rfl) $$ [Hx0 Hg0 Hst0 Hd]
  · isplitl [Hx0]; · iexact Hx0
    isplitl [Hg0]; · iexact Hg0
    isplitl [Hst0]; · iexact Hst0
    iexact Hd
  iintro ⟨Hs0, Hr0, Hd⟩
  iapply (show wp frame (wpE (defs₀ (F := F)) 𝒱₀ c none) Set.univ (do
    let v648 ← Prog.lift (TpuEff.load (Memref.whole cc0_stg0_0) (Rect.unit (s := S1024x1024) ![512, 0] S512x1024.size inb_S1024x1024_S512x1024_512_0).toLoadRect _)
    tail20 (F := F) c v57 v64 v71 v72 v79 v80 v87 v104 v111 v128 (Scalar.addi (0#32) (Scalar.muli v57 256#32)) (k0_pay31 v648)) Kt ⊢ wp frame (wpE (defs₀ (F := F)) 𝒱₀ c none) Set.univ _ Kt from BI.Entails.refl _)
  set_option sl_exec.maxSteps 1 in sl_exec
  try simp only [pure_bind]
  iapply HK
  isplitl [Hb0]; · iexists _; iexact Hb0
  isplitl [Hxs]; · iexact Hxs
  isplitl [Hwo]; · iexact Hwo
  isplitl [Ho]; · iexact Ho
  isplitl [Hcx]; · iexists _; iexact Hcx
  isplitl [Hk]; · iexact Hk
  isplitl [Hv]; · iexact Hv
  isplitl [Hs0]; · iexact Hs0
  isplitl [Hr0]; · iexact Hr0
  iexact Hd

end Cert.KernelIdeal.Bfly
-- ==== Proof.Ph20.lean ====
module

public import proofs.«01_k».proof.Proof.KVW
public import proofs.«01_k».proof.Proof.Half
public import proofs.«01_k».proof.Proof.Vals
public import proofs.«01_k».proof.Proof.Tails
public import Idealize.ShloMosaic.Lib.Exec

/-! # The run of the kernel from its part 20 to its part 25: the second half of the own contribution -/

@[expose] public section

noncomputable section

namespace Cert.KernelIdeal.Bfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen

variable {F : FTy → Type} [FloatOps F] [Named F]

local notation "𝕄" => MT nD τ sig Unit (Elt F) ℕ UU ℕ

variable (K : GSem nD τ sig → ℕ) (msg : Msgs F)

attribute [local irreducible] tail25

set_option maxHeartbeats 16000000 in
/-- The stretch from part 20: the second half of the contribution is stored. -/
theorem ph20 (c : Dev nD) (v57 : BitVec 32) (v64 : BitVec 32) (v71 : BitVec 32) (v72 : BitVec 32) (v79 : BitVec 32) (v80 : BitVec 32) (v87 : BitVec 32) (v104 : BitVec 32) (v111 : BitVec 32) (v128 : BitVec 32) (v647 : BitVec 32)
    (kb : cc0_scratch9.ty.Contents (Elt F))
    (vb : cc0_scratch10.ty.Contents (Elt F))
    (f7 : cc0_scratch7.ty.Contents (Elt F))
    (xs : cc0_stg0_0.ty.Contents (Elt F))
    (wq : cc0_stg1_0.ty.Contents (Elt F))
    (wo : cc0_stg2_0.ty.Contents (Elt F))
    (fo : cc0_stg3_0.ty.Contents (Elt F))
    (f8 : cc0_scratch8.ty.Contents (Elt F))
    (Kt : (Σ' (d0 : Dev nD) (v71 : BitVec 32) (v72 : BitVec 32), BitVec 32) → sProp 𝕄) :
    iprop(((Memref.whole cc0_scratch7).view.loc (c : Thread nD τ) ↦{fullShare} (Memref.whole cc0_scratch7).view.writes (Elt F) f7 maskLB)
      ∗ ((Memref.whole cc0_stg1_0).view.loc (c : Thread nD τ) ↦{fullShare} wq)
      ∗ ((Memref.whole cc0_stg2_0).view.loc (c : Thread nD τ) ↦{fullShare} wo)
      ∗ ((Memref.whole cc0_stg3_0).view.loc (c : Thread nD τ) ↦{fullShare} (Memref.whole cc0_stg3_0).view.writes (Elt F) fo (outLA xs wq wo kb vb))
      ∗ ((Memref.whole cc0_scratch8).view.loc (c : Thread nD τ) ↦{fullShare} f8)
      ∗ (kM.view.loc (c : Thread nD τ) ↦{fullShare} kb)
      ∗ (vM.view.loc (c : Thread nD τ) ↦{fullShare} vb)
      ∗ (((∃ f, (Memref.whole cc0_scratch7).view.loc (c : Thread nD τ) ↦{fullShare} f)
          ∗ ((Memref.whole cc0_stg1_0).view.loc (c : Thread nD τ) ↦{fullShare} wq)
          ∗ ((Memref.whole cc0_stg2_0).view.loc (c : Thread nD τ) ↦{fullShare} wo)
          ∗ ((Memref.whole cc0_stg3_0).view.loc (c : Thread nD τ) ↦{fullShare} outB xs wq wo kb vb)
          ∗ (∃ f, (Memref.whole cc0_scratch8).view.loc (c : Thread nD τ) ↦{fullShare} f)
          ∗ (kM.view.loc (c : Thread nD τ) ↦{fullShare} kb)
          ∗ (vM.view.loc (c : Thread nD τ) ↦{fullShare} vb))
        -∗ wp frame (wpE (defs₀ (F := F)) 𝒱₀ c none) Set.univ (tail25 (F := F) c v57 v64 v71 v72 v79 v80 v87 v104 v111 v128 v647 ((Memref.whole cc0_stg3_0).view.readAt (Elt F) (Rect.unit (s := S1024x1024) (k0_off3 c) S256x1024.size (k0_off3_inb c)).toLoadRect (outB xs wq wo kb vb))) Kt))
      ⊢ wp frame (wpE (defs₀ (F := F)) 𝒱₀ c none) Set.univ (tail20 (F := F) c v57 v64 v71 v72 v79 v80 v87 v104 v111 v128 v647 (k0_pay31 (xB xs))) Kt := by
  iintro ⟨Hb1, Hwq, Hwo, Ho, Hcx, Hk, Hv, HK⟩
  unfold tail20 k0_part20_skel k0_part21_skel k0_part22_skel k0_part23_skel k0_part24_skel outLA maskLB
  set_option sl_exec.maxSteps 45 in sl_exec
  have hB : (Memref.whole cc0_stg3_0).view.writes (Elt F) fo (⟨(Rect.unit (s := S1024x1024) ![512, 0] S512x1024.size inb_S1024x1024_S512x1024_512_0), k0_pay49 (ph20.sl.v822 kb vb xs wq) (woV wo)⟩ :: [⟨rTop, partA xs wq wo kb vb⟩]) = outB xs wq wo kb vb :=
    writes_outB xs wq wo kb vb fo
  rw [hB]
  generalize outB xs wq wo kb vb = gB
  set_option sl_exec.maxSteps 1 in sl_exec
  simp only [pure_bind]
  iapply HK
  isplitl [Hb1]; · iexists _; iexact Hb1
  isplitl [Hwq]; · iexact Hwq
  isplitl [Hwo]; · iexact Hwo
  isplitl [Ho]; · iexact Ho
  isplitl [Hcx]; · iexists _; iexact Hcx
  isplitl [Hk]; · iexact Hk
  iexact Hv

end Cert.KernelIdeal.Bfly
-- ==== Proof.Ph25.lean ====
module

public import proofs.«01_k».proof.Proof.Exch
public import proofs.«01_k».proof.Proof.Vals
public import proofs.«01_k».proof.Proof.Tails
public import Idealize.ShloMosaic.Lib.Exec

/-! # The run of the kernel from part 25 on -/

@[expose] public section

noncomputable section

namespace Cert.KernelIdeal.Bfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen

variable {F : FTy → Type} [FloatOps F] [Named F]

local notation "𝕄" => MT nD τ sig Unit (Elt F) ℕ UU ℕ

variable (K : GSem nD τ sig → ℕ) (PA P0 : Dev nD → OutC F)

attribute [local irreducible] tail28

set_option maxHeartbeats 4000000 in
/-- The stretch from part 25: exchanges are started, awaited and taken into the result. -/
theorem ph25 (c : Dev nD) (v57 : BitVec 32) (v64 : BitVec 32) (v71 : BitVec 32) (v72 : BitVec 32) (v79 : BitVec 32) (v80 : BitVec 32) (v87 : BitVec 32) (v104 : BitVec 32) (v111 : BitVec 32) (v128 : BitVec 32) (v647 : BitVec 32)
    (Kt : (Σ' (d0 : Dev nD) (v71 : BitVec 32) (v72 : BitVec 32), BitVec 32) → sProp 𝕄) :
    iprop(levAts L lv ∗ xsnd K (msgs PA P0) ⟨0, 0, 0⟩ c ∗ xrcv K (msgs PA P0) ⟨0, 0, 0⟩ c ∗ (xres K (msgs PA P0) ⟨1, 0, 0⟩ c ∗ grant ⟨1, 0, 0⟩ (par ⟨1, 0, 0⟩ c)) ∗ (xres K (msgs PA P0) ⟨0, 0, 1⟩ c ∗ grant ⟨0, 0, 1⟩ (par ⟨0, 0, 1⟩ c)) ∗ (∃ f, stPts 1 c f) ∗ ((Memref.whole cc0_stg3_0).view.loc (c : Thread nD τ) ↦{fullShare} out0 PA P0 c) ∗ debt 1 c
      ∗ (∀ v57 v64 v71 v72 v79 v80 v87 v104 v111 v128 v847 v889, (xsnd K (msgs PA P0) ⟨0, 0, 1⟩ c ∗ xrcv K (msgs PA P0) ⟨0, 0, 1⟩ c ∗ semVal (sendCell ⟨0, 0, 0⟩ c) 0 ∗ semVal (sendCell ⟨1, 0, 0⟩ c) 0 ∗ semVal (recvCell ⟨0, 0, 0⟩ c) 0 ∗ (∃ f, lPts ⟨0, 0, 0⟩ c f) ∗ semVal (recvCell ⟨1, 0, 0⟩ c) 0 ∗ (∃ f, lPts ⟨1, 0, 0⟩ c f) ∗ (∃ f, ((sbuf 1).view.loc (c : Thread nD τ) ↦{fullShare} (sbuf 1).view.writes (Elt F) f [⟨Rect.unit (s := S256x1024) ![0, 0] S128x1024.size inb_S256x1024_S128x1024_0_0, snd3 PA P0 c⟩])) ∗ ((Memref.whole cc0_stg3_0).view.loc (c : Thread nD τ) ↦{fullShare} out2 PA P0 c) ∗ debt 3 c) -∗ wp frame (wpE (defs₀ (F := F)) 𝒱₀ c none) Set.univ (tail28 (F := F) c v57 v64 v71 v72 v79 v80 v87 v104 v111 v128 v847 v889) Kt))
      ⊢ wp frame (wpE (defs₀ (F := F)) 𝒱₀ c none) Set.univ (tail25 (F := F) c v57 v64 v71 v72 v79 v80 v87 v104 v111 v128 v647 ((Memref.whole cc0_stg3_0).view.readAt (Elt F) (Rect.unit (s := S1024x1024) (k0_off3 c) S256x1024.size (k0_off3_inb c)).toLoadRect (out0 PA P0 c))) Kt := by
  iintro ⟨#Hlev, Hs0, Hr0, Hx1, Hx2, ⟨%fS1, Hst1⟩, Ho, Hd, Hk⟩
  unfold tail25 k0_part25_skel k0_part26_skel k0_part27_skel
  sl_exec
  iapply (xsend K (msgs PA P0) (e := ⟨1, 0, 0⟩) (dev_7 c) rfl rfl _ ((staged10 _ _ 0).trans (sent1 PA P0 c).symm) (n := 1) rfl) $$ [Hx1 Hst1 Hd]
  · icases Hx1 with ⟨Hxa, Hxb⟩
    isplitl [Hxa]; · iexact Hxa
    isplitl [Hxb]; · iexact Hxb
    isplitl [Hst1]; · iexact Hst1
    iexact Hd
  iintro ⟨Hs1, Hr1, Hd⟩
  try sl_exec
  iapply (xwaitS K (msgs PA P0) (e := ⟨0, 0, 0⟩) rfl (n := 2)) $$ [Hs0 Hd]
  · isplitr; · iexact Hlev
    isplitl [Hs0]; · iexact Hs0
    iexact Hd
  iintro ⟨⟨%fs0, Hst0⟩, Hds0, Hd⟩
  ihave Hst0 := (show (stPts 0 c fs0 : sProp 𝕄) ⊢ ((Memref.whole cc0_scratch2).view.loc (c : Thread nD τ) ↦{fullShare} fs0) from BI.Entails.refl _) $$ Hst0
  try sl_exec
  iapply (xwaitR K (msgs PA P0) (e := ⟨0, 0, 0⟩) rfl (n := 2) (by decide)) $$ [Hr0 Hd]
  · isplitr; · iexact Hlev
    isplitl [Hr0]; · iexact Hr0
    iexact Hd
  unfold recvPay
  iintro ⟨⟨%fl0, %hfl0, Hl0⟩, Hdr0, Hd⟩
  have hv0 : (Memref.whole cc0_scratch0).view.readAt (Elt F) (Rect.unit (s := S496x1024) ![0, 0] S256x1024.size inb_S496x1024_S256x1024_0_0).toLoadRect fl0 = msg0 PA P0 c := hfl0
  set_option sl_exec.maxSteps 4 in sl_exec
  ihave Ho := fold1 PA P0 c $$ Ho
  sl_exec
  iapply (xsend K (msgs PA P0) (e := ⟨0, 0, 1⟩) (dev_8 c) rfl rfl _ ((staged01 _ _ 0).trans (sent2 PA P0 c).symm) (n := 2) rfl) $$ [Hx2 Hst0 Hd]
  · icases Hx2 with ⟨Hxa, Hxb⟩
    isplitl [Hxa]; · iexact Hxa
    isplitl [Hxb]; · iexact Hxb
    isplitl [Hst0]; · iexact Hst0
    iexact Hd
  iintro ⟨Hs2, Hr2, Hd⟩
  try sl_exec
  iapply (xwaitS K (msgs PA P0) (e := ⟨1, 0, 0⟩) rfl (n := 3)) $$ [Hs1 Hd]
  · isplitr; · iexact Hlev
    isplitl [Hs1]; · iexact Hs1
    iexact Hd
  iintro ⟨⟨%fs1, Hst1⟩, Hds1, Hd⟩
  ihave Hst1 := (show (stPts 1 c fs1 : sProp 𝕄) ⊢ ((Memref.whole cc0_scratch5).view.loc (c : Thread nD τ) ↦{fullShare} fs1) from BI.Entails.refl _) $$ Hst1
  try sl_exec
  iapply (xwaitR K (msgs PA P0) (e := ⟨1, 0, 0⟩) rfl (n := 3) (by decide)) $$ [Hr1 Hd]
  · isplitr; · iexact Hlev
    isplitl [Hr1]; · iexact Hr1
    iexact Hd
  unfold recvPay
  iintro ⟨⟨%fl1, %hfl1, Hl1⟩, Hdr1, Hd⟩
  have hv1 : (Memref.whole cc0_scratch3).view.readAt (Elt F) (Rect.unit (s := S496x1024) ![0, 0] S256x1024.size inb_S496x1024_S256x1024_0_0).toLoadRect fl1 = msg1 PA P0 c := hfl1
  set_option sl_exec.maxSteps 4 in sl_exec
  ihave Ho := fold2 PA P0 c $$ Ho
  set_option sl_exec.maxSteps 3 in sl_exec
  simp only [pure_bind]
  iapply Hk
  isplitl [Hs2]; · iexact Hs2
  isplitl [Hr2]; · iexact Hr2
  isplitl [Hds0]; · iexact Hds0
  isplitl [Hds1]; · iexact Hds1
  isplitl [Hdr0]; · iexact Hdr0
  isplitl [Hl0]; · iexists fl0; iexact Hl0
  isplitl [Hdr1]; · iexact Hdr1
  isplitl [Hl1]; · iexists fl1; iexact Hl1
  isplitl [Hst1]; · iexists _; iexact Hst1
  isplitl [Ho]; · iexact Ho
  iexact Hd

end Cert.KernelIdeal.Bfly
-- ==== Proof.Ph28.lean ====
module

public import proofs.«01_k».proof.Proof.Exch
public import proofs.«01_k».proof.Proof.Vals
public import proofs.«01_k».proof.Proof.Tails
public import Idealize.ShloMosaic.Lib.Exec

/-! # The run of the kernel from part 28 on -/

@[expose] public section

noncomputable section

namespace Cert.KernelIdeal.Bfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen

variable {F : FTy → Type} [FloatOps F] [Named F]

local notation "𝕄" => MT nD τ sig Unit (Elt F) ℕ UU ℕ

variable (K : GSem nD τ sig → ℕ) (PA P0 : Dev nD → OutC F)

attribute [local irreducible] tail31

set_option maxHeartbeats 4000000 in
/-- The stretch from part 28: exchanges are started, awaited and taken into the result. -/
theorem ph28 (c : Dev nD) (v57 : BitVec 32) (v64 : BitVec 32) (v71 : BitVec 32) (v72 : BitVec 32) (v79 : BitVec 32) (v80 : BitVec 32) (v87 : BitVec 32) (v104 : BitVec 32) (v111 : BitVec 32) (v128 : BitVec 32) (v847 : BitVec 32) (v889 : BitVec 32)
    (Kt : (Σ' (d0 : Dev nD) (v71 : BitVec 32) (v72 : BitVec 32), BitVec 32) → sProp 𝕄) :
    iprop(levAts L lv ∗ xsnd K (msgs PA P0) ⟨0, 0, 1⟩ c ∗ xrcv K (msgs PA P0) ⟨0, 0, 1⟩ c ∗ (xres K (msgs PA P0) ⟨1, 0, 1⟩ c ∗ grant ⟨1, 0, 1⟩ (par ⟨1, 0, 1⟩ c)) ∗ (xres K (msgs PA P0) ⟨0, 0, 2⟩ c ∗ grant ⟨0, 0, 2⟩ (par ⟨0, 0, 2⟩ c)) ∗ (xres K (msgs PA P0) ⟨1, 0, 2⟩ c ∗ grant ⟨1, 0, 2⟩ (par ⟨1, 0, 2⟩ c)) ∗ (∃ f, ((sbuf 1).view.loc (c : Thread nD τ) ↦{fullShare} (sbuf 1).view.writes (Elt F) f [⟨Rect.unit (s := S256x1024) ![0, 0] S128x1024.size inb_S256x1024_S128x1024_0_0, snd3 PA P0 c⟩])) ∗ ((Memref.whole cc0_stg3_0).view.loc (c : Thread nD τ) ↦{fullShare} out2 PA P0 c) ∗ debt 3 c
      ∗ (∀ v57 v64 v71 v72 v79 v80 v87 v104 v111 v128 v973 v1015, (xsnd K (msgs PA P0) ⟨0, 0, 2⟩ c ∗ xsnd K (msgs PA P0) ⟨1, 0, 2⟩ c ∗ xrcv K (msgs PA P0) ⟨0, 0, 2⟩ c ∗ xrcv K (msgs PA P0) ⟨1, 0, 2⟩ c ∗ semVal (sendCell ⟨0, 0, 1⟩ c) 0 ∗ semVal (sendCell ⟨1, 0, 1⟩ c) 0 ∗ semVal (recvCell ⟨0, 0, 1⟩ c) 0 ∗ (∃ f, lPts ⟨0, 0, 1⟩ c f) ∗ semVal (recvCell ⟨1, 0, 1⟩ c) 0 ∗ (∃ f, lPts ⟨1, 0, 1⟩ c f) ∗ ((Memref.whole cc0_stg3_0).view.loc (c : Thread nD τ) ↦{fullShare} out4 PA P0 c) ∗ debt 6 c) -∗ wp frame (wpE (defs₀ (F := F)) 𝒱₀ c none) Set.univ (tail31 (F := F) c v57 v64 v71 v72 v79 v80 v87 v104 v111 v128 v973 v1015) Kt))
      ⊢ wp frame (wpE (defs₀ (F := F)) 𝒱₀ c none) Set.univ (tail28 (F := F) c v57 v64 v71 v72 v79 v80 v87 v104 v111 v128 v847 v889) Kt := by
  iintro ⟨#Hlev, Hs2, Hr2, Hx3, Hx4, Hx5, ⟨%fS1, Hst1⟩, Ho, Hd, Hk⟩
  unfold tail28 k0_part28_skel k0_part29_skel k0_part30_skel
  try sl_exec
  iapply (xsend K (msgs PA P0) (e := ⟨1, 0, 1⟩) (dev_9 c) rfl rfl _ ((staged11 _ _ 0).trans (sent3 PA P0 c).symm) (n := 3) rfl) $$ [Hx3 Hst1 Hd]
  · icases Hx3 with ⟨Hxa, Hxb⟩
    isplitl [Hxa]; · iexact Hxa
    isplitl [Hxb]; · iexact Hxb
    isplitl [Hst1]; · iexact Hst1
    iexact Hd
  iintro ⟨Hs3, Hr3, Hd⟩
  try sl_exec
  iapply (xwaitS K (msgs PA P0) (e := ⟨0, 0, 1⟩) rfl (n := 4)) $$ [Hs2 Hd]
  · isplitr; · iexact Hlev
    isplitl [Hs2]; · iexact Hs2
    iexact Hd
  iintro ⟨⟨%fs2, Hst0⟩, Hds2, Hd⟩
  ihave Hst0 := (show (stPts 0 c fs2 : sProp 𝕄) ⊢ ((Memref.whole cc0_scratch2).view.loc (c : Thread nD τ) ↦{fullShare} fs2) from BI.Entails.refl _) $$ Hst0
  try sl_exec
  iapply (xwaitR K (msgs PA P0) (e := ⟨0, 0, 1⟩) rfl (n := 4) (by decide)) $$ [Hr2 Hd]
  · isplitr; · iexact Hlev
    isplitl [Hr2]; · iexact Hr2
    iexact Hd
  unfold recvPay
  iintro ⟨⟨%fl2, %hfl2, Hl2⟩, Hdr2, Hd⟩
  have hv2 : (Memref.whole cc0_scratch0).view.readAt (Elt F) (Rect.unit (s := S496x1024) ![256, 0] S128x1024.size inb_S496x1024_S128x1024_256_0).toLoadRect fl2 = msg2 PA P0 c := hfl2
  set_option sl_exec.maxSteps 4 in sl_exec
  ihave Ho := fold3 PA P0 c $$ Ho
  sl_exec
  iapply (xsend K (msgs PA P0) (e := ⟨0, 0, 2⟩) (dev_10 c) rfl rfl _ ((staged02 _ _ 0).trans (sent4 PA P0 c).symm) (n := 4) rfl) $$ [Hx4 Hst0 Hd]
  · icases Hx4 with ⟨Hxa, Hxb⟩
    isplitl [Hxa]; · iexact Hxa
    isplitl [Hxb]; · iexact Hxb
    isplitl [Hst0]; · iexact Hst0
    iexact Hd
  iintro ⟨Hs4, Hr4, Hd⟩
  try sl_exec
  iapply (xwaitS K (msgs PA P0) (e := ⟨1, 0, 1⟩) rfl (n := 5)) $$ [Hs3 Hd]
  · isplitr; · iexact Hlev
    isplitl [Hs3]; · iexact Hs3
    iexact Hd
  iintro ⟨⟨%fs3, Hst1⟩, Hds3, Hd⟩
  ihave Hst1 := (show (stPts 1 c fs3 : sProp 𝕄) ⊢ ((Memref.whole cc0_scratch5).view.loc (c : Thread nD τ) ↦{fullShare} fs3) from BI.Entails.refl _) $$ Hst1
  try sl_exec
  iapply (xwaitR K (msgs PA P0) (e := ⟨1, 0, 1⟩) rfl (n := 5) (by decide)) $$ [Hr3 Hd]
  · isplitr; · iexact Hlev
    isplitl [Hr3]; · iexact Hr3
    iexact Hd
  unfold recvPay
  iintro ⟨⟨%fl3, %hfl3, Hl3⟩, Hdr3, Hd⟩
  have hv3 : (Memref.whole cc0_scratch3).view.readAt (Elt F) (Rect.unit (s := S496x1024) ![256, 0] S128x1024.size inb_S496x1024_S128x1024_256_0).toLoadRect fl3 = msg3 PA P0 c := hfl3
  set_option sl_exec.maxSteps 4 in sl_exec
  ihave Ho := fold4 PA P0 c $$ Ho
  sl_exec
  iapply (xsend K (msgs PA P0) (e := ⟨1, 0, 2⟩) (dev_11 c) rfl rfl _ ((staged12 _ _ 0).trans (sent5 PA P0 c).symm) (n := 5) rfl) $$ [Hx5 Hst1 Hd]
  · icases Hx5 with ⟨Hxa, Hxb⟩
    isplitl [Hxa]; · iexact Hxa
    isplitl [Hxb]; · iexact Hxb
    isplitl [Hst1]; · iexact Hst1
    iexact Hd
  iintro ⟨Hs5, Hr5, Hd⟩
  simp only [pure_bind]
  iapply Hk
  isplitl [Hs4]; · iexact Hs4
  isplitl [Hs5]; · iexact Hs5
  isplitl [Hr4]; · iexact Hr4
  isplitl [Hr5]; · iexact Hr5
  isplitl [Hds2]; · iexact Hds2
  isplitl [Hds3]; · iexact Hds3
  isplitl [Hdr2]; · iexact Hdr2
  isplitl [Hl2]; · iexists fl2; iexact Hl2
  isplitl [Hdr3]; · iexact Hdr3
  isplitl [Hl3]; · iexists fl3; iexact Hl3
  isplitl [Ho]; · iexact Ho
  iexact Hd

end Cert.KernelIdeal.Bfly
-- ==== Proof.Ph31.lean ====
module

public import proofs.«01_k».proof.Proof.Exch
public import proofs.«01_k».proof.Proof.Vals
public import proofs.«01_k».proof.Proof.Tails
public import Idealize.ShloMosaic.Lib.Exec

/-! # The run of the kernel from part 31 on -/

@[expose] public section

noncomputable section

namespace Cert.KernelIdeal.Bfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen

variable {F : FTy → Type} [FloatOps F] [Named F]

local notation "𝕄" => MT nD τ sig Unit (Elt F) ℕ UU ℕ

variable (K : GSem nD τ sig → ℕ) (PA P0 : Dev nD → OutC F)

attribute [local irreducible] tail34

set_option maxHeartbeats 4000000 in
/-- The stretch from part 31: exchanges are started, awaited and taken into the result. -/
theorem ph31 (c : Dev nD) (v57 : BitVec 32) (v64 : BitVec 32) (v71 : BitVec 32) (v72 : BitVec 32) (v79 : BitVec 32) (v80 : BitVec 32) (v87 : BitVec 32) (v104 : BitVec 32) (v111 : BitVec 32) (v128 : BitVec 32) (v973 : BitVec 32) (v1015 : BitVec 32)
    (Kt : (Σ' (d0 : Dev nD) (v71 : BitVec 32) (v72 : BitVec 32), BitVec 32) → sProp 𝕄) :
    iprop(levAts L lv ∗ xsnd K (msgs PA P0) ⟨0, 0, 2⟩ c ∗ xsnd K (msgs PA P0) ⟨1, 0, 2⟩ c ∗ xrcv K (msgs PA P0) ⟨0, 0, 2⟩ c ∗ xrcv K (msgs PA P0) ⟨1, 0, 2⟩ c ∗ (xres K (msgs PA P0) ⟨0, 0, 3⟩ c ∗ grant ⟨0, 0, 3⟩ (par ⟨0, 0, 3⟩ c)) ∗ (xres K (msgs PA P0) ⟨1, 0, 3⟩ c ∗ grant ⟨1, 0, 3⟩ (par ⟨1, 0, 3⟩ c)) ∗ ((Memref.whole cc0_stg3_0).view.loc (c : Thread nD τ) ↦{fullShare} out4 PA P0 c) ∗ debt 6 c
      ∗ (∀ v57 v64 v71 v72 v79 v80 v87 v104 v111 v128 v1057 v1099, (xsnd K (msgs PA P0) ⟨1, 0, 3⟩ c ∗ xrcv K (msgs PA P0) ⟨0, 0, 3⟩ c ∗ xrcv K (msgs PA P0) ⟨1, 0, 3⟩ c ∗ semVal (sendCell ⟨0, 0, 2⟩ c) 0 ∗ semVal (sendCell ⟨1, 0, 2⟩ c) 0 ∗ semVal (sendCell ⟨0, 0, 3⟩ c) 0 ∗ semVal (recvCell ⟨0, 0, 2⟩ c) 0 ∗ (∃ f, lPts ⟨0, 0, 2⟩ c f) ∗ semVal (recvCell ⟨1, 0, 2⟩ c) 0 ∗ (∃ f, lPts ⟨1, 0, 2⟩ c f) ∗ (∃ f, stPts 0 c f) ∗ ((Memref.whole cc0_stg3_0).view.loc (c : Thread nD τ) ↦{fullShare} out6 PA P0 c) ∗ debt 8 c) -∗ wp frame (wpE (defs₀ (F := F)) 𝒱₀ c none) Set.univ (tail34 (F := F) c v57 v64 v71 v72 v79 v80 v87 v104 v111 v128 v1057 v1099) Kt))
      ⊢ wp frame (wpE (defs₀ (F := F)) 𝒱₀ c none) Set.univ (tail31 (F := F) c v57 v64 v71 v72 v79 v80 v87 v104 v111 v128 v973 v1015) Kt := by
  iintro ⟨#Hlev, Hs4, Hs5, Hr4, Hr5, Hx6, Hx7, Ho, Hd, Hk⟩
  unfold tail31 k0_part31_skel k0_part32_skel k0_part33_skel
  try sl_exec
  iapply (xwaitS K (msgs PA P0) (e := ⟨0, 0, 2⟩) rfl (n := 6)) $$ [Hs4 Hd]
  · isplitr; · iexact Hlev
    isplitl [Hs4]; · iexact Hs4
    iexact Hd
  iintro ⟨⟨%fs4, Hst0⟩, Hds4, Hd⟩
  ihave Hst0 := (show (stPts 0 c fs4 : sProp 𝕄) ⊢ ((Memref.whole cc0_scratch2).view.loc (c : Thread nD τ) ↦{fullShare} fs4) from BI.Entails.refl _) $$ Hst0
  try sl_exec
  iapply (xwaitR K (msgs PA P0) (e := ⟨0, 0, 2⟩) rfl (n := 6) (by decide)) $$ [Hr4 Hd]
  · isplitr; · iexact Hlev
    isplitl [Hr4]; · iexact Hr4
    iexact Hd
  unfold recvPay
  iintro ⟨⟨%fl4, %hfl4, Hl4⟩, Hdr4, Hd⟩
  have hv4 : (Memref.whole cc0_scratch0).view.readAt (Elt F) (Rect.unit (s := S496x1024) ![384, 0] S64x1024.size inb_S496x1024_S64x1024_384_0).toLoadRect fl4 = msg4 PA P0 c := hfl4
  set_option sl_exec.maxSteps 4 in sl_exec
  ihave Ho := fold5 PA P0 c $$ Ho
  sl_exec
  iapply (xsend K (msgs PA P0) (e := ⟨0, 0, 3⟩) (dev_12 c) rfl rfl _ ((staged03 _ _ 0).trans (sent6 PA P0 c).symm) (n := 6) rfl) $$ [Hx6 Hst0 Hd]
  · icases Hx6 with ⟨Hxa, Hxb⟩
    isplitl [Hxa]; · iexact Hxa
    isplitl [Hxb]; · iexact Hxb
    isplitl [Hst0]; · iexact Hst0
    iexact Hd
  iintro ⟨Hs6, Hr6, Hd⟩
  try sl_exec
  iapply (xwaitS K (msgs PA P0) (e := ⟨1, 0, 2⟩) rfl (n := 7)) $$ [Hs5 Hd]
  · isplitr; · iexact Hlev
    isplitl [Hs5]; · iexact Hs5
    iexact Hd
  iintro ⟨⟨%fs5, Hst1⟩, Hds5, Hd⟩
  ihave Hst1 := (show (stPts 1 c fs5 : sProp 𝕄) ⊢ ((Memref.whole cc0_scratch5).view.loc (c : Thread nD τ) ↦{fullShare} fs5) from BI.Entails.refl _) $$ Hst1
  try sl_exec
  iapply (xwaitR K (msgs PA P0) (e := ⟨1, 0, 2⟩) rfl (n := 7) (by decide)) $$ [Hr5 Hd]
  · isplitr; · iexact Hlev
    isplitl [Hr5]; · iexact Hr5
    iexact Hd
  unfold recvPay
  iintro ⟨⟨%fl5, %hfl5, Hl5⟩, Hdr5, Hd⟩
  have hv5 : (Memref.whole cc0_scratch3).view.readAt (Elt F) (Rect.unit (s := S496x1024) ![384, 0] S64x1024.size inb_S496x1024_S64x1024_384_0).toLoadRect fl5 = msg5 PA P0 c := hfl5
  set_option sl_exec.maxSteps 4 in sl_exec
  ihave Ho := fold6 PA P0 c $$ Ho
  sl_exec
  iapply (xsend K (msgs PA P0) (e := ⟨1, 0, 3⟩) (dev_13 c) rfl rfl _ ((staged13 _ _ 0).trans (sent7 PA P0 c).symm) (n := 7) rfl) $$ [Hx7 Hst1 Hd]
  · icases Hx7 with ⟨Hxa, Hxb⟩
    isplitl [Hxa]; · iexact Hxa
    isplitl [Hxb]; · iexact Hxb
    isplitl [Hst1]; · iexact Hst1
    iexact Hd
  iintro ⟨Hs7, Hr7, Hd⟩
  try sl_exec
  iapply (xwaitS K (msgs PA P0) (e := ⟨0, 0, 3⟩) rfl (n := 8)) $$ [Hs6 Hd]
  · isplitr; · iexact Hlev
    isplitl [Hs6]; · iexact Hs6
    iexact Hd
  iintro ⟨⟨%fs6, Hst0⟩, Hds6, Hd⟩
  ihave Hst0 := (show (stPts 0 c fs6 : sProp 𝕄) ⊢ ((Memref.whole cc0_scratch2).view.loc (c : Thread nD τ) ↦{fullShare} fs6) from BI.Entails.refl _) $$ Hst0
  simp only [pure_bind]
  iapply Hk
  isplitl [Hs7]; · iexact Hs7
  isplitl [Hr6]; · iexact Hr6
  isplitl [Hr7]; · iexact Hr7
  isplitl [Hds4]; · iexact Hds4
  isplitl [Hds5]; · iexact Hds5
  isplitl [Hds6]; · iexact Hds6
  isplitl [Hdr4]; · iexact Hdr4
  isplitl [Hl4]; · iexists fl4; iexact Hl4
  isplitl [Hdr5]; · iexact Hdr5
  isplitl [Hl5]; · iexists fl5; iexact Hl5
  isplitl [Hst0]; · iexists _; iexact Hst0
  isplitl [Ho]; · iexact Ho
  iexact Hd

end Cert.KernelIdeal.Bfly
-- ==== Proof.Ph34.lean ====
module

public import proofs.«01_k».proof.Proof.Exch
public import proofs.«01_k».proof.Proof.Vals
public import proofs.«01_k».proof.Proof.Tails
public import Idealize.ShloMosaic.Lib.Exec

/-! # The run of the kernel from part 34 on -/

@[expose] public section

noncomputable section

namespace Cert.KernelIdeal.Bfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen

variable {F : FTy → Type} [FloatOps F] [Named F]

local notation "𝕄" => MT nD τ sig Unit (Elt F) ℕ UU ℕ

variable (K : GSem nD τ sig → ℕ) (PA P0 : Dev nD → OutC F)

attribute [local irreducible] tail38

set_option maxHeartbeats 4000000 in
/-- The stretch from part 34: exchanges are started, awaited and taken into the result. -/
theorem ph34 (c : Dev nD) (v57 : BitVec 32) (v64 : BitVec 32) (v71 : BitVec 32) (v72 : BitVec 32) (v79 : BitVec 32) (v80 : BitVec 32) (v87 : BitVec 32) (v104 : BitVec 32) (v111 : BitVec 32) (v128 : BitVec 32) (v1057 : BitVec 32) (v1099 : BitVec 32)
    (Kt : (Σ' (d0 : Dev nD) (v71 : BitVec 32) (v72 : BitVec 32), BitVec 32) → sProp 𝕄) :
    iprop(levAts L lv ∗ xsnd K (msgs PA P0) ⟨1, 0, 3⟩ c ∗ xrcv K (msgs PA P0) ⟨0, 0, 3⟩ c ∗ xrcv K (msgs PA P0) ⟨1, 0, 3⟩ c ∗ (xres K (msgs PA P0) ⟨0, 0, 4⟩ c ∗ grant ⟨0, 0, 4⟩ (par ⟨0, 0, 4⟩ c)) ∗ (xres K (msgs PA P0) ⟨1, 0, 4⟩ c ∗ grant ⟨1, 0, 4⟩ (par ⟨1, 0, 4⟩ c)) ∗ (xres K (msgs PA P0) ⟨0, 1, 4⟩ c ∗ grant ⟨0, 1, 4⟩ (par ⟨0, 1, 4⟩ c)) ∗ (∃ f, stPts 0 c f) ∗ ((Memref.whole cc0_stg3_0).view.loc (c : Thread nD τ) ↦{fullShare} out6 PA P0 c) ∗ debt 8 c
      ∗ (∀ v57 v64 v71 v72 v79 v80 v87 v104 v111 v128 v1141 v1183, (xsnd K (msgs PA P0) ⟨0, 1, 4⟩ c ∗ xrcv K (msgs PA P0) ⟨1, 0, 4⟩ c ∗ xrcv K (msgs PA P0) ⟨0, 1, 4⟩ c ∗ semVal (sendCell ⟨1, 0, 3⟩ c) 0 ∗ semVal (sendCell ⟨0, 0, 4⟩ c) 0 ∗ semVal (sendCell ⟨1, 0, 4⟩ c) 0 ∗ semVal (recvCell ⟨0, 0, 3⟩ c) 0 ∗ (∃ f, lPts ⟨0, 0, 3⟩ c f) ∗ semVal (recvCell ⟨1, 0, 3⟩ c) 0 ∗ (∃ f, lPts ⟨1, 0, 3⟩ c f) ∗ semVal (recvCell ⟨0, 0, 4⟩ c) 0 ∗ (∃ f, lPts ⟨0, 0, 4⟩ c f) ∗ (∃ f, stPts 1 c f) ∗ ((Memref.whole cc0_stg3_0).view.loc (c : Thread nD τ) ↦{fullShare} out9 PA P0 c) ∗ debt 11 c) -∗ wp frame (wpE (defs₀ (F := F)) 𝒱₀ c none) Set.univ (tail38 (F := F) c v57 v64 v71 v72 v79 v80 v87 v104 v111 v128 v1141 v1183) Kt))
      ⊢ wp frame (wpE (defs₀ (F := F)) 𝒱₀ c none) Set.univ (tail34 (F := F) c v57 v64 v71 v72 v79 v80 v87 v104 v111 v128 v1057 v1099) Kt := by
  iintro ⟨#Hlev, Hs7, Hr6, Hr7, Hx8, Hx9, Hx10, ⟨%fS0, Hst0⟩, Ho, Hd, Hk⟩
  unfold tail34 k0_part34_skel k0_part35_skel k0_part36_skel k0_part37_skel
  try sl_exec
  iapply (xwaitR K (msgs PA P0) (e := ⟨0, 0, 3⟩) rfl (n := 8) (by decide)) $$ [Hr6 Hd]
  · isplitr; · iexact Hlev
    isplitl [Hr6]; · iexact Hr6
    iexact Hd
  unfold recvPay
  iintro ⟨⟨%fl6, %hfl6, Hl6⟩, Hdr6, Hd⟩
  have hv6 : (Memref.whole cc0_scratch0).view.readAt (Elt F) (Rect.unit (s := S496x1024) ![448, 0] S32x1024.size inb_S496x1024_S32x1024_448_0).toLoadRect fl6 = msg6 PA P0 c := hfl6
  set_option sl_exec.maxSteps 4 in sl_exec
  ihave Ho := fold7 PA P0 c $$ Ho
  sl_exec
  iapply (xsend K (msgs PA P0) (e := ⟨0, 0, 4⟩) (dev_14 c) rfl rfl _ ((staged04 _ _ 0).trans (sent8 PA P0 c).symm) (n := 8) rfl) $$ [Hx8 Hst0 Hd]
  · icases Hx8 with ⟨Hxa, Hxb⟩
    isplitl [Hxa]; · iexact Hxa
    isplitl [Hxb]; · iexact Hxb
    isplitl [Hst0]; · iexact Hst0
    iexact Hd
  iintro ⟨Hs8, Hr8, Hd⟩
  try sl_exec
  iapply (xwaitS K (msgs PA P0) (e := ⟨1, 0, 3⟩) rfl (n := 9)) $$ [Hs7 Hd]
  · isplitr; · iexact Hlev
    isplitl [Hs7]; · iexact Hs7
    iexact Hd
  iintro ⟨⟨%fs7, Hst1⟩, Hds7, Hd⟩
  ihave Hst1 := (show (stPts 1 c fs7 : sProp 𝕄) ⊢ ((Memref.whole cc0_scratch5).view.loc (c : Thread nD τ) ↦{fullShare} fs7) from BI.Entails.refl _) $$ Hst1
  try sl_exec
  iapply (xwaitR K (msgs PA P0) (e := ⟨1, 0, 3⟩) rfl (n := 9) (by decide)) $$ [Hr7 Hd]
  · isplitr; · iexact Hlev
    isplitl [Hr7]; · iexact Hr7
    iexact Hd
  unfold recvPay
  iintro ⟨⟨%fl7, %hfl7, Hl7⟩, Hdr7, Hd⟩
  have hv7 : (Memref.whole cc0_scratch3).view.readAt (Elt F) (Rect.unit (s := S496x1024) ![448, 0] S32x1024.size inb_S496x1024_S32x1024_448_0).toLoadRect fl7 = msg7 PA P0 c := hfl7
  set_option sl_exec.maxSteps 4 in sl_exec
  ihave Ho := fold8 PA P0 c $$ Ho
  sl_exec
  iapply (xsend K (msgs PA P0) (e := ⟨1, 0, 4⟩) (dev_15 c) rfl rfl _ ((staged14 _ _ 0).trans (sent9 PA P0 c).symm) (n := 9) rfl) $$ [Hx9 Hst1 Hd]
  · icases Hx9 with ⟨Hxa, Hxb⟩
    isplitl [Hxa]; · iexact Hxa
    isplitl [Hxb]; · iexact Hxb
    isplitl [Hst1]; · iexact Hst1
    iexact Hd
  iintro ⟨Hs9, Hr9, Hd⟩
  try sl_exec
  iapply (xwaitS K (msgs PA P0) (e := ⟨0, 0, 4⟩) rfl (n := 10)) $$ [Hs8 Hd]
  · isplitr; · iexact Hlev
    isplitl [Hs8]; · iexact Hs8
    iexact Hd
  iintro ⟨⟨%fs8, Hst0⟩, Hds8, Hd⟩
  ihave Hst0 := (show (stPts 0 c fs8 : sProp 𝕄) ⊢ ((Memref.whole cc0_scratch2).view.loc (c : Thread nD τ) ↦{fullShare} fs8) from BI.Entails.refl _) $$ Hst0
  try sl_exec
  iapply (xwaitR K (msgs PA P0) (e := ⟨0, 0, 4⟩) rfl (n := 10) (by decide)) $$ [Hr8 Hd]
  · isplitr; · iexact Hlev
    isplitl [Hr8]; · iexact Hr8
    iexact Hd
  unfold recvPay
  iintro ⟨⟨%fl8, %hfl8, Hl8⟩, Hdr8, Hd⟩
  have hv8 : (Memref.whole cc0_scratch0).view.readAt (Elt F) (Rect.unit (s := S496x1024) ![480, 0] S16x1024.size inb_S496x1024_S16x1024_480_0).toLoadRect fl8 = msg8 PA P0 c := hfl8
  set_option sl_exec.maxSteps 4 in sl_exec
  ihave Ho := fold9 PA P0 c $$ Ho
  sl_exec
  iapply (xsend K (msgs PA P0) (e := ⟨0, 1, 4⟩) (dev_16 c) rfl rfl _ ((staged04 _ _ 1).trans (sent10 PA P0 c).symm) (n := 10) rfl) $$ [Hx10 Hst0 Hd]
  · icases Hx10 with ⟨Hxa, Hxb⟩
    isplitl [Hxa]; · iexact Hxa
    isplitl [Hxb]; · iexact Hxb
    isplitl [Hst0]; · iexact Hst0
    iexact Hd
  iintro ⟨Hs10, Hr10, Hd⟩
  try sl_exec
  iapply (xwaitS K (msgs PA P0) (e := ⟨1, 0, 4⟩) rfl (n := 11)) $$ [Hs9 Hd]
  · isplitr; · iexact Hlev
    isplitl [Hs9]; · iexact Hs9
    iexact Hd
  iintro ⟨⟨%fs9, Hst1⟩, Hds9, Hd⟩
  ihave Hst1 := (show (stPts 1 c fs9 : sProp 𝕄) ⊢ ((Memref.whole cc0_scratch5).view.loc (c : Thread nD τ) ↦{fullShare} fs9) from BI.Entails.refl _) $$ Hst1
  simp only [pure_bind]
  iapply Hk
  isplitl [Hs10]; · iexact Hs10
  isplitl [Hr9]; · iexact Hr9
  isplitl [Hr10]; · iexact Hr10
  isplitl [Hds7]; · iexact Hds7
  isplitl [Hds8]; · iexact Hds8
  isplitl [Hds9]; · iexact Hds9
  isplitl [Hdr6]; · iexact Hdr6
  isplitl [Hl6]; · iexists fl6; iexact Hl6
  isplitl [Hdr7]; · iexact Hdr7
  isplitl [Hl7]; · iexists fl7; iexact Hl7
  isplitl [Hdr8]; · iexact Hdr8
  isplitl [Hl8]; · iexists fl8; iexact Hl8
  isplitl [Hst1]; · iexists _; iexact Hst1
  isplitl [Ho]; · iexact Ho
  iexact Hd

end Cert.KernelIdeal.Bfly
-- ==== Proof.Ph38.lean ====
module

public import proofs.«01_k».proof.Proof.Exch
public import proofs.«01_k».proof.Proof.Vals
public import proofs.«01_k».proof.Proof.Tails
public import Idealize.ShloMosaic.Lib.Exec

/-! # The run of the kernel from part 38 on -/

@[expose] public section

noncomputable section

namespace Cert.KernelIdeal.Bfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen

variable {F : FTy → Type} [FloatOps F] [Named F]

local notation "𝕄" => MT nD τ sig Unit (Elt F) ℕ UU ℕ

variable (K : GSem nD τ sig → ℕ) (PA P0 : Dev nD → OutC F)

attribute [local irreducible] tail41

set_option maxHeartbeats 4000000 in
/-- The stretch from part 38: exchanges are started, awaited and taken into the result. -/
theorem ph38 (c : Dev nD) (v57 : BitVec 32) (v64 : BitVec 32) (v71 : BitVec 32) (v72 : BitVec 32) (v79 : BitVec 32) (v80 : BitVec 32) (v87 : BitVec 32) (v104 : BitVec 32) (v111 : BitVec 32) (v128 : BitVec 32) (v1141 : BitVec 32) (v1183 : BitVec 32)
    (Kt : (Σ' (d0 : Dev nD) (v71 : BitVec 32) (v72 : BitVec 32), BitVec 32) → sProp 𝕄) :
    iprop(levAts L lv ∗ xsnd K (msgs PA P0) ⟨0, 1, 4⟩ c ∗ xrcv K (msgs PA P0) ⟨1, 0, 4⟩ c ∗ xrcv K (msgs PA P0) ⟨0, 1, 4⟩ c ∗ (xres K (msgs PA P0) ⟨1, 1, 4⟩ c ∗ grant ⟨1, 1, 4⟩ (par ⟨1, 1, 4⟩ c)) ∗ (xres K (msgs PA P0) ⟨0, 1, 3⟩ c ∗ grant ⟨0, 1, 3⟩ (par ⟨0, 1, 3⟩ c)) ∗ (∃ f, stPts 1 c f) ∗ ((Memref.whole cc0_stg3_0).view.loc (c : Thread nD τ) ↦{fullShare} out9 PA P0 c) ∗ debt 11 c
      ∗ (∀ v57 v64 v71 v72 v79 v80 v87 v104 v111 v128 v1279 v1318, (xsnd K (msgs PA P0) ⟨0, 1, 3⟩ c ∗ xrcv K (msgs PA P0) ⟨0, 1, 3⟩ c ∗ semVal (sendCell ⟨0, 1, 4⟩ c) 0 ∗ semVal (sendCell ⟨1, 1, 4⟩ c) 0 ∗ semVal (recvCell ⟨1, 0, 4⟩ c) 0 ∗ (∃ f, lPts ⟨1, 0, 4⟩ c f) ∗ semVal (recvCell ⟨0, 1, 4⟩ c) 0 ∗ (∃ f, lPts ⟨0, 1, 4⟩ c f) ∗ semVal (recvCell ⟨1, 1, 4⟩ c) 0 ∗ (∃ f, lPts ⟨1, 1, 4⟩ c f) ∗ (∃ f, stPts 1 c f) ∗ ((Memref.whole cc0_stg3_0).view.loc (c : Thread nD τ) ↦{fullShare} out12 PA P0 c) ∗ debt 13 c) -∗ wp frame (wpE (defs₀ (F := F)) 𝒱₀ c none) Set.univ (tail41 (F := F) c v57 v64 v71 v72 v79 v80 v87 v104 v111 v128 v1279 v1318) Kt))
      ⊢ wp frame (wpE (defs₀ (F := F)) 𝒱₀ c none) Set.univ (tail38 (F := F) c v57 v64 v71 v72 v79 v80 v87 v104 v111 v128 v1141 v1183) Kt := by
  iintro ⟨#Hlev, Hs10, Hr9, Hr10, Hx11, Hx12, ⟨%fS1, Hst1⟩, Ho, Hd, Hk⟩
  unfold tail38 k0_part38_skel k0_part39_skel k0_part40_skel
  try sl_exec
  iapply (xwaitR K (msgs PA P0) (e := ⟨1, 0, 4⟩) rfl (n := 11) (by decide)) $$ [Hr9 Hd]
  · isplitr; · iexact Hlev
    isplitl [Hr9]; · iexact Hr9
    iexact Hd
  unfold recvPay
  iintro ⟨⟨%fl9, %hfl9, Hl9⟩, Hdr9, Hd⟩
  have hv9 : (Memref.whole cc0_scratch3).view.readAt (Elt F) (Rect.unit (s := S496x1024) ![480, 0] S16x1024.size inb_S496x1024_S16x1024_480_0).toLoadRect fl9 = msg9 PA P0 c := hfl9
  set_option sl_exec.maxSteps 4 in sl_exec
  ihave Ho := fold10 PA P0 c $$ Ho
  sl_exec
  iapply (xsend K (msgs PA P0) (e := ⟨1, 1, 4⟩) (dev_17 c) rfl rfl _ ((staged14 _ _ 1).trans (sent11 PA P0 c).symm) (n := 11) rfl) $$ [Hx11 Hst1 Hd]
  · icases Hx11 with ⟨Hxa, Hxb⟩
    isplitl [Hxa]; · iexact Hxa
    isplitl [Hxb]; · iexact Hxb
    isplitl [Hst1]; · iexact Hst1
    iexact Hd
  iintro ⟨Hs11, Hr11, Hd⟩
  try sl_exec
  iapply (xwaitS K (msgs PA P0) (e := ⟨0, 1, 4⟩) rfl (n := 12)) $$ [Hs10 Hd]
  · isplitr; · iexact Hlev
    isplitl [Hs10]; · iexact Hs10
    iexact Hd
  iintro ⟨⟨%fs10, Hst0⟩, Hds10, Hd⟩
  ihave Hst0 := (show (stPts 0 c fs10 : sProp 𝕄) ⊢ ((Memref.whole cc0_scratch2).view.loc (c : Thread nD τ) ↦{fullShare} fs10) from BI.Entails.refl _) $$ Hst0
  try sl_exec
  iapply (xwaitR K (msgs PA P0) (e := ⟨0, 1, 4⟩) rfl (n := 12) (by decide)) $$ [Hr10 Hd]
  · isplitr; · iexact Hlev
    isplitl [Hr10]; · iexact Hr10
    iexact Hd
  unfold recvPay
  iintro ⟨⟨%fl10, %hfl10, Hl10⟩, Hdr10, Hd⟩
  have hv10 : (Memref.whole cc0_scratch1).view.readAt (Elt F) (Rect.unit (s := S496x1024) ![480, 0] S16x1024.size inb_S496x1024_S16x1024_480_0).toLoadRect fl10 = msg10 PA P0 c := hfl10
  set_option sl_exec.maxSteps 3 in sl_exec
  ihave Ho := fold11 PA P0 c $$ Ho
  sl_exec
  iapply (xsend K (msgs PA P0) (e := ⟨0, 1, 3⟩) (dev_18 c) rfl rfl _ ((staged03 _ _ 1).trans (sent12 PA P0 c).symm) (n := 12) rfl) $$ [Hx12 Hst0 Hd]
  · icases Hx12 with ⟨Hxa, Hxb⟩
    isplitl [Hxa]; · iexact Hxa
    isplitl [Hxb]; · iexact Hxb
    isplitl [Hst0]; · iexact Hst0
    iexact Hd
  iintro ⟨Hs12, Hr12, Hd⟩
  try sl_exec
  iapply (xwaitS K (msgs PA P0) (e := ⟨1, 1, 4⟩) rfl (n := 13)) $$ [Hs11 Hd]
  · isplitr; · iexact Hlev
    isplitl [Hs11]; · iexact Hs11
    iexact Hd
  iintro ⟨⟨%fs11, Hst1⟩, Hds11, Hd⟩
  ihave Hst1 := (show (stPts 1 c fs11 : sProp 𝕄) ⊢ ((Memref.whole cc0_scratch5).view.loc (c : Thread nD τ) ↦{fullShare} fs11) from BI.Entails.refl _) $$ Hst1
  try sl_exec
  iapply (xwaitR K (msgs PA P0) (e := ⟨1, 1, 4⟩) rfl (n := 13) (by decide)) $$ [Hr11 Hd]
  · isplitr; · iexact Hlev
    isplitl [Hr11]; · iexact Hr11
    iexact Hd
  unfold recvPay
  iintro ⟨⟨%fl11, %hfl11, Hl11⟩, Hdr11, Hd⟩
  have hv11 : (Memref.whole cc0_scratch4).view.readAt (Elt F) (Rect.unit (s := S496x1024) ![480, 0] S16x1024.size inb_S496x1024_S16x1024_480_0).toLoadRect fl11 = msg11 PA P0 c := hfl11
  set_option sl_exec.maxSteps 3 in sl_exec
  ihave Ho := fold12 PA P0 c $$ Ho
  simp only [pure_bind]
  iapply Hk
  isplitl [Hs12]; · iexact Hs12
  isplitl [Hr12]; · iexact Hr12
  isplitl [Hds10]; · iexact Hds10
  isplitl [Hds11]; · iexact Hds11
  isplitl [Hdr9]; · iexact Hdr9
  isplitl [Hl9]; · iexists fl9; iexact Hl9
  isplitl [Hdr10]; · iexact Hdr10
  isplitl [Hl10]; · iexists fl10; iexact Hl10
  isplitl [Hdr11]; · iexact Hdr11
  isplitl [Hl11]; · iexists fl11; iexact Hl11
  isplitl [Hst1]; · iexists _; iexact Hst1
  isplitl [Ho]; · iexact Ho
  iexact Hd

end Cert.KernelIdeal.Bfly
-- ==== Proof.Ph41.lean ====
module

public import proofs.«01_k».proof.Proof.Exch
public import proofs.«01_k».proof.Proof.Vals
public import proofs.«01_k».proof.Proof.Tails
public import Idealize.ShloMosaic.Lib.Exec

/-! # The run of the kernel from part 41 on -/

@[expose] public section

noncomputable section

namespace Cert.KernelIdeal.Bfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen

variable {F : FTy → Type} [FloatOps F] [Named F]

local notation "𝕄" => MT nD τ sig Unit (Elt F) ℕ UU ℕ

variable (K : GSem nD τ sig → ℕ) (PA P0 : Dev nD → OutC F)

attribute [local irreducible] tail44

set_option maxHeartbeats 4000000 in
/-- The stretch from part 41: exchanges are started, awaited and taken into the result. -/
theorem ph41 (c : Dev nD) (v57 : BitVec 32) (v64 : BitVec 32) (v71 : BitVec 32) (v72 : BitVec 32) (v79 : BitVec 32) (v80 : BitVec 32) (v87 : BitVec 32) (v104 : BitVec 32) (v111 : BitVec 32) (v128 : BitVec 32) (v1279 : BitVec 32) (v1318 : BitVec 32)
    (Kt : (Σ' (d0 : Dev nD) (v71 : BitVec 32) (v72 : BitVec 32), BitVec 32) → sProp 𝕄) :
    iprop(levAts L lv ∗ xsnd K (msgs PA P0) ⟨0, 1, 3⟩ c ∗ xrcv K (msgs PA P0) ⟨0, 1, 3⟩ c ∗ (xres K (msgs PA P0) ⟨1, 1, 3⟩ c ∗ grant ⟨1, 1, 3⟩ (par ⟨1, 1, 3⟩ c)) ∗ (xres K (msgs PA P0) ⟨0, 1, 2⟩ c ∗ grant ⟨0, 1, 2⟩ (par ⟨0, 1, 2⟩ c)) ∗ (∃ f, stPts 1 c f) ∗ ((Memref.whole cc0_stg3_0).view.loc (c : Thread nD τ) ↦{fullShare} out12 PA P0 c) ∗ debt 13 c
      ∗ (∀ v57 v64 v71 v72 v79 v80 v111 v128 v1357 v1396, (xsnd K (msgs PA P0) ⟨0, 1, 2⟩ c ∗ xrcv K (msgs PA P0) ⟨0, 1, 2⟩ c ∗ semVal (sendCell ⟨0, 1, 3⟩ c) 0 ∗ semVal (sendCell ⟨1, 1, 3⟩ c) 0 ∗ semVal (recvCell ⟨0, 1, 3⟩ c) 0 ∗ (∃ f, lPts ⟨0, 1, 3⟩ c f) ∗ semVal (recvCell ⟨1, 1, 3⟩ c) 0 ∗ (∃ f, lPts ⟨1, 1, 3⟩ c f) ∗ (∃ f, ((sbuf 1).view.loc (c : Thread nD τ) ↦{fullShare} (sbuf 1).view.writes (Elt F) f [⟨Rect.unit (s := S256x1024) ![0, 0] S64x1024.size inb_S256x1024_S64x1024_0_0, snd15 PA P0 c⟩])) ∗ ((Memref.whole cc0_stg3_0).view.loc (c : Thread nD τ) ↦{fullShare} out14 PA P0 c) ∗ debt 15 c) -∗ wp frame (wpE (defs₀ (F := F)) 𝒱₀ c none) Set.univ (tail44 (F := F) c v57 v64 v71 v72 v79 v80 v111 v128 v1357 v1396) Kt))
      ⊢ wp frame (wpE (defs₀ (F := F)) 𝒱₀ c none) Set.univ (tail41 (F := F) c v57 v64 v71 v72 v79 v80 v87 v104 v111 v128 v1279 v1318) Kt := by
  iintro ⟨#Hlev, Hs12, Hr12, Hx13, Hx14, ⟨%fS1, Hst1⟩, Ho, Hd, Hk⟩
  unfold tail41 k0_part41_skel k0_part42_skel k0_part43_skel
  sl_exec
  iapply (xsend K (msgs PA P0) (e := ⟨1, 1, 3⟩) (dev_19 c) rfl rfl _ ((staged13 _ _ 1).trans (sent13 PA P0 c).symm) (n := 13) rfl) $$ [Hx13 Hst1 Hd]
  · icases Hx13 with ⟨Hxa, Hxb⟩
    isplitl [Hxa]; · iexact Hxa
    isplitl [Hxb]; · iexact Hxb
    isplitl [Hst1]; · iexact Hst1
    iexact Hd
  iintro ⟨Hs13, Hr13, Hd⟩
  try sl_exec
  iapply (xwaitS K (msgs PA P0) (e := ⟨0, 1, 3⟩) rfl (n := 14)) $$ [Hs12 Hd]
  · isplitr; · iexact Hlev
    isplitl [Hs12]; · iexact Hs12
    iexact Hd
  iintro ⟨⟨%fs12, Hst0⟩, Hds12, Hd⟩
  ihave Hst0 := (show (stPts 0 c fs12 : sProp 𝕄) ⊢ ((Memref.whole cc0_scratch2).view.loc (c : Thread nD τ) ↦{fullShare} fs12) from BI.Entails.refl _) $$ Hst0
  try sl_exec
  iapply (xwaitR K (msgs PA P0) (e := ⟨0, 1, 3⟩) rfl (n := 14) (by decide)) $$ [Hr12 Hd]
  · isplitr; · iexact Hlev
    isplitl [Hr12]; · iexact Hr12
    iexact Hd
  unfold recvPay
  iintro ⟨⟨%fl12, %hfl12, Hl12⟩, Hdr12, Hd⟩
  have hv12 : (Memref.whole cc0_scratch1).view.readAt (Elt F) (Rect.unit (s := S496x1024) ![448, 0] S32x1024.size inb_S496x1024_S32x1024_448_0).toLoadRect fl12 = msg12 PA P0 c := hfl12
  set_option sl_exec.maxSteps 3 in sl_exec
  ihave Ho := fold13 PA P0 c $$ Ho
  sl_exec
  iapply (xsend K (msgs PA P0) (e := ⟨0, 1, 2⟩) (dev_20 c) rfl rfl _ ((staged02 _ _ 1).trans (sent14 PA P0 c).symm) (n := 14) rfl) $$ [Hx14 Hst0 Hd]
  · icases Hx14 with ⟨Hxa, Hxb⟩
    isplitl [Hxa]; · iexact Hxa
    isplitl [Hxb]; · iexact Hxb
    isplitl [Hst0]; · iexact Hst0
    iexact Hd
  iintro ⟨Hs14, Hr14, Hd⟩
  try sl_exec
  iapply (xwaitS K (msgs PA P0) (e := ⟨1, 1, 3⟩) rfl (n := 15)) $$ [Hs13 Hd]
  · isplitr; · iexact Hlev
    isplitl [Hs13]; · iexact Hs13
    iexact Hd
  iintro ⟨⟨%fs13, Hst1⟩, Hds13, Hd⟩
  ihave Hst1 := (show (stPts 1 c fs13 : sProp 𝕄) ⊢ ((Memref.whole cc0_scratch5).view.loc (c : Thread nD τ) ↦{fullShare} fs13) from BI.Entails.refl _) $$ Hst1
  try sl_exec
  iapply (xwaitR K (msgs PA P0) (e := ⟨1, 1, 3⟩) rfl (n := 15) (by decide)) $$ [Hr13 Hd]
  · isplitr; · iexact Hlev
    isplitl [Hr13]; · iexact Hr13
    iexact Hd
  unfold recvPay
  iintro ⟨⟨%fl13, %hfl13, Hl13⟩, Hdr13, Hd⟩
  have hv13 : (Memref.whole cc0_scratch4).view.readAt (Elt F) (Rect.unit (s := S496x1024) ![448, 0] S32x1024.size inb_S496x1024_S32x1024_448_0).toLoadRect fl13 = msg13 PA P0 c := hfl13
  set_option sl_exec.maxSteps 3 in sl_exec
  ihave Ho := fold14 PA P0 c $$ Ho
  set_option sl_exec.maxSteps 3 in sl_exec
  simp only [pure_bind]
  iapply Hk
  isplitl [Hs14]; · iexact Hs14
  isplitl [Hr14]; · iexact Hr14
  isplitl [Hds12]; · iexact Hds12
  isplitl [Hds13]; · iexact Hds13
  isplitl [Hdr12]; · iexact Hdr12
  isplitl [Hl12]; · iexists fl12; iexact Hl12
  isplitl [Hdr13]; · iexact Hdr13
  isplitl [Hl13]; · iexists fl13; iexact Hl13
  isplitl [Hst1]; · iexists _; iexact Hst1
  isplitl [Ho]; · iexact Ho
  iexact Hd

end Cert.KernelIdeal.Bfly
-- ==== Proof.Ph44.lean ====
module

public import proofs.«01_k».proof.Proof.Exch
public import proofs.«01_k».proof.Proof.Vals
public import proofs.«01_k».proof.Proof.Tails
public import Idealize.ShloMosaic.Lib.Exec

/-! # The run of the kernel from part 44 on -/

@[expose] public section

noncomputable section

namespace Cert.KernelIdeal.Bfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen

variable {F : FTy → Type} [FloatOps F] [Named F]

local notation "𝕄" => MT nD τ sig Unit (Elt F) ℕ UU ℕ

variable (K : GSem nD τ sig → ℕ) (PA P0 : Dev nD → OutC F)

attribute [local irreducible] tail47

set_option maxHeartbeats 4000000 in
/-- The stretch from part 44: exchanges are started, awaited and taken into the result. -/
theorem ph44 (c : Dev nD) (v57 : BitVec 32) (v64 : BitVec 32) (v71 : BitVec 32) (v72 : BitVec 32) (v79 : BitVec 32) (v80 : BitVec 32) (v111 : BitVec 32) (v128 : BitVec 32) (v1357 : BitVec 32) (v1396 : BitVec 32)
    (Kt : (Σ' (d0 : Dev nD) (v71 : BitVec 32) (v72 : BitVec 32), BitVec 32) → sProp 𝕄) :
    iprop(levAts L lv ∗ xsnd K (msgs PA P0) ⟨0, 1, 2⟩ c ∗ xrcv K (msgs PA P0) ⟨0, 1, 2⟩ c ∗ (xres K (msgs PA P0) ⟨1, 1, 2⟩ c ∗ grant ⟨1, 1, 2⟩ (par ⟨1, 1, 2⟩ c)) ∗ (xres K (msgs PA P0) ⟨0, 1, 1⟩ c ∗ grant ⟨0, 1, 1⟩ (par ⟨0, 1, 1⟩ c)) ∗ (xres K (msgs PA P0) ⟨1, 1, 1⟩ c ∗ grant ⟨1, 1, 1⟩ (par ⟨1, 1, 1⟩ c)) ∗ (∃ f, ((sbuf 1).view.loc (c : Thread nD τ) ↦{fullShare} (sbuf 1).view.writes (Elt F) f [⟨Rect.unit (s := S256x1024) ![0, 0] S64x1024.size inb_S256x1024_S64x1024_0_0, snd15 PA P0 c⟩])) ∗ ((Memref.whole cc0_stg3_0).view.loc (c : Thread nD τ) ↦{fullShare} out14 PA P0 c) ∗ debt 15 c
      ∗ (∀ v57 v64 v71 v72 v1435 v1474, (xsnd K (msgs PA P0) ⟨1, 1, 1⟩ c ∗ xrcv K (msgs PA P0) ⟨0, 1, 1⟩ c ∗ xrcv K (msgs PA P0) ⟨1, 1, 1⟩ c ∗ semVal (sendCell ⟨0, 1, 2⟩ c) 0 ∗ semVal (sendCell ⟨1, 1, 2⟩ c) 0 ∗ semVal (sendCell ⟨0, 1, 1⟩ c) 0 ∗ semVal (recvCell ⟨0, 1, 2⟩ c) 0 ∗ (∃ f, lPts ⟨0, 1, 2⟩ c f) ∗ semVal (recvCell ⟨1, 1, 2⟩ c) 0 ∗ (∃ f, lPts ⟨1, 1, 2⟩ c f) ∗ (∃ f, stPts 0 c f) ∗ ((Memref.whole cc0_stg3_0).view.loc (c : Thread nD τ) ↦{fullShare} out16 PA P0 c) ∗ debt 18 c) -∗ wp frame (wpE (defs₀ (F := F)) 𝒱₀ c none) Set.univ (tail47 (F := F) c v57 v64 v71 v72 v1435 v1474) Kt))
      ⊢ wp frame (wpE (defs₀ (F := F)) 𝒱₀ c none) Set.univ (tail44 (F := F) c v57 v64 v71 v72 v79 v80 v111 v128 v1357 v1396) Kt := by
  iintro ⟨#Hlev, Hs14, Hr14, Hx15, Hx16, Hx17, ⟨%fS1, Hst1⟩, Ho, Hd, Hk⟩
  unfold tail44 k0_part44_skel k0_part45_skel k0_part46_skel
  try sl_exec
  iapply (xsend K (msgs PA P0) (e := ⟨1, 1, 2⟩) (dev_21 c) rfl rfl _ ((staged12 _ _ 1).trans (sent15 PA P0 c).symm) (n := 15) rfl) $$ [Hx15 Hst1 Hd]
  · icases Hx15 with ⟨Hxa, Hxb⟩
    isplitl [Hxa]; · iexact Hxa
    isplitl [Hxb]; · iexact Hxb
    isplitl [Hst1]; · iexact Hst1
    iexact Hd
  iintro ⟨Hs15, Hr15, Hd⟩
  try sl_exec
  iapply (xwaitS K (msgs PA P0) (e := ⟨0, 1, 2⟩) rfl (n := 16)) $$ [Hs14 Hd]
  · isplitr; · iexact Hlev
    isplitl [Hs14]; · iexact Hs14
    iexact Hd
  iintro ⟨⟨%fs14, Hst0⟩, Hds14, Hd⟩
  ihave Hst0 := (show (stPts 0 c fs14 : sProp 𝕄) ⊢ ((Memref.whole cc0_scratch2).view.loc (c : Thread nD τ) ↦{fullShare} fs14) from BI.Entails.refl _) $$ Hst0
  try sl_exec
  iapply (xwaitR K (msgs PA P0) (e := ⟨0, 1, 2⟩) rfl (n := 16) (by decide)) $$ [Hr14 Hd]
  · isplitr; · iexact Hlev
    isplitl [Hr14]; · iexact Hr14
    iexact Hd
  unfold recvPay
  iintro ⟨⟨%fl14, %hfl14, Hl14⟩, Hdr14, Hd⟩
  have hv14 : (Memref.whole cc0_scratch1).view.readAt (Elt F) (Rect.unit (s := S496x1024) ![384, 0] S64x1024.size inb_S496x1024_S64x1024_384_0).toLoadRect fl14 = msg14 PA P0 c := hfl14
  set_option sl_exec.maxSteps 3 in sl_exec
  ihave Ho := fold15 PA P0 c $$ Ho
  sl_exec
  iapply (xsend K (msgs PA P0) (e := ⟨0, 1, 1⟩) (dev_22 c) rfl rfl _ ((staged01 _ _ 1).trans (sent16 PA P0 c).symm) (n := 16) rfl) $$ [Hx16 Hst0 Hd]
  · icases Hx16 with ⟨Hxa, Hxb⟩
    isplitl [Hxa]; · iexact Hxa
    isplitl [Hxb]; · iexact Hxb
    isplitl [Hst0]; · iexact Hst0
    iexact Hd
  iintro ⟨Hs16, Hr16, Hd⟩
  try sl_exec
  iapply (xwaitS K (msgs PA P0) (e := ⟨1, 1, 2⟩) rfl (n := 17)) $$ [Hs15 Hd]
  · isplitr; · iexact Hlev
    isplitl [Hs15]; · iexact Hs15
    iexact Hd
  iintro ⟨⟨%fs15, Hst1⟩, Hds15, Hd⟩
  ihave Hst1 := (show (stPts 1 c fs15 : sProp 𝕄) ⊢ ((Memref.whole cc0_scratch5).view.loc (c : Thread nD τ) ↦{fullShare} fs15) from BI.Entails.refl _) $$ Hst1
  try sl_exec
  iapply (xwaitR K (msgs PA P0) (e := ⟨1, 1, 2⟩) rfl (n := 17) (by decide)) $$ [Hr15 Hd]
  · isplitr; · iexact Hlev
    isplitl [Hr15]; · iexact Hr15
    iexact Hd
  unfold recvPay
  iintro ⟨⟨%fl15, %hfl15, Hl15⟩, Hdr15, Hd⟩
  have hv15 : (Memref.whole cc0_scratch4).view.readAt (Elt F) (Rect.unit (s := S496x1024) ![384, 0] S64x1024.size inb_S496x1024_S64x1024_384_0).toLoadRect fl15 = msg15 PA P0 c := hfl15
  set_option sl_exec.maxSteps 3 in sl_exec
  ihave Ho := fold16 PA P0 c $$ Ho
  sl_exec
  iapply (xsend K (msgs PA P0) (e := ⟨1, 1, 1⟩) (dev_23 c) rfl rfl _ ((staged11 _ _ 1).trans (sent17 PA P0 c).symm) (n := 17) rfl) $$ [Hx17 Hst1 Hd]
  · icases Hx17 with ⟨Hxa, Hxb⟩
    isplitl [Hxa]; · iexact Hxa
    isplitl [Hxb]; · iexact Hxb
    isplitl [Hst1]; · iexact Hst1
    iexact Hd
  iintro ⟨Hs17, Hr17, Hd⟩
  try sl_exec
  iapply (xwaitS K (msgs PA P0) (e := ⟨0, 1, 1⟩) rfl (n := 18)) $$ [Hs16 Hd]
  · isplitr; · iexact Hlev
    isplitl [Hs16]; · iexact Hs16
    iexact Hd
  iintro ⟨⟨%fs16, Hst0⟩, Hds16, Hd⟩
  ihave Hst0 := (show (stPts 0 c fs16 : sProp 𝕄) ⊢ ((Memref.whole cc0_scratch2).view.loc (c : Thread nD τ) ↦{fullShare} fs16) from BI.Entails.refl _) $$ Hst0
  simp only [pure_bind]
  iapply Hk
  isplitl [Hs17]; · iexact Hs17
  isplitl [Hr16]; · iexact Hr16
  isplitl [Hr17]; · iexact Hr17
  isplitl [Hds14]; · iexact Hds14
  isplitl [Hds15]; · iexact Hds15
  isplitl [Hds16]; · iexact Hds16
  isplitl [Hdr14]; · iexact Hdr14
  isplitl [Hl14]; · iexists fl14; iexact Hl14
  isplitl [Hdr15]; · iexact Hdr15
  isplitl [Hl15]; · iexists fl15; iexact Hl15
  isplitl [Hst0]; · iexists _; iexact Hst0
  isplitl [Ho]; · iexact Ho
  iexact Hd

end Cert.KernelIdeal.Bfly
-- ==== Proof.Ph47.lean ====
module

public import proofs.«01_k».proof.Proof.Exch
public import proofs.«01_k».proof.Proof.Vals
public import proofs.«01_k».proof.Proof.Tails
public import Idealize.ShloMosaic.Lib.Exec

/-! # The run of the kernel from part 47 on -/

@[expose] public section

noncomputable section

namespace Cert.KernelIdeal.Bfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen

variable {F : FTy → Type} [FloatOps F] [Named F]

local notation "𝕄" => MT nD τ sig Unit (Elt F) ℕ UU ℕ

variable (K : GSem nD τ sig → ℕ) (PA P0 : Dev nD → OutC F)

set_option maxHeartbeats 4000000 in
/-- The stretch from part 47: exchanges are started, awaited and taken into the result. -/
theorem ph47 (c : Dev nD) (v57 : BitVec 32) (v64 : BitVec 32) (v71 : BitVec 32) (v72 : BitVec 32) (v1435 : BitVec 32) (v1474 : BitVec 32)
    (Kt : (Σ' (d0 : Dev nD) (v71 : BitVec 32) (v72 : BitVec 32), BitVec 32) → sProp 𝕄) :
    iprop(levAts L lv ∗ xsnd K (msgs PA P0) ⟨1, 1, 1⟩ c ∗ xrcv K (msgs PA P0) ⟨0, 1, 1⟩ c ∗ xrcv K (msgs PA P0) ⟨1, 1, 1⟩ c ∗ (xres K (msgs PA P0) ⟨0, 1, 0⟩ c ∗ grant ⟨0, 1, 0⟩ (par ⟨0, 1, 0⟩ c)) ∗ (xres K (msgs PA P0) ⟨1, 1, 0⟩ c ∗ grant ⟨1, 1, 0⟩ (par ⟨1, 1, 0⟩ c)) ∗ (∃ f, stPts 0 c f) ∗ ((Memref.whole cc0_stg3_0).view.loc (c : Thread nD τ) ↦{fullShare} out16 PA P0 c) ∗ debt 18 c
      ∗ (∀ v1552, (xsnd K (msgs PA P0) ⟨1, 1, 0⟩ c ∗ xrcv K (msgs PA P0) ⟨1, 1, 0⟩ c ∗ semVal (sendCell ⟨1, 1, 1⟩ c) 0 ∗ semVal (sendCell ⟨0, 1, 0⟩ c) 0 ∗ semVal (recvCell ⟨0, 1, 1⟩ c) 0 ∗ (∃ f, lPts ⟨0, 1, 1⟩ c f) ∗ semVal (recvCell ⟨1, 1, 1⟩ c) 0 ∗ (∃ f, lPts ⟨1, 1, 1⟩ c f) ∗ semVal (recvCell ⟨0, 1, 0⟩ c) 0 ∗ (∃ f, lPts ⟨0, 1, 0⟩ c f) ∗ (∃ f, stPts 0 c f) ∗ ((Memref.whole cc0_stg3_0).view.loc (c : Thread nD τ) ↦{fullShare} out19 PA P0 c) ∗ debt 20 c) -∗ Kt ⟨c, v71, v72, v1552⟩))
      ⊢ wp frame (wpE (defs₀ (F := F)) 𝒱₀ c none) Set.univ (tail47 (F := F) c v57 v64 v71 v72 v1435 v1474) Kt := by
  iintro ⟨#Hlev, Hs17, Hr16, Hr17, Hx18, Hx19, ⟨%fS0, Hst0⟩, Ho, Hd, Hk⟩
  unfold tail47 k0_part47_skel k0_part48_skel k0_part49_skel
  try sl_exec
  iapply (xwaitR K (msgs PA P0) (e := ⟨0, 1, 1⟩) rfl (n := 18) (by decide)) $$ [Hr16 Hd]
  · isplitr; · iexact Hlev
    isplitl [Hr16]; · iexact Hr16
    iexact Hd
  unfold recvPay
  iintro ⟨⟨%fl16, %hfl16, Hl16⟩, Hdr16, Hd⟩
  have hv16 : (Memref.whole cc0_scratch1).view.readAt (Elt F) (Rect.unit (s := S496x1024) ![256, 0] S128x1024.size inb_S496x1024_S128x1024_256_0).toLoadRect fl16 = msg16 PA P0 c := hfl16
  set_option sl_exec.maxSteps 3 in sl_exec
  ihave Ho := fold17 PA P0 c $$ Ho
  sl_exec
  iapply (xsend K (msgs PA P0) (e := ⟨0, 1, 0⟩) (dev_24 c) rfl rfl _ ((staged00 _ _ 1).trans (sent18 PA P0 c).symm) (n := 18) rfl) $$ [Hx18 Hst0 Hd]
  · icases Hx18 with ⟨Hxa, Hxb⟩
    isplitl [Hxa]; · iexact Hxa
    isplitl [Hxb]; · iexact Hxb
    isplitl [Hst0]; · iexact Hst0
    iexact Hd
  iintro ⟨Hs18, Hr18, Hd⟩
  try sl_exec
  iapply (xwaitS K (msgs PA P0) (e := ⟨1, 1, 1⟩) rfl (n := 19)) $$ [Hs17 Hd]
  · isplitr; · iexact Hlev
    isplitl [Hs17]; · iexact Hs17
    iexact Hd
  iintro ⟨⟨%fs17, Hst1⟩, Hds17, Hd⟩
  ihave Hst1 := (show (stPts 1 c fs17 : sProp 𝕄) ⊢ ((Memref.whole cc0_scratch5).view.loc (c : Thread nD τ) ↦{fullShare} fs17) from BI.Entails.refl _) $$ Hst1
  try sl_exec
  iapply (xwaitR K (msgs PA P0) (e := ⟨1, 1, 1⟩) rfl (n := 19) (by decide)) $$ [Hr17 Hd]
  · isplitr; · iexact Hlev
    isplitl [Hr17]; · iexact Hr17
    iexact Hd
  unfold recvPay
  iintro ⟨⟨%fl17, %hfl17, Hl17⟩, Hdr17, Hd⟩
  have hv17 : (Memref.whole cc0_scratch4).view.readAt (Elt F) (Rect.unit (s := S496x1024) ![256, 0] S128x1024.size inb_S496x1024_S128x1024_256_0).toLoadRect fl17 = msg17 PA P0 c := hfl17
  set_option sl_exec.maxSteps 3 in sl_exec
  ihave Ho := fold18 PA P0 c $$ Ho
  sl_exec
  iapply (xsend K (msgs PA P0) (e := ⟨1, 1, 0⟩) (dev_25 c) rfl rfl _ ((staged10 _ _ 1).trans (sent19 PA P0 c).symm) (n := 19) rfl) $$ [Hx19 Hst1 Hd]
  · icases Hx19 with ⟨Hxa, Hxb⟩
    isplitl [Hxa]; · iexact Hxa
    isplitl [Hxb]; · iexact Hxb
    isplitl [Hst1]; · iexact Hst1
    iexact Hd
  iintro ⟨Hs19, Hr19, Hd⟩
  try sl_exec
  iapply (xwaitS K (msgs PA P0) (e := ⟨0, 1, 0⟩) rfl (n := 20)) $$ [Hs18 Hd]
  · isplitr; · iexact Hlev
    isplitl [Hs18]; · iexact Hs18
    iexact Hd
  iintro ⟨⟨%fs18, Hst0⟩, Hds18, Hd⟩
  ihave Hst0 := (show (stPts 0 c fs18 : sProp 𝕄) ⊢ ((Memref.whole cc0_scratch2).view.loc (c : Thread nD τ) ↦{fullShare} fs18) from BI.Entails.refl _) $$ Hst0
  try sl_exec
  iapply (xwaitR K (msgs PA P0) (e := ⟨0, 1, 0⟩) rfl (n := 20) (by decide)) $$ [Hr18 Hd]
  · isplitr; · iexact Hlev
    isplitl [Hr18]; · iexact Hr18
    iexact Hd
  unfold recvPay
  iintro ⟨⟨%fl18, %hfl18, Hl18⟩, Hdr18, Hd⟩
  have hv18 : (Memref.whole cc0_scratch1).view.readAt (Elt F) (Rect.unit (s := S496x1024) ![0, 0] S256x1024.size inb_S496x1024_S256x1024_0_0).toLoadRect fl18 = msg18 PA P0 c := hfl18
  set_option sl_exec.maxSteps 3 in sl_exec
  ihave Ho := fold19 PA P0 c $$ Ho
  sl_step
  iapply Hk
  isplitl [Hs19]; · iexact Hs19
  isplitl [Hr19]; · iexact Hr19
  isplitl [Hds17]; · iexact Hds17
  isplitl [Hds18]; · iexact Hds18
  isplitl [Hdr16]; · iexact Hdr16
  isplitl [Hl16]; · iexists fl16; iexact Hl16
  isplitl [Hdr17]; · iexact Hdr17
  isplitl [Hl17]; · iexists fl17; iexact Hl17
  isplitl [Hdr18]; · iexact Hdr18
  isplitl [Hl18]; · iexists fl18; iexact Hl18
  isplitl [Hst0]; · iexists _; iexact Hst0
  isplitl [Ho]; · iexact Ho
  iexact Hd

end Cert.KernelIdeal.Bfly
-- ==== Proof.RunAB.lean ====
module

public import proofs.«01_k».proof.Proof.Exch
public import proofs.«01_k».proof.Proof.Vals
public import proofs.«01_k».proof.Proof.Tails
public import proofs.«01_k».proof.Proof.Ph1
public import proofs.«01_k».proof.Proof.Ph15
public import proofs.«01_k».proof.Proof.Ph20
public import proofs.«01_k».proof.Proof.Ph25
public import proofs.«01_k».proof.Proof.Ph28
public import proofs.«01_k».proof.Proof.Ph31
public import proofs.«01_k».proof.Proof.Ph34
public import proofs.«01_k».proof.Proof.Ph38
public import proofs.«01_k».proof.Proof.Ph41
public import proofs.«01_k».proof.Proof.Ph44
public import proofs.«01_k».proof.Proof.Ph47
public import Idealize.ShloMosaic.Lib.Exec

/-! # The run of the whole body -/

@[expose] public section

noncomputable section

namespace Cert.KernelIdeal.Bfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen

variable {F : FTy → Type} [FloatOps F] [Named F]

local notation "𝕄" => MT nD τ sig Unit (Elt F) ℕ UU ℕ

variable (K : GSem nD τ sig → ℕ) (PA P0 : Dev nD → OutC F)

/-- One thing for each exchange, listed in program order. -/
theorem sepEx (Φ : Ex → sProp 𝕄) :
    bigSep Finset.univ Φ = iprop(Φ ⟨0, 0, 0⟩ ∗ Φ ⟨1, 0, 0⟩ ∗ Φ ⟨0, 0, 1⟩ ∗ Φ ⟨1, 0, 1⟩ ∗ Φ ⟨0, 0, 2⟩ ∗ Φ ⟨1, 0, 2⟩ ∗ Φ ⟨0, 0, 3⟩ ∗ Φ ⟨1, 0, 3⟩ ∗ Φ ⟨0, 0, 4⟩ ∗ Φ ⟨1, 0, 4⟩ ∗ Φ ⟨0, 1, 4⟩ ∗ Φ ⟨1, 1, 4⟩ ∗ Φ ⟨0, 1, 3⟩ ∗ Φ ⟨1, 1, 3⟩ ∗ Φ ⟨0, 1, 2⟩ ∗ Φ ⟨1, 1, 2⟩ ∗ Φ ⟨0, 1, 1⟩ ∗ Φ ⟨1, 1, 1⟩ ∗ Φ ⟨0, 1, 0⟩ ∗ Φ ⟨1, 1, 0⟩) := by
  rw [bigSep_univ_eq_bigSepL [⟨0, 0, 0⟩, ⟨1, 0, 0⟩, ⟨0, 0, 1⟩, ⟨1, 0, 1⟩, ⟨0, 0, 2⟩, ⟨1, 0, 2⟩, ⟨0, 0, 3⟩, ⟨1, 0, 3⟩, ⟨0, 0, 4⟩, ⟨1, 0, 4⟩, ⟨0, 1, 4⟩, ⟨1, 1, 4⟩, ⟨0, 1, 3⟩, ⟨1, 1, 3⟩, ⟨0, 1, 2⟩, ⟨1, 1, 2⟩, ⟨0, 1, 1⟩, ⟨1, 1, 1⟩, ⟨0, 1, 0⟩, ⟨1, 1, 0⟩] (by decide) (by decide)]; rfl

/-- Sixteen things, listed. -/
theorem sep16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [bigSep_univ_eq_bigSepL [0, 1, 2, 3, 4, 5, 6, 7, 8, 9, 10, 11, 12, 13, 14, 15] (by decide) (by decide)]; rfl

/-- Five things, listed. -/
theorem sep5 (Φ : Fin 5 → sProp 𝕄) :
    bigSep Finset.univ Φ = iprop(Φ 0 ∗ Φ 1 ∗ Φ 2 ∗ Φ 3 ∗ Φ 4) := by
  rw [bigSep_univ_eq_bigSepL [0, 1, 2, 3, 4] (by decide) (by decide)]; rfl

/-- A buffer lent out as eight reading shares, and what stays. -/
theorem toks8 (b : Ref sig .tc) (c : Dev nD) (f : Buf (Elt F) ((Memref.whole b).view.loc (c : Thread nD τ))) :
    ((Memref.whole b).view.loc (c : Thread nD τ) ↦{fullShare} f : sProp 𝕄)
      = iprop(((Memref.whole b).view.loc (c : Thread nD τ) ↦{Transfers.shareDrop fullShare 8} f)
        ∗ ((Memref.whole b).view.loc (c : Thread nD τ) ↦{Transfers.shareTokN fullShare 0} f)
        ∗ ((Memref.whole b).view.loc (c : Thread nD τ) ↦{Transfers.shareTokN fullShare 1} f)
        ∗ ((Memref.whole b).view.loc (c : Thread nD τ) ↦{Transfers.shareTokN fullShare 2} f)
        ∗ ((Memref.whole b).view.loc (c : Thread nD τ) ↦{Transfers.shareTokN fullShare 3} f)
        ∗ ((Memref.whole b).view.loc (c : Thread nD τ) ↦{Transfers.shareTokN fullShare 4} f)
        ∗ ((Memref.whole b).view.loc (c : Thread nD τ) ↦{Transfers.shareTokN fullShare 5} f)
        ∗ ((Memref.whole b).view.loc (c : Thread nD τ) ↦{Transfers.shareTokN fullShare 6} f)
        ∗ ((Memref.whole b).view.loc (c : Thread nD τ) ↦{Transfers.shareTokN fullShare 7} f)) := by
  have e := Entails.antisymm (Transfers.pointsTo_toks_range (ℓ := (Memref.whole b).view.loc (c : Thread nD τ)) (S := Finset.univ) (f := f) (Ix := Unit) (Name := ℕ) (U := UU) (Lvl := ℕ) fullShare 8).1
    (Transfers.pointsTo_toks_range (ℓ := (Memref.whole b).view.loc (c : Thread nD τ)) (S := Finset.univ) (f := f) fullShare 8).2
  rw [bigSep_eq_bigSepL_of_eq (S := Finset.range 8) [0, 1, 2, 3, 4, 5, 6, 7] (by decide) (by decide)] at e
  exact e

set_option maxHeartbeats 16000000 in
/-- The compute part of the body: from its start to its part 25. -/
theorem runA (c : Dev nD) (W)
    (kx : Buf (Elt F) ((Memref.whole main_v11).view.loc (c : Thread nD τ)))
    (vx : Buf (Elt F) ((Memref.whole main_v12).view.loc (c : Thread nD τ)))
    (f6 : Buf (Elt F) ((Memref.whole cc0_scratch6).view.loc (c : Thread nD τ)))
    (f7 : Buf (Elt F) ((Memref.whole cc0_scratch7).view.loc (c : Thread nD τ)))
    (f8 : Buf (Elt F) ((Memref.whole cc0_scratch8).view.loc (c : Thread nD τ)))
    (fs : Buf (Elt F) ((Memref.whole cc0_scratch2).view.loc (c : Thread nD τ)))
    (xs : Buf (Elt F) ((Memref.whole cc0_stg0_0).view.loc (c : Thread nD τ)))
    (wq : Buf (Elt F) ((Memref.whole cc0_stg1_0).view.loc (c : Thread nD τ)))
    (wo : Buf (Elt F) ((Memref.whole cc0_stg2_0).view.loc (c : Thread nD τ)))
    (fo : Buf (Elt F) ((Memref.whole cc0_stg3_0).view.loc (c : Thread nD τ)))
    (fk : Buf (Elt F) (kM.view.loc (c : Thread nD τ))) (fv : Buf (Elt F) (vM.view.loc (c : Thread nD τ)))
    (hA : outA xs wq wo (kBuf kx c) (vBuf vx c) = PA c) (hB : outB xs wq wo (kBuf kx c) (vBuf vx c) = out0 PA P0 c)
    (Kt : (Σ' (d0 : Dev nD) (v71 : BitVec 32) (v72 : BitVec 32), BitVec 32) → sProp 𝕄) :
    iprop(levAts L lv
      ∗ ((Memref.whole main_v11).view.loc (c : Thread nD τ) ↦{fullShare} kx)
      ∗ ((Memref.whole main_v12).view.loc (c : Thread nD τ) ↦{fullShare} vx)
      ∗ (kM.view.loc (c : Thread nD τ) ↦{fullShare} fk)
      ∗ (vM.view.loc (c : Thread nD τ) ↦{fullShare} fv)
      ∗ (bigSep Finset.univ fun i : Fin 16 => semVal ((c : Thread nD τ), ksem i) 0)
      ∗ ((Memref.whole cc0_scratch6).view.loc (c : Thread nD τ) ↦{fullShare} f6)
      ∗ ((Memref.whole cc0_scratch7).view.loc (c : Thread nD τ) ↦{fullShare} f7)
      ∗ ((Memref.whole cc0_scratch8).view.loc (c : Thread nD τ) ↦{fullShare} f8)
      ∗ ((Memref.whole cc0_scratch2).view.loc (c : Thread nD τ) ↦{fullShare} fs)
      ∗ owes (c : Thread nD τ) (O₀ c) W
      ∗ (bigSep Finset.univ fun d : Fin 5 => bres K (msgs PA P0) d c)
      ∗ bwait K (msgs PA P0) c
      ∗ xres K (msgs PA P0) ⟨0, 0, 0⟩ c
      ∗ ((Memref.whole cc0_stg0_0).view.loc (c : Thread nD τ) ↦{fullShare} xs)
      ∗ ((Memref.whole cc0_stg1_0).view.loc (c : Thread nD τ) ↦{fullShare} wq)
      ∗ ((Memref.whole cc0_stg2_0).view.loc (c : Thread nD τ) ↦{fullShare} wo)
      ∗ ((Memref.whole cc0_stg3_0).view.loc (c : Thread nD τ) ↦{fullShare} fo)
      ∗ (∀ v57 v64 v71 v72 v79 v80 v87 v104 v111 v128 v647, (((Memref.whole main_v11).view.loc (c : Thread nD τ) ↦{fullShare} kx)
          ∗ ((Memref.whole main_v12).view.loc (c : Thread nD τ) ↦{fullShare} vx)
          ∗ (∃ f, kM.view.loc (c : Thread nD τ) ↦{fullShare} f)
          ∗ (∃ f, vM.view.loc (c : Thread nD τ) ↦{fullShare} f)
          ∗ (bigSep Finset.univ fun i : Fin 16 => semVal ((c : Thread nD τ), ksem i) 0)
          ∗ (∃ f, (Memref.whole cc0_scratch6).view.loc (c : Thread nD τ) ↦{fullShare} f)
          ∗ (∃ f, (Memref.whole cc0_scratch7).view.loc (c : Thread nD τ) ↦{fullShare} f)
          ∗ (∃ f, (Memref.whole cc0_scratch8).view.loc (c : Thread nD τ) ↦{fullShare} f)
          ∗ semVal (barCell c) 0
          ∗ xsnd K (msgs PA P0) ⟨0, 0, 0⟩ c
          ∗ xrcv K (msgs PA P0) ⟨0, 0, 0⟩ c
          ∗ grants1 c
          ∗ ((Memref.whole cc0_stg0_0).view.loc (c : Thread nD τ) ↦{fullShare} xs)
          ∗ ((Memref.whole cc0_stg1_0).view.loc (c : Thread nD τ) ↦{fullShare} wq)
          ∗ ((Memref.whole cc0_stg2_0).view.loc (c : Thread nD τ) ↦{fullShare} wo)
          ∗ ((Memref.whole cc0_stg3_0).view.loc (c : Thread nD τ) ↦{fullShare} out0 PA P0 c)
          ∗ debt 1 c)
        -∗ wp frame (wpE (defs₀ (F := F)) 𝒱₀ c none) Set.univ (tail25 (F := F) c v57 v64 v71 v72 v79 v80 v87 v104 v111 v128 v647 ((Memref.whole cc0_stg3_0).view.readAt (Elt F) (Rect.unit (s := S1024x1024) (k0_off3 c) S256x1024.size (k0_off3_inb c)).toLoadRect (out0 PA P0 c))) Kt))
      ⊢ wp frame (wpE (defs₀ (F := F)) 𝒱₀ c none) Set.univ (tail1 (F := F)) Kt := by
  iintro ⟨#Hlev, HV11, HV12, Hkm, Hvm, HS, H6, H7, H8, Hst0, HO, HB, HBw, Hx000, Hxs, Hwq, Hwo, Ho, HK⟩
  ihave HT := (Entails.of_eq (toks8 main_v11 c kx)) $$ HV11
  icases HT with ⟨HTk, HTk0, HTk1, HTk2, HTk3, HTk4, HTk5, HTk6, HTk7⟩
  ihave HT := (Entails.of_eq (toks8 main_v12 c vx)) $$ HV12
  icases HT with ⟨HTv, HTv0, HTv1, HTv2, HTv3, HTv4, HTv5, HTv6, HTv7⟩
  ihave HT := (Entails.of_eq (kWhole c fk)) $$ Hkm
  icases HT with ⟨HPk0, HPk1, HPk2, HPk3, HPk4, HPk5, HPk6, HPk7⟩
  ihave HT := (Entails.of_eq (vWhole c fv)) $$ Hvm
  icases HT with ⟨HPv0, HPv1, HPv2, HPv3, HPv4, HPv5, HPv6, HPv7⟩
  ihave HT := (Entails.of_eq (sep16 _)) $$ HS
  icases HT with ⟨HS0, HS1, HS2, HS3, HS4, HS5, HS6, HS7, HS8, HS9, HS10, HS11, HS12, HS13, HS14, HS15⟩
  ihave HT := (Entails.of_eq (sep5 _)) $$ HB
  icases HT with ⟨HB0, HB1, HB2, HB3, HB4⟩
  ihave HO := (show owes (c : Thread nD τ) (O₀ c) W ⊢ (owes (c : Thread nD τ) (owed 0 c + owedBar (dimsFrom 0) c) W : sProp 𝕄) from Entails.of_eq (by rw [show dimsFrom 0 = Finset.univ from by decide]; rfl)) $$ HO
  iapply (ph1 K (msgs PA P0) c W kx vx fk fv f6 f7 xs wq Kt)
  isplitr; · iexact Hlev
  isplitl [HTk0]; · iexact HTk0
  isplitl [HTv0]; · iexact HTv0
  isplitl [HTk1]; · iexact HTk1
  isplitl [HTv1]; · iexact HTv1
  isplitl [HTk2]; · iexact HTk2
  isplitl [HTv2]; · iexact HTv2
  isplitl [HTk3]; · iexact HTk3
  isplitl [HTv3]; · iexact HTv3
  isplitl [HTk4]; · iexact HTk4
  isplitl [HTv4]; · iexact HTv4
  isplitl [HTk5]; · iexact HTk5
  isplitl [HTv5]; · iexact HTv5
  isplitl [HTk6]; · iexact HTk6
  isplitl [HTv6]; · iexact HTv6
  isplitl [HTk7]; · iexact HTk7
  isplitl [HTv7]; · iexact HTv7
  isplitl [HPk0]; · iexact HPk0
  isplitl [HPv0]; · iexact HPv0
  isplitl [HPk1]; · iexact HPk1
  isplitl [HPv1]; · iexact HPv1
  isplitl [HPk2]; · iexact HPk2
  isplitl [HPv2]; · iexact HPv2
  isplitl [HPk3]; · iexact HPk3
  isplitl [HPv3]; · iexact HPv3
  isplitl [HPk4]; · iexact HPk4
  isplitl [HPv4]; · iexact HPv4
  isplitl [HPk5]; · iexact HPk5
  isplitl [HPv5]; · iexact HPv5
  isplitl [HPk6]; · iexact HPk6
  isplitl [HPv6]; · iexact HPv6
  isplitl [HPk7]; · iexact HPk7
  isplitl [HPv7]; · iexact HPv7
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [H6]; · iexact H6
  isplitl [H7]; · iexact H7
  isplitl [HO]; · iexact HO
  isplitl [HB0]; · iexact HB0
  isplitl [HB1]; · iexact HB1
  isplitl [HB2]; · iexact HB2
  isplitl [HB3]; · iexact HB3
  isplitl [HB4]; · iexact HB4
  isplitl [HBw]; · iexact HBw
  isplitl [Hxs]; · iexact Hxs
  isplitl [Hwq]; · iexact Hwq
  iintro %v57 %v64 %v71 %v72 %v79 %v80 %v87 %v104 %v111 %v128 ⟨HTk0, HTv0, HTk1, HTv1, HTk2, HTv2, HTk3, HTv3, HTk4, HTv4, HTk5, HTv5, HTk6, HTv6, HTk7, HTv7, HS0, HS1, HS2, HS3, HS4, HS5, HS6, HS7, HS8, HS9, HS10, HS11, HS12, HS13, HS14, HS15, H6, H7, HBz, Hpay, Hd, Hxs, Hwq, Hkm, Hvm⟩
  ihave HG := (pay_grants c) $$ Hpay
  icases HG with ⟨Hg000, HG⟩
  iapply (ph15 K (msgs PA P0) c v57 v64 v71 v72 v79 v80 v87 v104 v111 v128 (kBuf kx c) (vBuf vx c) f6 xs wq wo fo f8 fs (by rw [hA]; exact sent0 PA P0 c) Kt)
  isplitl [H6]; · iexact H6
  isplitl [Hxs]; · iexact Hxs
  isplitl [Hwo]; · iexact Hwo
  isplitl [Ho]; · iexact Ho
  isplitl [H8]; · iexact H8
  isplitl [Hkm]; · iexact Hkm
  isplitl [Hvm]; · iexact Hvm
  isplitl [Hst0]; · iexact Hst0
  isplitl [Hx000]; · iexact Hx000
  isplitl [Hg000]; · iexact Hg000
  isplitl [Hd]; · iexact Hd
  iintro %v57 %v64 %v71 %v72 %v79 %v80 %v87 %v104 %v111 %v128 %v647 ⟨H6, Hxs, Hwo, Ho, ⟨%g8, H8⟩, Hkm, Hvm, Hs000, Hr000, Hd⟩
  iapply (ph20 c v57 v64 v71 v72 v79 v80 v87 v104 v111 v128 v647 (kBuf kx c) (vBuf vx c) f7 xs wq wo fo g8 Kt)
  isplitl [H7]; · iexact H7
  isplitl [Hwq]; · iexact Hwq
  isplitl [Hwo]; · iexact Hwo
  isplitl [Ho]; · iexact Ho
  isplitl [H8]; · iexact H8
  isplitl [Hkm]; · iexact Hkm
  isplitl [Hvm]; · iexact Hvm
  iintro ⟨H7, Hwq, Hwo, Ho, H8, Hkm, Hvm⟩
  rw [hB]
  ihave HV11 := (Entails.of_eq (toks8 main_v11 c kx).symm) $$ [HTk HTk0 HTk1 HTk2 HTk3 HTk4 HTk5 HTk6 HTk7]
  · isplitl [HTk]; · iexact HTk
    isplitl [HTk0]; · iexact HTk0
    isplitl [HTk1]; · iexact HTk1
    isplitl [HTk2]; · iexact HTk2
    isplitl [HTk3]; · iexact HTk3
    isplitl [HTk4]; · iexact HTk4
    isplitl [HTk5]; · iexact HTk5
    isplitl [HTk6]; · iexact HTk6
    iexact HTk7
  ihave HV12 := (Entails.of_eq (toks8 main_v12 c vx).symm) $$ [HTv HTv0 HTv1 HTv2 HTv3 HTv4 HTv5 HTv6 HTv7]
  · isplitl [HTv]; · iexact HTv
    isplitl [HTv0]; · iexact HTv0
    isplitl [HTv1]; · iexact HTv1
    isplitl [HTv2]; · iexact HTv2
    isplitl [HTv3]; · iexact HTv3
    isplitl [HTv4]; · iexact HTv4
    isplitl [HTv5]; · iexact HTv5
    isplitl [HTv6]; · iexact HTv6
    iexact HTv7
  ihave HS := (Entails.of_eq (sep16 (fun i => semVal ((c : Thread nD τ), ksem i) 0)).symm) $$ [HS0 HS1 HS2 HS3 HS4 HS5 HS6 HS7 HS8 HS9 HS10 HS11 HS12 HS13 HS14 HS15]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    iexact HS15
  iapply HK
  isplitl [HV11]; · iexact HV11
  isplitl [HV12]; · iexact HV12
  isplitl [Hkm]; · iexists _; iexact Hkm
  isplitl [Hvm]; · iexists _; iexact Hvm
  isplitl [HS]; · iexact HS
  isplitl [H6]; · iexact H6
  isplitl [H7]; · iexact H7
  isplitl [H8]; · iexact H8
  isplitl [HBz]; · iexact HBz
  isplitl [Hs000]; · iexact Hs000
  isplitl [Hr000]; · iexact Hr000
  isplitl [HG]; · iexact HG
  isplitl [Hxs]; · iexact Hxs
  isplitl [Hwq]; · iexact Hwq
  isplitl [Hwo]; · iexact Hwo
  isplitl [Ho]; · iexact Ho
  iexact Hd

/-- What the exchanges but the first start with. -/
def xres1 (c : Dev nD) : sProp 𝕄 :=
  iprop(xres K (msgs PA P0) ⟨1, 0, 0⟩ c
    ∗ xres K (msgs PA P0) ⟨0, 0, 1⟩ c
    ∗ xres K (msgs PA P0) ⟨1, 0, 1⟩ c
    ∗ xres K (msgs PA P0) ⟨0, 0, 2⟩ c
    ∗ xres K (msgs PA P0) ⟨1, 0, 2⟩ c
    ∗ xres K (msgs PA P0) ⟨0, 0, 3⟩ c
    ∗ xres K (msgs PA P0) ⟨1, 0, 3⟩ c
    ∗ xres K (msgs PA P0) ⟨0, 0, 4⟩ c
    ∗ xres K (msgs PA P0) ⟨1, 0, 4⟩ c
    ∗ xres K (msgs PA P0) ⟨0, 1, 4⟩ c
    ∗ xres K (msgs PA P0) ⟨1, 1, 4⟩ c
    ∗ xres K (msgs PA P0) ⟨0, 1, 3⟩ c
    ∗ xres K (msgs PA P0) ⟨1, 1, 3⟩ c
    ∗ xres K (msgs PA P0) ⟨0, 1, 2⟩ c
    ∗ xres K (msgs PA P0) ⟨1, 1, 2⟩ c
    ∗ xres K (msgs PA P0) ⟨0, 1, 1⟩ c
    ∗ xres K (msgs PA P0) ⟨1, 1, 1⟩ c
    ∗ xres K (msgs PA P0) ⟨0, 1, 0⟩ c
    ∗ xres K (msgs PA P0) ⟨1, 1, 0⟩ c)

set_option maxHeartbeats 16000000 in
/-- The exchanges: the body from its part 25 to the wait for the last of them. -/
theorem runB (c : Dev nD) (v57 v64 v71 v72 v79 v80 v87 v104 v111 v128 v647 : BitVec 32)
    (Kt : (Σ' (d0 : Dev nD) (v71 : BitVec 32) (v72 : BitVec 32), BitVec 32) → sProp 𝕄) :
    iprop(levAts L lv
      ∗ xsnd K (msgs PA P0) ⟨0, 0, 0⟩ c
      ∗ xrcv K (msgs PA P0) ⟨0, 0, 0⟩ c
      ∗ xres1 K PA P0 c
      ∗ grants1 c
      ∗ (∃ f, stPts 1 c f)
      ∗ ((Memref.whole cc0_stg3_0).view.loc (c : Thread nD τ) ↦{fullShare} out0 PA P0 c)
      ∗ debt 1 c
      ∗ (∀ v71 v72 v1552, (xsnd K (msgs PA P0) ⟨1, 1, 0⟩ c
          ∗ xrcv K (msgs PA P0) ⟨1, 1, 0⟩ c
          ∗ semVal (sendCell ⟨0, 0, 0⟩ c) 0
          ∗ semVal (sendCell ⟨1, 0, 0⟩ c) 0
          ∗ semVal (sendCell ⟨0, 0, 1⟩ c) 0
          ∗ semVal (sendCell ⟨1, 0, 1⟩ c) 0
          ∗ semVal (sendCell ⟨0, 0, 2⟩ c) 0
          ∗ semVal (sendCell ⟨1, 0, 2⟩ c) 0
          ∗ semVal (sendCell ⟨0, 0, 3⟩ c) 0
          ∗ semVal (sendCell ⟨1, 0, 3⟩ c) 0
          ∗ semVal (sendCell ⟨0, 0, 4⟩ c) 0
          ∗ semVal (sendCell ⟨1, 0, 4⟩ c) 0
          ∗ semVal (sendCell ⟨0, 1, 4⟩ c) 0
          ∗ semVal (sendCell ⟨1, 1, 4⟩ c) 0
          ∗ semVal (sendCell ⟨0, 1, 3⟩ c) 0
          ∗ semVal (sendCell ⟨1, 1, 3⟩ c) 0
          ∗ semVal (sendCell ⟨0, 1, 2⟩ c) 0
          ∗ semVal (sendCell ⟨1, 1, 2⟩ c) 0
          ∗ semVal (sendCell ⟨0, 1, 1⟩ c) 0
          ∗ semVal (sendCell ⟨1, 1, 1⟩ c) 0
          ∗ semVal (sendCell ⟨0, 1, 0⟩ c) 0
          ∗ semVal (recvCell ⟨0, 0, 0⟩ c) 0
          ∗ semVal (recvCell ⟨1, 0, 0⟩ c) 0
          ∗ semVal (recvCell ⟨0, 0, 1⟩ c) 0
          ∗ semVal (recvCell ⟨1, 0, 1⟩ c) 0
          ∗ semVal (recvCell ⟨0, 0, 2⟩ c) 0
          ∗ semVal (recvCell ⟨1, 0, 2⟩ c) 0
          ∗ semVal (recvCell ⟨0, 0, 3⟩ c) 0
          ∗ semVal (recvCell ⟨1, 0, 3⟩ c) 0
          ∗ semVal (recvCell ⟨0, 0, 4⟩ c) 0
          ∗ semVal (recvCell ⟨1, 0, 4⟩ c) 0
          ∗ semVal (recvCell ⟨0, 1, 4⟩ c) 0
          ∗ semVal (recvCell ⟨1, 1, 4⟩ c) 0
          ∗ semVal (recvCell ⟨0, 1, 3⟩ c) 0
          ∗ semVal (recvCell ⟨1, 1, 3⟩ c) 0
          ∗ semVal (recvCell ⟨0, 1, 2⟩ c) 0
          ∗ semVal (recvCell ⟨1, 1, 2⟩ c) 0
          ∗ semVal (recvCell ⟨0, 1, 1⟩ c) 0
          ∗ semVal (recvCell ⟨1, 1, 1⟩ c) 0
          ∗ semVal (recvCell ⟨0, 1, 0⟩ c) 0
          ∗ (∃ f, lPts ⟨0, 0, 0⟩ c f)
          ∗ (∃ f, lPts ⟨1, 0, 0⟩ c f)
          ∗ (∃ f, lPts ⟨0, 0, 1⟩ c f)
          ∗ (∃ f, lPts ⟨1, 0, 1⟩ c f)
          ∗ (∃ f, lPts ⟨0, 0, 2⟩ c f)
          ∗ (∃ f, lPts ⟨1, 0, 2⟩ c f)
          ∗ (∃ f, lPts ⟨0, 0, 3⟩ c f)
          ∗ (∃ f, lPts ⟨1, 0, 3⟩ c f)
          ∗ (∃ f, lPts ⟨0, 0, 4⟩ c f)
          ∗ (∃ f, lPts ⟨1, 0, 4⟩ c f)
          ∗ (∃ f, lPts ⟨0, 1, 4⟩ c f)
          ∗ (∃ f, lPts ⟨1, 1, 4⟩ c f)
          ∗ (∃ f, lPts ⟨0, 1, 3⟩ c f)
          ∗ (∃ f, lPts ⟨1, 1, 3⟩ c f)
          ∗ (∃ f, lPts ⟨0, 1, 2⟩ c f)
          ∗ (∃ f, lPts ⟨1, 1, 2⟩ c f)
          ∗ (∃ f, lPts ⟨0, 1, 1⟩ c f)
          ∗ (∃ f, lPts ⟨1, 1, 1⟩ c f)
          ∗ (∃ f, lPts ⟨0, 1, 0⟩ c f)
          ∗ (∃ f, stPts 0 c f)
          ∗ ((Memref.whole cc0_stg3_0).view.loc (c : Thread nD τ) ↦{fullShare} out19 PA P0 c)
          ∗ debt 20 c)
        -∗ Kt ⟨c, v71, v72, v1552⟩))
      ⊢ wp frame (wpE (defs₀ (F := F)) 𝒱₀ c none) Set.univ (tail25 (F := F) c v57 v64 v71 v72 v79 v80 v87 v104 v111 v128 v647 ((Memref.whole cc0_stg3_0).view.readAt (Elt F) (Rect.unit (s := S1024x1024) (k0_off3 c) S256x1024.size (k0_off3_inb c)).toLoadRect (out0 PA P0 c))) Kt := by
  unfold xres1 grants1
  iintro ⟨#Hlev, Hs000, Hr000, ⟨Hy100, Hy001, Hy101, Hy002, Hy102, Hy003, Hy103, Hy004, Hy104, Hy014, Hy114, Hy013, Hy113, Hy012, Hy112, Hy011, Hy111, Hy010, Hy110⟩, ⟨Hg100, Hg001, Hg101, Hg002, Hg102, Hg003, Hg103, Hg004, Hg104, Hg014, Hg114, Hg013, Hg113, Hg012, Hg112, Hg011, Hg111, Hg010, Hg110⟩, Hst1, Ho, Hd, HK⟩
  iapply (ph25 K PA P0 c v57 v64 v71 v72 v79 v80 v87 v104 v111 v128 v647 Kt)
  isplitr; · iexact Hlev
  isplitl [Hs000]; · iexact Hs000
  isplitl [Hr000]; · iexact Hr000
  isplitl [Hy100 Hg100]
  · isplitl [Hy100]; · iexact Hy100
    iexact Hg100
  isplitl [Hy001 Hg001]
  · isplitl [Hy001]; · iexact Hy001
    iexact Hg001
  isplitl [Hst1]; · iexact Hst1
  isplitl [Ho]; · iexact Ho
  isplitl [Hd]; · iexact Hd
  iintro %v57 %v64 %v71 %v72 %v79 %v80 %v87 %v104 %v111 %v128 %v847 %v889 ⟨Hs001, Hr001, Hds000, Hds100, Hdr000, Hl000, Hdr100, Hl100, Hst1, Ho, Hd⟩
  iapply (ph28 K PA P0 c v57 v64 v71 v72 v79 v80 v87 v104 v111 v128 v847 v889 Kt)
  isplitr; · iexact Hlev
  isplitl [Hs001]; · iexact Hs001
  isplitl [Hr001]; · iexact Hr001
  isplitl [Hy101 Hg101]
  · isplitl [Hy101]; · iexact Hy101
    iexact Hg101
  isplitl [Hy002 Hg002]
  · isplitl [Hy002]; · iexact Hy002
    iexact Hg002
  isplitl [Hy102 Hg102]
  · isplitl [Hy102]; · iexact Hy102
    iexact Hg102
  isplitl [Hst1]; · iexact Hst1
  isplitl [Ho]; · iexact Ho
  isplitl [Hd]; · iexact Hd
  iintro %v57 %v64 %v71 %v72 %v79 %v80 %v87 %v104 %v111 %v128 %v973 %v1015 ⟨Hs002, Hs102, Hr002, Hr102, Hds001, Hds101, Hdr001, Hl001, Hdr101, Hl101, Ho, Hd⟩
  iapply (ph31 K PA P0 c v57 v64 v71 v72 v79 v80 v87 v104 v111 v128 v973 v1015 Kt)
  isplitr; · iexact Hlev
  isplitl [Hs002]; · iexact Hs002
  isplitl [Hs102]; · iexact Hs102
  isplitl [Hr002]; · iexact Hr002
  isplitl [Hr102]; · iexact Hr102
  isplitl [Hy003 Hg003]
  · isplitl [Hy003]; · iexact Hy003
    iexact Hg003
  isplitl [Hy103 Hg103]
  · isplitl [Hy103]; · iexact Hy103
    iexact Hg103
  isplitl [Ho]; · iexact Ho
  isplitl [Hd]; · iexact Hd
  iintro %v57 %v64 %v71 %v72 %v79 %v80 %v87 %v104 %v111 %v128 %v1057 %v1099 ⟨Hs103, Hr003, Hr103, Hds002, Hds102, Hds003, Hdr002, Hl002, Hdr102, Hl102, Hst0, Ho, Hd⟩
  iapply (ph34 K PA P0 c v57 v64 v71 v72 v79 v80 v87 v104 v111 v128 v1057 v1099 Kt)
  isplitr; · iexact Hlev
  isplitl [Hs103]; · iexact Hs103
  isplitl [Hr003]; · iexact Hr003
  isplitl [Hr103]; · iexact Hr103
  isplitl [Hy004 Hg004]
  · isplitl [Hy004]; · iexact Hy004
    iexact Hg004
  isplitl [Hy104 Hg104]
  · isplitl [Hy104]; · iexact Hy104
    iexact Hg104
  isplitl [Hy014 Hg014]
  · isplitl [Hy014]; · iexact Hy014
    iexact Hg014
  isplitl [Hst0]; · iexact Hst0
  isplitl [Ho]; · iexact Ho
  isplitl [Hd]; · iexact Hd
  iintro %v57 %v64 %v71 %v72 %v79 %v80 %v87 %v104 %v111 %v128 %v1141 %v1183 ⟨Hs014, Hr104, Hr014, Hds103, Hds004, Hds104, Hdr003, Hl003, Hdr103, Hl103, Hdr004, Hl004, Hst1, Ho, Hd⟩
  iapply (ph38 K PA P0 c v57 v64 v71 v72 v79 v80 v87 v104 v111 v128 v1141 v1183 Kt)
  isplitr; · iexact Hlev
  isplitl [Hs014]; · iexact Hs014
  isplitl [Hr104]; · iexact Hr104
  isplitl [Hr014]; · iexact Hr014
  isplitl [Hy114 Hg114]
  · isplitl [Hy114]; · iexact Hy114
    iexact Hg114
  isplitl [Hy013 Hg013]
  · isplitl [Hy013]; · iexact Hy013
    iexact Hg013
  isplitl [Hst1]; · iexact Hst1
  isplitl [Ho]; · iexact Ho
  isplitl [Hd]; · iexact Hd
  iintro %v57 %v64 %v71 %v72 %v79 %v80 %v87 %v104 %v111 %v128 %v1279 %v1318 ⟨Hs013, Hr013, Hds014, Hds114, Hdr104, Hl104, Hdr014, Hl014, Hdr114, Hl114, Hst1, Ho, Hd⟩
  iapply (ph41 K PA P0 c v57 v64 v71 v72 v79 v80 v87 v104 v111 v128 v1279 v1318 Kt)
  isplitr; · iexact Hlev
  isplitl [Hs013]; · iexact Hs013
  isplitl [Hr013]; · iexact Hr013
  isplitl [Hy113 Hg113]
  · isplitl [Hy113]; · iexact Hy113
    iexact Hg113
  isplitl [Hy012 Hg012]
  · isplitl [Hy012]; · iexact Hy012
    iexact Hg012
  isplitl [Hst1]; · iexact Hst1
  isplitl [Ho]; · iexact Ho
  isplitl [Hd]; · iexact Hd
  iintro %v57 %v64 %v71 %v72 %v79 %v80 %v111 %v128 %v1357 %v1396 ⟨Hs012, Hr012, Hds013, Hds113, Hdr013, Hl013, Hdr113, Hl113, Hst1, Ho, Hd⟩
  iapply (ph44 K PA P0 c v57 v64 v71 v72 v79 v80 v111 v128 v1357 v1396 Kt)
  isplitr; · iexact Hlev
  isplitl [Hs012]; · iexact Hs012
  isplitl [Hr012]; · iexact Hr012
  isplitl [Hy112 Hg112]
  · isplitl [Hy112]; · iexact Hy112
    iexact Hg112
  isplitl [Hy011 Hg011]
  · isplitl [Hy011]; · iexact Hy011
    iexact Hg011
  isplitl [Hy111 Hg111]
  · isplitl [Hy111]; · iexact Hy111
    iexact Hg111
  isplitl [Hst1]; · iexact Hst1
  isplitl [Ho]; · iexact Ho
  isplitl [Hd]; · iexact Hd
  iintro %v57 %v64 %v71 %v72 %v1435 %v1474 ⟨Hs111, Hr011, Hr111, Hds012, Hds112, Hds011, Hdr012, Hl012, Hdr112, Hl112, Hst0, Ho, Hd⟩
  iapply (ph47 K PA P0 c v57 v64 v71 v72 v1435 v1474 Kt)
  isplitr; · iexact Hlev
  isplitl [Hs111]; · iexact Hs111
  isplitl [Hr011]; · iexact Hr011
  isplitl [Hr111]; · iexact Hr111
  isplitl [Hy010 Hg010]
  · isplitl [Hy010]; · iexact Hy010
    iexact Hg010
  isplitl [Hy110 Hg110]
  · isplitl [Hy110]; · iexact Hy110
    iexact Hg110
  isplitl [Hst0]; · iexact Hst0
  isplitl [Ho]; · iexact Ho
  isplitl [Hd]; · iexact Hd
  iintro %v1552 ⟨Hs110, Hr110, Hds111, Hds010, Hdr011, Hl011, Hdr111, Hl111, Hdr010, Hl010, Hst0, Ho, Hd⟩
  iapply HK
  isplitl [Hs110]; · iexact Hs110
  isplitl [Hr110]; · iexact Hr110
  isplitl [Hds000]; · iexact Hds000
  isplitl [Hds100]; · iexact Hds100
  isplitl [Hds001]; · iexact Hds001
  isplitl [Hds101]; · iexact Hds101
  isplitl [Hds002]; · iexact Hds002
  isplitl [Hds102]; · iexact Hds102
  isplitl [Hds003]; · iexact Hds003
  isplitl [Hds103]; · iexact Hds103
  isplitl [Hds004]; · iexact Hds004
  isplitl [Hds104]; · iexact Hds104
  isplitl [Hds014]; · iexact Hds014
  isplitl [Hds114]; · iexact Hds114
  isplitl [Hds013]; · iexact Hds013
  isplitl [Hds113]; · iexact Hds113
  isplitl [Hds012]; · iexact Hds012
  isplitl [Hds112]; · iexact Hds112
  isplitl [Hds011]; · iexact Hds011
  isplitl [Hds111]; · iexact Hds111
  isplitl [Hds010]; · iexact Hds010
  isplitl [Hdr000]; · iexact Hdr000
  isplitl [Hdr100]; · iexact Hdr100
  isplitl [Hdr001]; · iexact Hdr001
  isplitl [Hdr101]; · iexact Hdr101
  isplitl [Hdr002]; · iexact Hdr002
  isplitl [Hdr102]; · iexact Hdr102
  isplitl [Hdr003]; · iexact Hdr003
  isplitl [Hdr103]; · iexact Hdr103
  isplitl [Hdr004]; · iexact Hdr004
  isplitl [Hdr104]; · iexact Hdr104
  isplitl [Hdr014]; · iexact Hdr014
  isplitl [Hdr114]; · iexact Hdr114
  isplitl [Hdr013]; · iexact Hdr013
  isplitl [Hdr113]; · iexact Hdr113
  isplitl [Hdr012]; · iexact Hdr012
  isplitl [Hdr112]; · iexact Hdr112
  isplitl [Hdr011]; · iexact Hdr011
  isplitl [Hdr111]; · iexact Hdr111
  isplitl [Hdr010]; · iexact Hdr010
  isplitl [Hl000]; · iexact Hl000
  isplitl [Hl100]; · iexact Hl100
  isplitl [Hl001]; · iexact Hl001
  isplitl [Hl101]; · iexact Hl101
  isplitl [Hl002]; · iexact Hl002
  isplitl [Hl102]; · iexact Hl102
  isplitl [Hl003]; · iexact Hl003
  isplitl [Hl103]; · iexact Hl103
  isplitl [Hl004]; · iexact Hl004
  isplitl [Hl104]; · iexact Hl104
  isplitl [Hl014]; · iexact Hl014
  isplitl [Hl114]; · iexact Hl114
  isplitl [Hl013]; · iexact Hl013
  isplitl [Hl113]; · iexact Hl113
  isplitl [Hl012]; · iexact Hl012
  isplitl [Hl112]; · iexact Hl112
  isplitl [Hl011]; · iexact Hl011
  isplitl [Hl111]; · iexact Hl111
  isplitl [Hl010]; · iexact Hl010
  isplitl [Hst0]; · iexact Hst0
  isplitl [Ho]; · iexact Ho
  iexact Hd

end Cert.KernelIdeal.Bfly
-- ==== Proof.Landing.lean ====
module

public import proofs.«01_k».proof.Proof.RunAB
public import Idealize.ShloMosaic.Lib.Exec
public import Idealize.ShloMosaic.Lib.Ring

/-! # The landing buffers as their slices -/

@[expose] public section

noncomputable section

namespace Cert.KernelIdeal.Bfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen

variable {F : FTy → Type} [FloatOps F] [Named F]

local notation "𝕄" => MT nD τ sig Unit (Elt F) ℕ UU ℕ

/-- The rows in which step `k` lands. -/
def rowSet : Fin 5 → Finset S496x1024.Idx
  | 0 => (Rect.unit (s := S496x1024) ![0, 0] S256x1024.size inb_S496x1024_S256x1024_0_0).set
  | 1 => (Rect.unit (s := S496x1024) ![256, 0] S128x1024.size inb_S496x1024_S128x1024_256_0).set
  | 2 => (Rect.unit (s := S496x1024) ![384, 0] S64x1024.size inb_S496x1024_S64x1024_384_0).set
  | 3 => (Rect.unit (s := S496x1024) ![448, 0] S32x1024.size inb_S496x1024_S32x1024_448_0).set
  | 4 => (Rect.unit (s := S496x1024) ![480, 0] S16x1024.size inb_S496x1024_S16x1024_480_0).set

theorem rowSet_disj (k k' : Fin 5) (h : k ≠ k') : Disjoint (rowSet k) (rowSet k') := by
  match k, k', h with
  | 0, 0, h => exact absurd rfl h
  | 0, 1, _ => exact Rect.unit_disjoint 0 (by decide)
  | 0, 2, _ => exact Rect.unit_disjoint 0 (by decide)
  | 0, 3, _ => exact Rect.unit_disjoint 0 (by decide)
  | 0, 4, _ => exact Rect.unit_disjoint 0 (by decide)
  | 1, 0, _ => exact Rect.unit_disjoint 0 (by decide)
  | 1, 1, h => exact absurd rfl h
  | 1, 2, _ => exact Rect.unit_disjoint 0 (by decide)
  | 1, 3, _ => exact Rect.unit_disjoint 0 (by decide)
  | 1, 4, _ => exact Rect.unit_disjoint 0 (by decide)
  | 2, 0, _ => exact Rect.unit_disjoint 0 (by decide)
  | 2, 1, _ => exact Rect.unit_disjoint 0 (by decide)
  | 2, 2, h => exact absurd rfl h
  | 2, 3, _ => exact Rect.unit_disjoint 0 (by decide)
  | 2, 4, _ => exact Rect.unit_disjoint 0 (by decide)
  | 3, 0, _ => exact Rect.unit_disjoint 0 (by decide)
  | 3, 1, _ => exact Rect.unit_disjoint 0 (by decide)
  | 3, 2, _ => exact Rect.unit_disjoint 0 (by decide)
  | 3, 3, h => exact absurd rfl h
  | 3, 4, _ => exact Rect.unit_disjoint 0 (by decide)
  | 4, 0, _ => exact Rect.unit_disjoint 0 (by decide)
  | 4, 1, _ => exact Rect.unit_disjoint 0 (by decide)
  | 4, 2, _ => exact Rect.unit_disjoint 0 (by decide)
  | 4, 3, _ => exact Rect.unit_disjoint 0 (by decide)
  | 4, 4, h => exact absurd rfl h

theorem rowSet_cover : Finset.univ.biUnion rowSet = (Finset.univ : Finset S496x1024.Idx) := by
  refine Finset.eq_univ_iff_forall.mpr fun i => Finset.mem_biUnion.mpr ?_
  have h0 : (i 0).val < 496 := (i 0).isLt
  have h1 : (i 1).val < 1024 := (i 1).isLt
  by_cases a0 : (i 0).val < 256
  · refine ⟨0, Finset.mem_univ _, Rect.mem_set_unit.mpr fun a => ?_⟩
    match a with
    | 0 => exact ⟨Nat.zero_le _, by show (i 0).val < 0 + 256; omega⟩
    | 1 => exact ⟨Nat.zero_le _, by show (i 1).val < 0 + 1024; omega⟩
  by_cases a1 : (i 0).val < 384
  · refine ⟨1, Finset.mem_univ _, Rect.mem_set_unit.mpr fun a => ?_⟩
    match a with
    | 0 => exact ⟨by show 256 ≤ (i 0).val; omega, by show (i 0).val < 256 + 128; omega⟩
    | 1 => exact ⟨Nat.zero_le _, by show (i 1).val < 0 + 1024; omega⟩
  by_cases a2 : (i 0).val < 448
  · refine ⟨2, Finset.mem_univ _, Rect.mem_set_unit.mpr fun a => ?_⟩
    match a with
    | 0 => exact ⟨by show 384 ≤ (i 0).val; omega, by show (i 0).val < 384 + 64; omega⟩
    | 1 => exact ⟨Nat.zero_le _, by show (i 1).val < 0 + 1024; omega⟩
  by_cases a3 : (i 0).val < 480
  · refine ⟨3, Finset.mem_univ _, Rect.mem_set_unit.mpr fun a => ?_⟩
    match a with
    | 0 => exact ⟨by show 448 ≤ (i 0).val; omega, by show (i 0).val < 448 + 32; omega⟩
    | 1 => exact ⟨Nat.zero_le _, by show (i 1).val < 0 + 1024; omega⟩
  · refine ⟨4, Finset.mem_univ _, Rect.mem_set_unit.mpr fun a => ?_⟩
    match a with
    | 0 => exact ⟨by show 480 ≤ (i 0).val; omega, by show (i 0).val < 480 + 16; omega⟩
    | 1 => exact ⟨Nat.zero_le _, by show (i 1).val < 0 + 1024; omega⟩

/-- Half 0, phase 0: the landing buffer held whole is held slice by slice, -/
theorem land00 (c : Dev nD) :
    (iprop(∃ f : Buf (Elt F) ((c : Thread nD τ).loc cc0_scratch0), ((c : Thread nD τ).loc cc0_scratch0) ↦{fullShare} f) : sProp 𝕄)
      ⊢ iprop((∃ f, lPts ⟨0, 0, 0⟩ c f) ∗ (∃ f, lPts ⟨0, 0, 1⟩ c f) ∗ (∃ f, lPts ⟨0, 0, 2⟩ c f) ∗ (∃ f, lPts ⟨0, 0, 3⟩ c f) ∗ (∃ f, lPts ⟨0, 0, 4⟩ c f)) := by
  iintro ⟨%f, H⟩
  ihave H' := (Entails.of_eq (Ring.pointsTo_blocks (ℓ := (c : Thread nD τ).loc cc0_scratch0) rowSet rowSet_disj rowSet_cover (q := fullShare) f
    : ((((c : Thread nD τ).loc cc0_scratch0) ↦{fullShare} f : sProp 𝕄) = _))) $$ H
  ihave H'' := (Entails.of_eq (sep5 (F := F) fun k => ((c : Thread nD τ).loc cc0_scratch0) ↦[rowSet k]{fullShare} f)) $$ H'
  icases H'' with ⟨H0, H1, H2, H3, H4⟩
  isplitl [H0]
  · iexists f; iapply (Entails.of_eq (congrArg (fun S => (((c : Thread nD τ).loc cc0_scratch0) ↦[S]{fullShare} f : sProp 𝕄)) (View.set_slice_whole cc0_scratch0 _).symm)) $$ H0
  isplitl [H1]
  · iexists f; iapply (Entails.of_eq (congrArg (fun S => (((c : Thread nD τ).loc cc0_scratch0) ↦[S]{fullShare} f : sProp 𝕄)) (View.set_slice_whole cc0_scratch0 _).symm)) $$ H1
  isplitl [H2]
  · iexists f; iapply (Entails.of_eq (congrArg (fun S => (((c : Thread nD τ).loc cc0_scratch0) ↦[S]{fullShare} f : sProp 𝕄)) (View.set_slice_whole cc0_scratch0 _).symm)) $$ H2
  isplitl [H3]
  · iexists f; iapply (Entails.of_eq (congrArg (fun S => (((c : Thread nD τ).loc cc0_scratch0) ↦[S]{fullShare} f : sProp 𝕄)) (View.set_slice_whole cc0_scratch0 _).symm)) $$ H3
  iexists f; iapply (Entails.of_eq (congrArg (fun S => (((c : Thread nD τ).loc cc0_scratch0) ↦[S]{fullShare} f : sProp 𝕄)) (View.set_slice_whole cc0_scratch0 _).symm)) $$ H4

/-- and back. -/
theorem unland00 (c : Dev nD) :
    (iprop((∃ f, lPts ⟨0, 0, 0⟩ c f) ∗ (∃ f, lPts ⟨0, 0, 1⟩ c f) ∗ (∃ f, lPts ⟨0, 0, 2⟩ c f) ∗ (∃ f, lPts ⟨0, 0, 3⟩ c f) ∗ (∃ f, lPts ⟨0, 0, 4⟩ c f)) : sProp 𝕄)
      ⊢ iprop(∃ f : Buf (Elt F) ((c : Thread nD τ).loc cc0_scratch0), ((c : Thread nD τ).loc cc0_scratch0) ↦{fullShare} f) := by
  iintro ⟨⟨%f0, H0⟩, ⟨%f1, H1⟩, ⟨%f2, H2⟩, ⟨%f3, H3⟩, ⟨%f4, H4⟩⟩
  iapply (Ring.pointsTo_blocks_join_exists (ℓ := (c : Thread nD τ).loc cc0_scratch0) rowSet rowSet_disj rowSet_cover (q := fullShare) f0)
  iapply (Entails.of_eq (sep5 (F := F) fun k => iprop(∃ f, ((c : Thread nD τ).loc cc0_scratch0) ↦[rowSet k]{fullShare} f)).symm)
  isplitl [H0]
  · iexists f0; iapply (Entails.of_eq (congrArg (fun S => (((c : Thread nD τ).loc cc0_scratch0) ↦[S]{fullShare} f0 : sProp 𝕄)) (View.set_slice_whole cc0_scratch0 _))) $$ H0
  isplitl [H1]
  · iexists f1; iapply (Entails.of_eq (congrArg (fun S => (((c : Thread nD τ).loc cc0_scratch0) ↦[S]{fullShare} f1 : sProp 𝕄)) (View.set_slice_whole cc0_scratch0 _))) $$ H1
  isplitl [H2]
  · iexists f2; iapply (Entails.of_eq (congrArg (fun S => (((c : Thread nD τ).loc cc0_scratch0) ↦[S]{fullShare} f2 : sProp 𝕄)) (View.set_slice_whole cc0_scratch0 _))) $$ H2
  isplitl [H3]
  · iexists f3; iapply (Entails.of_eq (congrArg (fun S => (((c : Thread nD τ).loc cc0_scratch0) ↦[S]{fullShare} f3 : sProp 𝕄)) (View.set_slice_whole cc0_scratch0 _))) $$ H3
  iexists f4; iapply (Entails.of_eq (congrArg (fun S => (((c : Thread nD τ).loc cc0_scratch0) ↦[S]{fullShare} f4 : sProp 𝕄)) (View.set_slice_whole cc0_scratch0 _))) $$ H4

/-- Half 0, phase 1: the landing buffer held whole is held slice by slice, -/
theorem land01 (c : Dev nD) :
    (iprop(∃ f : Buf (Elt F) ((c : Thread nD τ).loc cc0_scratch1), ((c : Thread nD τ).loc cc0_scratch1) ↦{fullShare} f) : sProp 𝕄)
      ⊢ iprop((∃ f, lPts ⟨0, 1, 0⟩ c f) ∗ (∃ f, lPts ⟨0, 1, 1⟩ c f) ∗ (∃ f, lPts ⟨0, 1, 2⟩ c f) ∗ (∃ f, lPts ⟨0, 1, 3⟩ c f) ∗ (∃ f, lPts ⟨0, 1, 4⟩ c f)) := by
  iintro ⟨%f, H⟩
  ihave H' := (Entails.of_eq (Ring.pointsTo_blocks (ℓ := (c : Thread nD τ).loc cc0_scratch1) rowSet rowSet_disj rowSet_cover (q := fullShare) f
    : ((((c : Thread nD τ).loc cc0_scratch1) ↦{fullShare} f : sProp 𝕄) = _))) $$ H
  ihave H'' := (Entails.of_eq (sep5 (F := F) fun k => ((c : Thread nD τ).loc cc0_scratch1) ↦[rowSet k]{fullShare} f)) $$ H'
  icases H'' with ⟨H0, H1, H2, H3, H4⟩
  isplitl [H0]
  · iexists f; iapply (Entails.of_eq (congrArg (fun S => (((c : Thread nD τ).loc cc0_scratch1) ↦[S]{fullShare} f : sProp 𝕄)) (View.set_slice_whole cc0_scratch1 _).symm)) $$ H0
  isplitl [H1]
  · iexists f; iapply (Entails.of_eq (congrArg (fun S => (((c : Thread nD τ).loc cc0_scratch1) ↦[S]{fullShare} f : sProp 𝕄)) (View.set_slice_whole cc0_scratch1 _).symm)) $$ H1
  isplitl [H2]
  · iexists f; iapply (Entails.of_eq (congrArg (fun S => (((c : Thread nD τ).loc cc0_scratch1) ↦[S]{fullShare} f : sProp 𝕄)) (View.set_slice_whole cc0_scratch1 _).symm)) $$ H2
  isplitl [H3]
  · iexists f; iapply (Entails.of_eq (congrArg (fun S => (((c : Thread nD τ).loc cc0_scratch1) ↦[S]{fullShare} f : sProp 𝕄)) (View.set_slice_whole cc0_scratch1 _).symm)) $$ H3
  iexists f; iapply (Entails.of_eq (congrArg (fun S => (((c : Thread nD τ).loc cc0_scratch1) ↦[S]{fullShare} f : sProp 𝕄)) (View.set_slice_whole cc0_scratch1 _).symm)) $$ H4

/-- and back. -/
theorem unland01 (c : Dev nD) :
    (iprop((∃ f, lPts ⟨0, 1, 0⟩ c f) ∗ (∃ f, lPts ⟨0, 1, 1⟩ c f) ∗ (∃ f, lPts ⟨0, 1, 2⟩ c f) ∗ (∃ f, lPts ⟨0, 1, 3⟩ c f) ∗ (∃ f, lPts ⟨0, 1, 4⟩ c f)) : sProp 𝕄)
      ⊢ iprop(∃ f : Buf (Elt F) ((c : Thread nD τ).loc cc0_scratch1), ((c : Thread nD τ).loc cc0_scratch1) ↦{fullShare} f) := by
  iintro ⟨⟨%f0, H0⟩, ⟨%f1, H1⟩, ⟨%f2, H2⟩, ⟨%f3, H3⟩, ⟨%f4, H4⟩⟩
  iapply (Ring.pointsTo_blocks_join_exists (ℓ := (c : Thread nD τ).loc cc0_scratch1) rowSet rowSet_disj rowSet_cover (q := fullShare) f0)
  iapply (Entails.of_eq (sep5 (F := F) fun k => iprop(∃ f, ((c : Thread nD τ).loc cc0_scratch1) ↦[rowSet k]{fullShare} f)).symm)
  isplitl [H0]
  · iexists f0; iapply (Entails.of_eq (congrArg (fun S => (((c : Thread nD τ).loc cc0_scratch1) ↦[S]{fullShare} f0 : sProp 𝕄)) (View.set_slice_whole cc0_scratch1 _))) $$ H0
  isplitl [H1]
  · iexists f1; iapply (Entails.of_eq (congrArg (fun S => (((c : Thread nD τ).loc cc0_scratch1) ↦[S]{fullShare} f1 : sProp 𝕄)) (View.set_slice_whole cc0_scratch1 _))) $$ H1
  isplitl [H2]
  · iexists f2; iapply (Entails.of_eq (congrArg (fun S => (((c : Thread nD τ).loc cc0_scratch1) ↦[S]{fullShare} f2 : sProp 𝕄)) (View.set_slice_whole cc0_scratch1 _))) $$ H2
  isplitl [H3]
  · iexists f3; iapply (Entails.of_eq (congrArg (fun S => (((c : Thread nD τ).loc cc0_scratch1) ↦[S]{fullShare} f3 : sProp 𝕄)) (View.set_slice_whole cc0_scratch1 _))) $$ H3
  iexists f4; iapply (Entails.of_eq (congrArg (fun S => (((c : Thread nD τ).loc cc0_scratch1) ↦[S]{fullShare} f4 : sProp 𝕄)) (View.set_slice_whole cc0_scratch1 _))) $$ H4

/-- Half 1, phase 0: the landing buffer held whole is held slice by slice, -/
theorem land10 (c : Dev nD) :
    (iprop(∃ f : Buf (Elt F) ((c : Thread nD τ).loc cc0_scratch3), ((c : Thread nD τ).loc cc0_scratch3) ↦{fullShare} f) : sProp 𝕄)
      ⊢ iprop((∃ f, lPts ⟨1, 0, 0⟩ c f) ∗ (∃ f, lPts ⟨1, 0, 1⟩ c f) ∗ (∃ f, lPts ⟨1, 0, 2⟩ c f) ∗ (∃ f, lPts ⟨1, 0, 3⟩ c f) ∗ (∃ f, lPts ⟨1, 0, 4⟩ c f)) := by
  iintro ⟨%f, H⟩
  ihave H' := (Entails.of_eq (Ring.pointsTo_blocks (ℓ := (c : Thread nD τ).loc cc0_scratch3) rowSet rowSet_disj rowSet_cover (q := fullShare) f
    : ((((c : Thread nD τ).loc cc0_scratch3) ↦{fullShare} f : sProp 𝕄) = _))) $$ H
  ihave H'' := (Entails.of_eq (sep5 (F := F) fun k => ((c : Thread nD τ).loc cc0_scratch3) ↦[rowSet k]{fullShare} f)) $$ H'
  icases H'' with ⟨H0, H1, H2, H3, H4⟩
  isplitl [H0]
  · iexists f; iapply (Entails.of_eq (congrArg (fun S => (((c : Thread nD τ).loc cc0_scratch3) ↦[S]{fullShare} f : sProp 𝕄)) (View.set_slice_whole cc0_scratch3 _).symm)) $$ H0
  isplitl [H1]
  · iexists f; iapply (Entails.of_eq (congrArg (fun S => (((c : Thread nD τ).loc cc0_scratch3) ↦[S]{fullShare} f : sProp 𝕄)) (View.set_slice_whole cc0_scratch3 _).symm)) $$ H1
  isplitl [H2]
  · iexists f; iapply (Entails.of_eq (congrArg (fun S => (((c : Thread nD τ).loc cc0_scratch3) ↦[S]{fullShare} f : sProp 𝕄)) (View.set_slice_whole cc0_scratch3 _).symm)) $$ H2
  isplitl [H3]
  · iexists f; iapply (Entails.of_eq (congrArg (fun S => (((c : Thread nD τ).loc cc0_scratch3) ↦[S]{fullShare} f : sProp 𝕄)) (View.set_slice_whole cc0_scratch3 _).symm)) $$ H3
  iexists f; iapply (Entails.of_eq (congrArg (fun S => (((c : Thread nD τ).loc cc0_scratch3) ↦[S]{fullShare} f : sProp 𝕄)) (View.set_slice_whole cc0_scratch3 _).symm)) $$ H4

/-- and back. -/
theorem unland10 (c : Dev nD) :
    (iprop((∃ f, lPts ⟨1, 0, 0⟩ c f) ∗ (∃ f, lPts ⟨1, 0, 1⟩ c f) ∗ (∃ f, lPts ⟨1, 0, 2⟩ c f) ∗ (∃ f, lPts ⟨1, 0, 3⟩ c f) ∗ (∃ f, lPts ⟨1, 0, 4⟩ c f)) : sProp 𝕄)
      ⊢ iprop(∃ f : Buf (Elt F) ((c : Thread nD τ).loc cc0_scratch3), ((c : Thread nD τ).loc cc0_scratch3) ↦{fullShare} f) := by
  iintro ⟨⟨%f0, H0⟩, ⟨%f1, H1⟩, ⟨%f2, H2⟩, ⟨%f3, H3⟩, ⟨%f4, H4⟩⟩
  iapply (Ring.pointsTo_blocks_join_exists (ℓ := (c : Thread nD τ).loc cc0_scratch3) rowSet rowSet_disj rowSet_cover (q := fullShare) f0)
  iapply (Entails.of_eq (sep5 (F := F) fun k => iprop(∃ f, ((c : Thread nD τ).loc cc0_scratch3) ↦[rowSet k]{fullShare} f)).symm)
  isplitl [H0]
  · iexists f0; iapply (Entails.of_eq (congrArg (fun S => (((c : Thread nD τ).loc cc0_scratch3) ↦[S]{fullShare} f0 : sProp 𝕄)) (View.set_slice_whole cc0_scratch3 _))) $$ H0
  isplitl [H1]
  · iexists f1; iapply (Entails.of_eq (congrArg (fun S => (((c : Thread nD τ).loc cc0_scratch3) ↦[S]{fullShare} f1 : sProp 𝕄)) (View.set_slice_whole cc0_scratch3 _))) $$ H1
  isplitl [H2]
  · iexists f2; iapply (Entails.of_eq (congrArg (fun S => (((c : Thread nD τ).loc cc0_scratch3) ↦[S]{fullShare} f2 : sProp 𝕄)) (View.set_slice_whole cc0_scratch3 _))) $$ H2
  isplitl [H3]
  · iexists f3; iapply (Entails.of_eq (congrArg (fun S => (((c : Thread nD τ).loc cc0_scratch3) ↦[S]{fullShare} f3 : sProp 𝕄)) (View.set_slice_whole cc0_scratch3 _))) $$ H3
  iexists f4; iapply (Entails.of_eq (congrArg (fun S => (((c : Thread nD τ).loc cc0_scratch3) ↦[S]{fullShare} f4 : sProp 𝕄)) (View.set_slice_whole cc0_scratch3 _))) $$ H4

/-- Half 1, phase 1: the landing buffer held whole is held slice by slice, -/
theorem land11 (c : Dev nD) :
    (iprop(∃ f : Buf (Elt F) ((c : Thread nD τ).loc cc0_scratch4), ((c : Thread nD τ).loc cc0_scratch4) ↦{fullShare} f) : sProp 𝕄)
      ⊢ iprop((∃ f, lPts ⟨1, 1, 0⟩ c f) ∗ (∃ f, lPts ⟨1, 1, 1⟩ c f) ∗ (∃ f, lPts ⟨1, 1, 2⟩ c f) ∗ (∃ f, lPts ⟨1, 1, 3⟩ c f) ∗ (∃ f, lPts ⟨1, 1, 4⟩ c f)) := by
  iintro ⟨%f, H⟩
  ihave H' := (Entails.of_eq (Ring.pointsTo_blocks (ℓ := (c : Thread nD τ).loc cc0_scratch4) rowSet rowSet_disj rowSet_cover (q := fullShare) f
    : ((((c : Thread nD τ).loc cc0_scratch4) ↦{fullShare} f : sProp 𝕄) = _))) $$ H
  ihave H'' := (Entails.of_eq (sep5 (F := F) fun k => ((c : Thread nD τ).loc cc0_scratch4) ↦[rowSet k]{fullShare} f)) $$ H'
  icases H'' with ⟨H0, H1, H2, H3, H4⟩
  isplitl [H0]
  · iexists f; iapply (Entails.of_eq (congrArg (fun S => (((c : Thread nD τ).loc cc0_scratch4) ↦[S]{fullShare} f : sProp 𝕄)) (View.set_slice_whole cc0_scratch4 _).symm)) $$ H0
  isplitl [H1]
  · iexists f; iapply (Entails.of_eq (congrArg (fun S => (((c : Thread nD τ).loc cc0_scratch4) ↦[S]{fullShare} f : sProp 𝕄)) (View.set_slice_whole cc0_scratch4 _).symm)) $$ H1
  isplitl [H2]
  · iexists f; iapply (Entails.of_eq (congrArg (fun S => (((c : Thread nD τ).loc cc0_scratch4) ↦[S]{fullShare} f : sProp 𝕄)) (View.set_slice_whole cc0_scratch4 _).symm)) $$ H2
  isplitl [H3]
  · iexists f; iapply (Entails.of_eq (congrArg (fun S => (((c : Thread nD τ).loc cc0_scratch4) ↦[S]{fullShare} f : sProp 𝕄)) (View.set_slice_whole cc0_scratch4 _).symm)) $$ H3
  iexists f; iapply (Entails.of_eq (congrArg (fun S => (((c : Thread nD τ).loc cc0_scratch4) ↦[S]{fullShare} f : sProp 𝕄)) (View.set_slice_whole cc0_scratch4 _).symm)) $$ H4

/-- and back. -/
theorem unland11 (c : Dev nD) :
    (iprop((∃ f, lPts ⟨1, 1, 0⟩ c f) ∗ (∃ f, lPts ⟨1, 1, 1⟩ c f) ∗ (∃ f, lPts ⟨1, 1, 2⟩ c f) ∗ (∃ f, lPts ⟨1, 1, 3⟩ c f) ∗ (∃ f, lPts ⟨1, 1, 4⟩ c f)) : sProp 𝕄)
      ⊢ iprop(∃ f : Buf (Elt F) ((c : Thread nD τ).loc cc0_scratch4), ((c : Thread nD τ).loc cc0_scratch4) ↦{fullShare} f) := by
  iintro ⟨⟨%f0, H0⟩, ⟨%f1, H1⟩, ⟨%f2, H2⟩, ⟨%f3, H3⟩, ⟨%f4, H4⟩⟩
  iapply (Ring.pointsTo_blocks_join_exists (ℓ := (c : Thread nD τ).loc cc0_scratch4) rowSet rowSet_disj rowSet_cover (q := fullShare) f0)
  iapply (Entails.of_eq (sep5 (F := F) fun k => iprop(∃ f, ((c : Thread nD τ).loc cc0_scratch4) ↦[rowSet k]{fullShare} f)).symm)
  isplitl [H0]
  · iexists f0; iapply (Entails.of_eq (congrArg (fun S => (((c : Thread nD τ).loc cc0_scratch4) ↦[S]{fullShare} f0 : sProp 𝕄)) (View.set_slice_whole cc0_scratch4 _))) $$ H0
  isplitl [H1]
  · iexists f1; iapply (Entails.of_eq (congrArg (fun S => (((c : Thread nD τ).loc cc0_scratch4) ↦[S]{fullShare} f1 : sProp 𝕄)) (View.set_slice_whole cc0_scratch4 _))) $$ H1
  isplitl [H2]
  · iexists f2; iapply (Entails.of_eq (congrArg (fun S => (((c : Thread nD τ).loc cc0_scratch4) ↦[S]{fullShare} f2 : sProp 𝕄)) (View.set_slice_whole cc0_scratch4 _))) $$ H2
  isplitl [H3]
  · iexists f3; iapply (Entails.of_eq (congrArg (fun S => (((c : Thread nD τ).loc cc0_scratch4) ↦[S]{fullShare} f3 : sProp 𝕄)) (View.set_slice_whole cc0_scratch4 _))) $$ H3
  iexists f4; iapply (Entails.of_eq (congrArg (fun S => (((c : Thread nD τ).loc cc0_scratch4) ↦[S]{fullShare} f4 : sProp 𝕄)) (View.set_slice_whole cc0_scratch4 _))) $$ H4

/-- The four landing buffers are the slices of the twenty exchanges, -/
theorem land (c : Dev nD) : (iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f)) : sProp 𝕄)
    ⊢ bigSep Finset.univ fun e : Ex => iprop(∃ f, lPts e c f) := by
  iintro ⟨A, B, C, D⟩
  ihave A' := (land00 (F := F) c) $$ A
  icases A' with ⟨H000, H001, H002, H003, H004⟩
  ihave B' := (land01 (F := F) c) $$ B
  icases B' with ⟨H010, H011, H012, H013, H014⟩
  ihave C' := (land10 (F := F) c) $$ C
  icases C' with ⟨H100, H101, H102, H103, H104⟩
  ihave D' := (land11 (F := F) c) $$ D
  icases D' with ⟨H110, H111, H112, H113, H114⟩
  iapply (Entails.of_eq (sepEx (F := F) fun e : Ex => iprop(∃ f, lPts e c f)).symm)
  isplitl [H000]; · iexact H000
  isplitl [H100]; · iexact H100
  isplitl [H001]; · iexact H001
  isplitl [H101]; · iexact H101
  isplitl [H002]; · iexact H002
  isplitl [H102]; · iexact H102
  isplitl [H003]; · iexact H003
  isplitl [H103]; · iexact H103
  isplitl [H004]; · iexact H004
  isplitl [H104]; · iexact H104
  isplitl [H014]; · iexact H014
  isplitl [H114]; · iexact H114
  isplitl [H013]; · iexact H013
  isplitl [H113]; · iexact H113
  isplitl [H012]; · iexact H012
  isplitl [H112]; · iexact H112
  isplitl [H011]; · iexact H011
  isplitl [H111]; · iexact H111
  isplitl [H010]; · iexact H010
  iexact H110

/-- and the other way round. -/
theorem unland (c : Dev nD) : (bigSep Finset.univ fun e : Ex => iprop(∃ f, lPts e c f))
    ⊢ (iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f)) : sProp 𝕄) := by
  iintro H
  ihave H' := (Entails.of_eq (sepEx (F := F) fun e : Ex => iprop(∃ f, lPts e c f))) $$ H
  icases H' with ⟨H000, H100, H001, H101, H002, H102, H003, H103, H004, H104, H014, H114, H013, H113, H012, H112, H011, H111, H010, H110⟩
  isplitl [H000 H001 H002 H003 H004]
  · iapply (unland00 (F := F) c)
    isplitl [H000]; · iexact H000
    isplitl [H001]; · iexact H001
    isplitl [H002]; · iexact H002
    isplitl [H003]; · iexact H003
    iexact H004
  isplitl [H010 H011 H012 H013 H014]
  · iapply (unland01 (F := F) c)
    isplitl [H010]; · iexact H010
    isplitl [H011]; · iexact H011
    isplitl [H012]; · iexact H012
    isplitl [H013]; · iexact H013
    iexact H014
  isplitl [H100 H101 H102 H103 H104]
  · iapply (unland10 (F := F) c)
    isplitl [H100]; · iexact H100
    isplitl [H101]; · iexact H101
    isplitl [H102]; · iexact H102
    isplitl [H103]; · iexact H103
    iexact H104
  · iapply (unland11 (F := F) c)
    isplitl [H110]; · iexact H110
    isplitl [H111]; · iexact H111
    isplitl [H112]; · iexact H112
    isplitl [H113]; · iexact H113
    iexact H114

end Cert.KernelIdeal.Bfly
-- ==== Proof.Body.lean ====
module

public import proofs.«01_k».proof.Proof.Exch
public import proofs.«01_k».proof.Proof.Vals
public import proofs.«01_k».proof.Proof.Tails
public import proofs.«01_k».proof.Proof.RunAB
public import proofs.«01_k».proof.Proof.Gen.KernelIdeal.Points
public import Idealize.ShloMosaic.Lib.Exec

/-! # The body from its start to its end -/

@[expose] public section

noncomputable section

namespace Cert.KernelIdeal.Bfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen

variable {F : FTy → Type} [FloatOps F] [Named F]

local notation "𝕄" => MT nD τ sig Unit (Elt F) ℕ UU ℕ

variable (K : GSem nD τ sig → ℕ) (PA P0 : Dev nD → OutC F)

/-- What the body starts with. -/
def bodyPre (c : Dev nD) (W : Waits sig Unit)
    (kx : Buf (Elt F) ((Memref.whole main_v11).view.loc (c : Thread nD τ)))
    (vx : Buf (Elt F) ((Memref.whole main_v12).view.loc (c : Thread nD τ)))
    (f6 : Buf (Elt F) ((Memref.whole cc0_scratch6).view.loc (c : Thread nD τ)))
    (f7 : Buf (Elt F) ((Memref.whole cc0_scratch7).view.loc (c : Thread nD τ)))
    (f8 : Buf (Elt F) ((Memref.whole cc0_scratch8).view.loc (c : Thread nD τ)))
    (fs : Buf (Elt F) ((Memref.whole cc0_scratch2).view.loc (c : Thread nD τ)))
    (xs : Buf (Elt F) ((Memref.whole cc0_stg0_0).view.loc (c : Thread nD τ)))
    (wq : Buf (Elt F) ((Memref.whole cc0_stg1_0).view.loc (c : Thread nD τ)))
    (wo : Buf (Elt F) ((Memref.whole cc0_stg2_0).view.loc (c : Thread nD τ)))
    (fo : Buf (Elt F) ((Memref.whole cc0_stg3_0).view.loc (c : Thread nD τ)))
    (fk : Buf (Elt F) (kM.view.loc (c : Thread nD τ))) (fv : Buf (Elt F) (vM.view.loc (c : Thread nD τ))) : sProp 𝕄 :=
  iprop(levAts L lv
    ∗ ((Memref.whole main_v11).view.loc (c : Thread nD τ) ↦{fullShare} kx)
    ∗ ((Memref.whole main_v12).view.loc (c : Thread nD τ) ↦{fullShare} vx)
    ∗ (kM.view.loc (c : Thread nD τ) ↦{fullShare} fk)
    ∗ (vM.view.loc (c : Thread nD τ) ↦{fullShare} fv)
    ∗ (bigSep Finset.univ fun i : Fin 16 => semVal ((c : Thread nD τ), ksem i) 0)
    ∗ ((Memref.whole cc0_scratch6).view.loc (c : Thread nD τ) ↦{fullShare} f6)
    ∗ ((Memref.whole cc0_scratch7).view.loc (c : Thread nD τ) ↦{fullShare} f7)
    ∗ ((Memref.whole cc0_scratch8).view.loc (c : Thread nD τ) ↦{fullShare} f8)
    ∗ ((Memref.whole cc0_scratch2).view.loc (c : Thread nD τ) ↦{fullShare} fs)
    ∗ owes (c : Thread nD τ) (O₀ c) W
    ∗ (bigSep Finset.univ fun d : Fin 5 => bres K (msgs PA P0) d c)
    ∗ bwait K (msgs PA P0) c
    ∗ (bigSep Finset.univ fun e : Ex => xres K (msgs PA P0) e c)
    ∗ (∃ f, stPts 1 c f)
    ∗ ((Memref.whole cc0_stg0_0).view.loc (c : Thread nD τ) ↦{fullShare} xs)
    ∗ ((Memref.whole cc0_stg1_0).view.loc (c : Thread nD τ) ↦{fullShare} wq)
    ∗ ((Memref.whole cc0_stg2_0).view.loc (c : Thread nD τ) ↦{fullShare} wo)
    ∗ ((Memref.whole cc0_stg3_0).view.loc (c : Thread nD τ) ↦{fullShare} fo))

/-- What the body leaves. -/
def bodyPost (c : Dev nD)
    (kx : Buf (Elt F) ((Memref.whole main_v11).view.loc (c : Thread nD τ)))
    (vx : Buf (Elt F) ((Memref.whole main_v12).view.loc (c : Thread nD τ)))
    (xs : Buf (Elt F) ((Memref.whole cc0_stg0_0).view.loc (c : Thread nD τ)))
    (wq : Buf (Elt F) ((Memref.whole cc0_stg1_0).view.loc (c : Thread nD τ)))
    (wo : Buf (Elt F) ((Memref.whole cc0_stg2_0).view.loc (c : Thread nD τ))) : sProp 𝕄 :=
  iprop(((Memref.whole main_v11).view.loc (c : Thread nD τ) ↦{fullShare} kx)
    ∗ ((Memref.whole main_v12).view.loc (c : Thread nD τ) ↦{fullShare} vx)
    ∗ (∃ f, kM.view.loc (c : Thread nD τ) ↦{fullShare} f)
    ∗ (∃ f, vM.view.loc (c : Thread nD τ) ↦{fullShare} f)
    ∗ (bigSep Finset.univ fun i : Fin 16 => semVal ((c : Thread nD τ), ksem i) 0)
    ∗ (∃ f, (Memref.whole cc0_scratch6).view.loc (c : Thread nD τ) ↦{fullShare} f)
    ∗ (∃ f, (Memref.whole cc0_scratch7).view.loc (c : Thread nD τ) ↦{fullShare} f)
    ∗ (∃ f, (Memref.whole cc0_scratch8).view.loc (c : Thread nD τ) ↦{fullShare} f)
    ∗ semVal (barCell c) 0
    ∗ ((Memref.whole cc0_stg0_0).view.loc (c : Thread nD τ) ↦{fullShare} xs)
    ∗ ((Memref.whole cc0_stg1_0).view.loc (c : Thread nD τ) ↦{fullShare} wq)
    ∗ ((Memref.whole cc0_stg2_0).view.loc (c : Thread nD τ) ↦{fullShare} wo)
    ∗ ((Memref.whole cc0_stg3_0).view.loc (c : Thread nD τ) ↦{fullShare} out20 PA P0 c)
    ∗ (bigSep Finset.univ fun e : Ex => semVal (sendCell e c) 0)
    ∗ (bigSep Finset.univ fun e : Ex => semVal (recvCell e c) 0)
    ∗ (bigSep Finset.univ fun e : Ex => iprop(∃ f, lPts e c f))
    ∗ (∃ f, stPts 0 c f)
    ∗ (∃ f, stPts 1 c f)
    ∗ debt 20 c)

set_option maxHeartbeats 16000000 in
/-- The body from its start to its end. -/
theorem bodyRun (c : Dev nD) (W : Waits sig Unit)
    (kx : Buf (Elt F) ((Memref.whole main_v11).view.loc (c : Thread nD τ)))
    (vx : Buf (Elt F) ((Memref.whole main_v12).view.loc (c : Thread nD τ)))
    (f6 : Buf (Elt F) ((Memref.whole cc0_scratch6).view.loc (c : Thread nD τ)))
    (f7 : Buf (Elt F) ((Memref.whole cc0_scratch7).view.loc (c : Thread nD τ)))
    (f8 : Buf (Elt F) ((Memref.whole cc0_scratch8).view.loc (c : Thread nD τ)))
    (fs : Buf (Elt F) ((Memref.whole cc0_scratch2).view.loc (c : Thread nD τ)))
    (xs : Buf (Elt F) ((Memref.whole cc0_stg0_0).view.loc (c : Thread nD τ)))
    (wq : Buf (Elt F) ((Memref.whole cc0_stg1_0).view.loc (c : Thread nD τ)))
    (wo : Buf (Elt F) ((Memref.whole cc0_stg2_0).view.loc (c : Thread nD τ)))
    (fo : Buf (Elt F) ((Memref.whole cc0_stg3_0).view.loc (c : Thread nD τ)))
    (fk : Buf (Elt F) (kM.view.loc (c : Thread nD τ))) (fv : Buf (Elt F) (vM.view.loc (c : Thread nD τ)))
    (hA : outA xs wq wo (kBuf kx c) (vBuf vx c) = PA c) (hB : outB xs wq wo (kBuf kx c) (vBuf vx c) = out0 PA P0 c)
    (Kt : PUnit → sProp 𝕄) :
    iprop(bodyPre K PA P0 c W kx vx f6 f7 f8 fs xs wq wo fo fk fv ∗ (bodyPost PA P0 c kx vx xs wq wo -∗ Kt ⟨⟩))
      ⊢ wp frame (wpE (defs₀ (F := F)) 𝒱₀ c none) Set.univ (bodyAt0 (F := F) t0_0) Kt := by
  unfold bodyPre
  iintro ⟨⟨#Hlev, HV11, HV12, Hkm, Hvm, HS, H6, H7, H8, Hst0, HO, HB, HBw, HX, Hst1, Hxs, Hwq, Hwo, Ho⟩, HK⟩
  rw [show bodyAt0 (F := F) t0_0 = cc0__fused_body_skel (Memref.whole cc0_stg0_0) (hstage0_0 0) (Memref.whole cc0_stg1_0) (hstage0_1 0) (Memref.whole main_v11) (Memref.isWhole_whole _) (Memref.whole main_v12) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 from rfl]
  unfold cc0__fused_body_skel
  rw [part50_eq, wp_bind]
  ihave HT := (Entails.of_eq (sepEx _)) $$ HX
  icases HT with ⟨Hy000, Hy100, Hy001, Hy101, Hy002, Hy102, Hy003, Hy103, Hy004, Hy104, Hy014, Hy114, Hy013, Hy113, Hy012, Hy112, Hy011, Hy111, Hy010, Hy110⟩
  iapply (runA K PA P0 c W kx vx f6 f7 f8 fs xs wq wo fo fk fv hA hB _)
  isplitr; · iexact Hlev
  isplitl [HV11]; · iexact HV11
  isplitl [HV12]; · iexact HV12
  isplitl [Hkm]; · iexact Hkm
  isplitl [Hvm]; · iexact Hvm
  isplitl [HS]; · iexact HS
  isplitl [H6]; · iexact H6
  isplitl [H7]; · iexact H7
  isplitl [H8]; · iexact H8
  isplitl [Hst0]; · iexact Hst0
  isplitl [HO]; · iexact HO
  isplitl [HB]; · iexact HB
  isplitl [HBw]; · iexact HBw
  isplitl [Hy000]; · iexact Hy000
  isplitl [Hxs]; · iexact Hxs
  isplitl [Hwq]; · iexact Hwq
  isplitl [Hwo]; · iexact Hwo
  isplitl [Ho]; · iexact Ho
  iintro %v57 %v64 %v71 %v72 %v79 %v80 %v87 %v104 %v111 %v128 %v647 ⟨HV11, HV12, Hkm, Hvm, HS, H6, H7, H8, HBz, Hs000, Hr000, HG, Hxs, Hwq, Hwo, Ho, Hd⟩
  iapply (runB K PA P0 c v57 v64 v71 v72 v79 v80 v87 v104 v111 v128 v647 _)
  isplitr; · iexact Hlev
  isplitl [Hs000]; · iexact Hs000
  isplitl [Hr000]; · iexact Hr000
  isplitl [Hy100 Hy001 Hy101 Hy002 Hy102 Hy003 Hy103 Hy004 Hy104 Hy014 Hy114 Hy013 Hy113 Hy012 Hy112 Hy011 Hy111 Hy010 Hy110]
  · unfold xres1
    isplitl [Hy100]; · iexact Hy100
    isplitl [Hy001]; · iexact Hy001
    isplitl [Hy101]; · iexact Hy101
    isplitl [Hy002]; · iexact Hy002
    isplitl [Hy102]; · iexact Hy102
    isplitl [Hy003]; · iexact Hy003
    isplitl [Hy103]; · iexact Hy103
    isplitl [Hy004]; · iexact Hy004
    isplitl [Hy104]; · iexact Hy104
    isplitl [Hy014]; · iexact Hy014
    isplitl [Hy114]; · iexact Hy114
    isplitl [Hy013]; · iexact Hy013
    isplitl [Hy113]; · iexact Hy113
    isplitl [Hy012]; · iexact Hy012
    isplitl [Hy112]; · iexact Hy112
    isplitl [Hy011]; · iexact Hy011
    isplitl [Hy111]; · iexact Hy111
    isplitl [Hy010]; · iexact Hy010
    iexact Hy110
  isplitl [HG]; · iexact HG
  isplitl [Hst1]; · iexact Hst1
  isplitl [Ho]; · iexact Ho
  isplitl [Hd]; · iexact Hd
  iintro %v71 %v72 %v1552 ⟨Hs110, Hr110, Hds000, Hds100, Hds001, Hds101, Hds002, Hds102, Hds003, Hds103, Hds004, Hds104, Hds014, Hds114, Hds013, Hds113, Hds012, Hds112, Hds011, Hds111, Hds010, Hdr000, Hdr100, Hdr001, Hdr101, Hdr002, Hdr102, Hdr003, Hdr103, Hdr004, Hdr104, Hdr014, Hdr114, Hdr013, Hdr113, Hdr012, Hdr112, Hdr011, Hdr111, Hdr010, Hl000, Hl100, Hl001, Hl101, Hl002, Hl102, Hl003, Hl103, Hl004, Hl104, Hl014, Hl114, Hl013, Hl113, Hl012, Hl112, Hl011, Hl111, Hl010, Hst0, Ho, Hd⟩
  try sl_exec
  iapply (xwaitS K (msgs PA P0) (e := ⟨1, 1, 0⟩) rfl (n := 20)) $$ [Hs110 Hd]
  · isplitr; · iexact Hlev
    isplitl [Hs110]; · iexact Hs110
    iexact Hd
  iintro ⟨⟨%fs19, Hst1⟩, Hds110, Hd⟩
  ihave Hst1 := (show ((sM ⟨1, 1, 0⟩).view.loc (c : Thread nD τ) ↦{fullShare} fs19 : sProp 𝕄) ⊢ stPts 1 c fs19 from BI.Entails.refl _) $$ Hst1
  try sl_exec
  iapply (xwaitR K (msgs PA P0) (e := ⟨1, 1, 0⟩) rfl (n := 20) (by decide)) $$ [Hr110 Hd]
  · isplitr; · iexact Hlev
    isplitl [Hr110]; · iexact Hr110
    iexact Hd
  unfold recvPay
  iintro ⟨⟨%fl19, %hfl19, Hl110⟩, Hdr110, Hd⟩
  have hv19 : (Memref.whole cc0_scratch4).view.readAt (Elt F) (Rect.unit (s := S496x1024) ![0, 0] S256x1024.size inb_S496x1024_S256x1024_0_0).toLoadRect fl19 = msg19 PA P0 c := hfl19
  set_option sl_exec.maxSteps 3 in sl_exec
  ihave Ho := fold20 PA P0 c $$ Ho
  sl_step
  iapply HK
  unfold bodyPost
  isplitl [HV11]; · iexact HV11
  isplitl [HV12]; · iexact HV12
  isplitl [Hkm]; · iexact Hkm
  isplitl [Hvm]; · iexact Hvm
  isplitl [HS]; · iexact HS
  isplitl [H6]; · iexact H6
  isplitl [H7]; · iexact H7
  isplitl [H8]; · iexact H8
  isplitl [HBz]; · iexact HBz
  isplitl [Hxs]; · iexact Hxs
  isplitl [Hwq]; · iexact Hwq
  isplitl [Hwo]; · iexact Hwo
  isplitl [Ho]; · iexact Ho
  isplitl [Hds000 Hds100 Hds001 Hds101 Hds002 Hds102 Hds003 Hds103 Hds004 Hds104 Hds014 Hds114 Hds013 Hds113 Hds012 Hds112 Hds011 Hds111 Hds010 Hds110]
  · iapply (Entails.of_eq (sepEx (F := F) (fun e : Ex => semVal (sendCell e c) 0)).symm)
    isplitl [Hds000]; · iexact Hds000
    isplitl [Hds100]; · iexact Hds100
    isplitl [Hds001]; · iexact Hds001
    isplitl [Hds101]; · iexact Hds101
    isplitl [Hds002]; · iexact Hds002
    isplitl [Hds102]; · iexact Hds102
    isplitl [Hds003]; · iexact Hds003
    isplitl [Hds103]; · iexact Hds103
    isplitl [Hds004]; · iexact Hds004
    isplitl [Hds104]; · iexact Hds104
    isplitl [Hds014]; · iexact Hds014
    isplitl [Hds114]; · iexact Hds114
    isplitl [Hds013]; · iexact Hds013
    isplitl [Hds113]; · iexact Hds113
    isplitl [Hds012]; · iexact Hds012
    isplitl [Hds112]; · iexact Hds112
    isplitl [Hds011]; · iexact Hds011
    isplitl [Hds111]; · iexact Hds111
    isplitl [Hds010]; · iexact Hds010
    iexact Hds110
  isplitl [Hdr000 Hdr100 Hdr001 Hdr101 Hdr002 Hdr102 Hdr003 Hdr103 Hdr004 Hdr104 Hdr014 Hdr114 Hdr013 Hdr113 Hdr012 Hdr112 Hdr011 Hdr111 Hdr010 Hdr110]
  · iapply (Entails.of_eq (sepEx (F := F) (fun e : Ex => semVal (recvCell e c) 0)).symm)
    isplitl [Hdr000]; · iexact Hdr000
    isplitl [Hdr100]; · iexact Hdr100
    isplitl [Hdr001]; · iexact Hdr001
    isplitl [Hdr101]; · iexact Hdr101
    isplitl [Hdr002]; · iexact Hdr002
    isplitl [Hdr102]; · iexact Hdr102
    isplitl [Hdr003]; · iexact Hdr003
    isplitl [Hdr103]; · iexact Hdr103
    isplitl [Hdr004]; · iexact Hdr004
    isplitl [Hdr104]; · iexact Hdr104
    isplitl [Hdr014]; · iexact Hdr014
    isplitl [Hdr114]; · iexact Hdr114
    isplitl [Hdr013]; · iexact Hdr013
    isplitl [Hdr113]; · iexact Hdr113
    isplitl [Hdr012]; · iexact Hdr012
    isplitl [Hdr112]; · iexact Hdr112
    isplitl [Hdr011]; · iexact Hdr011
    isplitl [Hdr111]; · iexact Hdr111
    isplitl [Hdr010]; · iexact Hdr010
    iexact Hdr110
  isplitl [Hl000 Hl100 Hl001 Hl101 Hl002 Hl102 Hl003 Hl103 Hl004 Hl104 Hl014 Hl114 Hl013 Hl113 Hl012 Hl112 Hl011 Hl111 Hl010 Hl110]
  · iapply (Entails.of_eq (sepEx (F := F) (fun e : Ex => iprop(∃ f, lPts e c f))).symm)
    isplitl [Hl000]; · iexact Hl000
    isplitl [Hl100]; · iexact Hl100
    isplitl [Hl001]; · iexact Hl001
    isplitl [Hl101]; · iexact Hl101
    isplitl [Hl002]; · iexact Hl002
    isplitl [Hl102]; · iexact Hl102
    isplitl [Hl003]; · iexact Hl003
    isplitl [Hl103]; · iexact Hl103
    isplitl [Hl004]; · iexact Hl004
    isplitl [Hl104]; · iexact Hl104
    isplitl [Hl014]; · iexact Hl014
    isplitl [Hl114]; · iexact Hl114
    isplitl [Hl013]; · iexact Hl013
    isplitl [Hl113]; · iexact Hl113
    isplitl [Hl012]; · iexact Hl012
    isplitl [Hl112]; · iexact Hl112
    isplitl [Hl011]; · iexact Hl011
    isplitl [Hl111]; · iexact Hl111
    isplitl [Hl010]; · iexact Hl010
    iexists _; iexact Hl110
  isplitl [Hst0]; · iexact Hst0
  isplitl [Hst1]; · iexists _; iexact Hst1
  iexact Hd

end Cert.KernelIdeal.Bfly
-- ==== Proof.Opening.lean ====
module

public import proofs.«01_k».proof.Proof.Landing
public import proofs.«01_k».proof.Proof.Body
public import proofs.«01_k».proof.Proof.Gen.KernelIdeal.Launch

/-! # Opening the cells of the kernel, and leave to land -/

@[expose] public section

noncomputable section

namespace Cert.KernelIdeal.Bfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen

variable {F : FTy → Type} [FloatOps F] [Named F]

local notation "𝕄" => MT nD τ sig Unit (Elt F) ℕ UU ℕ

variable (K : GSem nD τ sig → ℕ) (msg : Msgs F)

/-- What core `c` holds of exchange `e` from launch, before its two cells are open. -/
def xtk (e : Ex) (c : Dev nD) : sProp 𝕄 :=
  iprop(cellInv ER (Rd msg) (K (sendCell e c)) (sendCell e c) ∗ cellInv ER (Rd msg) (K (recvCell e c)) (recvCell e c)
    ∗ cellInv ER (Rd msg) (K (recvCell e (par e c))) (recvCell e (par e c))
    ∗ openTok ER (sendCell e c) ∗ openTok ER (recvCell e c)
    ∗ dutyTok ER (sendCell e c) 0 0 ∗ dutyTok ER (recvCell e (par e c)) 0 0
    ∗ cred (tallyAt (recvCell e c) () (amt e)))

/-- What it holds of its neighbour's barrier cell in dimension `d`. -/
def btk (d : Fin 5) (c : Dev nD) : sProp 𝕄 :=
  iprop(cellInv ER (Rd msg) (K (barCell (nb d c))) (barCell (nb d c)) ∗ dutyTok ER (barCell (nb d c)) 0 d
    ∗ reached ER (barCell (nb d c)) 0)

/-- Opening the two cells of an exchange. -/
theorem openOne (e : Ex) (c : Dev nD) :
    iprop(xtk K msg e c ∗ (semVal (sendCell e c) 0 ∗ semVal (recvCell e c) 0))
      ⊢ (|={Set.univ}=> iprop(xres K msg e c ∗ reached ER (recvCell e c) 0) : sProp 𝕄) := by
  unfold xtk xres
  iintro ⟨⟨#HIs, #HIr, #HIp, Hos, Hor, Hds, Hdr, Hc⟩, Hs, Hr⟩
  imod (Rounds.cell_open ER (Rd msg) (g := sendCell e c) (Set.mem_univ (K (sendCell e c)))) $$ [Hos Hs] with ⟨Has, #Hrs⟩
  · isplitr; · iexact HIs
    isplitl [Hos] <;> iassumption
  imod (Rounds.cell_open ER (Rd msg) (g := recvCell e c) (Set.mem_univ (K (recvCell e c)))) $$ [Hor Hr] with ⟨Har, #Hrr⟩
  · isplitr; · iexact HIr
    isplitl [Hor] <;> iassumption
  imodintro
  isplitl [Hds Hdr Has Har Hc]
  · isplitr; · iexact HIs
    isplitr; · iexact HIr
    isplitr; · iexact HIp
    isplitr; · iexact Hrs
    isplitl [Hds]; · iexact Hds
    isplitl [Hdr]; · iexact Hdr
    isplitl [Has]; · iexact Has
    isplitl [Har]; · iexact Har
    iexact Hc
  · iexact Hrr

/-- Opening all of them. -/
theorem openAll (c : Dev nD) :
    iprop((bigSep Finset.univ fun e : Ex => xtk K msg e c)
        ∗ (bigSep Finset.univ fun e : Ex => semVal (sendCell e c) 0) ∗ (bigSep Finset.univ fun e : Ex => semVal (recvCell e c) 0))
      ⊢ (|={Set.univ}=> iprop((bigSep Finset.univ fun e : Ex => xres K msg e c)
          ∗ (bigSep Finset.univ fun e : Ex => reached ER (recvCell e c) 0)) : sProp 𝕄) := by
  have op : (bigSep Finset.univ fun e : Ex => iprop(xtk K msg e c ∗ (semVal (sendCell e c) 0 ∗ semVal (recvCell e c) 0)))
      ⊢ (|={Set.univ}=> bigSep Finset.univ fun e : Ex => iprop(xres K msg e c ∗ reached ER (recvCell e c) 0) : sProp 𝕄) :=
    (bigSep_mono fun e _ => openOne K msg e c).trans (bigSep_fupd Finset.univ fun e : Ex => iprop(xres K msg e c ∗ reached ER (recvCell e c) 0))
  iintro ⟨Hx, Hs, Hr⟩
  ihave Hsr := (Entails.of_eq (bigSep_sep' Finset.univ (fun e : Ex => (semVal (sendCell e c) 0 : sProp 𝕄)) (fun e : Ex => semVal (recvCell e c) 0)).symm) $$ [Hs Hr]
  · isplitl [Hs] <;> iassumption
  ihave H := (Entails.of_eq (bigSep_sep' Finset.univ (fun e : Ex => xtk K msg e c) (fun e : Ex => iprop(semVal (sendCell e c) 0 ∗ semVal (recvCell e c) 0))).symm) $$ [Hx Hsr]
  · isplitl [Hx] <;> iassumption
  imod op $$ H with H
  imodintro
  iapply (Entails.of_eq (bigSep_sep' Finset.univ (fun e : Ex => xres K msg e c) (fun e : Ex => reached ER (recvCell e c) 0)))
  iexact H

/-- The leave for one neighbour. -/
theorem bresOf (d : Fin 5) (c : Dev nD) :
    iprop(btk K msg d c ∗ ((∃ f, lPts ⟨0, 0, stepOf 0 d⟩ c f) ∗ reached ER (recvCell ⟨0, 0, stepOf 0 d⟩ c) 0)
        ∗ ((∃ f, lPts ⟨0, 1, stepOf 0 d⟩ c f) ∗ reached ER (recvCell ⟨0, 1, stepOf 0 d⟩ c) 0)
        ∗ ((∃ f, lPts ⟨1, 0, stepOf 1 d⟩ c f) ∗ reached ER (recvCell ⟨1, 0, stepOf 1 d⟩ c) 0)
        ∗ ((∃ f, lPts ⟨1, 1, stepOf 1 d⟩ c f) ∗ reached ER (recvCell ⟨1, 1, stepOf 1 d⟩ c) 0))
      ⊢ (bres K msg d c : sProp 𝕄) := by
  unfold btk bres grant
  iintro ⟨⟨HI, Ht, Hr⟩, H1, H2, H3, H4⟩
  isplitl [HI]; · iexact HI
  isplitl [Ht]; · iexact Ht
  isplitl [Hr]; · iexact Hr
  isplitl [H1]; · iexact H1
  isplitl [H2]; · iexact H2
  isplitl [H3]; · iexact H3
  iexact H4

/-- Leave for every neighbour to land, from the landing slices. -/
theorem grantAll (c : Dev nD) :
    iprop((bigSep Finset.univ fun d : Fin 5 => btk K msg d c)
        ∗ (bigSep Finset.univ fun e : Ex => iprop(∃ f, lPts e c f)) ∗ (bigSep Finset.univ fun e : Ex => reached ER (recvCell e c) 0))
      ⊢ (bigSep Finset.univ fun d : Fin 5 => bres K msg d c : sProp 𝕄) := by
  iintro ⟨Hb, Hl, Hr⟩
  ihave H := (Entails.of_eq (bigSep_sep' Finset.univ (fun e : Ex => iprop(∃ f, lPts (F := F) e c f)) (fun e : Ex => reached ER (recvCell e c) 0)).symm) $$ [Hl Hr]
  · isplitl [Hl] <;> iassumption
  ihave H' := (Entails.of_eq (sepEx (F := F) fun e : Ex => iprop((∃ f, lPts e c f) ∗ reached ER (recvCell e c) 0))) $$ H
  ihave Hb' := (Entails.of_eq (sep5 (F := F) fun d => btk K msg d c)) $$ Hb
  iapply (Entails.of_eq (sep5 (F := F) fun d => bres K msg d c).symm)
  icases H' with ⟨H000, H100, H001, H101, H002, H102, H003, H103, H004, H104, H014, H114, H013, H113, H012, H112, H011, H111, H010, H110⟩
  icases Hb' with ⟨B0, B1, B2, B3, B4⟩
  isplitl [B0 H000 H010 H101 H111]
  · iapply (bresOf K msg 0 c)
    isplitl [B0]; · iexact B0
    isplitl [H000]; · iexact H000
    isplitl [H010]; · iexact H010
    isplitl [H101]; · iexact H101
    iexact H111
  isplitl [B1 H001 H011 H100 H110]
  · iapply (bresOf K msg 1 c)
    isplitl [B1]; · iexact B1
    isplitl [H001]; · iexact H001
    isplitl [H011]; · iexact H011
    isplitl [H100]; · iexact H100
    iexact H110
  isplitl [B2 H002 H012 H103 H113]
  · iapply (bresOf K msg 2 c)
    isplitl [B2]; · iexact B2
    isplitl [H002]; · iexact H002
    isplitl [H012]; · iexact H012
    isplitl [H103]; · iexact H103
    iexact H113
  isplitl [B3 H003 H013 H104 H114]
  · iapply (bresOf K msg 3 c)
    isplitl [B3]; · iexact B3
    isplitl [H003]; · iexact H003
    isplitl [H013]; · iexact H013
    isplitl [H104]; · iexact H104
    iexact H114
  iapply (bresOf K msg 4 c)
  isplitl [B4]; · iexact B4
  isplitl [H004]; · iexact H004
  isplitl [H014]; · iexact H014
  isplitl [H102]; · iexact H102
  iexact H112

/-! ## The kernel's own semaphores -/

/-- The semaphores the kernel names itself: those of the reads of the heads, and two for each exchange. -/
def osem : Fin 16 ⊕ (Ex ⊕ Ex) → SemLoc sig
  | .inl i => ksem i
  | .inr (.inl e) => .dma (sSem e)
  | .inr (.inr e) => .dma (rSem e)

theorem ownSems_eq (c : Dev nD) : (Pipeline.ownSems0 osem c : sProp 𝕄)
    = iprop((bigSep Finset.univ fun i : Fin 16 => semVal ((c : Thread nD τ), ksem i) 0)
      ∗ (bigSep Finset.univ fun e : Ex => semVal (sendCell e c) 0) ∗ (bigSep Finset.univ fun e : Ex => semVal (recvCell e c) 0)) := by
  unfold Pipeline.ownSems0
  rw [BI.bigSep_univ_sum, BI.bigSep_univ_sum]; rfl

theorem osem_facts : Pipeline.OwnSemFacts spec0 osem := by
  refine ⟨?_, ?_, ?_⟩
  · decide +kernel
  · decide +kernel
  · decide +kernel

theorem unscopedSems_eq (c : Dev nD) : (unscopedSems0 c : sProp 𝕄) = semVal (barCell c) 0 := by
  unfold unscopedSems0
  rw [show (Finset.univ.filter fun sm : SemLoc sig => ¬ sm.isScoped .tc) = {SemLoc.reg bSem} from by decide +kernel, BI.bigSep_singleton]

theorem unscoped_eq : ∀ sm : SemLoc sig, sm.isScoped .tc = false → sm = .reg bSem := by decide +kernel

/-- A core owes nothing after the last exchange. -/
theorem owed_end (c : Dev nD) : owed 20 c = 0 := by
  unfold owed
  rw [show later 20 = ∅ from by decide +kernel, Finset.sum_empty]

end Cert.KernelIdeal.Bfly
-- ==== Proof.Data.lean ====
module

public import proofs.«01_k».proof.Proof.Opening
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.Value
public import Idealize.ShloMosaic.Lib.Pipeline.RegionTalk

/-! # The proof data of the kernel -/

@[expose] public section

noncomputable section

namespace Cert.KernelIdeal.Bfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen

variable {F : FTy → Type} [FloatOps F] [Named F]

local notation "𝕄" => MT nD τ sig Unit (Elt F) ℕ UU ℕ

variable (m : (ℓ : Loc nD τ sig) → Buf (Elt F) ℓ)

/-! ## The values -/

/-- What the first half of the work of device `c` leaves in its result block. -/
def PA (c : Dev nD) : OutC F :=
  outA (V1 m c main_v6) (V1 m c main_v9) (V1 m c main_v10) (kBuf (V1 m c main_v11) c) (vBuf (V1 m c main_v12) c)
/-- The partial result of device `c`. -/
def P0 (c : Dev nD) : OutC F :=
  outB (V1 m c main_v6) (V1 m c main_v9) (V1 m c main_v10) (kBuf (V1 m c main_v11) c) (vBuf (V1 m c main_v12) c)
/-- The result of device `c`, all exchanges done. -/
def res (c : Dev nD) : OutC F := out20 (PA m) (P0 m) c

/-- What the region leaves: the result, and the operands it reads in place as they were. -/
def outs : Outs (F := F) := fun _ r c =>
  Function.update (β := fun r : Ref sig .tc => Buf (Elt F) ((c : Thread nD τ).loc r)) (fun r => V1 m c r) main_v13 (res m c) r

theorem outs_13 (c : Dev nD) : outs m 2 main_v13 c = res m c := Function.update_self ..
theorem outs_11 (c : Dev nD) : outs m 2 main_v11 c = V1 m c main_v11 := Function.update_of_ne (by decide) ..
theorem outs_12 (c : Dev nD) : outs m 2 main_v12 c = V1 m c main_v12 := Function.update_of_ne (by decide) ..

theorem V2_13 (c : Dev nD) : V2 m (outs m) c main_v13 = res m c := by
  unfold V2
  rw [Function.update_of_ne (StableHlo.devRef_ne_of_ne (by decide)), Function.update_of_ne (StableHlo.devRef_ne_of_ne (by decide)), Function.update_self, outs_13]
theorem V2_11 (c : Dev nD) : V2 m (outs m) c main_v11 = V1 m c main_v11 := by
  unfold V2
  rw [Function.update_of_ne (StableHlo.devRef_ne_of_ne (by decide)), Function.update_self, outs_11]
theorem V2_12 (c : Dev nD) : V2 m (outs m) c main_v12 = V1 m c main_v12 := by
  unfold V2
  rw [Function.update_self, outs_12]

/-! ## The invariant before and after the one point -/

/-- What the body starts with, beside the staging buffers and its dues. -/
def start (c : Dev nD) : sProp 𝕄 :=
  iprop(∃ K : GSem nD τ sig → ℕ, levAts L lv
    ∗ ((Memref.whole main_v11).view.loc (c : Thread nD τ) ↦{fullShare} V1 m c main_v11)
    ∗ ((Memref.whole main_v12).view.loc (c : Thread nD τ) ↦{fullShare} V1 m c main_v12)
    ∗ (∃ f, kM.view.loc (c : Thread nD τ) ↦{fullShare} f)
    ∗ (∃ f, vM.view.loc (c : Thread nD τ) ↦{fullShare} f)
    ∗ (bigSep Finset.univ fun i : Fin 16 => semVal ((c : Thread nD τ), ksem i) 0)
    ∗ (∃ f, (Memref.whole cc0_scratch6).view.loc (c : Thread nD τ) ↦{fullShare} f)
    ∗ (∃ f, (Memref.whole cc0_scratch7).view.loc (c : Thread nD τ) ↦{fullShare} f)
    ∗ (∃ f, (Memref.whole cc0_scratch8).view.loc (c : Thread nD τ) ↦{fullShare} f)
    ∗ (∃ f, (Memref.whole cc0_scratch2).view.loc (c : Thread nD τ) ↦{fullShare} f)
    ∗ (bigSep Finset.univ fun d : Fin 5 => bres K (msgs (PA m) (P0 m)) d c)
    ∗ bwait K (msgs (PA m) (P0 m)) c
    ∗ (bigSep Finset.univ fun e : Ex => xres K (msgs (PA m) (P0 m)) e c)
    ∗ (∃ f, stPts 1 c f)
    ∗ ∃ r, prngReg c r)

/-- What it ends with. -/
def finish (c : Dev nD) : sProp 𝕄 :=
  iprop(((Memref.whole main_v11).view.loc (c : Thread nD τ) ↦{fullShare} V1 m c main_v11)
    ∗ ((Memref.whole main_v12).view.loc (c : Thread nD τ) ↦{fullShare} V1 m c main_v12)
    ∗ (∃ f, kM.view.loc (c : Thread nD τ) ↦{fullShare} f)
    ∗ (∃ f, vM.view.loc (c : Thread nD τ) ↦{fullShare} f)
    ∗ (bigSep Finset.univ fun i : Fin 16 => semVal ((c : Thread nD τ), ksem i) 0)
    ∗ (∃ f, (Memref.whole cc0_scratch6).view.loc (c : Thread nD τ) ↦{fullShare} f)
    ∗ (∃ f, (Memref.whole cc0_scratch7).view.loc (c : Thread nD τ) ↦{fullShare} f)
    ∗ (∃ f, (Memref.whole cc0_scratch8).view.loc (c : Thread nD τ) ↦{fullShare} f)
    ∗ semVal (barCell c) 0
    ∗ (bigSep Finset.univ fun e : Ex => semVal (sendCell e c) 0)
    ∗ (bigSep Finset.univ fun e : Ex => semVal (recvCell e c) 0)
    ∗ (bigSep Finset.univ fun e : Ex => iprop(∃ f, lPts e c f))
    ∗ (∃ f, stPts 0 c f)
    ∗ (∃ f, stPts 1 c f)
    ∗ ∃ r, prngReg c r)

/-! ## The data -/

attribute [local irreducible] res

/-- The arrays as the host left them; after the body, the result in the fourth window. -/
def dat (c : Dev nD) : Dat τ (Elt F) Unit ℕ UU ℕ cfg0 c where
  A := fun | 0 => V1 m c main_v6 | 1 => V1 m c main_v9 | 2 => V1 m c main_v10 | 3 => V1 m c main_v13
           | ⟨_ + 4, h⟩ => absurd h (Nat.not_lt.2 (Nat.le_add_left _ _))
  after := fun | 0 => fun _ => V1 m c main_v6 | 1 => fun _ => V1 m c main_v9 | 2 => fun _ => V1 m c main_v10 | 3 => fun _ => res m c
               | ⟨_ + 4, h⟩ => absurd h (Nat.not_lt.2 (Nat.le_add_left _ _))
  Φ t := if t.val = 0 then start m c else finish m c
  q _ := fullShare
  owed t := if t.val = 0 then O₀ c else 0

abbrev pdats : (p : Fin 1) → (c : Dev nD) → Dat τ (Elt F) Unit ℕ UU ℕ (cfgs p) c := fun _ c => dat m c

theorem blkRead0 (f : main_v6.ty.Contents (Elt F)) : ((cfg0.win 0).blk t0_0).view.read (Elt F) f = f := by
  funext j
  show f (((cfg0.win 0).blk t0_0).view.emb j) = f j
  congr 1
  funext a
  apply Fin.ext
  match a with
  | 0 => show 0 * 1024 + 1 * (j 0).val = (j 0).val; omega
  | 1 => show 0 * 1024 + 1 * (j 1).val = (j 1).val; omega

theorem blkRead1 (f : main_v9.ty.Contents (Elt F)) : ((cfg0.win 1).blk t0_0).view.read (Elt F) f = f := by
  funext j
  show f (((cfg0.win 1).blk t0_0).view.emb j) = f j
  congr 1
  funext a
  apply Fin.ext
  match a with
  | 0 => show 0 * 1024 + 1 * (j 0).val = (j 0).val; omega
  | 1 => show 0 * 1024 + 1 * (j 1).val = (j 1).val; omega

theorem blkRead2 (f : main_v10.ty.Contents (Elt F)) : ((cfg0.win 2).blk t0_0).view.read (Elt F) f = f := by
  funext j
  show f (((cfg0.win 2).blk t0_0).view.emb j) = f j
  congr 1
  funext a
  apply Fin.ext
  match a with
  | 0 => show 0 * 1024 + 1 * (j 0).val = (j 0).val; omega
  | 1 => show 0 * 1024 + 1 * (j 1).val = (j 1).val; omega

theorem blkRead3 (f : main_v13.ty.Contents (Elt F)) : ((cfg0.win 3).blk t0_0).view.read (Elt F) f = f := by
  funext j
  show f (((cfg0.win 3).blk t0_0).view.emb j) = f j
  congr 1
  funext a
  apply Fin.ext
  match a with
  | 0 => show 0 * 1024 + 1 * (j 0).val = (j 0).val; omega
  | 1 => show 0 * 1024 + 1 * (j 1).val = (j 1).val; omega

theorem before0 (c : Dev nD) (d) : (dat m c).before 0 t0_0 d = V1 m c main_v6 := by
  unfold Dat.before
  rw [if_pos (fetch0_0 t0_0)]
  exact blkRead0 (V1 m c main_v6)

theorem arr0 (c : Dev nD) : (dat m c).arrAt 0 cfg0.N = V1 m c main_v6 := by
  have h : ∀ n, (dat m c).arrAt 0 n = V1 m c main_v6 := by
    intro n
    induction n with
    | zero => rfl
    | succ n ih =>
      show (if h : n < cfg0.N then if (cfg0.win 0).flush ⟨n, h⟩ then _ else (dat m c).arrAt 0 n else (dat m c).arrAt 0 n) = _
      split
      · rw [if_neg (by rw [show (cfg0.win 0).flush _ = false from rfl]; exact Bool.false_ne_true)]; exact ih
      · exact ih
  exact h _

theorem before1 (c : Dev nD) (d) : (dat m c).before 1 t0_0 d = V1 m c main_v9 := by
  unfold Dat.before
  rw [if_pos (fetch0_1 t0_0)]
  exact blkRead1 (V1 m c main_v9)

theorem arr1 (c : Dev nD) : (dat m c).arrAt 1 cfg0.N = V1 m c main_v9 := by
  have h : ∀ n, (dat m c).arrAt 1 n = V1 m c main_v9 := by
    intro n
    induction n with
    | zero => rfl
    | succ n ih =>
      show (if h : n < cfg0.N then if (cfg0.win 1).flush ⟨n, h⟩ then _ else (dat m c).arrAt 1 n else (dat m c).arrAt 1 n) = _
      split
      · rw [if_neg (by rw [show (cfg0.win 1).flush _ = false from rfl]; exact Bool.false_ne_true)]; exact ih
      · exact ih
  exact h _

theorem before2 (c : Dev nD) (d) : (dat m c).before 2 t0_0 d = V1 m c main_v10 := by
  unfold Dat.before
  rw [if_pos (fetch0_2 t0_0)]
  exact blkRead2 (V1 m c main_v10)

theorem arr2 (c : Dev nD) : (dat m c).arrAt 2 cfg0.N = V1 m c main_v10 := by
  have h : ∀ n, (dat m c).arrAt 2 n = V1 m c main_v10 := by
    intro n
    induction n with
    | zero => rfl
    | succ n ih =>
      show (if h : n < cfg0.N then if (cfg0.win 2).flush ⟨n, h⟩ then _ else (dat m c).arrAt 2 n else (dat m c).arrAt 2 n) = _
      split
      · rw [if_neg (by rw [show (cfg0.win 2).flush _ = false from rfl]; exact Bool.false_ne_true)]; exact ih
      · exact ih
  exact h _

theorem cut3 (X : main_v13.ty.Contents (Elt F)) : (cfg0.win 3).cut (cfg0.grid.coords t0_0) X = X := rfl

theorem arr3 (c : Dev nD) : (dat m c).arrAt 3 cfg0.N = res m c := by
  have h := (dat m c).read_blk_arrAt_eq_flushed 3 (fun t t' _ _ ht => absurd ((fin_N0 t).trans (fin_N0 t').symm) ht) cfg0.N t0_0 t0_0.isLt (flush0_3 t0_0)
  rw [show (dat m c).flushed 3 t0_0 = res m c from cut3 (res m c)] at h
  generalize (dat m c).arrAt 3 cfg0.N = X at h ⊢
  exact (blkRead3 X).symm.trans h

theorem owed_first (c : Dev nD) : (dat m c).owed t0_0.castSucc = O₀ c := by
  show (if (t0_0.castSucc : Fin (cfg0.N + 1)).val = 0 then O₀ c else 0) = _; exact if_pos rfl
theorem owed_zero (c : Dev nD) : (dat m c).owed 0 = O₀ c := by
  show (if (0 : Fin (cfg0.N + 1)).val = 0 then O₀ c else 0) = _; exact if_pos rfl
theorem owed_succ (c : Dev nD) : (dat m c).owed t0_0.succ = 0 := by
  show (if (t0_0.succ : Fin (cfg0.N + 1)).val = 0 then O₀ c else 0) = _; exact if_neg (by decide)
theorem owed_last' (c : Dev nD) : (dat m c).owed (Fin.last _) = 0 := by
  show (if ((Fin.last _) : Fin (cfg0.N + 1)).val = 0 then O₀ c else 0) = _; exact if_neg (by decide)
theorem Φ_first (c : Dev nD) : (dat m c).Φ t0_0.castSucc = start m c := by
  show (if (t0_0.castSucc : Fin (cfg0.N + 1)).val = 0 then start m c else finish m c) = _; exact if_pos rfl
theorem Φ_zero (c : Dev nD) : (dat m c).Φ 0 = start m c := by
  show (if (0 : Fin (cfg0.N + 1)).val = 0 then start m c else finish m c) = _; exact if_pos rfl
theorem Φ_succ (c : Dev nD) : (dat m c).Φ t0_0.succ = finish m c := by
  show (if (t0_0.succ : Fin (cfg0.N + 1)).val = 0 then start m c else finish m c) = _; exact if_neg (by decide)
theorem Φ_last (c : Dev nD) : (dat m c).Φ (Fin.last _) = finish m c := by
  show (if ((Fin.last _) : Fin (cfg0.N + 1)).val = 0 then start m c else finish m c) = _; exact if_neg (by decide)

end Cert.KernelIdeal.Bfly
-- ==== Proof.Region.lean ====
module

public import proofs.«01_k».proof.Proof.Data

/-! # The region of the kernel -/

@[expose] public section

noncomputable section

namespace Cert.KernelIdeal.Bfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen

variable {F : FTy → Type} [FloatOps F] [Named F]

local notation "𝕄" => MT nD τ sig Unit (Elt F) ℕ UU ℕ

variable (m : (ℓ : Loc nD τ sig) → Buf (Elt F) ℓ)

attribute [local irreducible] res

/-- The dues before a point, from what a core owes. -/
theorem owesAt_of (c : Dev nD) (t : Fin (cfg0.N + 1)) (O : CellTallies nD τ sig Unit) (h0 : (dat m c).owed t = O) (W : Waits sig Unit) :
    (owes (c : Thread nD τ) O W : sProp 𝕄) ⊢ (dat m c).owesAt () t := by
  unfold Dat.owesAt Pipeline.owesWithin Dat.bound
  rw [h0, show (dat m c).recorded t = Set.univ from rfl]
  iintro HO
  iexists W
  isplitr
  · ipureintro; exact fun _ _ => Or.inl trivial
  iexact HO
/-- and back. -/
theorem of_owesAt (c : Dev nD) (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin
  rw [h0]
  iintro ⟨%W, -, HO⟩
  iexists W
  iexact HO

theorem hA_ok (c : Dev nD) : outA (V1 m c main_v6) (V1 m c main_v9) (V1 m c main_v10) (kBuf (V1 m c main_v11) c) (vBuf (V1 m c main_v12) c) = PA m c := by
  unfold PA; rfl

theorem hB_ok (c : Dev nD) : outB (V1 m c main_v6) (V1 m c main_v9) (V1 m c main_v10) (kBuf (V1 m c main_v11) c) (vBuf (V1 m c main_v12) c)
    = out0 (PA m) (P0 m) c := by
  unfold out0 P0; rfl

attribute [local irreducible] PA P0 out0

theorem bodyCore (c : Dev nD) : iprop(start m c ∗ (dat m c).owesAt () t0_0.castSucc
      ∗ (∃ _d : Buf (Elt F) ((Memref.whole cc0_stg0_0).view.loc (c : Thread nD τ)), owns (c : Thread nD τ) (Memref.whole cc0_stg0_0) fullShare (V1 m c main_v6))
      ∗ (∃ _d : Buf (Elt F) ((Memref.whole cc0_stg1_0).view.loc (c : Thread nD τ)), owns (c : Thread nD τ) (Memref.whole cc0_stg1_0) fullShare (V1 m c main_v9))
      ∗ (∃ _d : Buf (Elt F) ((Memref.whole cc0_stg2_0).view.loc (c : Thread nD τ)), owns (c : Thread nD τ) (Memref.whole cc0_stg2_0) fullShare (V1 m c main_v10))
      ∗ (∃ d, owns (c : Thread nD τ) (Memref.whole cc0_stg3_0) fullShare ((dat m c).before 3 t0_0 d)))
    ⊢ wp frame (wpE (defs₀ (F := F)) 𝒱₀ c none) Set.univ (bodyAt0 (F := F) t0_0) fun _ => iprop(finish m c ∗ (dat m c).owesAt () t0_0.succ
      ∗ owns (c : Thread nD τ) (Memref.whole cc0_stg0_0) fullShare (V1 m c main_v6)
      ∗ owns (c : Thread nD τ) (Memref.whole cc0_stg1_0) fullShare (V1 m c main_v9)
      ∗ owns (c : Thread nD τ) (Memref.whole cc0_stg2_0) fullShare (V1 m c main_v10)
      ∗ owns (c : Thread nD τ) (Memref.whole cc0_stg3_0) fullShare (res m c)) := by
  iintro ⟨HS, HO, ⟨%d0, H0⟩, ⟨%d1, H1⟩, ⟨%d2, H2⟩, ⟨%d3, H3⟩⟩
  ihave HO' := (of_owesAt m c _ (O₀ c) (owed_first m c)) $$ HO
  icases HO' with ⟨%W, HO⟩
  ihave G0 := (Entails.of_eq (owns_whole (c : Thread nD τ) cc0_stg0_0 fullShare (V1 m c main_v6))) $$ H0
  ihave G1 := (Entails.of_eq (owns_whole (c : Thread nD τ) cc0_stg1_0 fullShare (V1 m c main_v9))) $$ H1
  ihave G2 := (Entails.of_eq (owns_whole (c : Thread nD τ) cc0_stg2_0 fullShare (V1 m c main_v10))) $$ H2
  ihave G3 := (Entails.of_eq (owns_whole (c : Thread nD τ) cc0_stg3_0 fullShare ((dat m c).before 3 t0_0 d3))) $$ H3
  unfold start
  icases HS with ⟨%K, Hlev, Hk, Hv, ⟨%fk, Hfk⟩, ⟨%fv, Hfv⟩, Hsem, ⟨%f6, H6⟩, ⟨%f7, H7⟩, ⟨%f8, H8⟩, ⟨%fs, Hs⟩, Hb, Hw, Hx, Hst, Hp⟩
  iapply (bodyRun K (PA m) (P0 m) c W (V1 m c main_v11) (V1 m c main_v12) f6 f7 f8 fs (V1 m c main_v6) (V1 m c main_v9) (V1 m c main_v10)
    ((dat m c).before 3 t0_0 d3) fk fv (hA_ok m c) (hB_ok m c) _)
  isplitr [Hp]
  · unfold bodyPre
    isplitl [Hlev]; · iexact Hlev
    isplitl [Hk]; · iexact Hk
    isplitl [Hv]; · iexact Hv
    isplitl [Hfk]; · iexact Hfk
    isplitl [Hfv]; · iexact Hfv
    isplitl [Hsem]; · iexact Hsem
    isplitl [H6]; · iexact H6
    isplitl [H7]; · iexact H7
    isplitl [H8]; · iexact H8
    isplitl [Hs]; · iexact Hs
    isplitl [HO]; · iexact HO
    isplitl [Hb]; · iexact Hb
    isplitl [Hw]; · iexact Hw
    isplitl [Hx]; · iexact Hx
    isplitl [Hst]; · iexact Hst
    isplitl [G0]; · iexact G0
    isplitl [G1]; · iexact G1
    isplitl [G2]; · iexact G2
    iexact G3
  unfold bodyPost finish debt
  iintro ⟨Hk, Hv, Hfk, Hfv, Hsem, H6, H7, H8, Hbar, G0, G1, G2, G3, Hds, Hdr, Hl, Hs0, Hs1, ⟨%W', HO⟩⟩
  isplitl [Hk Hv Hfk Hfv Hsem H6 H7 H8 Hbar Hds Hdr Hl Hs0 Hs1 Hp]
  · isplitl [Hk]; · iexact Hk
    isplitl [Hv]; · iexact Hv
    isplitl [Hfk]; · iexact Hfk
    isplitl [Hfv]; · iexact Hfv
    isplitl [Hsem]; · iexact Hsem
    isplitl [H6]; · iexact H6
    isplitl [H7]; · iexact H7
    isplitl [H8]; · iexact H8
    isplitl [Hbar]; · iexact Hbar
    isplitl [Hds]; · iexact Hds
    isplitl [Hdr]; · iexact Hdr
    isplitl [Hl]; · iexact Hl
    isplitl [Hs0]; · iexact Hs0
    isplitl [Hs1]; · iexact Hs1
    iexact Hp
  isplitl [HO]
  · iapply (owesAt_of m c t0_0.succ (owed 20 c) ((owed_succ m c).trans (owed_end c).symm) W')
    iexact HO
  isplitl [G0]; · iapply (Entails.of_eq (owns_whole (c : Thread nD τ) cc0_stg0_0 fullShare (V1 m c main_v6)).symm) $$ G0
  isplitl [G1]; · iapply (Entails.of_eq (owns_whole (c : Thread nD τ) cc0_stg1_0 fullShare (V1 m c main_v9)).symm) $$ G1
  isplitl [G2]; · iapply (Entails.of_eq (owns_whole (c : Thread nD τ) cc0_stg2_0 fullShare (V1 m c main_v10)).symm) $$ G2
  iapply (Entails.of_eq (owns_whole (c : Thread nD τ) cc0_stg3_0 fullShare (res m c)).symm)
  unfold res
  iexact G3

theorem body_ok (c : Dev nD) : Pipeline.BodyObligation (dat m c) (defs₀ (F := F)) 𝒱₀ () Set.univ := fun t => by
  obtain rfl := fin_N0 t
  rw [bigSep_W0, bigSep_W0]
  rw [Φ_first, Φ_succ]
  have s0 : (cfg0.win 0).stage (cfg0.slots t0_0 0) = Memref.whole cc0_stg0_0 := rfl
  have s1 : (cfg0.win 1).stage (cfg0.slots t0_0 1) = Memref.whole cc0_stg1_0 := rfl
  have s2 : (cfg0.win 2).stage (cfg0.slots t0_0 2) = Memref.whole cc0_stg2_0 := rfl
  have s3 : (cfg0.win 3).stage (cfg0.slots t0_0 3) = Memref.whole cc0_stg3_0 := rfl
  have a0 : (dat m c).after 0 t0_0 = V1 m c main_v6 := rfl
  have a1 : (dat m c).after 1 t0_0 = V1 m c main_v9 := rfl
  have a2 : (dat m c).after 2 t0_0 = V1 m c main_v10 := rfl
  have a3 : (dat m c).after 3 t0_0 = res m c := rfl
  have hb : (defs₀ (F := F)) .tc cfg0.body (cfg0.bodyArgs t0_0 (cfg0.slots t0_0)) = bodyAt0 (F := F) t0_0 := rfl
  rw [a0, a1, a2, a3, hb]
  have i0 : cfg0.idle 0 (cfg0.grid.coords t0_0) = false := rfl
  have i1 : cfg0.idle 1 (cfg0.grid.coords t0_0) = false := rfl
  have i2 : cfg0.idle 2 (cfg0.grid.coords t0_0) = false := rfl
  have i3 : cfg0.idle 3 (cfg0.grid.coords t0_0) = false := rfl
  simp only [i0, i1, i2, i3]
  simp only [before0, before1, before2]
  refine (sep_mono_right (sep_mono_right ?_)).trans ((bodyCore m c).trans ?_)
  · refine BIClass.sep_mono ?_ (BIClass.sep_mono ?_ (BIClass.sep_mono ?_ ?_))
    · iintro ⟨%d, H⟩; iexists (V1 m c main_v6); iexact H
    · iintro ⟨%d, H⟩; iexists (V1 m c main_v9); iexact H
    · iintro ⟨%d, H⟩; iexists (V1 m c main_v10); iexact H
    · iintro ⟨%d, H⟩; iexists d; iexact H
  · generalize bodyAt0 (F := F) t0_0 = X
    have e0 (v : main_v6.ty.Contents (Elt F)) : (owns (c : Thread nD τ) (Memref.whole cc0_stg0_0) fullShare v : sProp 𝕄) = owns (c : Thread nD τ) (stage0_0 0) fullShare v := rfl
    have e1 (v : main_v9.ty.Contents (Elt F)) : (owns (c : Thread nD τ) (Memref.whole cc0_stg1_0) fullShare v : sProp 𝕄) = owns (c : Thread nD τ) (stage0_1 0) fullShare v := rfl
    have e2 (v : main_v10.ty.Contents (Elt F)) : (owns (c : Thread nD τ) (Memref.whole cc0_stg2_0) fullShare v : sProp 𝕄) = owns (c : Thread nD τ) (stage0_2 0) fullShare v := rfl
    have e3 (v : main_v13.ty.Contents (Elt F)) : (owns (c : Thread nD τ) (Memref.whole cc0_stg3_0) fullShare v : sProp 𝕄) = owns (c : Thread nD τ) (stage0_3 0) fullShare v := rfl
    rw [e0, e1, e2, e3]

/-! ## Entering and leaving -/

/-- What the launch keeps for the region. -/
def Tk (c : Dev nD) : sProp 𝕄 :=
  iprop(∃ K : GSem nD τ sig → ℕ, (bigSep Finset.univ fun e : Ex => xtk K (msgs (PA m) (P0 m)) e c)
    ∗ (bigSep Finset.univ fun d : Fin 5 => btk K (msgs (PA m) (P0 m)) d c) ∗ bwait K (msgs (PA m) (P0 m)) c)

/-- The same, the cells open. -/
def Xk (c : Dev nD) : sProp 𝕄 :=
  iprop(∃ K : GSem nD τ sig → ℕ, levAts L lv ∗ (bigSep Finset.univ fun i : Fin 16 => semVal ((c : Thread nD τ), ksem i) 0)
    ∗ (bigSep Finset.univ fun e : Ex => xres K (msgs (PA m) (P0 m)) e c) ∗ (bigSep Finset.univ fun e : Ex => reached ER (recvCell e c) 0)
    ∗ (bigSep Finset.univ fun d : Fin 5 => btk K (msgs (PA m) (P0 m)) d c) ∗ bwait K (msgs (PA m) (P0 m)) c)

def Yk (c : Dev nD) : sProp 𝕄 := semVal (barCell c) 0

theorem hopen (c : Dev nD) : iprop(Tk m c ∗ Pipeline.ownSems0 osem c ∗ levAts L lv) ⊢ (|={Set.univ}=> Xk m c : sProp 𝕄) := by
  rw [ownSems_eq]
  unfold Tk Xk
  iintro ⟨⟨%K, Hx, Hb, Hw⟩, ⟨Hk, Hs, Hr⟩, #Hlev⟩
  imod (openAll K (msgs (PA m) (P0 m)) c) $$ [Hx Hs Hr] with ⟨Hx, Hre⟩
  · isplitl [Hx]; · iexact Hx
    isplitl [Hs] <;> iassumption
  imodintro
  iexists K
  isplitr; · iexact Hlev
  isplitl [Hk]; · iexact Hk
  isplitl [Hx]; · iexact Hx
  isplitl [Hre]; · iexact Hre
  isplitl [Hb]; · iexact Hb
  iexact Hw

/-- The two operands the kernel reads in place. -/
def Hs : Finset (DevRef τ sig) := {Proc.devRef .tc main_v11, Proc.devRef .tc main_v12}

theorem held_Hs (c : Dev nD) (W : Valuation τ sig (Elt F)) : (StableHlo.held (c.tc : Thread nD τ) Hs W : sProp 𝕄)
    = iprop(((Memref.whole main_v11).view.loc (c : Thread nD τ) ↦{fullShare} W main_v11)
      ∗ ((Memref.whole main_v12).view.loc (c : Thread nD τ) ↦{fullShare} W main_v12)) := by
  unfold StableHlo.held Hs
  rw [bigSep_eq_bigSepL_of_eq [Proc.devRef .tc main_v11, Proc.devRef .tc main_v12] (by decide) (by decide)]
  rfl

abbrev Sr : Finset (DevRef τ sig) := Pipeline.ucRefs τ sig \ Pipeline.arrRefs (τ := τ) spec0

theorem Hs_sub : Hs ⊆ (Sr : Finset (DevRef τ sig)) := by decide +kernel

theorem hin (c : Dev nD) : iprop(Pipeline.scopedRest spec0 c ∗ (∃ r, prngReg c r) ∗ StableHlo.held (c.tc : Thread nD τ) Hs (V1 m c) ∗ Xk m c)
    ⊢ (dat m c).Φ 0 := by
  rw [Φ_zero, scopedRest0_eq, held_Hs]
  unfold start Xk
  iintro ⟨⟨S0, S1, S2, S3, S4, S5, S6, S7, S8, S9, S10⟩, Hp, ⟨Hk, Hv⟩, ⟨%K, Hlev, Hsem, Hx, Hre, Hb, Hw⟩⟩
  ihave Hl := (land c) $$ [S0 S1 S3 S4]
  · isplitl [S0]; · iexact S0
    isplitl [S1]; · iexact S1
    isplitl [S3]; · iexact S3
    iexact S4
  ihave Hg := (grantAll K (msgs (PA m) (P0 m)) c) $$ [Hb Hl Hre]
  · isplitl [Hb]; · iexact Hb
    isplitl [Hl] <;> iassumption
  iexists K
  isplitl [Hlev]; · iexact Hlev
  isplitl [Hk]; · iexact Hk
  isplitl [Hv]; · iexact Hv
  isplitl [S9]; · iexact S9
  isplitl [S10]; · iexact S10
  isplitl [Hsem]; · iexact Hsem
  isplitl [S6]; · iexact S6
  isplitl [S7]; · iexact S7
  isplitl [S8]; · iexact S8
  isplitl [S2]; · iexact S2
  isplitl [Hg]; · iexact Hg
  isplitl [Hw]; · iexact Hw
  isplitl [Hx]; · iexact Hx
  isplitl [S5]; · iexact S5
  iexact Hp

theorem hout (c : Dev nD) : (dat m c).Φ (Fin.last _)
    ⊢ iprop(Pipeline.scopedRest spec0 c ∗ (∃ r, prngReg c r) ∗ StableHlo.held (c.tc : Thread nD τ) Hs (V2 m (outs m) c) ∗ Pipeline.ownSems0 osem c ∗ Yk c) := by
  rw [Φ_last, scopedRest0_eq, held_Hs, V2_11, V2_12, ownSems_eq]
  unfold finish Yk
  iintro ⟨Hk, Hv, Hfk, Hfv, Hsem, H6, H7, H8, Hbar, Hds, Hdr, Hl, Hs0, Hs1, Hp⟩
  ihave Hl' := (unland c) $$ Hl
  icases Hl' with ⟨S0, S1, S3, S4⟩
  isplitl [S0 S1 Hs0 S3 S4 Hs1 H6 H7 H8 Hfk Hfv]
  · isplitl [S0]; · iexact S0
    isplitl [S1]; · iexact S1
    isplitl [Hs0]; · iexact Hs0
    isplitl [S3]; · iexact S3
    isplitl [S4]; · iexact S4
    isplitl [Hs1]; · iexact Hs1
    isplitl [H6]; · iexact H6
    isplitl [H7]; · iexact H7
    isplitl [H8]; · iexact H8
    isplitl [Hfk]; · iexact Hfk
    iexact Hfv
  isplitl [Hp]; · iexact Hp
  isplitl [Hk Hv]; · isplitl [Hk] <;> iassumption
  isplitl [Hsem Hds Hdr]
  · isplitl [Hsem]; · iexact Hsem
    isplitl [Hds] <;> iassumption
  iexact Hbar

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-! ## The levels -/

theorem owed_pos {n : ℕ} {c : Dev nD} {g : GSem nD τ sig} {u : Unit} (h : 0 < owed n c g u) : ∃ e : Ex, g = recvCell e (par e c) := by
  unfold owed at h
  rw [Finset.sum_apply, Finsupp.finset_sum_apply] at h
  obtain ⟨e, -, he⟩ := Finset.exists_ne_zero_of_sum_ne_zero (Nat.pos_iff_ne_zero.mp h)
  rw [tallyAt_apply] at he
  split at he
  · next hg => exact ⟨e, hg.1⟩
  · exact absurd rfl he

theorem owedBar_pos {D : Finset (Fin 5)} {c : Dev nD} {g : GSem nD τ sig} {u : Unit} (h : 0 < owedBar D c g u) : ∃ d, g = barCell (nb d c) := by
  unfold owedBar at h
  rw [Finset.sum_apply, Finsupp.finset_sum_apply] at h
  obtain ⟨e, -, he⟩ := Finset.exists_ne_zero_of_sum_ne_zero (Nat.pos_iff_ne_zero.mp h)
  rw [tallyAt_apply] at he
  split at he
  · next hg => exact ⟨e, hg.1⟩
  · exact absurd rfl he

theorem cutD (c : Dev nD) (t : Fin (cfg0.N + 1)) (g : GSem nD τ sig) (i : Unit) (h : 0 < (dat m c).owed t g i) :
    i ∈ L g ∧ (0 : ℕ) < lv g i := by
  have e : (dat m c).owed t = if t.val = 0 then O₀ c else 0 := rfl
  rw [e] at h
  split at h
  · unfold O₀ at h
    rw [Pi.add_apply, Finsupp.add_apply] at h
    rcases Nat.add_pos_iff_pos_or_pos.mp h with h | h
    · obtain ⟨x, rfl⟩ := owed_pos h
      exact ⟨by rw [L_tc]; exact Finset.mem_singleton_self _, by rw [lv_recv]; omega⟩
    · obtain ⟨d, rfl⟩ := owedBar_pos h
      exact ⟨by rw [L_tc]; exact Finset.mem_singleton_self _, Nat.one_pos⟩
  · exact absurd h (Nat.lt_irrefl 0)

theorem staging_lv : ∀ (w : Fin 4) (s : Fin (win0 w).nbuf), lvS (.dma ((win0 w).sem s)) = 0 := by decide +kernel

theorem kept (c : Dev nD) : ∀ b ∈ (Sr : Finset (DevRef τ sig)) \ Hs, V2 m (outs m) c b = V1 m c b := by
  intro b hb
  have h13 : b ≠ Proc.devRef .tc main_v13 := by rintro rfl; exact absurd hb (by decide +kernel)
  have h11 : b ≠ Proc.devRef .tc main_v11 := by rintro rfl; exact absurd hb (by decide +kernel)
  have h12 : b ≠ Proc.devRef .tc main_v12 := by rintro rfl; exact absurd hb (by decide +kernel)
  unfold V2
  rw [Function.update_of_ne h12, Function.update_of_ne h11, Function.update_of_ne h13]

theorem arrs_in (c : Dev nD) : ∀ w : Fin 4, (dat m c).arrAt w 0 = V1 m c (Proc.devRef .tc (Pipeline.arrRef spec0 w))
  | 0 => rfl | 1 => rfl | 2 => rfl | 3 => rfl
  | ⟨_ + 4, h⟩ => absurd h (Nat.not_lt.2 (Nat.le_add_left _ _))

theorem arrs_out (c : Dev nD) : ∀ w : Fin 4, (dat m c).arrAt w cfg0.N = V2 m (outs m) c (Proc.devRef .tc (Pipeline.arrRef spec0 w))
  | 0 => (arr0 m c).trans (V2_of m (outs m) c main_v6 (by decide)).symm
  | 1 => (arr1 m c).trans (V2_of m (outs m) c main_v9 (by decide)).symm
  | 2 => (arr2 m c).trans (V2_of m (outs m) c main_v10 (by decide)).symm
  | 3 => (arr3 m c).trans (V2_13 m c).symm
  | ⟨_ + 4, h⟩ => absurd h (Nat.not_lt.2 (Nat.le_add_left _ _))

theorem share_full (c : Dev nD) (w : Fin 4) : (dat m c).share w = fullShare := by
  show (if (cfg0.win w).isOut then fullShare else fullShare) = fullShare
  exact ite_self _

set_option backward.isDefEq.respectTransparency.types false in
/-- The region's record. -/
def reg : Pipeline.RegionSeg (pcfgs (F := F)) adm (pdats m) () defs₀ 𝒱₀ L lv 0 :=
  Pipeline.RegionSeg.ofTalk (pcfgs (F := F)) adm (pdats m) () defs₀ 𝒱₀ L lv 0 osem osem_facts
    Hs Sr Hs_sub kitP rfl (fun c => (body_ok m c).loose)
    (fun _ => 0) O₀ (fun c => (owed_zero m c).trans (zero_add _).symm) (owed_last' m) (fun _ => rfl) (share_full m)
    (V1 m) (V2 m (outs m)) (kept m)
    (Tk m) Yk (Xk m) Yk (hopen m) (hin m) (hout m)
    (fun c => by iintro H; imodintro; iexact H)
    (fun _ => 0)
    ⟨fun c w s => by rw [L_tc]; exact Finset.mem_singleton_self _, fun c w s => Nat.le_of_eq (staging_lv w s), fun c t g i h => cutD m c t g i h⟩
    (fun _ => iprop(emp))
    (arrs_in m) (arrs_out m)

end Cert.KernelIdeal.Bfly
-- ==== Proof.Fund.lean ====
module

public import proofs.«01_k».proof.Proof.Region

/-! # Dealing the ghost state at launch -/

@[expose] public section

noncomputable section

namespace Cert.KernelIdeal.Bfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen

variable {F : FTy → Type} [FloatOps F] [Named F]

local notation "𝕄" => MT nD τ sig Unit (Elt F) ℕ UU ℕ

variable (m : (ℓ : Loc nD τ sig) → Buf (Elt F) ℓ)

attribute [local irreducible] res

/-! ## The cells -/

/-- The send and receive semaphores, as one family. -/
abbrev xsem (x : Ex ⊕ Ex) : SemLoc sig := osem (.inr x)

theorem xsem_inj : Function.Injective xsem := fun _ _ h => Sum.inr_injective (osem_facts.inj h)

/-- The core a cell belongs to. -/
theorem core_inj {c c' : Dev nD} {s s' : SemLoc sig} (h : (((c : Thread nD τ), s) : GSem nD τ sig) = ((c' : Thread nD τ), s')) : c = c' :=
  congrArg (fun g : GSem nD τ sig => g.1.1) h

def barMap : Dev nD ↪ GSem nD τ sig := ⟨fun c => barCell c, fun _ _ h => core_inj h⟩
def xMap : Dev nD × (Ex ⊕ Ex) ↪ GSem nD τ sig :=
  ⟨fun p => ((p.1 : Thread nD τ), xsem p.2), fun _ _ h => Prod.ext (core_inj h) (xsem_inj (congrArg Prod.snd h))⟩

/-- The duty a token is of: a barrier duty, or the one duty of an exchange's cell. -/
def dutySem : Fin 5 ⊕ (Ex ⊕ Ex) → SemLoc sig × Dty
  | .inl d => (.reg bSem, d)
  | .inr x => (xsem x, 0)

theorem xsem_dma : ∀ x : Ex ⊕ Ex, xsem x ≠ .reg bSem
  | .inl _ => fun h => by cases h
  | .inr _ => fun h => by cases h

theorem dutySem_inj : Function.Injective dutySem
  | .inl d, .inl d', h => congrArg Sum.inl (congrArg Prod.snd h)
  | .inl d, .inr x, h => absurd (congrArg Prod.fst h).symm (xsem_dma x)
  | .inr x, .inl d, h => absurd (congrArg Prod.fst h) (xsem_dma x)
  | .inr x, .inr y, h => congrArg Sum.inr (xsem_inj (congrArg Prod.fst h))

def tokMap : Dev nD × (Fin 5 ⊕ (Ex ⊕ Ex)) ↪ GSem nD τ sig × ℕ × Dty :=
  ⟨fun p => (((p.1 : Thread nD τ), (dutySem p.2).1), 0, (dutySem p.2).2), fun _ _ h =>
    Prod.ext (core_inj (congrArg Prod.fst h))
      (dutySem_inj (Prod.ext (congrArg (fun t : GSem nD τ sig × ℕ × Dty => t.1.2) h) (congrArg (fun t : GSem nD τ sig × ℕ × Dty => t.2.2) h)))⟩

abbrev barSet : Finset (GSem nD τ sig) := Finset.univ.map barMap
abbrev xSet : Finset (GSem nD τ sig) := Finset.univ.map xMap
abbrev tokSet : Finset (GSem nD τ sig × ℕ × Dty) := Finset.univ.map tokMap

theorem sets_disj : Disjoint (barSet : Finset (GSem nD τ sig)) xSet := by
  rw [Finset.disjoint_left]
  intro g h h'
  obtain ⟨c, -, rfl⟩ := Finset.mem_map.mp h
  obtain ⟨p, -, e⟩ := Finset.mem_map.mp h'
  exact xsem_dma p.2 (congrArg Prod.snd e)

theorem bar_in (c : Dev nD) : barCell c ∈ (barSet ∪ xSet : Finset (GSem nD τ sig)) :=
  Finset.mem_union_left _ (Finset.mem_map_of_mem barMap (Finset.mem_univ c))
theorem send_in (e : Ex) (c : Dev nD) : sendCell e c ∈ (barSet ∪ xSet : Finset (GSem nD τ sig)) :=
  Finset.mem_union_right _ (Finset.mem_map_of_mem xMap (Finset.mem_univ (c, Sum.inl e)))
theorem recv_in (e : Ex) (c : Dev nD) : recvCell e c ∈ (barSet ∪ xSet : Finset (GSem nD τ sig)) :=
  Finset.mem_union_right _ (Finset.mem_map_of_mem xMap (Finset.mem_univ (c, Sum.inr e)))

/-- The element of the exchanges' algebra dealt at launch. -/
def uX : UB := launchOf barSet xSet tokSet

/-- The whole element. -/
def u0 : UU :=
  (initOf (Pipeline.cells (Pipeline.pin (pcfgs (F := F)) adm) cellOf_inj) (Pipeline.launchToks (Pipeline.pin (pcfgs (F := F)) adm) cellOf_inj),
    (uX, 1))

/-! ## What every core may consult, and what each keeps -/

/-- All the invariants, under names `K`; every barrier cell at its first round. -/
def common (K : GSem nD τ sig → ℕ) : sProp 𝕄 :=
  iprop((bigSep (barSet ∪ xSet) fun g => cellInv ER (Rd (msgs (PA m) (P0 m))) (K g) g) ∗ bigSep barSet fun g => reached ER g 0)

instance common_persistent (K : GSem nD τ sig → ℕ) : BI.Persistent (common m K) := by unfold common; infer_instance

/-- What a core keeps of exchange `e`. -/
def xown (e : Ex) (c : Dev nD) : sProp 𝕄 :=
  iprop(openTok ER (sendCell e c) ∗ openTok ER (recvCell e c) ∗ dutyTok ER (sendCell e c) 0 0
    ∗ dutyTok ER (recvCell e (par e c)) 0 0 ∗ cred (tallyAt (recvCell e c) () (amt e)))

/-- What a core keeps. -/
def own1 (c : Dev nD) : sProp 𝕄 :=
  iprop((atPos ER (barCell c) 0 ∅ 0 ∗ cred (tallyAt (barCell c) () 5)) ∗ (bigSep Finset.univ fun d : Fin 5 => dutyTok ER (barCell (nb d c)) 0 d)
    ∗ bigSep Finset.univ fun e : Ex => xown e c)

theorem inv_of (K : GSem nD τ sig → ℕ) {g : GSem nD τ sig} (hg : g ∈ (barSet ∪ xSet : Finset (GSem nD τ sig))) :
    (common m K : sProp 𝕄) ⊢ cellInv ER (Rd (msgs (PA m) (P0 m))) (K g) g := by
  have h : (bigSep (barSet ∪ xSet) fun g => (cellInv ER (Rd (msgs (PA m) (P0 m))) (K g) g : sProp 𝕄)) ⊢ cellInv ER (Rd (msgs (PA m) (P0 m))) (K g) g :=
    bigSep_elim hg
  unfold common
  iintro ⟨H, -⟩
  iapply h $$ H

theorem reached_of (K : GSem nD τ sig → ℕ) (c : Dev nD) : (common m K : sProp 𝕄) ⊢ reached ER (barCell c) 0 := by
  have h : (bigSep barSet fun g => (reached ER g 0 : sProp 𝕄)) ⊢ reached ER (barCell c) 0 :=
    bigSep_elim (Finset.mem_map_of_mem barMap (Finset.mem_univ c))
  unfold common
  iintro ⟨-, H⟩
  iapply h $$ H

theorem xtk_of (K : GSem nD τ sig → ℕ) (e : Ex) (c : Dev nD) : iprop(common m K ∗ xown e c) ⊢ (xtk K (msgs (PA m) (P0 m)) e c : sProp 𝕄) := by
  unfold xown xtk
  iintro ⟨#H, H1, H2, H3, H4, H5⟩
  isplitr; · iapply (inv_of m K (send_in e c)); iexact H
  isplitr; · iapply (inv_of m K (recv_in e c)); iexact H
  isplitr; · iapply (inv_of m K (recv_in e (par e c))); iexact H
  isplitl [H1]; · iexact H1
  isplitl [H2]; · iexact H2
  isplitl [H3]; · iexact H3
  isplitl [H4]; · iexact H4
  iexact H5

theorem btk_of (K : GSem nD τ sig → ℕ) (d : Fin 5) (c : Dev nD) :
    iprop(common m K ∗ dutyTok ER (barCell (nb d c)) 0 d) ⊢ (btk K (msgs (PA m) (P0 m)) d c : sProp 𝕄) := by
  unfold btk
  iintro ⟨#H, H1⟩
  isplitr; · iapply (inv_of m K (bar_in (nb d c))); iexact H
  isplitl [H1]; · iexact H1
  iapply (reached_of m K (nb d c)); iexact H

theorem Tk_of (K : GSem nD τ sig → ℕ) (c : Dev nD) : iprop(common m K ∗ own1 c) ⊢ (Tk m c : sProp 𝕄) := by
  have hx : iprop(common m K ∗ bigSep Finset.univ fun e : Ex => xown e c) ⊢ (bigSep Finset.univ fun e : Ex => xtk K (msgs (PA m) (P0 m)) e c : sProp 𝕄) :=
    bigSep_with_persistent (R := common m K) fun e _ => xtk_of m K e c
  have hb : iprop(common m K ∗ bigSep Finset.univ fun d : Fin 5 => dutyTok ER (barCell (nb d c)) 0 d)
      ⊢ (bigSep Finset.univ fun d : Fin 5 => btk K (msgs (PA m) (P0 m)) d c : sProp 𝕄) :=
    bigSep_with_persistent (R := common m K) fun d _ => btk_of m K d c
  unfold own1 Tk bwait
  iintro ⟨#H, ⟨Ha, Hc⟩, Hb, Hx⟩
  iexists K
  isplitl [Hx]
  · iapply hx; isplitr; · iexact H
    iexact Hx
  isplitl [Hb]
  · iapply hb; isplitr; · iexact H
    iexact Hb
  isplitr; · iapply (inv_of m K (bar_in c)); iexact H
  isplitl [Hc] <;> iassumption

/-! ## The tokens go round -/

def turnBar : Dev nD × Fin 5 ≃ Dev nD × Fin 5 where
  toFun p := (nb p.2 p.1, p.2)
  invFun p := (nb p.2 p.1, p.2)
  left_inv p := by dsimp only; rw [nb_nb]
  right_inv p := by dsimp only; rw [nb_nb]

def turnEx : Dev nD × Ex ≃ Dev nD × Ex where
  toFun p := (par p.2 p.1, p.2)
  invFun p := (par p.2 p.1, p.2)
  left_inv p := by dsimp only; rw [par_par]
  right_inv p := by dsimp only; rw [par_par]

theorem bar_turn : (bigSep Finset.univ fun c : Dev nD => bigSep Finset.univ fun d : Fin 5 => (dutyTok ER (barCell c) 0 d : sProp 𝕄))
    = bigSep Finset.univ fun c : Dev nD => bigSep Finset.univ fun d : Fin 5 => dutyTok ER (barCell (nb d c)) 0 d := by
  rw [← BI.bigSep_univ_prod (fun p : Dev nD × Fin 5 => (dutyTok ER (barCell p.1) 0 p.2 : sProp 𝕄)),
    BI.bigSep_univ_equiv turnBar, BI.bigSep_univ_prod]
  rfl

theorem recv_turn : (bigSep Finset.univ fun c : Dev nD => bigSep Finset.univ fun e : Ex => (dutyTok ER (recvCell e c) 0 0 : sProp 𝕄))
    = bigSep Finset.univ fun c : Dev nD => bigSep Finset.univ fun e : Ex => dutyTok ER (recvCell e (par e c)) 0 0 := by
  rw [← BI.bigSep_univ_prod (fun p : Dev nD × Ex => (dutyTok ER (recvCell p.2 p.1) 0 0 : sProp 𝕄)),
    BI.bigSep_univ_equiv turnEx, BI.bigSep_univ_prod]
  rfl

theorem toks_split : (bigSep tokSet fun x => (dutyTok ER x.1 x.2.1 x.2.2 : sProp 𝕄))
    = iprop((bigSep Finset.univ fun c : Dev nD => bigSep Finset.univ fun d : Fin 5 => dutyTok ER (barCell (nb d c)) 0 d)
      ∗ (bigSep Finset.univ fun c : Dev nD => bigSep Finset.univ fun e : Ex => dutyTok ER (sendCell e c) 0 0)
      ∗ bigSep Finset.univ fun c : Dev nD => bigSep Finset.univ fun e : Ex => dutyTok ER (recvCell e (par e c)) 0 0) := by
  rw [← bar_turn, ← recv_turn, ← bigSep_sep', ← bigSep_sep']
  unfold tokSet
  rw [BI.bigSep_map, BI.bigSep_univ_prod]
  exact bigSep_congr fun c _ => by
    rw [BI.bigSep_univ_sum, BI.bigSep_univ_sum]; rfl

theorem opens_split : (bigSep xSet fun g => (openTok ER g : sProp 𝕄))
    = iprop((bigSep Finset.univ fun c : Dev nD => bigSep Finset.univ fun e : Ex => openTok ER (sendCell e c))
      ∗ bigSep Finset.univ fun c : Dev nD => bigSep Finset.univ fun e : Ex => openTok ER (recvCell e c)) := by
  rw [← bigSep_sep']
  unfold xSet
  rw [BI.bigSep_map, BI.bigSep_univ_prod]
  exact bigSep_congr fun c _ => by
    rw [BI.bigSep_univ_sum]; rfl

/-! ## The credit dealt at launch -/

theorem nb_eq_iff (d : Fin 5) (c c' : Dev nD) : nb d c' = c ↔ c' = nb d c :=
  ⟨fun h => by rw [← h, nb_nb], fun h => by rw [h, nb_nb]⟩

theorem owed_bar0 (c c' : Dev nD) : owed 0 c' (barCell c) () = 0 := by
  unfold owed
  rw [Finset.sum_apply, Finsupp.finset_sum_apply]
  refine Finset.sum_eq_zero fun e _ => ?_
  rw [tallyAt_apply, if_neg]
  rintro ⟨h, -⟩
  exact absurd (congrArg Prod.snd h) (by intro h; cases h)

theorem owedBar_recv0 (e : Ex) (c c' : Dev nD) : owedBar Finset.univ c' (recvCell e c) () = 0 := by
  unfold owedBar
  rw [Finset.sum_apply, Finsupp.finset_sum_apply]
  refine Finset.sum_eq_zero fun d _ => ?_
  rw [tallyAt_apply, if_neg]
  rintro ⟨h, -⟩
  exact absurd (congrArg Prod.snd h) (by intro h; cases h)

theorem owedBar_bar (c c' : Dev nD) : owedBar Finset.univ c' (barCell c) () = ∑ d : Fin 5, if c' = nb d c then 1 else 0 := by
  unfold owedBar
  rw [Finset.sum_apply, Finsupp.finset_sum_apply]
  refine Finset.sum_congr rfl fun d _ => ?_
  rw [tallyAt_apply]
  refine if_congr ⟨fun h => (nb_eq_iff d c c').mp (core_inj h.1).symm, fun h => ⟨?_, rfl⟩⟩ rfl rfl
  rw [h, nb_nb]

theorem owed_recv (e : Ex) (c c' : Dev nD) : owed 0 c' (recvCell e c) () = if c' = par e c then amt e else 0 := by
  unfold owed
  rw [Finset.sum_apply, Finsupp.finset_sum_apply, Finset.sum_eq_single e]
  · rw [tallyAt_apply]
    refine if_congr ⟨fun h => (nb_eq_iff e.dim c c').mp (core_inj h.1).symm, fun h => ⟨?_, rfl⟩⟩ rfl rfl
    rw [h, par_par]
  · intro e' _ hne
    rw [tallyAt_apply, if_neg]
    rintro ⟨h, -⟩
    have h2 : (SemLoc.dma (rSem e) : SemLoc sig) = .dma (rSem e') := congrArg Prod.snd h
    exact hne (rSem_inj (SemLoc.dma.inj h2)).symm
  · intro h
    exact absurd (Finset.mem_filter.mpr ⟨Finset.mem_univ e, Nat.zero_le _⟩) h

theorem credit_bar (c : Dev nD) :
    tallyOn (barCell c) (launchCredit (Pipeline.owing O₀) 0 (barCell c)) = (tallyAt (barCell c) () 5 : CellTallies nD τ sig Unit) := by
  unfold tallyAt
  refine congrArg _ (Finsupp.ext fun u => ?_)
  cases u
  rw [Pipeline.launchCredit_owing, Finsupp.single_eq_same]
  have h : ∀ c' : Dev nD, O₀ c' (barCell c) () = ∑ d : Fin 5, if c' = nb d c then 1 else 0 := fun c' => by
    unfold O₀
    rw [Pi.add_apply, Finsupp.add_apply, owed_bar0, owedBar_bar, Nat.zero_add]
  rw [Finset.sum_congr rfl fun c' _ => h c', Finset.sum_comm]
  rw [Finset.sum_congr rfl fun d _ => Finset.sum_ite_eq' Finset.univ (nb d c) fun _ => 1]
  simp

theorem credit_recv (e : Ex) (c : Dev nD) :
    tallyOn (recvCell e c) (launchCredit (Pipeline.owing O₀) 0 (recvCell e c)) = (tallyAt (recvCell e c) () (amt e) : CellTallies nD τ sig Unit) := by
  unfold tallyAt
  refine congrArg _ (Finsupp.ext fun u => ?_)
  cases u
  rw [Pipeline.launchCredit_owing, Finsupp.single_eq_same]
  have h : ∀ c' : Dev nD, O₀ c' (recvCell e c) () = if c' = par e c then amt e else 0 := fun c' => by
    unfold O₀
    rw [Pi.add_apply, Finsupp.add_apply, owed_recv, owedBar_recv0, Nat.add_zero]
  rw [Finset.sum_congr rfl fun c' _ => h c', Finset.sum_ite_eq' Finset.univ (par e c) fun _ => amt e, if_pos (Finset.mem_univ _)]

def recvMap : Ex ↪ SemLoc sig := ⟨fun e => .dma (rSem e), fun _ _ h => rSem_inj (SemLoc.dma.inj h)⟩

theorem creds (c : Dev nD) : (Pipeline.launchCred O₀ c : sProp 𝕄)
    ⊢ iprop(cred (tallyAt (barCell c) () 5) ∗ bigSep Finset.univ fun e : Ex => cred (tallyAt (recvCell e c) () (amt e))) := by
  unfold Pipeline.launchCred
  rw [bigSep_univ_at _ (SemLoc.reg bSem), credit_bar]
  refine sep_mono_right ?_
  have hs : (Finset.univ.map recvMap : Finset (SemLoc sig)) ⊆ Finset.univ.erase (SemLoc.reg bSem) := fun s hs => by
    obtain ⟨e, -, rfl⟩ := Finset.mem_map.mp hs
    exact Finset.mem_erase.mpr ⟨fun h => (by cases h), Finset.mem_univ _⟩
  refine (BI.bigSep_subset hs).trans ?_
  rw [BI.bigSep_map]
  refine Entails.of_eq (bigSep_congr fun e _ => ?_)
  rw [← credit_recv]; rfl

/-! ## The deal -/

/-- The launch element stands with one core until all are dealt. -/
def seat (c : Dev nD) : sProp 𝕄 := if c = 0 then BI.own (ER uX) else iprop(emp)

theorem seat_all : (bigSep Finset.univ seat : sProp 𝕄) ⊢ BI.own (ER uX) := by
  refine (bigSep_elim (Finset.mem_univ (0 : Dev nD))).trans ?_
  unfold seat; rw [if_pos rfl]
  exact BI.Entails.refl _
theorem all_seat : (BI.own (ER uX) : sProp 𝕄) ⊢ bigSep Finset.univ seat := by
  rw [bigSep_univ_at _ (0 : Dev nD), bigSep_congr (s := Finset.univ.erase (0 : Dev nD)) (Ψ := fun _ => (BI.emp : sProp 𝕄))
      fun c hc => by unfold seat; rw [if_neg (Finset.ne_of_mem_erase hc)]; rfl, BI.bigSep_emp_const]
  unfold seat; rw [if_pos rfl]
  iintro H
  isplitl [H]; · iexact H
  iempintro

/-- The state of a core between the items: before the region, after it. -/
def rest : Fin 2 → Dev nD → sProp 𝕄
  | 0, c => iprop(Tk m c ∗ (∃ r, prngReg c r) ∗ ∃ W, owes (c : Thread nD τ) (O₀ c) W)
  | 1, c => iprop(semVal (barCell c) 0 ∗ ∃ W, owes (c : Thread nD τ) (0 : CellTallies nD τ sig Unit) W)

theorem own_all :
    iprop((bigSep barSet fun g => (atPos ER g 0 ∅ 0 : sProp 𝕄)) ∗ (bigSep Finset.univ fun c : Dev nD => cred (tallyAt (barCell c) () 5))
      ∗ (bigSep xSet fun g => openTok ER g) ∗ (bigSep tokSet fun x => dutyTok ER x.1 x.2.1 x.2.2)
      ∗ bigSep Finset.univ fun c : Dev nD => bigSep Finset.univ fun e : Ex => cred (tallyAt (recvCell e c) () (amt e)))
    ⊢ (bigSep Finset.univ fun c : Dev nD => own1 c : sProp 𝕄) := by
  unfold own1 xown
  rw [toks_split, opens_split]
  simp only [bigSep_sep']
  unfold barSet
  rw [BI.bigSep_map]
  iintro ⟨Ha, Hc, ⟨Hs, Hr⟩, ⟨Tb, Ts, Tr⟩, Hcr⟩
  isplitl [Ha Hc]
  · isplitl [Ha]; · iexact Ha
    iexact Hc
  isplitl [Tb]; · iexact Tb
  isplitl [Hs]; · iexact Hs
  isplitl [Hr]; · iexact Hr
  isplitl [Ts]; · iexact Ts
  isplitl [Tr]; · iexact Tr
  iexact Hcr

variable (ρ : Dev nD → PrngReg)

theorem deal :
    iprop((bigSep Finset.univ fun c : Dev nD => iprop(unscopedSems0 c ∗ owes (c : Thread nD τ) (O₀ c) ∅ ∗ Pipeline.launchCred O₀ c
        ∗ prngReg c (ρ c) ∗ seat c)) ∗ levAts L lv)
      ⊢ (|={Set.univ}=> bigSep Finset.univ (rest m 0) : sProp 𝕄) := by
  have hv : (bigSep Finset.univ fun c : Dev nD => (unscopedSems0 c : sProp 𝕄)) ⊢ bigSep barSet fun g => semVal g 0 := by
    unfold barSet
    rw [BI.bigSep_map]
    exact Entails.of_eq (bigSep_congr fun c _ => unscopedSems_eq c)
  have hc : (bigSep Finset.univ fun c : Dev nD => (Pipeline.launchCred O₀ c : sProp 𝕄))
      ⊢ iprop((bigSep Finset.univ fun c : Dev nD => cred (tallyAt (barCell c) () 5))
        ∗ bigSep Finset.univ fun c : Dev nD => bigSep Finset.univ fun e : Ex => cred (tallyAt (recvCell e c) () (amt e))) := by
    rw [← bigSep_sep']
    exact bigSep_mono fun c _ => creds c
  have hp1 (c : Dev nD) : (prngReg c (ρ c) : sProp 𝕄) ⊢ iprop(∃ r, prngReg c r) := by
    iintro H; iexists _; iexact H
  have ho1 (c : Dev nD) : (owes (c : Thread nD τ) (O₀ c) ∅ : sProp 𝕄) ⊢ iprop(∃ W, owes (c : Thread nD τ) (O₀ c) W) := by
    iintro H; iexists _; iexact H
  have hR : iprop((bigSep Finset.univ fun c : Dev nD => Tk m c) ∗ (bigSep Finset.univ fun c : Dev nD => iprop(∃ r, prngReg c r))
      ∗ bigSep Finset.univ fun c : Dev nD => iprop(∃ W, owes (c : Thread nD τ) (O₀ c) W)) ⊢ (bigSep Finset.univ (rest m 0) : sProp 𝕄) := by
    rw [← bigSep_sep', ← bigSep_sep']
    exact bigSep_mono fun c _ => BI.Entails.refl _
  have hp : (bigSep Finset.univ fun c : Dev nD => (prngReg c (ρ c) : sProp 𝕄)) ⊢ bigSep Finset.univ fun c : Dev nD => iprop(∃ r, prngReg c r) :=
    bigSep_mono fun c _ => hp1 c
  have ho : (bigSep Finset.univ fun c : Dev nD => (owes (c : Thread nD τ) (O₀ c) ∅ : sProp 𝕄))
      ⊢ bigSep Finset.univ fun c : Dev nD => iprop(∃ W, owes (c : Thread nD τ) (O₀ c) W) :=
    bigSep_mono fun c _ => ho1 c
  simp only [bigSep_sep']
  iintro ⟨⟨Hv, Ho, Hc, Hp, Hs⟩, -⟩
  ihave Hc' := hc $$ Hc
  icases Hc' with ⟨Hcb, Hcr⟩
  ihave Hu := seat_all $$ Hs
  ihave Hv' := hv $$ Hv
  unfold uX
  imod (Rounds.fund_launch ER (Rd (msgs (PA m) (P0 m))) sets_disj (fun g _ h => h) tokSet) $$ [Hv' Hu] with ⟨%K, -, #Hi, #Hr, Ha, Hop, Ht⟩
  · isplitl [Hv'] <;> iassumption
  imodintro
  ihave Hown := (own_all (F := F)) $$ [Ha Hcb Hop Ht Hcr]
  · isplitl [Ha]; · iexact Ha
    isplitl [Hcb]; · iexact Hcb
    isplitl [Hop]; · iexact Hop
    isplitl [Ht]; · iexact Ht
    iexact Hcr
  have hT : iprop(common m K ∗ bigSep Finset.univ fun c : Dev nD => own1 c) ⊢ (bigSep Finset.univ fun c : Dev nD => Tk m c : sProp 𝕄) :=
    bigSep_with_persistent (R := common m K) fun c _ => Tk_of m K c
  iapply hR
  isplitl [Hown]
  · iapply hT
    isplitr
    · unfold common
      isplitr; · iexact Hi
      iexact Hr
    iexact Hown
  isplitl [Hp]; · iapply hp $$ Hp
  iapply ho $$ Ho

end Cert.KernelIdeal.Bfly
-- ==== Proof.Whole.lean ====
module

public import proofs.«01_k».proof.Proof.Fund
public import Idealize.ShloMosaic.Lib.Quiescent

/-! # The run of the whole program -/

@[expose] public section

noncomputable section

namespace Cert.KernelIdeal.Bfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen

variable {F : FTy → Type} [FloatOps F] [Named F]

local notation "𝕄" => MT nD τ sig Unit (Elt F) ℕ UU ℕ

variable (m : (ℓ : Loc nD τ sig) → Buf (Elt F) ℓ)

attribute [local irreducible] res

theorem arr_sub : Pipeline.arrRefs (τ := τ) spec0 ⊆ Pipeline.ucRefs τ sig := by decide +kernel

theorem reg_pre (c : Dev nD) : iprop(StableHlo.held (c : Thread nD τ) (Pipeline.ucRefs τ sig) (V1 m c) ∗ rest m 0 c) ⊢ ((reg m).pre c : sProp 𝕄) := by
  show _ ⊢ iprop(StableHlo.held (c.tc : Thread nD τ) (Pipeline.arrRefs (τ := τ) spec0) (V1 m c) ∗ (∃ r, prngReg c r)
    ∗ (StableHlo.held (c.tc : Thread nD τ) Sr (V1 m c) ∗ emp) ∗ Tk m c ∗ ∃ Wd, owes (c : Thread nD τ) (0 + O₀ c) Wd)
  rw [StableHlo.held_sub_split (c : Thread nD τ) arr_sub, zero_add]
  show iprop(_ ∗ Tk m c ∗ (∃ r, prngReg c r) ∗ ∃ W, owes (c : Thread nD τ) (O₀ c) W) ⊢ _
  iintro ⟨⟨Ha, Hs⟩, HT, Hp, HO⟩
  isplitl [Ha]; · iexact Ha
  isplitl [Hp]; · iexact Hp
  isplitl [Hs]
  · isplitl [Hs]; · iexact Hs
    iempintro
  isplitl [HT]; · iexact HT
  iexact HO

theorem reg_post (c : Dev nD) : ((reg m).post c : sProp 𝕄)
    ⊢ iprop(StableHlo.held (c : Thread nD τ) (Pipeline.ucRefs τ sig) (V2 m (outs m) c) ∗ rest m 1 c) := by
  show iprop(StableHlo.held (c.tc : Thread nD τ) (Pipeline.arrRefs (τ := τ) spec0) (V2 m (outs m) c) ∗ (∃ r, prngReg c r)
    ∗ (StableHlo.held (c.tc : Thread nD τ) Sr (V2 m (outs m) c) ∗ emp) ∗ Yk c ∗ ∃ Wd, owes (c : Thread nD τ) (0 : CellTallies nD τ sig Unit) Wd) ⊢ _
  rw [StableHlo.held_sub_split (c : Thread nD τ) arr_sub (V2 m (outs m) c)]
  show _ ⊢ iprop(_ ∗ semVal (barCell c) 0 ∗ ∃ W, owes (c : Thread nD τ) (0 : CellTallies nD τ sig Unit) W)
  unfold Yk
  iintro ⟨Ha, -, ⟨Hs, -⟩, Hb, HO⟩
  isplitl [Ha Hs]; · isplitl [Ha] <;> iassumption
  isplitl [Hb]; · iexact Hb
  iexact HO

variable (ρ : Dev nD → PrngReg)

theorem u0_split : (ownU (u0 (F := F)) : sProp 𝕄) ⊢ (|={Set.univ}=> iprop(BI.own (EP (initOf (Pipeline.cells (Pipeline.pin (pcfgs (F := F)) adm) cellOf_inj)
    (Pipeline.launchToks (Pipeline.pin (pcfgs (F := F)) adm) cellOf_inj))) ∗ bigSep Finset.univ seat) : sProp 𝕄) := by
  unfold u0
  iintro Hu
  ihave H := (ownU_pair _ _) $$ Hu
  icases H with ⟨HP, HX⟩
  ihave H2 := (own_pair_emb _ _ _) $$ HX
  icases H2 with ⟨HX, -⟩
  imodintro
  isplitl [HP]; · iexact HP
  iapply (all_seat (F := F))
  iexact HX

/-- The memory read at the end: every unscoped buffer, and the barrier counter. -/
theorem read_end (c : Dev nD) (s' : Phys nD τ sig (Elt F)) :
    iprop((StableHlo.held (c : Thread nD τ) (Pipeline.ucRefs τ sig) (V3 m (outs m) c) ∗ semVal (barCell c) 0) ∗ SI s')
      ⊢ (|={Set.univ}=> iprop(⌜(∀ b ∈ Pipeline.ucRefs τ sig, s'.mem.mem ((c : Thread nD τ).1, b) = V3 m (outs m) c b) ∧ s'.mem.sem (barCell c) = 0⌝ ∗ SI s') : sProp 𝕄) := by
  unfold StableHlo.held
  iintro ⟨⟨Hh, Hb⟩, HSI⟩
  icombine HSI Hb gives %hb
  ihave Hr := (pointsTo_read_all (Pipeline.ucRefs τ sig) (fun b => ((c : Thread nD τ).1, b)) (V3 m (outs m) c) s') $$ [Hh HSI]
  · isplitl [Hh] <;> iassumption
  icases Hr with ⟨%h, HSI⟩
  imodintro
  isplitr
  · ipureintro
    exact ⟨h, by simpa using hb⟩
  iexact HSI

theorem start_all : iprop((bigSep Finset.univ fun c : Dev nD => iprop(unscopedBufs c (fun b => m ((c.tc : Thread nD τ).loc b)) ∗ unscopedSems0 c
      ∗ owes (c.tc : Thread nD τ) (O₀ c) ∅ ∗ Pipeline.launchCred O₀ c ∗ prngReg c (ρ c) ∗ seat c)) ∗ levAts L lv)
    ⊢ (|={Set.univ}=> bigSep Finset.univ fun c : Dev nD => iprop(StableHlo.held (c : Thread nD τ) (Pipeline.ucRefs τ sig) (V0 m c) ∗ rest m 0 c) : sProp 𝕄) := by
  have hs : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ seat c))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (O₀ c) ∅ ∗ Pipeline.launchCred O₀ c ∗ prngReg c (ρ c) ∗ seat c))
          : sProp 𝕄) := by
    rw [← bigSep_sep']
    exact bigSep_mono fun c _ => by
      rw [← Pipeline.unscopedBufs_held (Ix := Unit) (Name := ℕ) (U := UU) (Lvl := ℕ) c (V0 m c)]
      exact BI.Entails.refl _
  iintro ⟨H, Hl⟩
  ihave H' := hs $$ H
  icases H' with ⟨Hh, Hr⟩
  imod (deal m ρ) $$ [Hr Hl] with HE
  · isplitl [Hr]; · iexact Hr
    iexact Hl
  imodintro
  rw [bigSep_sep']
  isplitl [Hh]; · iexact Hh
  iexact HE

set_option backward.isDefEq.respectTransparency.types false in
/-- From any memory with all counters at zero the program ends; every unscoped buffer then holds what the last valuation
    says, and every counter is at zero. -/
theorem run_main : θ_run defs (onTc (τ := τ) (main (F := F))) ⟨m, fun _ => 0, ρ⟩
    (fun r => (∀ c : Dev nD, ∀ b ∈ Pipeline.ucRefs τ sig, r.2.mem ((c : Thread nD τ).1, b) = V3 m (outs m) c b) ∧ r.2.sem = fun _ => 0) :=
  Pipeline.θ_run_regions_kit_dev_sems (pcfgs (F := F)) adm (pdats m) () cellOf_inj EP defs₀ 𝒱₀ L lv m ρ main
    (segs m (outs m) 𝒱₀ L lv (rest m) () (pdats m) (reg m))
    (fun c Q => by
      rewrite [main_chain c, Pipeline.Seg.run_eq_chain,
        show (segs m (outs m) 𝒱₀ L lv (rest m) () (pdats m) (reg m) c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide)
    O₀ L_of_ne seat u0 u0_split
    (T₀ := fun c => iprop(StableHlo.held (c : Thread nD τ) (Pipeline.ucRefs τ sig) (V0 m c) ∗ rest m 0 c))
    (Tₙ := fun c => iprop(StableHlo.held (c : Thread nD τ) (Pipeline.ucRefs τ sig) (V3 m (outs m) c) ∗ semVal (barCell c) 0))
    (hch := fun c => ⟨.rfl, reg_pre m c, reg_post m c, by
      show iprop(StableHlo.held (c : Thread nD τ) (Pipeline.ucRefs τ sig) (V3 m (outs m) c) ∗ semVal (barCell c) 0
        ∗ ∃ W, owes (c : Thread nD τ) (0 : CellTallies nD τ sig Unit) W) ⊢ _
      iintro ⟨H1, H2, H3⟩
      isplitr [H3]
      · isplitl [H1] <;> iassumption
      iexact H3⟩)
    (hinit := start_all m ρ)
    (QY := fun c s => (∀ b ∈ Pipeline.ucRefs τ sig, s.mem ((c : Thread nD τ).1, b) = V3 m (outs m) c b) ∧ s.sem (barCell c) = 0)
    (hfin := fun c s' => read_end m c s')
    (hQ := fun s h hs => ⟨fun c => (h c).1, sem_eq_zero hs fun c sm hsm => by
      obtain rfl := unscoped_eq sm hsm
      exact (h c).2⟩)

theorem uc_mem (r : Ref sig .tc) (h : (Proc.devRef .tc r : DevRef τ sig).isScoped = false) : (Proc.devRef .tc r : DevRef τ sig) ∈ Pipeline.ucRefs τ sig :=
  Finset.mem_filter.mpr ⟨StableHlo.devRef_mem_tcRefs r, by rw [h]; decide⟩

/-- The five arguments as they were, and the result. -/
theorem run_args : θ_run defs (onTc (τ := τ) (main (F := F))) ⟨m, fun _ => 0, ρ⟩
    (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v14) = V3 m (outs m) c main_v14) ∧ r.2.sem = fun _ => 0) :=
  (θ_run defs (onTc (τ := τ) (main (F := F))) ⟨m, fun _ => 0, ρ⟩).mono (fun r h => ⟨fun c =>
    ⟨⟨(h.1 c _ (uc_mem main_arg0 (by decide))).trans (V3_main_arg0 m (outs m) c),
      (h.1 c _ (uc_mem main_arg1 (by decide))).trans (V3_main_arg1 m (outs m) c),
      (h.1 c _ (uc_mem main_arg2 (by decide))).trans (V3_main_arg2 m (outs m) c),
      (h.1 c _ (uc_mem main_arg3 (by decide))).trans (V3_main_arg3 m (outs m) c),
      (h.1 c _ (uc_mem main_arg4 (by decide))).trans (V3_main_arg4 m (outs m) c)⟩,
      h.1 c _ (uc_mem main_v14 (by decide))⟩, h.2⟩) (run_main m ρ)

end Cert.KernelIdeal.Bfly
-- ==== Proof.Same.lean ====
module

public import proofs.«01_k».proof.Proof.Gen.KernelIdeal
public import proofs.«01_k».proof.Proof.Gen.Kernel
public import Idealize.ShloMosaic.PureOps.BitExact

@[expose] public section

noncomputable section

namespace Cert.Same

open Idealize.ShloMosaic

/-- The words of the named constants, read as words. -/
@[reducible] def asWords : Named Bits where
  named _ _ {φ} bits := Scalar.ofBits φ bits

attribute [local instance] asWords

instance : Cert.Kernel.Facts := Cert.Kernel.Gen.facts
instance : Cert.KernelIdeal.Facts := Cert.KernelIdeal.Gen.facts

theorem main_same : Cert.Kernel.main (F := Bits) = Cert.KernelIdeal.main (F := Bits) := rfl

theorem body_same : Cert.Kernel.cc0__fused_body (F := Bits) = Cert.KernelIdeal.cc0__fused_body (F := Bits) := rfl

theorem defs0_same : Cert.Kernel.defs₀ (F := Bits) = Cert.KernelIdeal.defs₀ (F := Bits) := by
  unfold Cert.Kernel.defs₀ Cert.KernelIdeal.defs₀
  refine congrArg Defs.onTc ?_
  funext l a
  match l with
  | 0 =>
    obtain ⟨t, s⟩ := a
    dsimp only
    rw [body_same]
  | ⟨k + 1, h⟩ => exact absurd h (Nat.not_lt.2 (Nat.le_add_left _ _))

theorem defs_same : Cert.Kernel.defs (F := Bits) = Cert.KernelIdeal.defs (F := Bits) := by
  unfold Cert.Kernel.defs Cert.KernelIdeal.defs
  rw [defs0_same]
  rfl

end Cert.Same
-- ==== Proof.Frames.lean ====
module

public import proofs.«01_k».proof.Defs
public import proofs.«01_k».proof.Proof.Whole
public import proofs.«01_k».proof.Proof.Same
public import proofs.«01_k».proof.Proof.Gen.ReferenceIdeal.Run
public import Idealize.ShloMosaic.Lib.Quiescent

/-! # The frames of the three programs, and the named constant -/

@[expose] public section

noncomputable section

namespace Cert.Frames

open Idealize.ShloMosaic Idealize.SL.Sem

attribute [local instance] Cert.Same.asWords

/-- The kernel over words ends with its arguments as they were and every counter at zero. -/
theorem kernel : Cert.quiescent_Kernel := by
  intro m g _
  rw [Cert.Same.defs_same, Cert.Same.main_same]
  exact (θ_run (Cert.KernelIdeal.defs (F := Bits)) _ _).mono (fun r h => ⟨fun c => (h.1 c).1, h.2⟩)
    (Cert.KernelIdeal.Bfly.run_args (F := Bits) m g)

/-- The same over the extended reals, from any memory. -/
theorem kernelIdeal : Cert.quiescent_KernelIdeal := fun m g _ =>
  (θ_run (Cert.KernelIdeal.defs (F := Ideal)) _ _).mono (fun _ h => ⟨fun c => (h.1 c).1, h.2⟩)
    (Cert.KernelIdeal.Bfly.run_args (F := Ideal) m g)

/-- The reference over the extended reals, from any memory: it has no counter at all. -/
theorem referenceIdeal : Cert.quiescent_ReferenceIdeal := fun m g _ =>
  (θ_run (Cert.ReferenceIdeal.defs (F := Ideal)) _ _).mono
    (fun r h => ⟨fun c => (h c).2, sem_eq_zero_of_no_sems (by decide) r.2⟩) (Cert.ReferenceIdeal.Value.run (F := Ideal) m g)

/-- The mask's constant stands for minus infinity in the ideal program. -/
theorem mask : Cert.preserves_Kernel_KernelIdeal := IdealRules.named_const.statement _ _ _ _ _ rfl

end Cert.Frames

end
-- ==== Proof.Heads.lean ====
module

public import proofs.«01_k».proof.Proof.Gen.KernelIdeal.Skeleton
public import Idealize.ShloMosaic.Lib.Pointwise

/-! # The heads at an index

What each head of each half holds at an index, over the extended reals. -/

@[expose] public section

set_option maxRecDepth 16384

noncomputable section

namespace Cert.KernelIdeal.Bfly

open Idealize.ShloMosaic Idealize.ShloMosaic.TcCoe
open Cert.KernelIdeal.Gen

/-- The attention of one query over `n` keys: the masked scores' exponentials over their sum, times the values. -/
def attn {n : ℕ} (q : Fin 128 → EReal) (K V : Fin n → Fin 128 → EReal) (M : Fin n → EReal) (e : Fin 128) : EReal :=
  ∑ j : Fin n, (Ideal.exp ((∑ t : Fin 128, q t * K j t) + M j) * Ideal.div 1 (∑ j' : Fin n, Ideal.exp ((∑ t : Fin 128, q t * K j' t) + M j'))) * V j e

/-- A column of head `h`. -/
def col (h : Fin 8) (t : Fin 128) : Fin 1024 := ⟨128 * h.val + t.val, by omega⟩

/-- The attention the vectors of queries, keys, values and mask give at an index, for the head whose queries stand in the columns `128 h + t`. -/
def attnAt {n : ℕ} (h : Fin 8) (q : (⟨2, ![512, 1024]⟩ : Shape).Idx → EReal) (k v : (⟨2, ![n, 128]⟩ : Shape).Idx → EReal)
    (m : (⟨2, ![512, n]⟩ : Shape).Idx → EReal) (i : Fin 512) (e : Fin 128) : EReal :=
  attn (fun t => q (ix2 i (col h t))) (fun j t => k (ix2 j t)) (fun j t => v (ix2 j t)) (fun j => m (ix2 i j)) e

theorem pay12_apply (x : Vec Ideal S512x1024 .bf16) (w : Vec Ideal S1024x1024 .bf16) (i : Fin 512) (c : Fin 1024) :
    k0_pay12 x w (ix2 i c) = (∑ m : Fin 1024, x (ix2 i m) * w (ix2 m c) : EReal) := by
  pointwise [k0_pay12]

theorem pay32_apply (x : Vec Ideal S512x1024 .bf16) (w : Vec Ideal S1024x1024 .bf16) (i : Fin 512) (c : Fin 1024) :
    k0_pay32 (k0_pay31 x) w (ix2 i c) = (∑ m : Fin 1024, x (ix2 i m) * w (ix2 m c) : EReal) := by
  pointwise [k0_pay32, k0_pay31]

theorem pay29_apply (x : Vec Ideal S512x1024 .bf16) (w : Vec Ideal S1024x1024 .bf16) (i : Fin 512) (c : Fin 1024) :
    k0_pay29 x w (ix2 i c) = (∑ m : Fin 1024, x (ix2 i m) * w (ix2 m c) : EReal) := by
  pointwise [k0_pay29]

theorem pay49_apply (x : Vec Ideal S512x1024 .bf16) (w : Vec Ideal S1024x1024 .bf16) (i : Fin 512) (c : Fin 1024) :
    k0_pay49 x w (ix2 i c) = (∑ m : Fin 1024, x (ix2 i m) * w (ix2 m c) : EReal) := by
  pointwise [k0_pay49]

section
variable (x : Vec Ideal S512x1024 .bf16) (w : Vec Ideal S1024x1024 .bf16) (q : FVec Ideal S512x1024 .bf16) (k v : Vec Ideal S512x128 .f32) (m : Vec Ideal S512x512 .f32) (i : Fin 512) (e : Fin 128)

theorem atA0 : k0_pay14 (k0_pay13 x w k v m) (ix2 i e) = attnAt 0 (k0_pay12 x w) k v m i e := by
  unfold attnAt attn col
  pointwise [k0_pay14, k0_pay13]

theorem atA1 : k0_pay15 q k v m (ix2 i e) = attnAt 1 q k v m i e := by
  unfold attnAt attn col
  pointwise [k0_pay15]

theorem atA2 : k0_pay19 (k0_pay16 v) (k0_pay17 q k m) (k0_pay18 q k m) (ix2 i e) = attnAt 2 q k v m i e := by
  unfold attnAt attn col
  pointwise [k0_pay19, k0_pay16, k0_pay17, k0_pay18]

theorem atA3 : k0_pay20 q k v m (ix2 i e) = attnAt 3 q k v m i e := by
  unfold attnAt attn col
  pointwise [k0_pay20]

theorem atA4 : k0_pay23 (k0_pay21 v) (k0_pay22 q k) m (ix2 i e) = attnAt 4 q k v m i e := by
  unfold attnAt attn col
  pointwise [k0_pay23, k0_pay21, k0_pay22]

theorem atA5 : k0_pay24 q k v m (ix2 i e) = attnAt 5 q k v m i e := by
  unfold attnAt attn col
  pointwise [k0_pay24]

theorem atA6 : k0_pay26 q (k0_pay25 k) v m (ix2 i e) = attnAt 6 q k v m i e := by
  unfold attnAt attn col
  pointwise [k0_pay26, k0_pay25]

theorem atA7 : k0_pay28 (k0_pay27 q k v m) (ix2 i e) = attnAt 7 q k v m i e := by
  unfold attnAt attn col
  pointwise [k0_pay28, k0_pay27]

end

section
variable (x : Vec Ideal S512x1024 .bf16) (w : Vec Ideal S1024x1024 .bf16) (q : FVec Ideal S512x1024 .bf16) (k v : Vec Ideal S1024x128 .f32) (m : Vec Ideal S512x1024 .f32) (i : Fin 512) (e : Fin 128)

theorem atB0 : k0_pay33 x w k v m (ix2 i e) = attnAt 0 (k0_pay32 x w) k v m i e := by
  unfold attnAt attn col
  pointwise [k0_pay33]

theorem atB1 : k0_pay38 (k0_pay34 v) (k0_pay35 x w k m) (k0_pay36 x w k m) k0_pay37 (ix2 i e) = attnAt 1 (k0_pay32 x w) k v m i e := by
  unfold attnAt attn col
  pointwise [k0_pay38, k0_pay34, k0_pay35, k0_pay36, k0_pay37]

theorem atB2 : k0_pay39 q k v m (ix2 i e) = attnAt 2 q k v m i e := by
  unfold attnAt attn col
  pointwise [k0_pay39]

theorem atB3 : k0_pay42 (k0_pay40 v) (k0_pay41 q k) m (ix2 i e) = attnAt 3 q k v m i e := by
  unfold attnAt attn col
  pointwise [k0_pay42, k0_pay40, k0_pay41]

theorem atB4 : k0_pay43 q k v m (ix2 i e) = attnAt 4 q k v m i e := by
  unfold attnAt attn col
  pointwise [k0_pay43]

theorem atB5 : k0_pay45 q (k0_pay44 k) v m (ix2 i e) = attnAt 5 q k v m i e := by
  unfold attnAt attn col
  pointwise [k0_pay45, k0_pay44]

theorem atB6 : k0_pay47 (k0_pay46 q k v m) (ix2 i e) = attnAt 6 q k v m i e := by
  unfold attnAt attn col
  pointwise [k0_pay47, k0_pay46]

theorem atB7 : k0_pay48 q k v m (ix2 i e) = attnAt 7 q k v m i e := by
  unfold attnAt attn col
  pointwise [k0_pay48]

end

end Cert.KernelIdeal.Bfly
-- ==== Proof.Mask.lean ====
module

public import proofs.«01_k».proof.Proof.Half
public import proofs.«01_k».proof.Proof.Heads

/-! # The masks at an index -/

@[expose] public section

set_option maxRecDepth 16384

noncomputable section

namespace Cert.KernelIdeal.Bfly

open Idealize.ShloMosaic Idealize.ShloMosaic.TcCoe
open Cert.KernelIdeal.Gen

/-- A position over 64, rounded down, as the masks compute it. -/
def blk (x : BitVec 32) : BitVec 32 :=
  Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32)
    (IntOp.divsi .vector x 64#32)

theorem blk_eq (i : Fin 1024) : blk (BitVec.ofNat 32 i.val) = BitVec.ofNat 32 (i.val / 64) := by
  revert i; decide +kernel

theorem sle_eq (a b : Fin 16) : IntOp.cmpi .sle (BitVec.ofNat 32 a.val) (BitVec.ofNat 32 b.val) = if a.val ≤ b.val then 1#1 else 0#1 := by
  revert a b; decide +kernel

theorem sel_eq (i j : Fin 1024) (x y : EReal) :
    Scalar.select (IntOp.cmpi .sle (BitVec.ofNat 32 (j.val / 64)) (BitVec.ofNat 32 (i.val / 64))) x y = if j.val / 64 ≤ i.val / 64 then x else y := by
  have h := sle_eq ⟨j.val / 64, by omega⟩ ⟨i.val / 64, by omega⟩
  simp only at h
  rw [h]
  split <;> rfl

theorem maskA_apply (i j : Fin 512) : maskA (F := Ideal) (ix2 i j) = if j.val / 64 ≤ i.val / 64 then (0 : EReal) else ⊥ := by
  unfold maskA maskLA
  refine (congrFun (View.readCov_full (Val := Elt Ideal) (s := S512x512) (Memref.whole cc0_scratch6).view inb_S512x512_S512x512_0_0 inb_S512x512_S512x512_0_0 _ []) (ix2 i j)).trans ?_
  pointwise [k0_pay6, k0_pay5, k0_pay2, k0_pay3, k0_pay4]
  change Scalar.select (IntOp.cmpi .sle (blk (BitVec.ofNat 32 j.val)) (blk (BitVec.ofNat 32 i.val))) (0 : EReal) ⊥ = _
  rw [blk_eq ⟨j.val, by omega⟩, blk_eq ⟨i.val, by omega⟩]
  exact sel_eq ⟨i.val, by omega⟩ ⟨j.val, by omega⟩ _ _

theorem maskB_apply (i : Fin 512) (j : Fin 1024) : maskB (F := Ideal) (ix2 i j) = if j.val / 64 ≤ (512 + i.val) / 64 then (0 : EReal) else ⊥ := by
  unfold maskB maskLB
  refine (congrFun (View.readCov_full (Val := Elt Ideal) (s := S512x1024) (Memref.whole cc0_scratch7).view inb_S512x1024_S512x1024_0_0 inb_S512x1024_S512x1024_0_0 _ []) (ix2 i j)).trans ?_
  pointwise [k0_pay11, k0_pay7, k0_pay8, k0_pay9, k0_pay10]
  change Scalar.select (IntOp.cmpi .sle (blk (BitVec.ofNat 32 j.val)) (blk (BitVec.ofNat 32 i.val + 512#32))) (0 : EReal) ⊥ = _
  have e : BitVec.ofNat 32 i.val + 512#32 = BitVec.ofNat 32 (512 + i.val) := by rw [Nat.add_comm, BitVec.ofNat_add]
  rw [e, blk_eq j, blk_eq ⟨512 + i.val, by omega⟩]
  exact sel_eq ⟨512 + i.val, by omega⟩ j _ _

end Cert.KernelIdeal.Bfly
-- ==== Proof.Sum.lean ====
module

public import proofs.«01_k».proof.Proof.Vals
public import Idealize.ShloMosaic.PureOps.Ideal
public import Idealize.ShloMosaic.Lib.WritesUnit
public import Idealize.ShloMosaic.Lib.Pipeline.ValueKit.Geometry

/-! # The exchanges add up

Each exchange of the first five rounds of a half doubles the set of devices whose contributions a device has added, over half
as many rows; each exchange of the last five doubles the rows. So at the end every device holds the sum over all devices. -/

@[expose] public section

noncomputable section

namespace Cert.KernelIdeal.Bfly

open Idealize.ShloMosaic Idealize.ShloMosaic.TcCoe
open Cert.KernelIdeal.Gen

/-- A part of the result buffer read by its coordinates. -/
abbrev Mat : Type := S1024x1024.Idx → EReal

/-- Rows `lo c` to `hi c` of `o c` are the sum of the contributions of the devices in `S c`. -/
def Rep (P : Dev nD → Mat) (S : Dev nD → Dev nD → Bool) (lo hi : Dev nD → ℕ) (o : Dev nD → Mat) : Prop :=
  ∀ (c : Dev nD) (i : S1024x1024.Idx), lo c ≤ (i 0).val → (i 0).val < hi c → o c i = ∑ d : Dev nD, if S c d then P d i else 0

/-- The devices in the set of `c` or of its partner. -/
def join (p : Dev nD → Dev nD) (S : Dev nD → Dev nD → Bool) (c d : Dev nD) : Bool := S c d || S (p c) d

theorem split_sum (a b : Dev nD → Bool) (f : Dev nD → EReal) (h : ∀ d, (a d && b d) = false) :
    (∑ d : Dev nD, if a d then f d else 0) + (∑ d : Dev nD, if b d then f d else 0) = ∑ d : Dev nD, if (a d || b d) then f d else 0 := by
  rw [← Finset.sum_add_distrib]
  refine Finset.sum_congr rfl fun d _ => ?_
  have := h d
  cases ha : a d <;> cases hb : b d <;> simp_all

/-- One store of whole rows, at an index in its rows. -/
theorem put_in {n : ℕ} (o : Mat) (off : Fin 2 → ℕ) (inb : ∀ a : Fin 2, off a + (⟨2, ![n, 1024]⟩ : Shape).size a ≤ S1024x1024.size a)
    (w : (⟨2, ![n, 1024]⟩ : Shape).Idx → EReal) (i : S1024x1024.Idx) (j : (⟨2, ![n, 1024]⟩ : Shape).Idx)
    (hj : i = (Rect.unit (s := S1024x1024) off (⟨2, ![n, 1024]⟩ : Shape).size inb).emb j) :
    (Memref.whole cc0_stg3_0).view.writes (Elt Ideal) o [⟨Rect.unit (s := S1024x1024) off (⟨2, ![n, 1024]⟩ : Shape).size inb, w⟩] i = w j := by
  subst hj
  exact View.read_writes_cons_emb (Val := Elt Ideal) (Memref.whole cc0_stg3_0).view o (Rect.unit (s := S1024x1024) off (⟨2, ![n, 1024]⟩ : Shape).size inb) w [] j

/-- One store of whole rows, at an index outside its rows. -/
theorem put_out {n : ℕ} (o : Mat) (off : Fin 2 → ℕ) (inb : ∀ a : Fin 2, off a + (⟨2, ![n, 1024]⟩ : Shape).size a ≤ S1024x1024.size a)
    (w : (⟨2, ![n, 1024]⟩ : Shape).Idx → EReal) (i : S1024x1024.Idx) (hi : (i 0).val < off 0 ∨ off 0 + n ≤ (i 0).val) :
    (Memref.whole cc0_stg3_0).view.writes (Elt Ideal) o [⟨Rect.unit (s := S1024x1024) off (⟨2, ![n, 1024]⟩ : Shape).size inb, w⟩] i = o i :=
  View.read_writes_cons_unit_of_not_mem (Val := Elt Ideal) (Memref.whole cc0_stg3_0).view o inb w [] i rfl (0 : Fin 2) hi

/-- A load of whole rows at an index. -/
theorem readAt_rows {n : ℕ} (o : Mat) (off : Fin 2 → ℕ) (inb : ∀ a : Fin 2, off a + (⟨2, ![n, 1024]⟩ : Shape).size a ≤ S1024x1024.size a)
    (j : (⟨2, ![n, 1024]⟩ : Shape).Idx) :
    (Memref.whole cc0_stg3_0).view.readAt (Elt Ideal) (Rect.unit (s := S1024x1024) off (⟨2, ![n, 1024]⟩ : Shape).size inb).toLoadRect o j
      = o ((Rect.unit (s := S1024x1024) off (⟨2, ![n, 1024]⟩ : Shape).size inb).emb j) := rfl

/-- The position in the rows of a window of an index of the buffer. -/
theorem exists_emb {n : ℕ} (off : Fin 2 → ℕ) (inb : ∀ a : Fin 2, off a + (⟨2, ![n, 1024]⟩ : Shape).size a ≤ S1024x1024.size a)
    (h1 : off 1 = 0) (i : S1024x1024.Idx) (h : off 0 ≤ (i 0).val) (h' : (i 0).val < off 0 + n) :
    ∃ j : (⟨2, ![n, 1024]⟩ : Shape).Idx, i = (Rect.unit (s := S1024x1024) off (⟨2, ![n, 1024]⟩ : Shape).size inb).emb j := by
  refine ⟨Fin.cons ⟨(i 0).val - off 0, by show _ < n; omega⟩ (Fin.cons (i 1) finZeroElim), ?_⟩
  funext a
  apply Fin.ext
  rw [ValueKit.rect_emb_unit_val]
  match a with
  | ⟨0, _⟩ => show (i 0).val = off 0 + ((i 0).val - off 0); omega
  | ⟨1, _⟩ => show (i 1).val = off 1 + (i 1).val; omega

theorem emb_eq {n : ℕ} (off off' : Fin 2 → ℕ) (inb : ∀ a : Fin 2, off a + (⟨2, ![n, 1024]⟩ : Shape).size a ≤ S1024x1024.size a)
    (inb' : ∀ a : Fin 2, off' a + (⟨2, ![n, 1024]⟩ : Shape).size a ≤ S1024x1024.size a) (h0 : off 0 = off' 0) (h1 : off 1 = off' 1)
    (j : (⟨2, ![n, 1024]⟩ : Shape).Idx) :
    (Rect.unit (s := S1024x1024) off (⟨2, ![n, 1024]⟩ : Shape).size inb).emb j = (Rect.unit (s := S1024x1024) off' (⟨2, ![n, 1024]⟩ : Shape).size inb').emb j := by
  have : off = off' := by
    funext a
    match a with
    | ⟨0, _⟩ => exact h0
    | ⟨1, _⟩ => exact h1
  subst this
  rfl

/-- An exchange that adds: the partner's rows, which it holds too, come in. -/
theorem Rep.add {n : ℕ} {P : Dev nD → Mat} {S : Dev nD → Dev nD → Bool} {lo hi : Dev nD → ℕ} {o os o' : Dev nD → Mat}
    (p : Dev nD → Dev nD) (w so : Dev nD → Fin 2 → ℕ)
    (inbw : ∀ (c : Dev nD) (a : Fin 2), w c a + (⟨2, ![n, 1024]⟩ : Shape).size a ≤ S1024x1024.size a)
    (inbs : ∀ (c : Dev nD) (a : Fin 2), so c a + (⟨2, ![n, 1024]⟩ : Shape).size a ≤ S1024x1024.size a)
    (pay : Dev nD → (⟨2, ![n, 1024]⟩ : Shape).Idx → EReal)
    (h : Rep P S lo hi o) (hs : Rep P S lo hi os)
    (hw : ∀ c, w c 1 = 0 ∧ w c 0 = so (p c) 0 ∧ w c 1 = so (p c) 1 ∧ lo c ≤ w c 0 ∧ w c 0 + n ≤ hi c ∧ lo (p c) ≤ w c 0 ∧ w c 0 + n ≤ hi (p c))
    (hd : ∀ c d, (S c d && S (p c) d) = false)
    (ho' : ∀ c, o' c = (Memref.whole cc0_stg3_0).view.writes (Elt Ideal) (o c) [⟨Rect.unit (s := S1024x1024) (w c) (⟨2, ![n, 1024]⟩ : Shape).size (inbw c), pay c⟩])
    (hpay : ∀ c j, pay c j = o c ((Rect.unit (s := S1024x1024) (w c) (⟨2, ![n, 1024]⟩ : Shape).size (inbw c)).emb j)
      + os (p c) ((Rect.unit (s := S1024x1024) (so (p c)) (⟨2, ![n, 1024]⟩ : Shape).size (inbs (p c))).emb j)) :
    Rep P (join p S) (fun c => w c 0) (fun c => w c 0 + n) o' := by
  intro c i h1 h2
  obtain ⟨e1, e2, e3, g1, g2, g3, g4⟩ := hw c
  obtain ⟨j, hj⟩ := exists_emb (w c) (inbw c) e1 i h1 h2
  rw [ho' c, put_in (o c) (w c) (inbw c) (pay c) i j hj, hpay, ← emb_eq (w c) (so (p c)) (inbw c) (inbs (p c)) e2 e3, ← hj,
    h c i (le_trans g1 h1) (lt_of_lt_of_le h2 g2), hs (p c) i (le_trans g3 h1) (lt_of_lt_of_le h2 g4)]
  exact split_sum _ _ _ (hd c)

/-- An exchange that copies: the partner's rows come in beside the own ones. -/
theorem Rep.copy {n : ℕ} {P : Dev nD → Mat} {S : Dev nD → Dev nD → Bool} {lo hi : Dev nD → ℕ} {o os o' : Dev nD → Mat}
    (p : Dev nD → Dev nD) (w so : Dev nD → Fin 2 → ℕ) (lo' hi' : Dev nD → ℕ)
    (inbw : ∀ (c : Dev nD) (a : Fin 2), w c a + (⟨2, ![n, 1024]⟩ : Shape).size a ≤ S1024x1024.size a)
    (inbs : ∀ (c : Dev nD) (a : Fin 2), so c a + (⟨2, ![n, 1024]⟩ : Shape).size a ≤ S1024x1024.size a)
    (pay : Dev nD → (⟨2, ![n, 1024]⟩ : Shape).Idx → EReal)
    (h : Rep P S lo hi o) (hs : Rep P S lo hi os)
    (hw : ∀ c, w c 1 = 0 ∧ w c 0 = so (p c) 0 ∧ w c 1 = so (p c) 1 ∧ lo (p c) ≤ w c 0 ∧ w c 0 + n ≤ hi (p c)
      ∧ (hi c = w c 0 ∧ lo c = lo' c ∧ hi' c = w c 0 + n ∨ lo c = w c 0 + n ∧ lo' c = w c 0 ∧ hi' c = hi c))
    (hd : ∀ c d, S c d = S (p c) d)
    (ho' : ∀ c, o' c = (Memref.whole cc0_stg3_0).view.writes (Elt Ideal) (o c) [⟨Rect.unit (s := S1024x1024) (w c) (⟨2, ![n, 1024]⟩ : Shape).size (inbw c), pay c⟩])
    (hpay : ∀ c j, pay c j = os (p c) ((Rect.unit (s := S1024x1024) (so (p c)) (⟨2, ![n, 1024]⟩ : Shape).size (inbs (p c))).emb j)) :
    Rep P S lo' hi' o' := by
  intro c i h1 h2
  obtain ⟨e1, e2, e3, g1, g2, g3⟩ := hw c
  by_cases hc : w c 0 ≤ (i 0).val ∧ (i 0).val < w c 0 + n
  · obtain ⟨j, hj⟩ := exists_emb (w c) (inbw c) e1 i hc.1 hc.2
    rw [ho' c, put_in (o c) (w c) (inbw c) (pay c) i j hj, hpay, ← emb_eq (w c) (so (p c)) (inbw c) (inbs (p c)) e2 e3, ← hj,
      hs (p c) i (by omega) (by omega)]
    exact Finset.sum_congr rfl fun d _ => by rw [hd c d]
  · rw [ho' c, put_out (o c) (w c) (inbw c) (pay c) i (by omega)]
    exact h c i (by omega) (by omega)

/-- A store in other rows changes nothing. -/
theorem Rep.keep {n : ℕ} {P : Dev nD → Mat} {S : Dev nD → Dev nD → Bool} {lo hi : Dev nD → ℕ} {o o' : Dev nD → Mat}
    (w : Dev nD → Fin 2 → ℕ)
    (inbw : ∀ (c : Dev nD) (a : Fin 2), w c a + (⟨2, ![n, 1024]⟩ : Shape).size a ≤ S1024x1024.size a)
    (pay : Dev nD → (⟨2, ![n, 1024]⟩ : Shape).Idx → EReal)
    (h : Rep P S lo hi o) (hw : ∀ c, hi c ≤ w c 0 ∨ w c 0 + n ≤ lo c)
    (ho' : ∀ c, o' c = (Memref.whole cc0_stg3_0).view.writes (Elt Ideal) (o c) [⟨Rect.unit (s := S1024x1024) (w c) (⟨2, ![n, 1024]⟩ : Shape).size (inbw c), pay c⟩]) :
    Rep P S lo hi o' := by
  intro c i h1 h2
  rw [ho' c, put_out (o c) (w c) (inbw c) (pay c) i (by have := hw c; omega)]
  exact h c i h1 h2

end Cert.KernelIdeal.Bfly
-- ==== Proof.Part.lean ====
module

public import proofs.«01_k».proof.Proof.Mask
public import proofs.«01_k».proof.Proof.Sum

/-! # A device's own contribution at an index

What a device adds to the result before the exchanges, over the extended reals. -/

@[expose] public section

set_option maxRecDepth 16384

noncomputable section

namespace Cert.KernelIdeal.Bfly

open Idealize.ShloMosaic Idealize.ShloMosaic.TcCoe
open Cert.KernelIdeal.Gen

/-- The queries: the input times the weights. -/
def qAt (xs wq : S1024x1024.Idx → EReal) (r c : Fin 1024) : EReal := ∑ m : Fin 1024, xs (ix2 r m) * wq (ix2 m c)

/-- The mask: a query sees the keys of its own block and of the blocks before. -/
def mskAt (r j : ℕ) : EReal := if j / 64 ≤ r / 64 then 0 else ⊥

/-- Head `h` of the query of row `r`, over the first `n` keys. -/
def ctxAt (n : ℕ) (hn : n ≤ 1024) (xs wq kb vb : S1024x1024.Idx → EReal) (r : Fin 1024) (h : Fin 8) (e : Fin 128) : EReal :=
  attn (fun t => qAt xs wq r (col h t)) (fun (j : Fin n) t => kb (ix2 ⟨j.val, lt_of_lt_of_le j.isLt hn⟩ (col h t)))
    (fun (j : Fin n) t => vb (ix2 ⟨j.val, lt_of_lt_of_le j.isLt hn⟩ (col h t))) (fun j => mskAt r.val j.val) e

/-- The heads times the output weights. -/
def partAt (n : ℕ) (hn : n ≤ 1024) (xs wq wo kb vb : S1024x1024.Idx → EReal) (r c : Fin 1024) : EReal :=
  ∑ t : Fin 1024, ctxAt n hn xs wq kb vb r ⟨t.val / 128, by omega⟩ ⟨t.val % 128, by omega⟩ * wo (ix2 t c)

/-- Where a window of the buffer puts an index. -/
theorem emb_ix2 {R C n p a b : ℕ} (inb : ∀ x : Fin 2, (![a, b] : Fin 2 → ℕ) x + (⟨2, ![n, p]⟩ : Shape).size x ≤ (⟨2, ![R, C]⟩ : Shape).size x)
    (i : Fin n) (e : Fin p) (h1 : a + i.val < R) (h2 : b + e.val < C) :
    (Rect.unit (s := ⟨2, ![R, C]⟩) ![a, b] (⟨2, ![n, p]⟩ : Shape).size inb).emb (ix2 i e) = ix2 ⟨a + i.val, h1⟩ ⟨b + e.val, h2⟩ := by
  funext x
  apply Fin.ext
  rw [ValueKit.rect_emb_unit_val]
  match x with
  | ⟨0, _⟩ => rfl
  | ⟨1, _⟩ => rfl

theorem kRead {n p a b : ℕ} (inb : ∀ x : Fin 2, (![a, b] : Fin 2 → ℕ) x + (⟨2, ![n, p]⟩ : Shape).size x ≤ S1024x1024.size x) (f : S1024x1024.Idx → EReal)
    (i : Fin n) (e : Fin p) (h1 : a + i.val < 1024) (h2 : b + e.val < 1024) :
    kM.view.readAt (Elt Ideal) (Rect.unit (s := S1024x1024) ![a, b] (⟨2, ![n, p]⟩ : Shape).size inb).toLoadRect f (ix2 i e)
      = f (ix2 ⟨a + i.val, h1⟩ ⟨b + e.val, h2⟩) := congrArg f (emb_ix2 inb i e h1 h2)

theorem vRead {n p a b : ℕ} (inb : ∀ x : Fin 2, (![a, b] : Fin 2 → ℕ) x + (⟨2, ![n, p]⟩ : Shape).size x ≤ S1024x1024.size x) (f : S1024x1024.Idx → EReal)
    (i : Fin n) (e : Fin p) (h1 : a + i.val < 1024) (h2 : b + e.val < 1024) :
    vM.view.readAt (Elt Ideal) (Rect.unit (s := S1024x1024) ![a, b] (⟨2, ![n, p]⟩ : Shape).size inb).toLoadRect f (ix2 i e)
      = f (ix2 ⟨a + i.val, h1⟩ ⟨b + e.val, h2⟩) := congrArg f (emb_ix2 inb i e h1 h2)

theorem xRead {n p a b : ℕ} (inb : ∀ x : Fin 2, (![a, b] : Fin 2 → ℕ) x + (⟨2, ![n, p]⟩ : Shape).size x ≤ S1024x1024.size x) (f : S1024x1024.Idx → EReal)
    (i : Fin n) (e : Fin p) (h1 : a + i.val < 1024) (h2 : b + e.val < 1024) :
    (Memref.whole cc0_stg0_0).view.readAt (Elt Ideal) (Rect.unit (s := S1024x1024) ![a, b] (⟨2, ![n, p]⟩ : Shape).size inb).toLoadRect f (ix2 i e)
      = f (ix2 ⟨a + i.val, h1⟩ ⟨b + e.val, h2⟩) := congrArg f (emb_ix2 inb i e h1 h2)

theorem wqV_eq (f : S1024x1024.Idx → EReal) : wqV (F := Ideal) f = f :=
  View.readAt_full (Val := Elt Ideal) (Memref.whole cc0_stg1_0).view f inb_S1024x1024_S1024x1024_0_0

theorem woV_eq (f : S1024x1024.Idx → EReal) : woV (F := Ideal) f = f :=
  View.readAt_full (Val := Elt Ideal) (Memref.whole cc0_stg2_0).view f inb_S1024x1024_S1024x1024_0_0

variable (xs wq wo kb vb : S1024x1024.Idx → EReal)

theorem qA_apply (i : Fin 512) (c : Fin 1024) : k0_pay12 (F := Ideal) (xA xs) (wqV wq) (ix2 i c) = qAt xs wq ⟨i.val, by omega⟩ c := by
  rw [pay12_apply, wqV_eq]
  refine Finset.sum_congr rfl fun t _ => congrArg (· * wq (ix2 t c)) ?_
  exact (xRead inb_S1024x1024_S512x1024_0_0 xs i t (by omega) (by omega)).trans
    (congrArg xs (congrArg₂ ix2 (Fin.ext (Nat.zero_add _)) (Fin.ext (Nat.zero_add _))))

theorem qB_apply (i : Fin 512) (c : Fin 1024) : k0_pay32 (F := Ideal) (k0_pay31 (xB xs)) (wqV wq) (ix2 i c) = qAt xs wq ⟨512 + i.val, by omega⟩ c := by
  rw [pay32_apply, wqV_eq]
  refine Finset.sum_congr rfl fun t _ => congrArg (· * wq (ix2 t c)) ?_
  exact (xRead inb_S1024x1024_S512x1024_512_0 xs i t (by omega) (by omega)).trans
    (congrArg xs (congrArg₂ ix2 rfl (Fin.ext (Nat.zero_add _))))

/-- A head's attention in terms of the buffers. -/
theorem attnAt_eq {n : ℕ} (hn : n ≤ 1024) (h : Fin 8) {o : ℕ} (ho : o = 128 * h.val) (q : (⟨2, ![512, 1024]⟩ : Shape).Idx → EReal)
    (k v : (⟨2, ![n, 128]⟩ : Shape).Idx → EReal) (m : (⟨2, ![512, n]⟩ : Shape).Idx → EReal) (i : Fin 512) (e : Fin 128) (r : Fin 1024)
    (hq : ∀ c, q (ix2 i c) = qAt xs wq r c)
    (hk : ∀ (j : Fin n) (t : Fin 128) (h1 : 0 + j.val < 1024) (h2 : o + t.val < 1024), k (ix2 j t) = kb (ix2 ⟨0 + j.val, h1⟩ ⟨o + t.val, h2⟩))
    (hv : ∀ (j : Fin n) (t : Fin 128) (h1 : 0 + j.val < 1024) (h2 : o + t.val < 1024), v (ix2 j t) = vb (ix2 ⟨0 + j.val, h1⟩ ⟨o + t.val, h2⟩))
    (hm : ∀ j : Fin n, m (ix2 i j) = mskAt r.val j.val) :
    attnAt h q k v m i e = ctxAt n hn xs wq kb vb r h e := by
  subst ho
  have e1 : ∀ (j : Fin n) (h1 : 0 + j.val < 1024), (⟨0 + j.val, h1⟩ : Fin 1024) = ⟨j.val, lt_of_lt_of_le j.isLt hn⟩ := fun j h1 => Fin.ext (Nat.zero_add _)
  have hk' : ∀ (j : Fin n) (t : Fin 128), k (ix2 j t) = kb (ix2 ⟨j.val, lt_of_lt_of_le j.isLt hn⟩ (col h t)) := fun j t =>
    (hk j t (by have := lt_of_lt_of_le j.isLt hn; omega) (by omega)).trans (by rw [e1]; rfl)
  have hv' : ∀ (j : Fin n) (t : Fin 128), v (ix2 j t) = vb (ix2 ⟨j.val, lt_of_lt_of_le j.isLt hn⟩ (col h t)) := fun j t =>
    (hv j t (by have := lt_of_lt_of_le j.isLt hn; omega) (by omega)).trans (by rw [e1]; rfl)
  unfold attnAt ctxAt
  simp only [hq, hk', hv', hm]

theorem maskA_msk (i j : Fin 512) : maskA (F := Ideal) (ix2 i j) = mskAt (⟨i.val, by omega⟩ : Fin 1024).val j.val := maskA_apply i j
theorem maskB_msk (i : Fin 512) (j : Fin 1024) : maskB (F := Ideal) (ix2 i j) = mskAt (⟨512 + i.val, by omega⟩ : Fin 1024).val j.val := maskB_apply i j

theorem headA0_apply (i : Fin 512) (e : Fin 128) : headA0 (F := Ideal) xs wq kb vb (ix2 i e) = ctxAt 512 (by decide) xs wq kb vb ⟨i.val, by omega⟩ 0 e :=
  (atA0 ..).trans (attnAt_eq xs wq kb vb (by decide) 0 (o := 0) (by decide) _ _ _ _ i e _ (qA_apply xs wq i)
    (kRead inb_S1024x1024_S512x128_0_0 kb) (vRead inb_S1024x1024_S512x128_0_0 vb) (maskA_msk i))

theorem headA1_apply (i : Fin 512) (e : Fin 128) : headA1 (F := Ideal) xs wq kb vb (ix2 i e) = ctxAt 512 (by decide) xs wq kb vb ⟨i.val, by omega⟩ 1 e :=
  (atA1 ..).trans (attnAt_eq xs wq kb vb (by decide) 1 (o := 128) (by decide) _ _ _ _ i e _ (qA_apply xs wq i)
    (kRead inb_S1024x1024_S512x128_0_128 kb) (vRead inb_S1024x1024_S512x128_0_128 vb) (maskA_msk i))

theorem headA2_apply (i : Fin 512) (e : Fin 128) : headA2 (F := Ideal) xs wq kb vb (ix2 i e) = ctxAt 512 (by decide) xs wq kb vb ⟨i.val, by omega⟩ 2 e :=
  (atA2 ..).trans (attnAt_eq xs wq kb vb (by decide) 2 (o := 256) (by decide) _ _ _ _ i e _ (qA_apply xs wq i)
    (kRead inb_S1024x1024_S512x128_0_256 kb) (vRead inb_S1024x1024_S512x128_0_256 vb) (maskA_msk i))

theorem headA3_apply (i : Fin 512) (e : Fin 128) : headA3 (F := Ideal) xs wq kb vb (ix2 i e) = ctxAt 512 (by decide) xs wq kb vb ⟨i.val, by omega⟩ 3 e :=
  (atA3 ..).trans (attnAt_eq xs wq kb vb (by decide) 3 (o := 384) (by decide) _ _ _ _ i e _ (qA_apply xs wq i)
    (kRead inb_S1024x1024_S512x128_0_384 kb) (vRead inb_S1024x1024_S512x128_0_384 vb) (maskA_msk i))

theorem headA4_apply (i : Fin 512) (e : Fin 128) : headA4 (F := Ideal) xs wq kb vb (ix2 i e) = ctxAt 512 (by decide) xs wq kb vb ⟨i.val, by omega⟩ 4 e :=
  (atA4 ..).trans (attnAt_eq xs wq kb vb (by decide) 4 (o := 512) (by decide) _ _ _ _ i e _ (qA_apply xs wq i)
    (kRead inb_S1024x1024_S512x128_0_512 kb) (vRead inb_S1024x1024_S512x128_0_512 vb) (maskA_msk i))

theorem headA5_apply (i : Fin 512) (e : Fin 128) : headA5 (F := Ideal) xs wq kb vb (ix2 i e) = ctxAt 512 (by decide) xs wq kb vb ⟨i.val, by omega⟩ 5 e :=
  (atA5 ..).trans (attnAt_eq xs wq kb vb (by decide) 5 (o := 640) (by decide) _ _ _ _ i e _ (qA_apply xs wq i)
    (kRead inb_S1024x1024_S512x128_0_640 kb) (vRead inb_S1024x1024_S512x128_0_640 vb) (maskA_msk i))

theorem headA6_apply (i : Fin 512) (e : Fin 128) : headA6 (F := Ideal) xs wq kb vb (ix2 i e) = ctxAt 512 (by decide) xs wq kb vb ⟨i.val, by omega⟩ 6 e :=
  (atA6 ..).trans (attnAt_eq xs wq kb vb (by decide) 6 (o := 768) (by decide) _ _ _ _ i e _ (qA_apply xs wq i)
    (kRead inb_S1024x1024_S512x128_0_768 kb) (vRead inb_S1024x1024_S512x128_0_768 vb) (maskA_msk i))

theorem headA7_apply (i : Fin 512) (e : Fin 128) : headA7 (F := Ideal) xs wq kb vb (ix2 i e) = ctxAt 512 (by decide) xs wq kb vb ⟨i.val, by omega⟩ 7 e :=
  (atA7 ..).trans (attnAt_eq xs wq kb vb (by decide) 7 (o := 896) (by decide) _ _ _ _ i e _ (qA_apply xs wq i)
    (kRead inb_S1024x1024_S512x128_0_896 kb) (vRead inb_S1024x1024_S512x128_0_896 vb) (maskA_msk i))

theorem headB0_apply (i : Fin 512) (e : Fin 128) : headB0 (F := Ideal) xs wq kb vb (ix2 i e) = ctxAt 1024 (by decide) xs wq kb vb ⟨512 + i.val, by omega⟩ 0 e :=
  (atB0 ..).trans (attnAt_eq xs wq kb vb (by decide) 0 (o := 0) (by decide) _ _ _ _ i e _ (qB_apply xs wq i)
    (kRead inb_S1024x1024_S1024x128_0_0 kb) (vRead inb_S1024x1024_S1024x128_0_0 vb) (maskB_msk i))

theorem headB1_apply (i : Fin 512) (e : Fin 128) : headB1 (F := Ideal) xs wq kb vb (ix2 i e) = ctxAt 1024 (by decide) xs wq kb vb ⟨512 + i.val, by omega⟩ 1 e :=
  (atB1 ..).trans (attnAt_eq xs wq kb vb (by decide) 1 (o := 128) (by decide) _ _ _ _ i e _ (qB_apply xs wq i)
    (kRead inb_S1024x1024_S1024x128_0_128 kb) (vRead inb_S1024x1024_S1024x128_0_128 vb) (maskB_msk i))

theorem headB2_apply (i : Fin 512) (e : Fin 128) : headB2 (F := Ideal) xs wq kb vb (ix2 i e) = ctxAt 1024 (by decide) xs wq kb vb ⟨512 + i.val, by omega⟩ 2 e :=
  (atB2 ..).trans (attnAt_eq xs wq kb vb (by decide) 2 (o := 256) (by decide) _ _ _ _ i e _ (qB_apply xs wq i)
    (kRead inb_S1024x1024_S1024x128_0_256 kb) (vRead inb_S1024x1024_S1024x128_0_256 vb) (maskB_msk i))

theorem headB3_apply (i : Fin 512) (e : Fin 128) : headB3 (F := Ideal) xs wq kb vb (ix2 i e) = ctxAt 1024 (by decide) xs wq kb vb ⟨512 + i.val, by omega⟩ 3 e :=
  (atB3 ..).trans (attnAt_eq xs wq kb vb (by decide) 3 (o := 384) (by decide) _ _ _ _ i e _ (qB_apply xs wq i)
    (kRead inb_S1024x1024_S1024x128_0_384 kb) (vRead inb_S1024x1024_S1024x128_0_384 vb) (maskB_msk i))

theorem headB4_apply (i : Fin 512) (e : Fin 128) : headB4 (F := Ideal) xs wq kb vb (ix2 i e) = ctxAt 1024 (by decide) xs wq kb vb ⟨512 + i.val, by omega⟩ 4 e :=
  (atB4 ..).trans (attnAt_eq xs wq kb vb (by decide) 4 (o := 512) (by decide) _ _ _ _ i e _ (qB_apply xs wq i)
    (kRead inb_S1024x1024_S1024x128_0_512 kb) (vRead inb_S1024x1024_S1024x128_0_512 vb) (maskB_msk i))

theorem headB5_apply (i : Fin 512) (e : Fin 128) : headB5 (F := Ideal) xs wq kb vb (ix2 i e) = ctxAt 1024 (by decide) xs wq kb vb ⟨512 + i.val, by omega⟩ 5 e :=
  (atB5 ..).trans (attnAt_eq xs wq kb vb (by decide) 5 (o := 640) (by decide) _ _ _ _ i e _ (qB_apply xs wq i)
    (kRead inb_S1024x1024_S1024x128_0_640 kb) (vRead inb_S1024x1024_S1024x128_0_640 vb) (maskB_msk i))

theorem headB6_apply (i : Fin 512) (e : Fin 128) : headB6 (F := Ideal) xs wq kb vb (ix2 i e) = ctxAt 1024 (by decide) xs wq kb vb ⟨512 + i.val, by omega⟩ 6 e :=
  (atB6 ..).trans (attnAt_eq xs wq kb vb (by decide) 6 (o := 768) (by decide) _ _ _ _ i e _ (qB_apply xs wq i)
    (kRead inb_S1024x1024_S1024x128_0_768 kb) (vRead inb_S1024x1024_S1024x128_0_768 vb) (maskB_msk i))

theorem headB7_apply (i : Fin 512) (e : Fin 128) : headB7 (F := Ideal) xs wq kb vb (ix2 i e) = ctxAt 1024 (by decide) xs wq kb vb ⟨512 + i.val, by omega⟩ 7 e :=
  (atB7 ..).trans (attnAt_eq xs wq kb vb (by decide) 7 (o := 896) (by decide) _ _ _ _ i e _ (qB_apply xs wq i)
    (kRead inb_S1024x1024_S1024x128_0_896 kb) (vRead inb_S1024x1024_S1024x128_0_896 vb) (maskB_msk i))

/-- The heads side by side: what the buffer of the heads of a half holds. -/
def ctxG (n : ℕ) (hn : n ≤ 1024) (o : ℕ) (ho : o + 512 ≤ 1024) (y : S512x1024.Idx) : EReal :=
  ctxAt n hn xs wq kb vb ⟨o + (y 0).val, by have h : (y 0).val < 512 := (y 0).isLt; omega⟩ ⟨(y 1).val / 128, by have h : (y 1).val < 1024 := (y 1).isLt; omega⟩ ⟨(y 1).val % 128, by omega⟩

theorem ctxG_emb (n : ℕ) (hn : n ≤ 1024) (o : ℕ) (ho : o + 512 ≤ 1024) (h : Fin 8) {a : ℕ} (ha : a = 128 * h.val)
    (inb : ∀ x : Fin 2, (![0, a] : Fin 2 → ℕ) x + S512x128.size x ≤ S512x1024.size x) (w : S512x128.Idx → EReal) (r : Fin 512 → Fin 1024) (hr : ∀ i, (r i).val = o + i.val)
    (hw : ∀ (i : Fin 512) (e : Fin 128), w (ix2 i e) = ctxAt n hn xs wq kb vb (r i) h e) (x : S512x128.Idx) :
    w x = ctxG xs wq kb vb n hn o ho ((Rect.unit (s := S512x1024) ![0, a] S512x128.size inb).emb x) := by
  subst ha
  obtain ⟨i, e, rfl⟩ : ∃ (i : Fin 512) (e : Fin 128), x = ix2 i e := ⟨x 0, x 1, eq_ix2 x⟩
  rw [hw, emb_ix2 inb i e (by omega) (by omega)]
  have e1 : r i = ⟨o + (0 + i.val), by omega⟩ := Fin.ext ((hr i).trans (by simp))
  have e2 : h = ⟨(128 * h.val + e.val) / 128, by omega⟩ := Fin.ext (by show h.val = (128 * h.val + e.val) / 128; omega)
  have e3 : e = ⟨(128 * h.val + e.val) % 128, by omega⟩ := Fin.ext (by show e.val = (128 * h.val + e.val) % 128; omega)
  show ctxAt n hn xs wq kb vb (r i) h e = ctxAt n hn xs wq kb vb ⟨o + (0 + i.val), _⟩ ⟨(128 * h.val + e.val) / 128, _⟩ ⟨(128 * h.val + e.val) % 128, _⟩
  rw [← e1, ← e2, ← e3]

theorem ctxA_apply (y : S512x1024.Idx) : ctxA (F := Ideal) xs wq kb vb y = ctxG xs wq kb vb 512 (by decide) 0 (by decide) y := by
  unfold ctxA
  refine (congrFun (View.readAt_full (Val := Elt Ideal) (Memref.whole cc0_scratch8).view _ inb_S512x1024_S512x1024_0_0) y).trans ?_
  refine View.read_writes_apply_of_pieces (Val := Elt Ideal) (Memref.whole cc0_scratch8).view _ (ctxG xs wq kb vb 512 (by decide) 0 (by decide)) _ ?_ y
    (View.cover_of_tiled (Val := Elt Ideal) _ ![512, 128] rfl y)
  exact (List.forall_mem_cons.2 ⟨ctxG_emb xs wq kb vb 512 (by decide) 0 (by decide) 7 (by decide) inb_S512x1024_S512x128_0_896 _ (fun i => ⟨i.val, by omega⟩) (fun i => (Nat.zero_add _).symm) (headA7_apply xs wq kb vb),
    (List.forall_mem_cons.2 ⟨ctxG_emb xs wq kb vb 512 (by decide) 0 (by decide) 6 (by decide) inb_S512x1024_S512x128_0_768 _ (fun i => ⟨i.val, by omega⟩) (fun i => (Nat.zero_add _).symm) (headA6_apply xs wq kb vb),
    (List.forall_mem_cons.2 ⟨ctxG_emb xs wq kb vb 512 (by decide) 0 (by decide) 5 (by decide) inb_S512x1024_S512x128_0_640 _ (fun i => ⟨i.val, by omega⟩) (fun i => (Nat.zero_add _).symm) (headA5_apply xs wq kb vb),
    (List.forall_mem_cons.2 ⟨ctxG_emb xs wq kb vb 512 (by decide) 0 (by decide) 4 (by decide) inb_S512x1024_S512x128_0_512 _ (fun i => ⟨i.val, by omega⟩) (fun i => (Nat.zero_add _).symm) (headA4_apply xs wq kb vb),
    (List.forall_mem_cons.2 ⟨ctxG_emb xs wq kb vb 512 (by decide) 0 (by decide) 3 (by decide) inb_S512x1024_S512x128_0_384 _ (fun i => ⟨i.val, by omega⟩) (fun i => (Nat.zero_add _).symm) (headA3_apply xs wq kb vb),
    (List.forall_mem_cons.2 ⟨ctxG_emb xs wq kb vb 512 (by decide) 0 (by decide) 2 (by decide) inb_S512x1024_S512x128_0_256 _ (fun i => ⟨i.val, by omega⟩) (fun i => (Nat.zero_add _).symm) (headA2_apply xs wq kb vb),
    (List.forall_mem_cons.2 ⟨ctxG_emb xs wq kb vb 512 (by decide) 0 (by decide) 1 (by decide) inb_S512x1024_S512x128_0_128 _ (fun i => ⟨i.val, by omega⟩) (fun i => (Nat.zero_add _).symm) (headA1_apply xs wq kb vb),
    (List.forall_mem_cons.2 ⟨ctxG_emb xs wq kb vb 512 (by decide) 0 (by decide) 0 (by decide) inb_S512x1024_S512x128_0_0 _ (fun i => ⟨i.val, by omega⟩) (fun i => (Nat.zero_add _).symm) (headA0_apply xs wq kb vb),
    (fun p hp => absurd hp List.not_mem_nil)⟩)⟩)⟩)⟩)⟩)⟩)⟩)⟩)

theorem partA_apply (i : Fin 512) (c : Fin 1024) : partA (F := Ideal) xs wq wo kb vb (ix2 i c) = partAt 512 (by decide) xs wq wo kb vb ⟨0 + i.val, by omega⟩ c := by
  unfold partA
  rw [pay29_apply, woV_eq]
  exact Finset.sum_congr rfl fun t _ => congrArg (· * wo (ix2 t c)) (ctxA_apply xs wq kb vb (ix2 i t))

theorem ctxB_apply (y : S512x1024.Idx) : ctxB (F := Ideal) xs wq kb vb y = ctxG xs wq kb vb 1024 (by decide) 512 (by decide) y := by
  unfold ctxB
  refine (congrFun (View.readAt_full (Val := Elt Ideal) (Memref.whole cc0_scratch8).view _ inb_S512x1024_S512x1024_0_0) y).trans ?_
  refine View.read_writes_apply_of_pieces (Val := Elt Ideal) (Memref.whole cc0_scratch8).view _ (ctxG xs wq kb vb 1024 (by decide) 512 (by decide)) _ ?_ y
    (View.cover_of_tiled (Val := Elt Ideal) _ ![512, 128] rfl y)
  exact (List.forall_mem_cons.2 ⟨ctxG_emb xs wq kb vb 1024 (by decide) 512 (by decide) 7 (by decide) inb_S512x1024_S512x128_0_896 _ (fun i => ⟨512 + i.val, by omega⟩) (fun _ => rfl) (headB7_apply xs wq kb vb),
    (List.forall_mem_cons.2 ⟨ctxG_emb xs wq kb vb 1024 (by decide) 512 (by decide) 6 (by decide) inb_S512x1024_S512x128_0_768 _ (fun i => ⟨512 + i.val, by omega⟩) (fun _ => rfl) (headB6_apply xs wq kb vb),
    (List.forall_mem_cons.2 ⟨ctxG_emb xs wq kb vb 1024 (by decide) 512 (by decide) 5 (by decide) inb_S512x1024_S512x128_0_640 _ (fun i => ⟨512 + i.val, by omega⟩) (fun _ => rfl) (headB5_apply xs wq kb vb),
    (List.forall_mem_cons.2 ⟨ctxG_emb xs wq kb vb 1024 (by decide) 512 (by decide) 4 (by decide) inb_S512x1024_S512x128_0_512 _ (fun i => ⟨512 + i.val, by omega⟩) (fun _ => rfl) (headB4_apply xs wq kb vb),
    (List.forall_mem_cons.2 ⟨ctxG_emb xs wq kb vb 1024 (by decide) 512 (by decide) 3 (by decide) inb_S512x1024_S512x128_0_384 _ (fun i => ⟨512 + i.val, by omega⟩) (fun _ => rfl) (headB3_apply xs wq kb vb),
    (List.forall_mem_cons.2 ⟨ctxG_emb xs wq kb vb 1024 (by decide) 512 (by decide) 2 (by decide) inb_S512x1024_S512x128_0_256 _ (fun i => ⟨512 + i.val, by omega⟩) (fun _ => rfl) (headB2_apply xs wq kb vb),
    (List.forall_mem_cons.2 ⟨ctxG_emb xs wq kb vb 1024 (by decide) 512 (by decide) 1 (by decide) inb_S512x1024_S512x128_0_128 _ (fun i => ⟨512 + i.val, by omega⟩) (fun _ => rfl) (headB1_apply xs wq kb vb),
    (List.forall_mem_cons.2 ⟨ctxG_emb xs wq kb vb 1024 (by decide) 512 (by decide) 0 (by decide) inb_S512x1024_S512x128_0_0 _ (fun i => ⟨512 + i.val, by omega⟩) (fun _ => rfl) (headB0_apply xs wq kb vb),
    (fun p hp => absurd hp List.not_mem_nil)⟩)⟩)⟩)⟩)⟩)⟩)⟩)⟩)

theorem partB_apply (i : Fin 512) (c : Fin 1024) : partB (F := Ideal) xs wq wo kb vb (ix2 i c) = partAt 1024 (by decide) xs wq wo kb vb ⟨512 + i.val, by omega⟩ c := by
  unfold partB
  rw [pay49_apply, woV_eq]
  exact Finset.sum_congr rfl fun t _ => congrArg (· * wo (ix2 t c)) (ctxB_apply xs wq kb vb (ix2 i t))

/-- The second half is one more store over the first. -/
theorem outB_eq : outB (F := Ideal) xs wq wo kb vb
    = (Memref.whole cc0_stg3_0).view.writes (Elt Ideal) (outA (F := Ideal) xs wq wo kb vb) [⟨Rect.unit (s := S1024x1024) ![512, 0] (⟨2, ![512, 1024]⟩ : Shape).size inb_S1024x1024_S512x1024_512_0, partB (F := Ideal) xs wq wo kb vb⟩] := by
  unfold outB outLB outA
  generalize partB (F := Ideal) xs wq wo kb vb = w
  generalize outLA (F := Ideal) xs wq wo kb vb = L
  rfl

/-- Storing the second half keeps the first. -/
theorem outA_eq (i : S1024x1024.Idx) (hi : (i 0).val < 512) : outA (F := Ideal) xs wq wo kb vb i = outB (F := Ideal) xs wq wo kb vb i := by
  rw [outB_eq]
  exact (put_out (outA (F := Ideal) xs wq wo kb vb) ![512, 0] inb_S1024x1024_S512x1024_512_0 (partB (F := Ideal) xs wq wo kb vb) i (.inl hi)).symm

/-- The rows of the first half. -/
theorem outB_top (i : Fin 512) (c : Fin 1024) : outB (F := Ideal) xs wq wo kb vb (ix2 ⟨i.val, by omega⟩ c) = partAt 512 (by decide) xs wq wo kb vb ⟨i.val, by omega⟩ c := by
  rw [← outA_eq xs wq wo kb vb (ix2 ⟨i.val, by omega⟩ c) i.isLt]
  refine (put_in (View.junk (Val := Elt Ideal) (Memref.whole cc0_stg3_0).view) ![0, 0] inb_S1024x1024_S512x1024_0_0 (partA (F := Ideal) xs wq wo kb vb) _ (ix2 i c) ?_).trans ?_
  · rw [emb_ix2 (R := 1024) (C := 1024) inb_S1024x1024_S512x1024_0_0 i c (by omega) (by omega)]
    exact congrArg₂ ix2 (Fin.ext (Nat.zero_add _).symm) (Fin.ext (Nat.zero_add _).symm)
  · exact (partA_apply xs wq wo kb vb i c).trans (congrArg (partAt 512 _ xs wq wo kb vb · c) (Fin.ext (Nat.zero_add _)))

/-- The rows of the second half. -/
theorem outB_bot (i : Fin 512) (c : Fin 1024) : outB (F := Ideal) xs wq wo kb vb (ix2 ⟨512 + i.val, by omega⟩ c) = partAt 1024 (by decide) xs wq wo kb vb ⟨512 + i.val, by omega⟩ c := by
  rw [outB_eq]
  refine (put_in (outA (F := Ideal) xs wq wo kb vb) ![512, 0] inb_S1024x1024_S512x1024_512_0 (partB (F := Ideal) xs wq wo kb vb) _ (ix2 i c) ?_).trans ?_
  · rw [emb_ix2 (R := 1024) (C := 1024) inb_S1024x1024_S512x1024_512_0 i c (by omega) (by omega)]
    exact congrArg (ix2 _) (Fin.ext (Nat.zero_add _).symm)
  · exact partB_apply xs wq wo kb vb i c

end Cert.KernelIdeal.Bfly
-- ==== Proof.Entry.lean ====
module

public import proofs.«01_k».proof.Proof.KV
public import proofs.«01_k».proof.Proof.Heads
public import Idealize.ShloMosaic.Lib.Claim
public import Idealize.ShloMosaic.Lib.StableHlo.Run
public import proofs.«01_k».proof.Proof.Gen.KernelIdeal.Regions

/-! # What the kernel is given, at an index

The arrays the kernel is launched on, in terms of the arguments. -/

@[expose] public section

set_option maxRecDepth 16384

noncomputable section

namespace Cert.KernelIdeal.Bfly

open Idealize.ShloMosaic Idealize.ShloMosaic.TcCoe
open Cert.KernelIdeal.Gen

/-- A key head's place among all heads. -/
theorem off1_eq (c : Dev nD) (h : Fin 8) : k0_off1 c (BitVec.ofNat 32 h.val) = ![0, 8 * c.val + h.val, 0] := by
  revert c h; decide +kernel

theorem cast_apply {α : Type} (w : S1024x1x128.Idx → α) (hc : S1024x1x128.ShapeCasts S1024x128) (j : Fin 1024) (t : Fin 128) :
    shapeCast S1024x128 w hc (ix2 j t) = w (ix3 j 0 t) := by
  pointwise []

theorem emb_head (c : Dev nD) (h : Fin 8) (j : Fin 1024) (t : Fin 128) :
    (Rect.unit (s := S1024x256x128) (k0_off1 c (BitVec.ofNat 32 h.val)) S1024x1x128.size (k0_off1_inb c h)).emb (ix3 j 0 t)
      = ix3 j ⟨8 * c.val + h.val, by have h : c.val < 32 := c.isLt; omega⟩ t := by
  funext x
  apply Fin.ext
  rw [ValueKit.rect_emb_unit_val]
  have e := congrFun (off1_eq c h) x
  match x with
  | ⟨0, _⟩ => exact (congrArg (· + j.val) e).trans (Nat.zero_add _)
  | ⟨1, _⟩ => exact e
  | ⟨2, _⟩ => exact (congrArg (· + t.val) e).trans (Nat.zero_add _)

theorem kHead_apply (x : S1024x256x128.Idx → EReal) (c : Dev nD) (h : Fin 8) (j : Fin 1024) (t : Fin 128) :
    (kHead c h).view.read (Elt Ideal) x (ix2 j t) = x (ix3 j ⟨8 * c.val + h.val, by have h : c.val < 32 := c.isLt; omega⟩ t) :=
  (congrFun (Memref.read_squeeze_slice (Val := Elt Ideal) (Memref.whole main_v11) _ (fun _ => rfl) squeezes_S1024x1x128_S1024x128 (show S1024x1x128.ShapeCasts S1024x128 by decide) x) (ix2 j t)).trans
    ((cast_apply _ _ j t).trans (congrArg x (emb_head c h j t)))

theorem vHead_apply (x : S1024x256x128.Idx → EReal) (c : Dev nD) (h : Fin 8) (j : Fin 1024) (t : Fin 128) :
    (vHead c h).view.read (Elt Ideal) x (ix2 j t) = x (ix3 j ⟨8 * c.val + h.val, by have h : c.val < 32 := c.isLt; omega⟩ t) :=
  (congrFun (Memref.read_squeeze_slice (Val := Elt Ideal) (Memref.whole main_v12) _ (fun _ => rfl) squeezes_S1024x1x128_S1024x128 (show S1024x1x128.ShapeCasts S1024x128 by decide) x) (ix2 j t)).trans
    ((cast_apply _ _ j t).trans (congrArg x (emb_head c h j t)))

/-- The keys in the kernel's buffer. -/
theorem kBuf_apply (x : S1024x256x128.Idx → EReal) (c : Dev nD) (j : Fin 1024) (h : Fin 8) (t : Fin 128) :
    kBuf (F := Ideal) x c (ix2 j (col h t)) = x (ix3 j ⟨8 * c.val + h.val, by have h : c.val < 32 := c.isLt; omega⟩ t) :=
  (colEq (fun h j => (kHead c h).view.read (Elt Ideal) x j) (ix2 j (col h t)) h (ix2 j t) rfl rfl).trans (kHead_apply x c h j t)

theorem vBuf_apply (x : S1024x256x128.Idx → EReal) (c : Dev nD) (j : Fin 1024) (h : Fin 8) (t : Fin 128) :
    vBuf (F := Ideal) x c (ix2 j (col h t)) = x (ix3 j ⟨8 * c.val + h.val, by have h : c.val < 32 := c.isLt; omega⟩ t) :=
  (colEq (fun h j => (vHead c h).view.read (Elt Ideal) x j) (ix2 j (col h t)) h (ix2 j t) rfl rfl).trans (vHead_apply x c h j t)

variable (m : (ℓ : Loc nD τ sig) → Buf (Elt Ideal) ℓ) (c : Dev nD)

theorem V1_6 : V1 m c main_v6 = truncf (F := Ideal) .bf16 (shapeCast S1024x1024 (m (c, main_arg0) : S1x1024x1024.Idx → Elt Ideal .f32) shapeCasts_S1x1024x1024_S1024x1024) bitsLt_bf16_f32 := by
  unfold_abbrev_sides
  after_results <;> rfl

theorem V1_9 : V1 m c main_v9 = truncf (F := Ideal) .bf16 (mulf (m (c, main_arg1) : S1024x1024.Idx → Elt Ideal .f32) (broadcastInDim S1024x1024 ![] bcast_S_S1024x1024 (constant S_ .f32 0x3DB504F3#32))) bitsLt_bf16_f32 := by
  unfold_abbrev_sides
  after_results <;> rfl

theorem V1_10 : V1 m c main_v10 = truncf (F := Ideal) .bf16 (m (c, main_arg4) : S1024x1024.Idx → Elt Ideal .f32) bitsLt_bf16_f32 := by
  unfold_abbrev_sides
  after_results <;> rfl

theorem V1_11 : V1 m c main_v11 = shapeCast S1024x256x128 (m (c, main_arg2) : S1x1024x256x128.Idx → Elt Ideal .f32) shapeCasts_S1x1024x256x128_S1024x256x128 := by
  unfold_abbrev_sides
  after_results <;> rfl

theorem V1_12 : V1 m c main_v12 = shapeCast S1024x256x128 (m (c, main_arg3) : S1x1024x256x128.Idx → Elt Ideal .f32) shapeCasts_S1x1024x256x128_S1024x256x128 := by
  unfold_abbrev_sides
  after_results <;> rfl

/-- The arguments of a device. -/
abbrev A0 : S1x1024x1024.Idx → EReal := m (c, main_arg0)
abbrev A1 : S1024x1024.Idx → EReal := m (c, main_arg1)
abbrev A2 : S1x1024x256x128.Idx → EReal := m (c, main_arg2)
abbrev A3 : S1x1024x256x128.Idx → EReal := m (c, main_arg3)
abbrev A4 : S1024x1024.Idx → EReal := m (c, main_arg4)

theorem x_apply (x : S1x1024x1024.Idx → Elt Ideal .f32) (r t : Fin 1024) :
    truncf (F := Ideal) .bf16 (shapeCast S1024x1024 x shapeCasts_S1x1024x1024_S1024x1024) bitsLt_bf16_f32 (ix2 r t) = x (ix3 0 r t) := by
  pointwise []

theorem w_apply (w : S1024x1024.Idx → Elt Ideal .f32) (r t : Fin 1024) :
    truncf (F := Ideal) .bf16 (mulf w (broadcastInDim S1024x1024 ![] bcast_S_S1024x1024 (constant S_ .f32 0x3DB504F3#32))) bitsLt_bf16_f32 (ix2 r t)
      = (w (ix2 r t) * Ideal.ofBits .f32 0x3DB504F3#32 : EReal) := by
  pointwise []

theorem kv_apply (x : S1x1024x256x128.Idx → Elt Ideal .f32) (j : Fin 1024) (h : Fin 256) (t : Fin 128) :
    shapeCast S1024x256x128 x shapeCasts_S1x1024x256x128_S1024x256x128 (ix3 j h t) = x (ix4 0 j h t) := by
  pointwise []

/-- The input on a device. -/
theorem V1_6_apply (r t : Fin 1024) : (V1 m c main_v6 : S1024x1024.Idx → EReal) (ix2 r t) = A0 m c (ix3 0 r t) :=
  (congrFun (V1_6 m c) (ix2 r t)).trans (x_apply _ r t)

/-- The query weights on a device, with the scale. -/
theorem V1_9_apply (r t : Fin 1024) : (V1 m c main_v9 : S1024x1024.Idx → EReal) (ix2 r t)
    = A1 m c (ix2 r t) * Ideal.ofBits .f32 0x3DB504F3#32 :=
  (congrFun (V1_9 m c) (ix2 r t)).trans (w_apply _ r t)

/-- The output weights on a device. -/
theorem V1_10_apply (i : S1024x1024.Idx) : (V1 m c main_v10 : S1024x1024.Idx → EReal) i = A4 m c i :=
  congrFun (V1_10 m c) i

/-- The keys in the kernel's buffer. -/
theorem keys_apply (j : Fin 1024) (h : Fin 8) (t : Fin 128) :
    (kBuf (F := Ideal) (V1 m c main_v11) c : S1024x1024.Idx → EReal) (ix2 j (col h t))
      = A2 m c (ix4 0 j ⟨8 * c.val + h.val, by have h : c.val < 32 := c.isLt; omega⟩ t) :=
  (kBuf_apply _ c j h t).trans ((congrFun (V1_11 m c) _).trans (kv_apply _ j _ t))

/-- The values in the kernel's buffer. -/
theorem values_apply (j : Fin 1024) (h : Fin 8) (t : Fin 128) :
    (vBuf (F := Ideal) (V1 m c main_v12) c : S1024x1024.Idx → EReal) (ix2 j (col h t))
      = A3 m c (ix4 0 j ⟨8 * c.val + h.val, by have h : c.val < 32 := c.isLt; omega⟩ t) :=
  (vBuf_apply _ c j h t).trans ((congrFun (V1_12 m c) _).trans (kv_apply _ j _ t))

end Cert.KernelIdeal.Bfly
-- ==== Proof.Softmax.lean ====
module

public import proofs.«01_k».proof.Proof.Heads

/-! # The attention on real numbers

The kernel's attention and the reference's, both over finite numbers: the reference takes off the greatest score first, the kernel does not. -/

@[expose] public section

noncomputable section

namespace Cert.KernelIdeal.Bfly

open Idealize.ShloMosaic

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A key's weight before the division: the exponential of its score if the query sees it, nothing otherwise. -/
def wt {n : ℕ} (a : Fin n → ℝ) (vis : Fin n → Bool) (j : Fin n) : ℝ := if vis j then Real.exp (a j) else 0

/-- The attention on real numbers. -/
def rattn {n : ℕ} (a : Fin n → ℝ) (vis : Fin n → Bool) (V : Fin n → ℝ) : ℝ :=
  ∑ j : Fin n, wt a vis j * (1 / ∑ j' : Fin n, wt a vis j') * V j

theorem wt_nonneg {n : ℕ} (a : Fin n → ℝ) (vis : Fin n → Bool) (j : Fin n) : 0 ≤ wt a vis j := by
  unfold wt; split
  · exact (Real.exp_pos _).le
  · exact le_rfl

theorem wt_sum_pos {n : ℕ} (a : Fin n → ℝ) (vis : Fin n → Bool) (j0 : Fin n) (h0 : vis j0 = true) : 0 < ∑ j : Fin n, wt a vis j :=
  Finset.sum_pos' (fun j _ => wt_nonneg a vis j) ⟨j0, Finset.mem_univ _, by unfold wt; rw [if_pos h0]; exact Real.exp_pos _⟩

/-- The kernel's attention is the one on real numbers. -/
theorem attn_real {n : ℕ} (q : Fin 128 → ℝ) (K V : Fin n → Fin 128 → ℝ) (vis : Fin n → Bool) (e : Fin 128) (j0 : Fin n) (h0 : vis j0 = true) :
    attn (fun t => (q t : EReal)) (fun j t => (K j t : EReal)) (fun j t => (V j t : EReal)) (fun j => if vis j then (0 : EReal) else ⊥) e
      = ((rattn (fun j => ∑ t : Fin 128, q t * K j t) vis (fun j => V j e) : ℝ) : EReal) := by
  have hw : ∀ j : Fin n, Ideal.exp ((∑ t : Fin 128, (q t : EReal) * (K j t : EReal)) + (if vis j then (0 : EReal) else ⊥))
      = ((wt (fun j => ∑ t : Fin 128, q t * K j t) vis j : ℝ) : EReal) := fun j => by
    have : (∑ t : Fin 128, (q t : EReal) * (K j t : EReal)) = ((∑ t : Fin 128, q t * K j t : ℝ) : EReal) := by
      rw [← coe_sum]
      exact Finset.sum_congr rfl fun t _ => (EReal.coe_mul _ _).symm
    rw [this]
    unfold wt
    cases vis j
    · simp
    · simp
  unfold attn rattn
  simp only [hw]
  rw [coe_sum, Ideal.div_coe (wt_sum_pos _ vis j0 h0).ne', one_mul, ← coe_sum]
  exact Finset.sum_congr rfl fun j _ => by rw [EReal.coe_mul, EReal.coe_mul]

/-- The greatest of finitely many scores, one of them finite and none of them `⊤`, is finite. -/
theorem fold_max_real {n : ℕ} (S : Fin n → EReal) (hS : ∀ j, S j ≠ ⊤) (j0 : Fin n) (h0 : S j0 ≠ ⊥) :
    ∃ μ : ℝ, Finset.univ.fold max (⊥ : EReal) S = (μ : EReal) := by
  have h1 : Finset.univ.fold max (⊥ : EReal) S ≠ ⊤ := by
    refine ne_of_lt ?_
    rw [Finset.fold_max_lt]
    exact ⟨bot_lt_top, fun j _ => lt_top_iff_ne_top.mpr (hS j)⟩
  have h2 : Finset.univ.fold max (⊥ : EReal) S ≠ ⊥ := by
    refine ne_of_gt (lt_of_lt_of_le (bot_lt_iff_ne_bot.mpr h0) ?_)
    rw [Finset.le_fold_max]
    exact .inr ⟨j0, Finset.mem_univ _, le_rfl⟩
  exact ⟨_, (EReal.coe_toReal h1 h2).symm⟩

/-- The reference's attention is the one on real numbers. -/
theorem ref_real {n : ℕ} (a : Fin n → ℝ) (V : Fin n → ℝ) (vis : Fin n → Bool) (j0 : Fin n) (h0 : vis j0 = true) (S : Fin n → EReal)
    (hS : ∀ j, S j = if vis j then (a j : EReal) else ⊥) :
    (∑ j : Fin n, (V j : EReal) * Ideal.div (Ideal.exp (S j - Finset.univ.fold max (⊥ : EReal) S)) (∑ j' : Fin n, Ideal.exp (S j' - Finset.univ.fold max (⊥ : EReal) S)))
      = ((rattn a vis V : ℝ) : EReal) := by
  obtain ⟨μ, hμ⟩ := fold_max_real S (fun j => by rw [hS j]; cases vis j <;> simp) j0 (by rw [hS j0, h0]; simp)
  have hw : ∀ j : Fin n, Ideal.exp (S j - (μ : EReal)) = ((wt a vis j * Real.exp (-μ) : ℝ) : EReal) := fun j => by
    rw [hS j]
    unfold wt
    cases vis j
    · simp
    · simp only [if_true]
      rw [← EReal.coe_sub, Ideal.exp_coe, sub_eq_add_neg, Real.exp_add]
  have hpos := wt_sum_pos a vis j0 h0
  have hμ0 := (Real.exp_pos (-μ)).ne'
  rw [hμ]
  simp only [hw]
  rw [coe_sum, ← Finset.sum_mul]
  have hd : ((∑ j : Fin n, wt a vis j) * Real.exp (-μ)) ≠ 0 := mul_ne_zero hpos.ne' hμ0
  unfold rattn
  rw [← coe_sum]
  refine Finset.sum_congr rfl fun j _ => ?_
  rw [Ideal.div_coe hd, ← EReal.coe_mul, ← EReal.coe_mul]
  congr 1
  have h := hpos.ne'
  field_simp

/-- Keys no query of the first half sees may be left out. -/
theorem rattn_half (a : Fin 1024 → ℝ) (vis : Fin 1024 → Bool) (V : Fin 1024 → ℝ) (h : ∀ j : Fin 1024, 512 ≤ j.val → vis j = false) :
    rattn (fun j : Fin 512 => a ⟨j.val, by omega⟩) (fun j => vis ⟨j.val, by omega⟩) (fun j => V ⟨j.val, by omega⟩) = rattn a vis V := by
  have hs : ∀ f : Fin 1024 → ℝ, (∀ j : Fin 1024, 512 ≤ j.val → f j = 0) → (∑ j : Fin 1024, f j) = ∑ j : Fin 512, f ⟨j.val, by omega⟩ := fun f hf => by
    refine (Fin.sum_univ_add (a := 512) (b := 512) f).trans ?_
    rw [Finset.sum_eq_zero (s := Finset.univ) (f := fun i : Fin 512 => f (Fin.natAdd 512 i)) fun i _ => hf _ (Nat.le_add_right 512 i.val), add_zero]
    rfl
  have hw : ∀ j : Fin 1024, 512 ≤ j.val → wt a vis j = 0 := fun j hj => by unfold wt; rw [h j hj]; rfl
  unfold rattn
  rw [hs (fun j => wt a vis j) hw, hs (fun j => wt a vis j * _ * V j) fun j hj => by rw [hw j hj, zero_mul, zero_mul]]
  rfl

end Cert.KernelIdeal.Bfly
-- ==== Proof.Ref.lean ====
module

public import proofs.«01_k».proof.Proof.Gen.ReferenceIdeal.Run
public import Idealize.ShloMosaic.Lib.Pointwise

/-! # The reference at an index

The reference's term, cut into its steps, each read at an index over the extended reals. -/

@[expose] public section

set_option maxRecDepth 16384

noncomputable section

namespace Cert.ReferenceIdeal.Value

open Cert.ReferenceIdeal Cert.ReferenceIdeal.Gen Idealize.ShloMosaic Idealize.ShloMosaic.TcCoe

/-- The block of each position: the position over 64, rounded down. -/
def rBlk : IVec S1024 32 :=
  select (andi (cmpi .ne (signi (iotaInDim S1024 32 0)) (broadcastInDim S1024 ![] bcast_S_S1024 (signi (id (constantI S_ 32 64#32)))))
      (cmpi .ne (Host.remsi (iotaInDim S1024 32 0) (broadcastInDim S1024 ![] bcast_S_S1024 (id (constantI S_ 32 64#32))))
        (broadcastInDim S1024 ![] bcast_S_S1024 (constantI S_ 32 0#32))))
    (subi (Host.divsi (iotaInDim S1024 32 0) (broadcastInDim S1024 ![] bcast_S_S1024 (id (constantI S_ 32 64#32))))
      (broadcastInDim S1024 ![] bcast_S_S1024 (constantI S_ 32 1#32)))
    (Host.divsi (iotaInDim S1024 32 0) (broadcastInDim S1024 ![] bcast_S_S1024 (id (constantI S_ 32 64#32))))

/-- Which keys a query sees. -/
def rMask : IVec S1024x1024 1 :=
  cmpi .sle (broadcastInDim S1024x1024 ![0, 1] bcast_S1x1024_S1024x1024_0_1 (broadcastInDim S1x1024 ![1] bcast_S1024_S1x1024_1 rBlk))
    (broadcastInDim S1024x1024 ![0, 1] bcast_S1024x1_S1024x1024_0_1 (broadcastInDim S1024x1 ![0] bcast_S1024_S1024x1_0 rBlk))

/-- Whether a query sees a key at all. -/
def rAny : IVec S1024 1 := Host.reduce IntOp.ori rMask (constantI S_ 1 0#1) reducesTo_S1024x1024_S1024_d1 h_S_

/-- The queries by heads. -/
def rQ (x : FVec Ideal S1x1024x1024 .f32) (w : FVec Ideal S1024x32768 .f32) : FVec Ideal S1x1024x256x128 .f32 :=
  shapeCast _ (Host.dotGeneral dot_S1x1024x1024_S1024x32768_S1x1024x32768_2_0_01_1_n_n none x w) shapeCasts_S1x1024x32768_S1x1024x256x128

/-- The scores, minus infinity where masked. -/
def rS (q k : FVec Ideal S1x1024x256x128 .f32) : FVec Ideal S1x256x1024x1024 .f32 :=
  select (broadcastInDim S1x256x1024x1024 ![0, 1, 2, 3] bcast_S1x1x1024x1024_S1x256x1024x1024_0_1_2_3 (broadcastInDim S1x1x1024x1024 ![2, 3] bcast_S1024x1024_S1x1x1024x1024_2_3 rMask))
    (mulf (Host.dotGeneral dot_S1x1024x256x128_S1x1024x256x128_S1x256x1024x1024_3_3_1_1_02_02 none q k)
      (broadcastInDim S1x256x1024x1024 ![] bcast_S_S1x256x1024x1024 (constant S_ .f32 0x3DB504F3#32)))
    (broadcastInDim S1x256x1024x1024 ![] bcast_S_S1x256x1024x1024 (id (constant S_ .f32 0xFF800000#32)))

/-- The greatest score of each query. -/
def rM (s : FVec Ideal S1x256x1024x1024 .f32) : FVec Ideal S1x256x1024 .f32 :=
  Host.reduce FloatOps.maximumf s (constant S_ .f32 0xFF800000#32) reducesTo_S1x256x1024x1024_S1x256x1024_d3 h_S_

/-- The exponentials of the scores less the greatest. -/
def rE (s : FVec Ideal S1x256x1024x1024 .f32) (mx : FVec Ideal S1x256x1024 .f32) : FVec Ideal S1x256x1024x1024 .f32 :=
  Host.exp (subf s (broadcastInDim S1x256x1024x1024 ![0, 1, 2, 3] bcast_S1x256x1024x1_S1x256x1024x1024_0_1_2_3
    (broadcastInDim S1x256x1024x1 ![0, 1, 2] bcast_S1x256x1024_S1x256x1024x1_0_1_2 mx)))

/-- The weights. -/
def rW (e : FVec Ideal S1x256x1024x1024 .f32) : FVec Ideal S1x256x1024x1024 .f32 :=
  select (broadcastInDim S1x256x1024x1024 ![0, 1, 2, 3] bcast_S1x1x1024x1_S1x256x1024x1024_0_1_2_3 (broadcastInDim S1x1x1024x1 ![2] bcast_S1024_S1x1x1024x1_2 rAny))
    (Host.divf e (broadcastInDim S1x256x1024x1024 ![0, 1, 2, 3] bcast_S1x256x1024x1_S1x256x1024x1024_0_1_2_3
      (select (broadcastInDim S1x256x1024x1 ![0, 1, 2, 3] bcast_S1x1x1024x1_S1x256x1024x1_0_1_2_3 (broadcastInDim S1x1x1024x1 ![2] bcast_S1024_S1x1x1024x1_2 rAny))
        (broadcastInDim S1x256x1024x1 ![0, 1, 2] bcast_S1x256x1024_S1x256x1024x1_0_1_2
          (Host.reduceAdd e (constant S_ .f32 0x00000000#32) reducesTo_S1x256x1024x1024_S1x256x1024_d3 h_S_))
        (broadcastInDim S1x256x1024x1 ![] bcast_S_S1x256x1024x1 (id (constant S_ .f32 0x3F800000#32))))))
    (broadcastInDim S1x256x1024x1024 ![] bcast_S_S1x256x1024x1024 (id (constant S_ .f32 0x00000000#32)))

/-- The heads' results side by side. -/
def rC (v : FVec Ideal S1x1024x256x128 .f32) (w : FVec Ideal S1x256x1024x1024 .f32) : FVec Ideal S1x1024x32768 .f32 :=
  shapeCast _ (transpose S1x1024x256x128 [0, 3, 1, 2] (Host.dotGeneral dot_S1x1024x256x128_S1x256x1024x1024_S1x256x128x1024_1_3_3_2_02_01 none v w)
    transposes_S1x256x128x1024_S1x1024x256x128_0_3_1_2) shapeCasts_S1x1024x256x128_S1x1024x32768

/-- The result. -/
def rOut (x : FVec Ideal S1x1024x1024 .f32) (w : FVec Ideal S1024x32768 .f32) (k v : FVec Ideal S1x1024x256x128 .f32)
    (wo : FVec Ideal S32768x1024 .f32) : FVec Ideal S1x1024x1024 .f32 :=
  Host.dotGeneral dot_S1x1024x32768_S32768x1024_S1x1024x1024_2_0_01_1_n_n none
    (rC v (rW (rE (rS (rQ x w) k) (rM (rS (rQ x w) k))))) wo

theorem res_eq (m : (ℓ : Loc nD τ sig) → Buf (Elt Ideal) ℓ) (c : Dev nD) :
    res_main_v33 m c = rOut (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold res_main_v33
  rfl

theorem rQ_apply (x : FVec Ideal S1x1024x1024 .f32) (w : FVec Ideal S1024x32768 .f32) (r : Fin 1024) (h : Fin 256) (e : Fin 128) :
    rQ x w (ix4 0 r h e) = (∑ t : Fin 1024, x (ix3 0 r t) * w (ix2 t ⟨h.val * 128 + e.val, by omega⟩) : EReal) := by
  pointwise [rQ]

theorem rS_apply (q k : FVec Ideal S1x1024x256x128 .f32) (h : Fin 256) (r j : Fin 1024) :
    rS q k (ix4 0 h r j) = (Scalar.select (rMask (ix2 r j)) ((∑ e : Fin 128, q (ix4 0 r h e) * k (ix4 0 j h e)) * Ideal.ofBits .f32 0x3DB504F3#32)
      (Ideal.ofBits .f32 0xFF800000#32) : EReal) := by
  pointwise [rS]
  rfl

theorem rM_apply (s : FVec Ideal S1x256x1024x1024 .f32) (h : Fin 256) (r : Fin 1024) :
    rM s (ix3 0 h r) = ((Finset.univ : Finset (Fin 1024)).fold max (Ideal.ofBits .f32 0xFF800000#32) fun j => s (ix4 0 h r j) : EReal) := by
  pointwise [rM]

theorem rE_apply (s : FVec Ideal S1x256x1024x1024 .f32) (mx : FVec Ideal S1x256x1024 .f32) (h : Fin 256) (r j : Fin 1024) :
    rE s mx (ix4 0 h r j) = (Ideal.exp (s (ix4 0 h r j) - mx (ix3 0 h r)) : EReal) := by
  pointwise [rE]

theorem rW_apply (e : FVec Ideal S1x256x1024x1024 .f32) (h : Fin 256) (r j : Fin 1024) (ha : rAny (ix1 r) = 1#1) :
    rW e (ix4 0 h r j) = (Ideal.div (e (ix4 0 h r j)) (∑ j' : Fin 1024, e (ix4 0 h r j')) : EReal) := by
  pointwise [rW]
  rw [ha]
  rfl

theorem rC_apply (v : FVec Ideal S1x1024x256x128 .f32) (w : FVec Ideal S1x256x1024x1024 .f32) (r : Fin 1024) (t : Fin 32768) :
    rC v w (ix3 0 r t) = (∑ j : Fin 1024, v (ix4 0 j ⟨t.val / 128, by omega⟩ ⟨t.val % 128, by omega⟩) * w (ix4 0 ⟨t.val / 128, by omega⟩ r j) : EReal) := by
  pointwise [rC]

theorem rOut_apply (x : FVec Ideal S1x1024x1024 .f32) (w : FVec Ideal S1024x32768 .f32) (k v : FVec Ideal S1x1024x256x128 .f32)
    (wo : FVec Ideal S32768x1024 .f32) (r j : Fin 1024) :
    rOut x w k v wo (ix3 0 r j) = (∑ t : Fin 32768, rC v (rW (rE (rS (rQ x w) k) (rM (rS (rQ x w) k)))) (ix3 0 r t) * wo (ix2 t j) : EReal) := by
  pointwise [rOut]

theorem rBlk_apply (r : Fin 1024) : rBlk (ix1 r) = BitVec.ofNat 32 (r.val / 64) := by
  pointwise [rBlk]
  revert r
  decide +kernel

end Cert.ReferenceIdeal.Value
-- ==== Proof.RefMask.lean ====
module

public import proofs.«01_k».proof.Proof.Ref
public import proofs.«01_k».proof.Proof.Mask

/-! # The reference's mask at an index -/

@[expose] public section

set_option maxRecDepth 16384

noncomputable section

namespace Cert.ReferenceIdeal.Value

open Cert.ReferenceIdeal Cert.ReferenceIdeal.Gen Idealize.ShloMosaic Idealize.ShloMosaic.TcCoe

/-- A query sees the keys of its own block and of the blocks before. -/
theorem rMask_apply (r j : Fin 1024) : rMask (ix2 r j) = if j.val / 64 ≤ r.val / 64 then 1#1 else 0#1 := by
  have h : rMask (ix2 r j) = IntOp.cmpi .sle (rBlk (ix1 j)) (rBlk (ix1 r)) := by
    pointwise [rMask]
  rw [h, rBlk_apply, rBlk_apply]
  exact Cert.KernelIdeal.Bfly.sle_eq ⟨j.val / 64, by omega⟩ ⟨r.val / 64, by omega⟩

theorem one_ori (b : BitVec 1) : IntOp.ori 1#1 b = 1#1 := by revert b; decide

/-- Every query sees a key. -/
theorem rAny_apply (r : Fin 1024) : rAny (ix1 r) = 1#1 := by
  have h : rMask (ix2 r 0) = 1#1 := by rw [rMask_apply]; exact if_pos (Nat.zero_le _)
  pointwise [rAny]
  rw [← Finset.insert_erase (Finset.mem_univ (0 : Fin 1024)), Finset.fold_insert (Finset.notMem_erase _ _), h]
  exact one_ori _

end Cert.ReferenceIdeal.Value
-- ==== Proof.Steps.lean ====
module

public import proofs.«01_k».proof.Proof.Sum
public import Idealize.ShloMosaic.Lib.Pointwise

/-! # The exchanges one by one

The sums of `Sum`, exchange by exchange. -/

@[expose] public section

noncomputable section

namespace Cert.KernelIdeal.Bfly

open Idealize.ShloMosaic Idealize.ShloMosaic.TcCoe
open Cert.KernelIdeal.Gen

/-- The sum over all devices. -/
def total (P : Dev nD → Mat) : Mat := fun i => ∑ d : Dev nD, P d i

theorem Rep.all {P : Dev nD → Mat} {S : Dev nD → Dev nD → Bool} {lo hi : Dev nD → ℕ} {o : Dev nD → Mat} (h : Rep P S lo hi o)
    (hS : ∀ c d, S c d = true) (c : Dev nD) (i : S1024x1024.Idx) (h1 : lo c ≤ (i 0).val) (h2 : (i 0).val < hi c) : o c i = total P i := by
  rw [h c i h1 h2]
  exact Finset.sum_congr rfl fun d _ => by rw [if_pos (hS c d)]

/-- The partner in round `k` of half `h`. -/
def pt (h : Fin 2) (k : Fin 5) : Dev nD → Dev nD := par ⟨h, 0, k⟩

/-- Whose contributions device `c` has added after `k` rounds of half `h`. -/
def own : Dev nD → Dev nD → Bool := fun c d => decide (c = d)
abbrev grp1 (h : Fin 2) : Dev nD → Dev nD → Bool := join (pt h 0) own
abbrev grp2 (h : Fin 2) : Dev nD → Dev nD → Bool := join (pt h 1) (grp1 h)
abbrev grp3 (h : Fin 2) : Dev nD → Dev nD → Bool := join (pt h 2) (grp2 h)
abbrev grp4 (h : Fin 2) : Dev nD → Dev nD → Bool := join (pt h 3) (grp3 h)
abbrev grp5 (h : Fin 2) : Dev nD → Dev nD → Bool := join (pt h 4) (grp4 h)

theorem grp5_all (h : Fin 2) (c d : Dev nD) : grp5 h c d = true := by revert h c d; decide +kernel

theorem pay30_eq (v : Vec Ideal S256x1024 .f32) : k0_pay30 v = (v : S256x1024.Idx → EReal) := by
  funext j; pointwise [k0_pay30]

theorem pay51_eq (v : Vec Ideal S256x1024 .f32) (w : Vec Ideal S256x1024 .bf16) (j : S256x1024.Idx) : k0_pay51 v w j = (v j + w j : EReal) := by
  pointwise [k0_pay51]

theorem pay50_eq (v : Vec Ideal S256x1024 .f32) : k0_pay50 v = (v : S256x1024.Idx → EReal) := by
  funext j; pointwise [k0_pay50]

theorem pay53_eq (v : Vec Ideal S256x1024 .f32) (w : Vec Ideal S256x1024 .bf16) (j : S256x1024.Idx) : k0_pay53 v w j = (v j + w j : EReal) := by
  pointwise [k0_pay53]

theorem pay52_eq (v : Vec Ideal S128x1024 .f32) : k0_pay52 v = (v : S128x1024.Idx → EReal) := by
  funext j; pointwise [k0_pay52]

theorem pay55_eq (v : Vec Ideal S128x1024 .f32) (w : Vec Ideal S128x1024 .bf16) (j : S128x1024.Idx) : k0_pay55 v w j = (v j + w j : EReal) := by
  pointwise [k0_pay55]

theorem pay54_eq (v : Vec Ideal S128x1024 .f32) : k0_pay54 v = (v : S128x1024.Idx → EReal) := by
  funext j; pointwise [k0_pay54]

theorem pay57_eq (v : Vec Ideal S128x1024 .f32) (w : Vec Ideal S128x1024 .bf16) (j : S128x1024.Idx) : k0_pay57 v w j = (v j + w j : EReal) := by
  pointwise [k0_pay57]

theorem pay56_eq (v : Vec Ideal S64x1024 .f32) : k0_pay56 v = (v : S64x1024.Idx → EReal) := by
  funext j; pointwise [k0_pay56]

theorem pay59_eq (v : Vec Ideal S64x1024 .f32) (w : Vec Ideal S64x1024 .bf16) (j : S64x1024.Idx) : k0_pay59 v w j = (v j + w j : EReal) := by
  pointwise [k0_pay59]

theorem pay58_eq (v : Vec Ideal S64x1024 .f32) : k0_pay58 v = (v : S64x1024.Idx → EReal) := by
  funext j; pointwise [k0_pay58]

theorem pay61_eq (v : Vec Ideal S64x1024 .f32) (w : Vec Ideal S64x1024 .bf16) (j : S64x1024.Idx) : k0_pay61 v w j = (v j + w j : EReal) := by
  pointwise [k0_pay61]

theorem pay60_eq (v : Vec Ideal S32x1024 .f32) : k0_pay60 v = (v : S32x1024.Idx → EReal) := by
  funext j; pointwise [k0_pay60]

theorem pay63_eq (v : Vec Ideal S32x1024 .f32) (w : Vec Ideal S32x1024 .bf16) (j : S32x1024.Idx) : k0_pay63 v w j = (v j + w j : EReal) := by
  pointwise [k0_pay63]

theorem pay62_eq (v : Vec Ideal S32x1024 .f32) : k0_pay62 v = (v : S32x1024.Idx → EReal) := by
  funext j; pointwise [k0_pay62]

theorem pay65_eq (v : Vec Ideal S32x1024 .f32) (w : Vec Ideal S32x1024 .bf16) (j : S32x1024.Idx) : k0_pay65 v w j = (v j + w j : EReal) := by
  pointwise [k0_pay65]

theorem pay64_eq (v : Vec Ideal S16x1024 .f32) : k0_pay64 v = (v : S16x1024.Idx → EReal) := by
  funext j; pointwise [k0_pay64]

theorem pay69_eq (v : Vec Ideal S16x1024 .f32) (w : Vec Ideal S16x1024 .bf16) (j : S16x1024.Idx) : k0_pay69 v w j = (v j + w j : EReal) := by
  pointwise [k0_pay69]

theorem pay67_eq (v : FVec Ideal S16x1024 .bf16) : k0_pay67 v = (v : S16x1024.Idx → EReal) := by
  funext j; pointwise [k0_pay67]

theorem pay66_eq (v : Vec Ideal S16x1024 .f32) : k0_pay66 v = (v : S16x1024.Idx → EReal) := by
  funext j; pointwise [k0_pay66]

theorem pay71_eq (v : Vec Ideal S16x1024 .f32) (w : Vec Ideal S16x1024 .bf16) (j : S16x1024.Idx) : k0_pay71 v w j = (v j + w j : EReal) := by
  pointwise [k0_pay71]

theorem pay70_eq (v : Vec Ideal S16x1024 .f32) : k0_pay70 v = (v : S16x1024.Idx → EReal) := by
  funext j; pointwise [k0_pay70]

theorem pay73_eq (w : Vec Ideal S16x1024 .bf16) : k0_pay73 w = (w : S16x1024.Idx → EReal) := by
  funext j; pointwise [k0_pay73]

theorem pay72_eq (v : Vec Ideal S16x1024 .f32) : k0_pay72 v = (v : S16x1024.Idx → EReal) := by
  funext j; pointwise [k0_pay72]

theorem pay75_eq (w : Vec Ideal S16x1024 .bf16) : k0_pay75 w = (w : S16x1024.Idx → EReal) := by
  funext j; pointwise [k0_pay75]

theorem pay74_eq (v : Vec Ideal S32x1024 .f32) : k0_pay74 v = (v : S32x1024.Idx → EReal) := by
  funext j; pointwise [k0_pay74]

theorem pay77_eq (w : Vec Ideal S32x1024 .bf16) : k0_pay77 w = (w : S32x1024.Idx → EReal) := by
  funext j; pointwise [k0_pay77]

theorem pay76_eq (v : Vec Ideal S32x1024 .f32) : k0_pay76 v = (v : S32x1024.Idx → EReal) := by
  funext j; pointwise [k0_pay76]

theorem pay79_eq (w : Vec Ideal S32x1024 .bf16) : k0_pay79 w = (w : S32x1024.Idx → EReal) := by
  funext j; pointwise [k0_pay79]

theorem pay78_eq (v : Vec Ideal S64x1024 .f32) : k0_pay78 v = (v : S64x1024.Idx → EReal) := by
  funext j; pointwise [k0_pay78]

theorem pay81_eq (w : Vec Ideal S64x1024 .bf16) : k0_pay81 w = (w : S64x1024.Idx → EReal) := by
  funext j; pointwise [k0_pay81]

theorem pay80_eq (v : Vec Ideal S64x1024 .f32) : k0_pay80 v = (v : S64x1024.Idx → EReal) := by
  funext j; pointwise [k0_pay80]

theorem pay83_eq (w : Vec Ideal S64x1024 .bf16) : k0_pay83 w = (w : S64x1024.Idx → EReal) := by
  funext j; pointwise [k0_pay83]

theorem pay82_eq (v : Vec Ideal S128x1024 .f32) : k0_pay82 v = (v : S128x1024.Idx → EReal) := by
  funext j; pointwise [k0_pay82]

theorem pay85_eq (w : Vec Ideal S128x1024 .bf16) : k0_pay85 w = (w : S128x1024.Idx → EReal) := by
  funext j; pointwise [k0_pay85]

theorem pay84_eq (v : Vec Ideal S128x1024 .f32) : k0_pay84 v = (v : S128x1024.Idx → EReal) := by
  funext j; pointwise [k0_pay84]

theorem pay87_eq (w : Vec Ideal S128x1024 .bf16) : k0_pay87 w = (w : S128x1024.Idx → EReal) := by
  funext j; pointwise [k0_pay87]

theorem pay86_eq (v : Vec Ideal S256x1024 .f32) : k0_pay86 v = (v : S256x1024.Idx → EReal) := by
  funext j; pointwise [k0_pay86]

theorem pay89_eq (w : Vec Ideal S256x1024 .bf16) : k0_pay89 w = (w : S256x1024.Idx → EReal) := by
  funext j; pointwise [k0_pay89]

theorem pay88_eq (v : Vec Ideal S256x1024 .f32) : k0_pay88 v = (v : S256x1024.Idx → EReal) := by
  funext j; pointwise [k0_pay88]

theorem pay1_eq (w : Vec Ideal S256x1024 .bf16) : k0_pay1 w = (w : S256x1024.Idx → EReal) := by
  funext j; pointwise [k0_pay1]

theorem pay68_eq (v : Vec Ideal S16x1024 .f32) : k0_pay68 v = (v : S16x1024.Idx → EReal) := by
  funext j; pointwise [k0_pay68]

/-- The rows of the first message lie in the first half. -/
theorem off2_lt (c : Dev nD) : k0_off2 c 0 + 256 ≤ 512 := by revert c; decide +kernel

section
variable (PA P0 : Dev nD → OutC Ideal)

theorem rep0_0 : Rep P0 own (fun _ => 0) (fun _ => 512) (out0 PA P0) := fun c i _ _ => by
  simp [out0, own]

theorem rep1_0 : Rep P0 own (fun _ => 512) (fun _ => 1024) (out0 PA P0) := fun c i _ _ => by
  simp [out0, own]

variable (hPA : ∀ (c : Dev nD) (i : S1024x1024.Idx), (i 0).val < 512 → PA c i = P0 c i)
include hPA

theorem rep0_1 : Rep P0 (grp1 0) (fun c => k0_off4 c 0) (fun c => k0_off4 c 0 + 256) (out1 PA P0) :=
  Rep.add (n := 256) (par ⟨0, 0, 0⟩) k0_off4 k0_off2 (fun c => k0_off4_inb c) (fun c => k0_off2_inb c)
    (fun c => _)
    (rep0_0 PA P0) (rep0_0 PA P0)
    (by decide +kernel) (by decide +kernel) (fun c => rfl)
    (fun c j => by
      have hj : (j 0).val < 256 := (j 0).isLt
      have hPA' := hPA (par ⟨0, 0, 0⟩ c) ((Rect.unit (s := S1024x1024) (k0_off2 (par ⟨0, 0, 0⟩ c)) S256x1024.size (k0_off2_inb (par ⟨0, 0, 0⟩ c))).emb j)
        (by rw [ValueKit.rect_emb_unit_val]; have := off2_lt (par ⟨0, 0, 0⟩ c); omega)
      unfold msg0 snd0
      rw [pay51_eq, pay30_eq]
      exact congrArg₂ (· + ·) (readAt_rows _ _ _ _) hPA')

theorem rep1_1 : Rep P0 own (fun _ => 512) (fun _ => 1024) (out1 PA P0) :=
  Rep.keep (n := 256) k0_off4 (fun c => k0_off4_inb c) (fun c => _) (rep1_0 PA P0) (by decide +kernel) (fun c => rfl)

theorem rep1_2 : Rep P0 (grp1 1) (fun c => k0_off6 c 0) (fun c => k0_off6 c 0 + 256) (out2 PA P0) :=
  Rep.add (n := 256) (par ⟨1, 0, 0⟩) k0_off6 k0_off3 (fun c => k0_off6_inb c) (fun c => k0_off3_inb c)
    (fun c => _)
    (rep1_1 PA P0 hPA) (rep1_0 PA P0)
    (by decide +kernel) (by decide +kernel) (fun c => rfl)
    (fun c j => by
      unfold msg1 snd1
      rw [pay53_eq, pay50_eq]
      exact congrArg₂ (· + ·) (readAt_rows _ _ _ _) (readAt_rows _ _ _ _))

theorem rep0_2 : Rep P0 (grp1 0) (fun c => k0_off4 c 0) (fun c => k0_off4 c 0 + 256) (out2 PA P0) :=
  Rep.keep (n := 256) k0_off6 (fun c => k0_off6_inb c) (fun c => _) (rep0_1 PA P0 hPA) (by decide +kernel) (fun c => rfl)

theorem rep0_3 : Rep P0 (grp2 0) (fun c => k0_off8 c 0) (fun c => k0_off8 c 0 + 128) (out3 PA P0) :=
  Rep.add (n := 128) (par ⟨0, 0, 1⟩) k0_off8 k0_off5 (fun c => k0_off8_inb c) (fun c => k0_off5_inb c)
    (fun c => _)
    (rep0_2 PA P0 hPA) (rep0_1 PA P0 hPA)
    (by decide +kernel) (by decide +kernel) (fun c => rfl)
    (fun c j => by
      unfold msg2 snd2
      rw [pay55_eq, pay52_eq]
      exact congrArg₂ (· + ·) (readAt_rows _ _ _ _) (readAt_rows _ _ _ _))

theorem rep1_3 : Rep P0 (grp1 1) (fun c => k0_off6 c 0) (fun c => k0_off6 c 0 + 256) (out3 PA P0) :=
  Rep.keep (n := 128) k0_off8 (fun c => k0_off8_inb c) (fun c => _) (rep1_2 PA P0 hPA) (by decide +kernel) (fun c => rfl)

theorem rep1_4 : Rep P0 (grp2 1) (fun c => k0_off10 c 0) (fun c => k0_off10 c 0 + 128) (out4 PA P0) :=
  Rep.add (n := 128) (par ⟨1, 0, 1⟩) k0_off10 k0_off7 (fun c => k0_off10_inb c) (fun c => k0_off7_inb c)
    (fun c => _)
    (rep1_3 PA P0 hPA) (rep1_2 PA P0 hPA)
    (by decide +kernel) (by decide +kernel) (fun c => rfl)
    (fun c j => by
      unfold msg3 snd3
      rw [pay57_eq, pay54_eq]
      exact congrArg₂ (· + ·) (readAt_rows _ _ _ _) (readAt_rows _ _ _ _))

theorem rep0_4 : Rep P0 (grp2 0) (fun c => k0_off8 c 0) (fun c => k0_off8 c 0 + 128) (out4 PA P0) :=
  Rep.keep (n := 128) k0_off10 (fun c => k0_off10_inb c) (fun c => _) (rep0_3 PA P0 hPA) (by decide +kernel) (fun c => rfl)

theorem rep0_5 : Rep P0 (grp3 0) (fun c => k0_off12 c 0) (fun c => k0_off12 c 0 + 64) (out5 PA P0) :=
  Rep.add (n := 64) (par ⟨0, 0, 2⟩) k0_off12 k0_off9 (fun c => k0_off12_inb c) (fun c => k0_off9_inb c)
    (fun c => _)
    (rep0_4 PA P0 hPA) (rep0_3 PA P0 hPA)
    (by decide +kernel) (by decide +kernel) (fun c => rfl)
    (fun c j => by
      unfold msg4 snd4
      rw [pay59_eq, pay56_eq]
      exact congrArg₂ (· + ·) (readAt_rows _ _ _ _) (readAt_rows _ _ _ _))

theorem rep1_5 : Rep P0 (grp2 1) (fun c => k0_off10 c 0) (fun c => k0_off10 c 0 + 128) (out5 PA P0) :=
  Rep.keep (n := 64) k0_off12 (fun c => k0_off12_inb c) (fun c => _) (rep1_4 PA P0 hPA) (by decide +kernel) (fun c => rfl)

theorem rep1_6 : Rep P0 (grp3 1) (fun c => k0_off14 c 0) (fun c => k0_off14 c 0 + 64) (out6 PA P0) :=
  Rep.add (n := 64) (par ⟨1, 0, 2⟩) k0_off14 k0_off11 (fun c => k0_off14_inb c) (fun c => k0_off11_inb c)
    (fun c => _)
    (rep1_5 PA P0 hPA) (rep1_4 PA P0 hPA)
    (by decide +kernel) (by decide +kernel) (fun c => rfl)
    (fun c j => by
      unfold msg5 snd5
      rw [pay61_eq, pay58_eq]
      exact congrArg₂ (· + ·) (readAt_rows _ _ _ _) (readAt_rows _ _ _ _))

theorem rep0_6 : Rep P0 (grp3 0) (fun c => k0_off12 c 0) (fun c => k0_off12 c 0 + 64) (out6 PA P0) :=
  Rep.keep (n := 64) k0_off14 (fun c => k0_off14_inb c) (fun c => _) (rep0_5 PA P0 hPA) (by decide +kernel) (fun c => rfl)

theorem rep0_7 : Rep P0 (grp4 0) (fun c => k0_off16 c 0) (fun c => k0_off16 c 0 + 32) (out7 PA P0) :=
  Rep.add (n := 32) (par ⟨0, 0, 3⟩) k0_off16 k0_off13 (fun c => k0_off16_inb c) (fun c => k0_off13_inb c)
    (fun c => _)
    (rep0_6 PA P0 hPA) (rep0_5 PA P0 hPA)
    (by decide +kernel) (by decide +kernel) (fun c => rfl)
    (fun c j => by
      unfold msg6 snd6
      rw [pay63_eq, pay60_eq]
      exact congrArg₂ (· + ·) (readAt_rows _ _ _ _) (readAt_rows _ _ _ _))

theorem rep1_7 : Rep P0 (grp3 1) (fun c => k0_off14 c 0) (fun c => k0_off14 c 0 + 64) (out7 PA P0) :=
  Rep.keep (n := 32) k0_off16 (fun c => k0_off16_inb c) (fun c => _) (rep1_6 PA P0 hPA) (by decide +kernel) (fun c => rfl)

theorem rep1_8 : Rep P0 (grp4 1) (fun c => k0_off18 c 0) (fun c => k0_off18 c 0 + 32) (out8 PA P0) :=
  Rep.add (n := 32) (par ⟨1, 0, 3⟩) k0_off18 k0_off15 (fun c => k0_off18_inb c) (fun c => k0_off15_inb c)
    (fun c => _)
    (rep1_7 PA P0 hPA) (rep1_6 PA P0 hPA)
    (by decide +kernel) (by decide +kernel) (fun c => rfl)
    (fun c j => by
      unfold msg7 snd7
      rw [pay65_eq, pay62_eq]
      exact congrArg₂ (· + ·) (readAt_rows _ _ _ _) (readAt_rows _ _ _ _))

theorem rep0_8 : Rep P0 (grp4 0) (fun c => k0_off16 c 0) (fun c => k0_off16 c 0 + 32) (out8 PA P0) :=
  Rep.keep (n := 32) k0_off18 (fun c => k0_off18_inb c) (fun c => _) (rep0_7 PA P0 hPA) (by decide +kernel) (fun c => rfl)

theorem rep0_9 : Rep P0 (grp5 0) (fun c => k0_off20 c 0) (fun c => k0_off20 c 0 + 16) (out9 PA P0) :=
  Rep.add (n := 16) (par ⟨0, 0, 4⟩) k0_off20 k0_off17 (fun c => k0_off20_inb c) (fun c => k0_off17_inb c)
    (fun c => _)
    (rep0_8 PA P0 hPA) (rep0_7 PA P0 hPA)
    (by decide +kernel) (by decide +kernel) (fun c => rfl)
    (fun c j => by
      unfold msg8 snd8
      rw [pay69_eq, pay68_eq, pay64_eq]
      exact congrArg₂ (· + ·) (readAt_rows _ _ _ _) (readAt_rows _ _ _ _))

theorem rep1_9 : Rep P0 (grp4 1) (fun c => k0_off18 c 0) (fun c => k0_off18 c 0 + 32) (out9 PA P0) :=
  Rep.keep (n := 16) k0_off20 (fun c => k0_off20_inb c) (fun c => _) (rep1_8 PA P0 hPA) (by decide +kernel) (fun c => rfl)

theorem rep1_10 : Rep P0 (grp5 1) (fun c => k0_off21 c 0) (fun c => k0_off21 c 0 + 16) (out10 PA P0) :=
  Rep.add (n := 16) (par ⟨1, 0, 4⟩) k0_off21 k0_off19 (fun c => k0_off21_inb c) (fun c => k0_off19_inb c)
    (fun c => _)
    (rep1_9 PA P0 hPA) (rep1_8 PA P0 hPA)
    (by decide +kernel) (by decide +kernel) (fun c => rfl)
    (fun c j => by
      unfold msg9 snd9
      rw [pay71_eq, pay67_eq, pay66_eq]
      exact congrArg₂ (· + ·) (readAt_rows _ _ _ _) (readAt_rows _ _ _ _))

theorem rep0_10 : Rep P0 (grp5 0) (fun c => k0_off20 c 0) (fun c => k0_off20 c 0 + 16) (out10 PA P0) :=
  Rep.keep (n := 16) k0_off21 (fun c => k0_off21_inb c) (fun c => _) (rep0_9 PA P0 hPA) (by decide +kernel) (fun c => rfl)

theorem rep0_11 : Rep P0 (grp5 0) (fun c => k0_off16 c 0) (fun c => k0_off16 c 0 + 32) (out11 PA P0) :=
  Rep.copy (n := 16) (par ⟨0, 1, 4⟩) k0_off22 k0_off20 (fun c => k0_off16 c 0) (fun c => k0_off16 c 0 + 32) (fun c => k0_off22_inb c) (fun c => k0_off20_inb c)
    (fun c => _)
    (rep0_10 PA P0 hPA) (rep0_9 PA P0 hPA)
    (by decide +kernel) (by decide +kernel) (fun c => rfl)
    (fun c j => by
      unfold msg10 snd10
      rw [pay73_eq, pay70_eq]
      exact readAt_rows _ _ _ _)

theorem rep1_11 : Rep P0 (grp5 1) (fun c => k0_off21 c 0) (fun c => k0_off21 c 0 + 16) (out11 PA P0) :=
  Rep.keep (n := 16) k0_off22 (fun c => k0_off22_inb c) (fun c => _) (rep1_10 PA P0 hPA) (by decide +kernel) (fun c => rfl)

theorem rep1_12 : Rep P0 (grp5 1) (fun c => k0_off18 c 0) (fun c => k0_off18 c 0 + 32) (out12 PA P0) :=
  Rep.copy (n := 16) (par ⟨1, 1, 4⟩) k0_off24 k0_off21 (fun c => k0_off18 c 0) (fun c => k0_off18 c 0 + 32) (fun c => k0_off24_inb c) (fun c => k0_off21_inb c)
    (fun c => _)
    (rep1_11 PA P0 hPA) (rep1_10 PA P0 hPA)
    (by decide +kernel) (by decide +kernel) (fun c => rfl)
    (fun c j => by
      unfold msg11 snd11
      rw [pay75_eq, pay72_eq]
      exact readAt_rows _ _ _ _)

theorem rep0_12 : Rep P0 (grp5 0) (fun c => k0_off16 c 0) (fun c => k0_off16 c 0 + 32) (out12 PA P0) :=
  Rep.keep (n := 16) k0_off24 (fun c => k0_off24_inb c) (fun c => _) (rep0_11 PA P0 hPA) (by decide +kernel) (fun c => rfl)

theorem rep0_13 : Rep P0 (grp5 0) (fun c => k0_off12 c 0) (fun c => k0_off12 c 0 + 64) (out13 PA P0) :=
  Rep.copy (n := 32) (par ⟨0, 1, 3⟩) k0_off26 k0_off23 (fun c => k0_off12 c 0) (fun c => k0_off12 c 0 + 64) (fun c => k0_off26_inb c) (fun c => k0_off23_inb c)
    (fun c => _)
    (rep0_12 PA P0 hPA) (rep0_11 PA P0 hPA)
    (by decide +kernel) (by decide +kernel) (fun c => rfl)
    (fun c j => by
      unfold msg12 snd12
      rw [pay77_eq, pay74_eq]
      exact readAt_rows _ _ _ _)

theorem rep1_13 : Rep P0 (grp5 1) (fun c => k0_off18 c 0) (fun c => k0_off18 c 0 + 32) (out13 PA P0) :=
  Rep.keep (n := 32) k0_off26 (fun c => k0_off26_inb c) (fun c => _) (rep1_12 PA P0 hPA) (by decide +kernel) (fun c => rfl)

theorem rep1_14 : Rep P0 (grp5 1) (fun c => k0_off14 c 0) (fun c => k0_off14 c 0 + 64) (out14 PA P0) :=
  Rep.copy (n := 32) (par ⟨1, 1, 3⟩) k0_off28 k0_off25 (fun c => k0_off14 c 0) (fun c => k0_off14 c 0 + 64) (fun c => k0_off28_inb c) (fun c => k0_off25_inb c)
    (fun c => _)
    (rep1_13 PA P0 hPA) (rep1_12 PA P0 hPA)
    (by decide +kernel) (by decide +kernel) (fun c => rfl)
    (fun c j => by
      unfold msg13 snd13
      rw [pay79_eq, pay76_eq]
      exact readAt_rows _ _ _ _)

theorem rep0_14 : Rep P0 (grp5 0) (fun c => k0_off12 c 0) (fun c => k0_off12 c 0 + 64) (out14 PA P0) :=
  Rep.keep (n := 32) k0_off28 (fun c => k0_off28_inb c) (fun c => _) (rep0_13 PA P0 hPA) (by decide +kernel) (fun c => rfl)

theorem rep0_15 : Rep P0 (grp5 0) (fun c => k0_off8 c 0) (fun c => k0_off8 c 0 + 128) (out15 PA P0) :=
  Rep.copy (n := 64) (par ⟨0, 1, 2⟩) k0_off30 k0_off27 (fun c => k0_off8 c 0) (fun c => k0_off8 c 0 + 128) (fun c => k0_off30_inb c) (fun c => k0_off27_inb c)
    (fun c => _)
    (rep0_14 PA P0 hPA) (rep0_13 PA P0 hPA)
    (by decide +kernel) (by decide +kernel) (fun c => rfl)
    (fun c j => by
      unfold msg14 snd14
      rw [pay81_eq, pay78_eq]
      exact readAt_rows _ _ _ _)

theorem rep1_15 : Rep P0 (grp5 1) (fun c => k0_off14 c 0) (fun c => k0_off14 c 0 + 64) (out15 PA P0) :=
  Rep.keep (n := 64) k0_off30 (fun c => k0_off30_inb c) (fun c => _) (rep1_14 PA P0 hPA) (by decide +kernel) (fun c => rfl)

theorem rep1_16 : Rep P0 (grp5 1) (fun c => k0_off10 c 0) (fun c => k0_off10 c 0 + 128) (out16 PA P0) :=
  Rep.copy (n := 64) (par ⟨1, 1, 2⟩) k0_off32 k0_off29 (fun c => k0_off10 c 0) (fun c => k0_off10 c 0 + 128) (fun c => k0_off32_inb c) (fun c => k0_off29_inb c)
    (fun c => _)
    (rep1_15 PA P0 hPA) (rep1_14 PA P0 hPA)
    (by decide +kernel) (by decide +kernel) (fun c => rfl)
    (fun c j => by
      unfold msg15 snd15
      rw [pay83_eq, pay80_eq]
      exact readAt_rows _ _ _ _)

theorem rep0_16 : Rep P0 (grp5 0) (fun c => k0_off8 c 0) (fun c => k0_off8 c 0 + 128) (out16 PA P0) :=
  Rep.keep (n := 64) k0_off32 (fun c => k0_off32_inb c) (fun c => _) (rep0_15 PA P0 hPA) (by decide +kernel) (fun c => rfl)

theorem rep0_17 : Rep P0 (grp5 0) (fun c => k0_off4 c 0) (fun c => k0_off4 c 0 + 256) (out17 PA P0) :=
  Rep.copy (n := 128) (par ⟨0, 1, 1⟩) k0_off34 k0_off31 (fun c => k0_off4 c 0) (fun c => k0_off4 c 0 + 256) (fun c => k0_off34_inb c) (fun c => k0_off31_inb c)
    (fun c => _)
    (rep0_16 PA P0 hPA) (rep0_15 PA P0 hPA)
    (by decide +kernel) (by decide +kernel) (fun c => rfl)
    (fun c j => by
      unfold msg16 snd16
      rw [pay85_eq, pay82_eq]
      exact readAt_rows _ _ _ _)

theorem rep1_17 : Rep P0 (grp5 1) (fun c => k0_off10 c 0) (fun c => k0_off10 c 0 + 128) (out17 PA P0) :=
  Rep.keep (n := 128) k0_off34 (fun c => k0_off34_inb c) (fun c => _) (rep1_16 PA P0 hPA) (by decide +kernel) (fun c => rfl)

theorem rep1_18 : Rep P0 (grp5 1) (fun c => k0_off6 c 0) (fun c => k0_off6 c 0 + 256) (out18 PA P0) :=
  Rep.copy (n := 128) (par ⟨1, 1, 1⟩) k0_off36 k0_off33 (fun c => k0_off6 c 0) (fun c => k0_off6 c 0 + 256) (fun c => k0_off36_inb c) (fun c => k0_off33_inb c)
    (fun c => _)
    (rep1_17 PA P0 hPA) (rep1_16 PA P0 hPA)
    (by decide +kernel) (by decide +kernel) (fun c => rfl)
    (fun c j => by
      unfold msg17 snd17
      rw [pay87_eq, pay84_eq]
      exact readAt_rows _ _ _ _)

theorem rep0_18 : Rep P0 (grp5 0) (fun c => k0_off4 c 0) (fun c => k0_off4 c 0 + 256) (out18 PA P0) :=
  Rep.keep (n := 128) k0_off36 (fun c => k0_off36_inb c) (fun c => _) (rep0_17 PA P0 hPA) (by decide +kernel) (fun c => rfl)

theorem rep0_19 : Rep P0 (grp5 0) (fun _ => 0) (fun _ => 512) (out19 PA P0) :=
  Rep.copy (n := 256) (par ⟨0, 1, 0⟩) k0_off38 k0_off35 (fun _ => 0) (fun _ => 512) (fun c => k0_off38_inb c) (fun c => k0_off35_inb c)
    (fun c => _)
    (rep0_18 PA P0 hPA) (rep0_17 PA P0 hPA)
    (by decide +kernel) (by decide +kernel) (fun c => rfl)
    (fun c j => by
      unfold msg18 snd18
      rw [pay89_eq, pay86_eq]
      exact readAt_rows _ _ _ _)

theorem rep1_19 : Rep P0 (grp5 1) (fun c => k0_off6 c 0) (fun c => k0_off6 c 0 + 256) (out19 PA P0) :=
  Rep.keep (n := 256) k0_off38 (fun c => k0_off38_inb c) (fun c => _) (rep1_18 PA P0 hPA) (by decide +kernel) (fun c => rfl)

theorem rep1_20 : Rep P0 (grp5 1) (fun _ => 512) (fun _ => 1024) (out20 PA P0) :=
  Rep.copy (n := 256) (par ⟨1, 1, 0⟩) k0_off39 k0_off37 (fun _ => 512) (fun _ => 1024) (fun c => k0_off39_inb c) (fun c => k0_off37_inb c)
    (fun c => _)
    (rep1_19 PA P0 hPA) (rep1_18 PA P0 hPA)
    (by decide +kernel) (by decide +kernel) (fun c => rfl)
    (fun c j => by
      unfold msg19 snd19
      rw [pay1_eq, pay88_eq]
      exact readAt_rows _ _ _ _)

theorem rep0_20 : Rep P0 (grp5 0) (fun _ => 0) (fun _ => 512) (out20 PA P0) :=
  Rep.keep (n := 256) k0_off39 (fun c => k0_off39_inb c) (fun c => _) (rep0_19 PA P0 hPA) (by decide +kernel) (fun c => rfl)

/-- After the last exchange every device holds the sum over all devices. -/
theorem out20_eq (c : Dev nD) : out20 PA P0 c = total P0 := by
  funext i
  by_cases h : (i 0).val < 512
  · exact Rep.all (rep0_20 PA P0 hPA) (grp5_all 0) c i (Nat.zero_le _) h
  · exact Rep.all (rep1_20 PA P0 hPA) (grp5_all 1) c i (Nat.le_of_not_lt h) (i 0).isLt

end

end Cert.KernelIdeal.Bfly
-- ==== Proof.Equation.lean ====
module

public import proofs.«01_k».proof.Proof.Part
public import proofs.«01_k».proof.Proof.Entry
public import proofs.«01_k».proof.Proof.Softmax
public import proofs.«01_k».proof.Proof.RefMask
public import proofs.«01_k».proof.Proof.Steps
public import proofs.«01_k».proof.Proof.Data
public import Idealize.ShloMosaic.Lib.Layout
public import Idealize.ShloMosaic.Lib.Pipeline.ValueKit.Acc

/-! # The kernel's result is the reference's

The sum of the devices' contributions against the reference's output, index by index, for finite arguments. -/

@[expose] public section

noncomputable section

namespace Cert.KernelIdeal.Bfly

open Idealize.ShloMosaic Idealize.ShloMosaic.TcCoe
open Cert.KernelIdeal.Gen
open Cert.ReferenceIdeal.Value

/-- Whether the query of row `r` sees key `j`. -/
def vis (r j : ℕ) : Bool := decide (j / 64 ≤ r / 64)

theorem mskAt_eq (r j : ℕ) : mskAt r j = if vis r j then (0 : EReal) else ⊥ := by
  unfold mskAt vis
  by_cases h : j / 64 ≤ r / 64
  · rw [if_pos h, decide_eq_true h]; rfl
  · rw [if_neg h, decide_eq_false h]; rfl

/-- The scale of the scores. -/
def scale : ℝ := (Ideal.ofBits .f32 0x3DB504F3#32).toReal

theorem scale_eq : Ideal.ofBits .f32 0x3DB504F3#32 = (scale : EReal) :=
  (EReal.coe_toReal (by simp [Ideal.ofBits, Ideal.ieee, -EReal.coe_mul]) (by simp [Ideal.ofBits, Ideal.ieee, -EReal.coe_mul])).symm

theorem negInf_eq : Ideal.ofBits .f32 0xFF800000#32 = (⊥ : EReal) := by simp [Ideal.ofBits, Ideal.ieee]

/-- A head of the reference's output, on real numbers. -/
theorem ref_ctx (x : (⟨3, ![1, 1024, 1024]⟩ : Shape).Idx → EReal) (w : (⟨2, ![1024, 32768]⟩ : Shape).Idx → EReal) (k v : (⟨4, ![1, 1024, 256, 128]⟩ : Shape).Idx → EReal)
    (r : Fin 1024) (h : Fin 256) (e : Fin 128) (Q : Fin 128 → ℝ) (K : Fin 1024 → Fin 128 → ℝ) (V : Fin 1024 → ℝ)
    (hq : ∀ t, rQ x w (ix4 0 r h t) = (Q t : EReal)) (hk : ∀ j t, k (ix4 0 j h t) = (K j t : EReal)) (hv : ∀ j, v (ix4 0 j h e) = (V j : EReal)) :
    (∑ j : Fin 1024, v (ix4 0 j h e) * rW (rE (rS (rQ x w) k) (rM (rS (rQ x w) k))) (ix4 0 h r j) : EReal)
      = ((rattn (fun j => (∑ t : Fin 128, Q t * K j t) * scale) (fun j => vis r.val j.val) V : ℝ) : EReal) := by
  have hS : ∀ j : Fin 1024, rS (rQ x w) k (ix4 0 h r j) = if vis r.val j.val then (((∑ t : Fin 128, Q t * K j t) * scale : ℝ) : EReal) else ⊥ := fun j => by
    rw [rS_apply, rMask_apply, negInf_eq, scale_eq]
    have hs : (∑ t : Fin 128, rQ x w (ix4 0 r h t) * k (ix4 0 j h t) : EReal) = ((∑ t : Fin 128, Q t * K j t : ℝ) : EReal) := by
      rw [← coe_sum]
      exact Finset.sum_congr rfl fun t _ => by rw [hq, hk, EReal.coe_mul]
    rw [hs, ← EReal.coe_mul]
    unfold vis
    by_cases hj : j.val / 64 ≤ r.val / 64
    · rw [if_pos hj, decide_eq_true hj]; rfl
    · rw [if_neg hj, decide_eq_false hj]; rfl
  refine Eq.trans (Finset.sum_congr rfl fun j _ => ?_) (ref_real (fun j => (∑ t : Fin 128, Q t * K j t) * scale) V (fun j => vis r.val j.val) 0
    (decide_eq_true (Nat.zero_le _)) (fun j => rS (rQ x w) k (ix4 0 h r j)) hS)
  rw [rW_apply _ _ _ _ (rAny_apply r), hv, rE_apply, rM_apply, negInf_eq]
  exact congrArg (fun z => (V j : EReal) * Ideal.div _ z) (Finset.sum_congr rfl fun j' _ => by rw [rE_apply, rM_apply, negInf_eq])

/-- A head of the kernel's, on real numbers. -/
theorem ctx_real (n : ℕ) (hn : n ≤ 1024) (hpos : 0 < n) (xs wq kb vb : S1024x1024.Idx → EReal) (r : Fin 1024) (h : Fin 8) (e : Fin 128)
    (Q : Fin 128 → ℝ) (K : Fin 1024 → Fin 128 → ℝ) (V : Fin 1024 → Fin 128 → ℝ)
    (hq : ∀ t, qAt xs wq r (col h t) = (Q t : EReal)) (hk : ∀ j t, kb (ix2 j (col h t)) = (K j t : EReal)) (hv : ∀ j t, vb (ix2 j (col h t)) = (V j t : EReal)) :
    ctxAt n hn xs wq kb vb r h e
      = ((rattn (fun j : Fin n => ∑ t : Fin 128, Q t * K ⟨j.val, lt_of_lt_of_le j.isLt hn⟩ t) (fun j => vis r.val j.val) (fun j => V ⟨j.val, lt_of_lt_of_le j.isLt hn⟩ e) : ℝ) : EReal) := by
  unfold ctxAt
  simp only [hq, hk, hv, mskAt_eq]
  exact attn_real Q (fun j => K ⟨j.val, lt_of_lt_of_le j.isLt hn⟩) (fun j => V ⟨j.val, lt_of_lt_of_le j.isLt hn⟩) (fun j => vis r.val j.val) e ⟨0, hpos⟩
    (decide_eq_true (show 0 / 64 ≤ r.val / 64 by omega))

/-- Both halves give the attention over all keys. -/
theorem ctx_half (xs wq kb vb : S1024x1024.Idx → EReal) (r : Fin 1024) (h : Fin 8) (e : Fin 128)
    (Q : Fin 128 → ℝ) (K : Fin 1024 → Fin 128 → ℝ) (V : Fin 1024 → Fin 128 → ℝ)
    (hq : ∀ t, qAt xs wq r (col h t) = (Q t : EReal)) (hk : ∀ j t, kb (ix2 j (col h t)) = (K j t : EReal)) (hv : ∀ j t, vb (ix2 j (col h t)) = (V j t : EReal))
    (n : ℕ) (hn : n ≤ 1024) (hr : n = 512 ∧ r.val < 512 ∨ n = 1024) :
    ctxAt n hn xs wq kb vb r h e = ((rattn (fun j => ∑ t : Fin 128, Q t * K j t) (fun j => vis r.val j.val) (fun j => V j e) : ℝ) : EReal) := by
  rcases hr with ⟨rfl, hr⟩ | rfl
  · rw [ctx_real 512 hn (by decide) xs wq kb vb r h e Q K V hq hk hv]
    exact congrArg _ (rattn_half (fun j => ∑ t : Fin 128, Q t * K j t) (fun j => vis r.val j.val) (fun j => V j e)
      fun j hj => decide_eq_false (by omega))
  · exact ctx_real 1024 hn (by decide) xs wq kb vb r h e Q K V hq hk hv

/-- A head of a device's contribution is the head of the reference's output. -/
theorem ctx_eq (xs wq kb vb : S1024x1024.Idx → EReal) (x : (⟨3, ![1, 1024, 1024]⟩ : Shape).Idx → EReal) (w : (⟨2, ![1024, 32768]⟩ : Shape).Idx → EReal)
    (k v : (⟨4, ![1, 1024, 256, 128]⟩ : Shape).Idx → EReal) (r : Fin 1024) (h : Fin 8) (H : Fin 256) (e : Fin 128)
    (X : Fin 1024 → ℝ) (W : Fin 1024 → Fin 128 → ℝ) (K V : Fin 1024 → Fin 128 → ℝ)
    (hx : ∀ t, x (ix3 0 r t) = (X t : EReal)) (hw : ∀ t c, w (ix2 t ⟨H.val * 128 + c.val, by omega⟩) = (W t c : EReal))
    (hk : ∀ j t, k (ix4 0 j H t) = (K j t : EReal)) (hv : ∀ j t, v (ix4 0 j H t) = (V j t : EReal))
    (hxs : ∀ t, xs (ix2 r t) = (X t : EReal)) (hwq : ∀ t c, wq (ix2 t (col h c)) = (W t c : EReal) * (scale : EReal))
    (hkb : ∀ j t, kb (ix2 j (col h t)) = (K j t : EReal)) (hvb : ∀ j t, vb (ix2 j (col h t)) = (V j t : EReal))
    (n : ℕ) (hn : n ≤ 1024) (hr : n = 512 ∧ r.val < 512 ∨ n = 1024) :
    ctxAt n hn xs wq kb vb r h e = (∑ j : Fin 1024, v (ix4 0 j H e) * rW (rE (rS (rQ x w) k) (rM (rS (rQ x w) k))) (ix4 0 H r j) : EReal) := by
  rw [ref_ctx x w k v r H e (fun t => ∑ m : Fin 1024, X m * W m t) K (fun j => V j e)
    (fun t => by
      rw [rQ_apply, ← coe_sum]
      exact Finset.sum_congr rfl fun m _ => by rw [hx, hw, EReal.coe_mul]) hk (fun j => hv j e)]
  rw [ctx_half xs wq kb vb r h e (fun t => (∑ m : Fin 1024, X m * W m t) * scale) K V
    (fun t => by
      unfold qAt
      rw [Finset.sum_mul, ← coe_sum]
      exact Finset.sum_congr rfl fun m _ => by rw [hxs, hwq, ← EReal.coe_mul, ← EReal.coe_mul, mul_assoc]) hkb hvb n hn hr]
  refine congrArg (fun a => ((rattn a _ _ : ℝ) : EReal)) (funext fun j => ?_)
  rw [Finset.sum_mul]
  exact Finset.sum_congr rfl fun t _ => by ring

variable (m : (ℓ : Loc nD τ sig) → Buf (Elt Ideal) ℓ)

/-- The two readings of a device's contribution's rows. -/
theorem P0_apply (d : Dev nD) (r c : Fin 1024) :
    ∃ (n : ℕ) (hn : n ≤ 1024), (n = 512 ∧ r.val < 512 ∨ n = 1024) ∧ (P0 m d : S1024x1024.Idx → EReal) (ix2 r c)
      = partAt n hn (V1 m d main_v6) (V1 m d main_v9) (V1 m d main_v10) (kBuf (V1 m d main_v11) d) (vBuf (V1 m d main_v12) d) r c := by
  by_cases h : r.val < 512
  · exact ⟨512, by decide, .inl ⟨rfl, h⟩, outB_top (V1 m d main_v6) (V1 m d main_v9) (V1 m d main_v10) (kBuf (V1 m d main_v11) d) (vBuf (V1 m d main_v12) d) ⟨r.val, h⟩ c⟩
  · refine ⟨1024, le_rfl, .inr rfl, ?_⟩
    have hi : (⟨512 + (⟨r.val - 512, by omega⟩ : Fin 512).val, by show 512 + (r.val - 512) < 1024; omega⟩ : Fin 1024) = r :=
      Fin.ext (by show 512 + (r.val - 512) = r.val; omega)
    have hb := outB_bot (V1 m d main_v6) (V1 m d main_v9) (V1 m d main_v10) (kBuf (V1 m d main_v11) d) (vBuf (V1 m d main_v12) d) ⟨r.val - 512, by omega⟩ c
    rwa [hi] at hb

theorem total_congr (P : Dev nD → Mat) (i : S1024x1024.Idx) (f : Dev nD → EReal) (h : ∀ d, P d i = f d) : total P i = ∑ d : Dev nD, f d :=
  Finset.sum_congr rfl fun d _ => h d

/-- The sum of the contributions is the reference's output. -/
theorem total_eq (x : (⟨3, ![1, 1024, 1024]⟩ : Shape).Idx → EReal) (w : (⟨2, ![1024, 32768]⟩ : Shape).Idx → EReal)
    (k v : (⟨4, ![1, 1024, 256, 128]⟩ : Shape).Idx → EReal) (wo : (⟨2, ![32768, 1024]⟩ : Shape).Idx → EReal)
    (hx : ∀ d, A0 m d = x) (hw : ∀ d : Dev nD, A1 m d = Layout.block ⟨2, ![1024, 1024]⟩ ⟨2, ![1024, 32768]⟩ 1 32 d w)
    (hk : ∀ d, A2 m d = k) (hv : ∀ d, A3 m d = v) (ho : ∀ d : Dev nD, A4 m d = Layout.block ⟨2, ![1024, 1024]⟩ ⟨2, ![32768, 1024]⟩ 0 32 d wo)
    (fx : ∀ i, ((EReal.toReal (x i) : ℝ) : EReal) = x i) (fw : ∀ d i, ((EReal.toReal (A1 m d i) : ℝ) : EReal) = A1 m d i)
    (fk : ∀ i, ((EReal.toReal (k i) : ℝ) : EReal) = k i) (fv : ∀ i, ((EReal.toReal (v i) : ℝ) : EReal) = v i) (r c : Fin 1024) :
    total (P0 m) (ix2 r c) = rOut x w k v wo (ix3 0 r c) := by
  have hW : ∀ (d : Dev nD) (t c' : Fin 1024), A1 m d (ix2 t c') = w (ix2 t ⟨d.val * 1024 + c'.val, by have h : d.val < 32 := d.isLt; omega⟩) := fun d t c' => by
    rw [hw d]
    refine congrArg w (funext fun a => ?_)
    match a with
    | ⟨0, _⟩ => rfl
    | ⟨1, _⟩ => rfl
  have hO : ∀ (d : Dev nD) (t c' : Fin 1024), A4 m d (ix2 t c') = wo (ix2 ⟨d.val * 1024 + t.val, by have h : d.val < 32 := d.isLt; omega⟩ c') := fun d t c' => by
    rw [ho d]
    refine congrArg wo (funext fun a => ?_)
    match a with
    | ⟨0, _⟩ => rfl
    | ⟨1, _⟩ => rfl
  rw [rOut_apply]
  refine Eq.trans ?_ (Fin.sum_mul_add_fin 32 1024 (fun t : Fin 32768 => (rC v (rW (rE (rS (rQ x w) k) (rM (rS (rQ x w) k)))) (ix3 0 r t) * wo (ix2 t c) : EReal)) rfl)
  refine total_congr (P0 m) (ix2 r c) _ fun d => ?_
  have hd : d.val < 32 := d.isLt
  obtain ⟨n, hn, hr, e⟩ := P0_apply m d r c
  refine Eq.trans (α := EReal) e ?_
  unfold partAt
  refine Finset.sum_congr rfl fun t _ => ?_
  rw [V1_10_apply m d (ix2 t c), hO d t c, rC_apply]
  refine congrArg (· * wo _) ?_
  have hH : (⟨(d.val * 1024 + t.val) / 128, by omega⟩ : Fin 256) = ⟨8 * d.val + t.val / 128, by omega⟩ :=
    Fin.ext (by show (d.val * 1024 + t.val) / 128 = 8 * d.val + t.val / 128; omega)
  have hE : (⟨(d.val * 1024 + t.val) % 128, by omega⟩ : Fin 128) = ⟨t.val % 128, by omega⟩ :=
    Fin.ext (by show (d.val * 1024 + t.val) % 128 = t.val % 128; omega)
  rw [hH, hE]
  have hcol : ∀ (s : Fin 1024) (e' : Fin 128), w (ix2 s ⟨(8 * d.val + t.val / 128) * 128 + e'.val, by omega⟩) = A1 m d (ix2 s (col ⟨t.val / 128, by omega⟩ e')) := fun s e' => by
    rw [hW d]
    exact congrArg (fun z => w (ix2 s z)) (Fin.ext (by show (8 * d.val + t.val / 128) * 128 + e'.val = d.val * 1024 + (128 * (t.val / 128) + e'.val); omega))
  refine ctx_eq _ _ _ _ x w k v r ⟨t.val / 128, by omega⟩ ⟨8 * d.val + t.val / 128, by omega⟩ ⟨t.val % 128, by omega⟩
    (fun s => (x (ix3 0 r s)).toReal) (fun s e' => (A1 m d (ix2 s (col ⟨t.val / 128, by omega⟩ e'))).toReal)
    (fun j e' => (k (ix4 0 j ⟨8 * d.val + t.val / 128, by omega⟩ e')).toReal) (fun j e' => (v (ix4 0 j ⟨8 * d.val + t.val / 128, by omega⟩ e')).toReal)
    (fun s => (fx _).symm) (fun s e' => (hcol s e').trans (fw d _).symm) (fun j e' => (fk _).symm) (fun j e' => (fv _).symm)
    (fun s => ?_) (fun s e' => ?_) (fun j e' => ?_) (fun j e' => ?_) n hn hr
  · rw [V1_6_apply, hx d]; exact (fx _).symm
  · rw [V1_9_apply, scale_eq, fw d]
  · rw [keys_apply, hk d]; exact (fk _).symm
  · rw [values_apply, hv d]; exact (fv _).symm

end Cert.KernelIdeal.Bfly
-- ==== Proof.Finite.lean ====
module

public import proofs.«01_k».proof.Defs
public import proofs.«01_k».proof.Proof.Gen.Pre_finite_KernelIdeal
public import Idealize.ShloMosaic.Lib.ReduceAll
public import Idealize.ShloMosaic.Lib.KernelVsHost
public import Idealize.ShloMosaic.Lib.Pointwise

/-! # What the precondition says

Every number of every argument is finite. -/

@[expose] public section

noncomputable section

namespace Cert.Pre_finite_KernelIdeal

open Idealize.ShloMosaic Idealize.ShloMosaic.TcCoe

theorem of_olt (x : EReal) (h : FloatOps.cmpf (F := Ideal) (φ := .f32) .olt (FloatOps.hostAbsf (F := Ideal) (φ := .f32) x) (FloatOps.ofBits (F := Ideal) .f32 0x7F800000#32) = 1#1) :
    ((x.toReal : ℝ) : EReal) = x := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  unfold Ideal.cmp at h'
  have hl : max x (-x) < ⊤ := by
    by_contra hn
    simp [hn] at h'
  rw [max_lt_iff] at hl
  refine EReal.coe_toReal hl.1.ne fun hb => ?_
  rw [hb] at hl
  simp at hl

theorem and_one (a b : BitVec 1) (h : IntOp.andi a b = 1#1) : a = 1#1 ∧ b = 1#1 := by
  revert a b; decide

/-- Every number of the five arguments is finite. -/
theorem finite_of_fn [Facts] (a0 : FVec Ideal S1x1024x1024 .f32) (a1 : FVec Ideal S1024x1024 .f32) (a2 a3 : FVec Ideal S1x1024x256x128 .f32) (a4 : FVec Ideal S1024x1024 .f32)
    (h : fn (F := Ideal) a0 a1 a2 a3 a4 = fun _ => 1#1) :
    (∀ i, ((EReal.toReal (a0 i) : ℝ) : EReal) = a0 i) ∧ (∀ i, ((EReal.toReal (a1 i) : ℝ) : EReal) = a1 i) ∧ (∀ i, ((EReal.toReal (a2 i) : ℝ) : EReal) = a2 i)
      ∧ (∀ i, ((EReal.toReal (a3 i) : ℝ) : EReal) = a3 i) ∧ (∀ i, ((EReal.toReal (a4 i) : ℝ) : EReal) = a4 i) := by
  have h0 := congrFun h ix0
  dsimp only [fn, fn_part1] at h0
  obtain ⟨h0, e4⟩ := and_one _ _ h0
  obtain ⟨h0, e3⟩ := and_one _ _ h0
  obtain ⟨h0, e2⟩ := and_one _ _ h0
  obtain ⟨e0, e1⟩ := and_one _ _ h0
  exact ⟨fun i => of_olt _ (Host.reduce_andi_all _ _ _ _ _ e0 i), fun i => of_olt _ (Host.reduce_andi_all _ _ _ _ _ e1 i), fun i => of_olt _ (Host.reduce_andi_all _ _ _ _ _ e2 i),
    fun i => of_olt _ (Host.reduce_andi_all _ _ _ _ _ e3 i), fun i => of_olt _ (Host.reduce_andi_all _ _ _ _ _ e4 i)⟩

end Cert.Pre_finite_KernelIdeal
-- ==== Proof.Algebraic.lean ====
module

public import proofs.«01_k».proof.Proof.Equation
public import proofs.«01_k».proof.Proof.Finite
public import proofs.«01_k».proof.Proof.Whole
public import Idealize.ShloMosaic.Lib.Claim

/-! # The kernel computes what the reference computes

Over the extended reals, for finite arguments, every device ends with the reference's output. -/

@[expose] public section

noncomputable section

namespace Cert.KernelIdeal.Bfly

open Idealize.ShloMosaic Idealize.ShloMosaic.TcCoe
open Cert.KernelIdeal.Gen

variable (m : (ℓ : Loc nD τ sig) → Buf (Elt Ideal) ℓ)

/-- The last host operation gives the result a leading axis. -/
theorem V3_14 (c : Dev nD) : V3 m (outs m) c main_v14 = broadcastInDim S1x1024x1024 ![1, 2] bcast_S1024x1024_S1x1024x1024_1_2 (res m c : S1024x1024.Idx → Elt Ideal .f32) := by
  rw [← V2_13 m c]
  unfold V3 hostOps1
  rw [StableHlo.after_cons, StableHlo.after_nil, StableHlo.unary_result]

theorem lead_apply (o : S1024x1024.Idx → Elt Ideal .f32) (r c : Fin 1024) :
    broadcastInDim S1x1024x1024 ![1, 2] bcast_S1024x1024_S1x1024x1024_1_2 o (ix3 0 r c) = o (ix2 r c) := by
  pointwise []

/-- Every device's result is the sum of all devices' contributions. -/
theorem res_eq (c : Dev nD) : res m c = total (P0 m) :=
  out20_eq (PA m) (P0 m) (fun c i hi => outA_eq _ _ _ _ _ i hi) c

end Cert.KernelIdeal.Bfly

namespace Cert.Algebraic

open Idealize.ShloMosaic Idealize.SL.Sem Idealize.ShloMosaic.TcCoe
open Cert.KernelIdeal.Bfly

/-- What a device ends with is the reference's output. -/
theorem result (m : (ℓ : Loc Cert.KernelIdeal.nD Cert.KernelIdeal.τ Cert.KernelIdeal.sig) → Buf (Elt Ideal) ℓ)
    (x : (⟨3, ![1, 1024, 1024]⟩ : Shape).Idx → EReal) (w : (⟨2, ![1024, 32768]⟩ : Shape).Idx → EReal)
    (k v : (⟨4, ![1, 1024, 256, 128]⟩ : Shape).Idx → EReal) (wo : (⟨2, ![32768, 1024]⟩ : Shape).Idx → EReal)
    (hp : Cert.Pre_KernelIdeal_finite_KernelIdeal m)
    (hx : ∀ d, A0 m d = x) (hw : ∀ d : Dev Cert.KernelIdeal.nD, A1 m d = Layout.block ⟨2, ![1024, 1024]⟩ ⟨2, ![1024, 32768]⟩ 1 32 d w)
    (hk : ∀ d, A2 m d = k) (hv : ∀ d, A3 m d = v)
    (ho : ∀ d : Dev Cert.KernelIdeal.nD, A4 m d = Layout.block ⟨2, ![1024, 1024]⟩ ⟨2, ![32768, 1024]⟩ 0 32 d wo) (c : Dev Cert.KernelIdeal.nD) :
    (Cert.KernelIdeal.Gen.V3 m (outs m) c Cert.KernelIdeal.main_v14 : (⟨3, ![1, 1024, 1024]⟩ : Shape).Idx → EReal) = Cert.ReferenceIdeal.Value.rOut x w k v wo := by
  have hf := fun d => Cert.Pre_finite_KernelIdeal.finite_of_fn (A0 m d) (A1 m d) (A2 m d) (A3 m d) (A4 m d) (hp d)
  refine (V3_14 m c).trans (funext fun i => ?_)
  obtain ⟨z, r, j, rfl⟩ : ∃ (z : Fin 1) (r j : Fin 1024), i = ix3 z r j := ⟨i 0, i 1, i 2, eq_ix3 i⟩
  obtain rfl : z = 0 := Subsingleton.elim _ _
  refine (lead_apply _ r j).trans ?_
  rw [Cert.KernelIdeal.Bfly.res_eq m c]
  refine total_eq m x w k v wo hx hw hk hv ho ?_ (fun d => (hf d).2.1) ?_ ?_ r j
  · have h := (hf c).1; rwa [hx c] at h
  · have h := (hf c).2.2.1; rwa [hk c] at h
  · have h := (hf c).2.2.2.1; rwa [hv c] at h

/-- The kernel and the reference end with one and the same output. -/
theorem algebraic : Cert.algebraic_KernelIdeal_ReferenceIdeal_pre_finite_KernelIdeal := by
  intro m g m' g' hp ha
  refine ⟨Cert.ReferenceIdeal.Value.res_main_v33 m' 0, ?_, ?_⟩
  · refine (θ_run (Cert.KernelIdeal.defs (F := Ideal)) _ _).mono (fun r h c => ⟨((h.1 c).2).trans ?_, (h.1 c).1⟩) (run_args (F := Ideal) m g)
    rw [Cert.ReferenceIdeal.Value.res_eq m' 0]
    exact result m _ _ _ _ _ hp (fun d => (ha d).1) (fun d => (ha d).2.1) (fun d => (ha d).2.2.1) (fun d => (ha d).2.2.2.1) (fun d => (ha d).2.2.2.2) c
  · exact (θ_run (Cert.ReferenceIdeal.defs (F := Ideal)) _ _).mono (fun r h => h 0) (Cert.ReferenceIdeal.Value.run (F := Ideal) m' g')

end Cert.Algebraic

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Frames
public import proofs.«01_k».proof.Proof.Algebraic

/-! # The claims put together -/

@[expose] public section

noncomputable section

namespace Cert.Proof

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  Cert.Frames.kernel, Cert.Frames.kernelIdeal, fun m g _ => Cert.Frames.kernelIdeal m g trivial,
  Cert.Frames.referenceIdeal, fun m g _ => Cert.Frames.referenceIdeal m g trivial, Cert.Frames.mask, Cert.Algebraic.algebraic⟩

end Cert.Proof

end
